-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_input_gates_below_infinity [hPre_input_gates_below_infinity : Cert.Pre_input_gates_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_input_gates_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_input_gates_below_infinity [hPre_input_gates_below_infinity : Cert.Pre_input_gates_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_gates_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_modulations_below_infinity [hPre_modulations_below_infinity : Cert.Pre_modulations_below_infinity.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_modulations_below_infinity.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_modulations_below_infinity [hPre_modulations_below_infinity : Cert.Pre_modulations_below_infinity.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_modulations_below_infinity.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_input_gates_below_infinity [hKernelIdeal : Cert.KernelIdeal.Facts] [hPre_input_gates_below_infinity : Cert.Pre_input_gates_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_input_gates_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_input_gates_below_infinity [hReferenceIdeal : Cert.ReferenceIdeal.Facts] [hPre_input_gates_below_infinity : Cert.Pre_input_gates_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_input_gates_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_modulations_below_infinity [hKernel7Ideal : Cert.Kernel7Ideal.Facts] [hPre_modulations_below_infinity : Cert.Pre_modulations_below_infinity.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_modulations_below_infinity m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_modulations_below_infinity [hReference7Ideal : Cert.Reference7Ideal.Facts] [hPre_modulations_below_infinity : Cert.Pre_modulations_below_infinity.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_modulations_below_infinity m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  True

def algebraic_KernelIdeal_ReferenceIdeal_pre_input_gates_below_infinity [hKernelIdeal : Cert.KernelIdeal.Facts] [hReferenceIdeal : Cert.ReferenceIdeal.Facts] [hPre_input_gates_below_infinity : Cert.Pre_input_gates_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_input_gates_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v75_7) = v1 c
          ∧ r.2.mem ((c.tc : Thread Cert.ReferenceIdeal.nD Cert.ReferenceIdeal.τ).loc Cert.ReferenceIdeal.main_v75_8) = v2 c
          ∧ r.2.mem ((c.tc : Thread Cert.ReferenceIdeal.nD Cert.ReferenceIdeal.τ).loc Cert.ReferenceIdeal.main_v111) = v3 c
          ∧ r.2.mem ((c.tc : Thread Cert.ReferenceIdeal.nD Cert.ReferenceIdeal.τ).loc Cert.ReferenceIdeal.main_v83) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal_pre_modulations_below_infinity [hKernel7Ideal : Cert.Kernel7Ideal.Facts] [hReference7Ideal : Cert.Reference7Ideal.Facts] [hPre_modulations_below_infinity : Cert.Pre_modulations_below_infinity.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_modulations_below_infinity m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v15)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_input_gates_below_infinity : Cert.Pre_input_gates_below_infinity.Facts) (hPre_modulations_below_infinity : Cert.Pre_modulations_below_infinity.Facts),
    quiescent_Kernel (hKernel := hKernel)
    ∧ quiescent_KernelIdeal (hKernelIdeal := hKernelIdeal)
    ∧ quiescent_KernelIdeal_pre_input_gates_below_infinity (hKernelIdeal := hKernelIdeal) (hPre_input_gates_below_infinity := hPre_input_gates_below_infinity)
    ∧ quiescent_ReferenceIdeal (hReferenceIdeal := hReferenceIdeal)
    ∧ quiescent_ReferenceIdeal_pre_input_gates_below_infinity (hReferenceIdeal := hReferenceIdeal) (hPre_input_gates_below_infinity := hPre_input_gates_below_infinity)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_modulations_below_infinity (hKernel7Ideal := hKernel7Ideal) (hPre_modulations_below_infinity := hPre_modulations_below_infinity)
    ∧ quiescent_Reference7Ideal (hReference7Ideal := hReference7Ideal)
    ∧ quiescent_Reference7Ideal_pre_modulations_below_infinity (hReference7Ideal := hReference7Ideal) (hPre_modulations_below_infinity := hPre_modulations_below_infinity)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_input_gates_below_infinity (hKernelIdeal := hKernelIdeal) (hReferenceIdeal := hReferenceIdeal) (hPre_input_gates_below_infinity := hPre_input_gates_below_infinity)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_modulations_below_infinity (hKernel7Ideal := hKernel7Ideal) (hReference7Ideal := hReference7Ideal) (hPre_modulations_below_infinity := hPre_modulations_below_infinity)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_input_gates_below_infinity.lean ====
abbrev S8320x6160 : Shape := ⟨2, ![8320, 6160]⟩
abbrev S1x3x2048 : Shape := ⟨3, ![1, 3, 2048]⟩
abbrev S1x8x256x128 : Shape := ⟨4, ![1, 8, 256, 128]⟩
abbrev S1x8x128 : Shape := ⟨3, ![1, 8, 128]⟩
abbrev S1x8 : Shape := ⟨2, ![1, 8]⟩
abbrev S4x2048 : Shape := ⟨2, ![4, 2048]⟩
abbrev S2048 : Shape := ⟨1, ![2048]⟩
abbrev S2x8 : Shape := ⟨2, ![2, 8]⟩
abbrev S8192x8 : Shape := ⟨2, ![8192, 8]⟩
abbrev S8 : Shape := ⟨1, ![8]⟩
abbrev S_ : Shape := ⟨0, ![]⟩

class Facts : Prop where
  slices_S8320x6160_S8192x8_0_4096 : S8320x6160.Slices ![0, 4096] S8192x8
  slices_S2x8_S1x8_0_0 : S2x8.Slices ![0, 0] S1x8
  shapeCasts_S1x8_S8 : S1x8.ShapeCasts S8
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  bcast_S_S8192x8 : S_.BroadcastsInDim S8192x8 (![] : Fin 0 → Fin S8192x8.rank)

variable [Facts]

def fn {F : FTy → Type} [FloatOps F] (main_arg0 : FVec F S8320x6160 .f32) (main_arg1 : FVec F S1x3x2048 .f32) (main_arg2 : FVec F S1x8x256x128 .f32) (main_arg3 : FVec F S1x8x128 .f32) (main_arg4 : FVec F S1x8 .f32) (main_arg5 : FVec F S4x2048 .f32) (main_arg6 : FVec F S2048 .f32) (main_arg7 : FVec F S2x8 .f32) (main_arg8 : FVec F S2048 .f32) : IVec S8192x8 1 :=
  let main_v0 : FVec F S8192x8 .f32 := (extractStridedSlice S8192x8 ![0, 4096] · slices_S8320x6160_S8192x8_0_4096) main_arg0
  let main_v1 : FVec F S1x8 .f32 := (extractStridedSlice S1x8 ![0, 0] · slices_S2x8_S1x8_0_0) main_arg7
  let main_v2 : FVec F S8 .f32 := shapeCast S8 main_v1 shapeCasts_S1x8_S8
  let main_v3 : FVec F S1x8 .f32 := broadcastInDim S1x8 ![1] bcast_S8_S1x8_1 main_v2
  let main_v4 : FVec F S8192x8 .f32 := broadcastInDim S8192x8 ![0, 1] bcast_S1x8_S8192x8_0_1 main_v3
  let main_v5 : FVec F S8192x8 .f32 := addf main_v0 main_v4
  let main_cst : FVec F S_ .f32 := constant S_ .f32 0x7F800000#32
  let main_v6 : FVec F S8192x8 .f32 := broadcastInDim S8192x8 ![] bcast_S_S8192x8 main_cst
  let main_v7 : IVec S8192x8 1 := cmpf .olt main_v5 main_v6
  main_v7
-- ==== Pre_modulations_below_infinity.lean ====
abbrev S8320x4096 : Shape := ⟨2, ![8320, 4096]⟩
abbrev S2x4096x4096 : Shape := ⟨3, ![2, 4096, 4096]⟩
abbrev S2x16x24576 : Shape := ⟨3, ![2, 16, 24576]⟩
abbrev S1x9x4096 : Shape := ⟨3, ![1, 9, 4096]⟩
abbrev S9x4096 : Shape := ⟨2, ![9, 4096]⟩
abbrev S_ : Shape := ⟨0, ![]⟩

class Facts : Prop where
  slices_S2x16x24576_S1x9x4096_0_0_8192 : S2x16x24576.Slices ![0, 0, 8192] S1x9x4096
  shapeCasts_S1x9x4096_S9x4096 : S1x9x4096.ShapeCasts S9x4096
  bcast_S_S9x4096 : S_.BroadcastsInDim S9x4096 (![] : Fin 0 → Fin S9x4096.rank)

variable [Facts]

def fn {F : FTy → Type} [FloatOps F] (main_arg0 : FVec F S8320x4096 .bf16) (main_arg1 : FVec F S2x4096x4096 .f32) (main_arg2 : FVec F S8320x4096 .f32) (main_arg3 : FVec F S2x16x24576 .f32) : IVec S9x4096 1 :=
  let main_v0 : FVec F S1x9x4096 .f32 := (extractStridedSlice S1x9x4096 ![0, 0, 8192] · slices_S2x16x24576_S1x9x4096_0_0_8192) main_arg3
  let main_v1 : FVec F S9x4096 .f32 := shapeCast S9x4096 main_v0 shapeCasts_S1x9x4096_S9x4096
  let main_cst : FVec F S_ .f32 := constant S_ .f32 0x7F800000#32
  let main_v2 : FVec F S9x4096 .f32 := broadcastInDim S9x4096 ![] bcast_S_S9x4096 main_cst
  let main_v3 : IVec S9x4096 1 := cmpf .olt main_v1 main_v2
  main_v3
-- ==== Kernel.lean ====
abbrev S8320x6160 : Shape := ⟨2, ![8320, 6160]⟩
abbrev S1x3x2048 : Shape := ⟨3, ![1, 3, 2048]⟩
abbrev S1x8x256x128 : Shape := ⟨4, ![1, 8, 256, 128]⟩
abbrev S1x8x128 : Shape := ⟨3, ![1, 8, 128]⟩
abbrev S1x8 : Shape := ⟨2, ![1, 8]⟩
abbrev S4x2048 : Shape := ⟨2, ![4, 2048]⟩
abbrev S2048 : Shape := ⟨1, ![2048]⟩
abbrev S2x8 : Shape := ⟨2, ![2, 8]⟩
abbrev S8320x4096 : Shape := ⟨2, ![8320, 4096]⟩
abbrev S8320x2048 : Shape := ⟨2, ![8320, 2048]⟩
abbrev S8320x128 : Shape := ⟨2, ![8320, 128]⟩
abbrev S1x16 : Shape := ⟨2, ![1, 16]⟩
abbrev S_ : Shape := ⟨0, ![]⟩
abbrev S1x128 : Shape := ⟨2, ![1, 128]⟩
abbrev S1x1x128 : Shape := ⟨3, ![1, 1, 128]⟩
abbrev S1x2048 : Shape := ⟨2, ![1, 2048]⟩
abbrev S64x1024 : Shape := ⟨2, ![64, 1024]⟩
abbrev S64x2048 : Shape := ⟨2, ![64, 2048]⟩
abbrev S64x128 : Shape := ⟨2, ![64, 128]⟩
abbrev S8x256x128 : Shape := ⟨3, ![8, 256, 128]⟩
abbrev S8x128 : Shape := ⟨2, ![8, 128]⟩
abbrev S72x2048 : Shape := ⟨2, ![72, 2048]⟩
abbrev S3x2048 : Shape := ⟨2, ![3, 2048]⟩
abbrev S8x2048 : Shape := ⟨2, ![8, 2048]⟩
abbrev S64x64 : Shape := ⟨2, ![64, 64]⟩
abbrev S128x128 : Shape := ⟨2, ![128, 128]⟩
abbrev S128x64 : Shape := ⟨2, ![128, 64]⟩
abbrev S64x1 : Shape := ⟨2, ![64, 1]⟩
abbrev S1x64 : Shape := ⟨2, ![1, 64]⟩
abbrev S1x1 : Shape := ⟨2, ![1, 1]⟩
abbrev S64 : Shape := ⟨1, ![64]⟩
abbrev S64x256 : Shape := ⟨2, ![64, 256]⟩
abbrev S1x256x128 : Shape := ⟨3, ![1, 256, 128]⟩
abbrev S256x128 : Shape := ⟨2, ![256, 128]⟩
abbrev S128 : Shape := ⟨1, ![128]⟩
abbrev S1x256 : Shape := ⟨2, ![1, 256]⟩

abbrev nBuf : Space → Nat
  | .hbm => 29
  | .vmem => 30
  | .smem => 0
  | _ => 0

abbrev bufTy : (tb : Table) → Fin (tcTables nBuf tb) → BufTy
  | .hbm, ⟨0, _⟩ => ⟨S8320x6160, .f32⟩
  | .hbm, ⟨1, _⟩ => ⟨S1x3x2048, .f32⟩
  | .hbm, ⟨2, _⟩ => ⟨S1x8x256x128, .f32⟩
  | .hbm, ⟨3, _⟩ => ⟨S1x8x128, .f32⟩
  | .hbm, ⟨4, _⟩ => ⟨S1x8, .f32⟩
  | .hbm, ⟨5, _⟩ => ⟨S4x2048, .f32⟩
  | .hbm, ⟨6, _⟩ => ⟨S2048, .f32⟩
  | .hbm, ⟨7, _⟩ => ⟨S2x8, .f32⟩
  | .hbm, ⟨8, _⟩ => ⟨S2048, .f32⟩
  | .hbm, ⟨9, _⟩ => ⟨S8320x4096, .f32⟩
  | .hbm, ⟨10, _⟩ => ⟨S8320x2048, .f32⟩
  | .hbm, ⟨11, _⟩ => ⟨S8320x128, .f32⟩
  | .hbm, ⟨12, _⟩ => ⟨S1x16, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S_, .f32⟩
  | .hbm, ⟨18, _⟩ => ⟨S1x128, .f32⟩
  | .hbm, ⟨19, _⟩ => ⟨S1x1x128, .f32⟩
  | .hbm, ⟨20, _⟩ => ⟨S_, .bf16⟩
  | .hbm, ⟨21, _⟩ => ⟨S8320x2048, .bf16⟩
  | .hbm, ⟨22, _⟩ => ⟨S1x2048, .f32⟩
  | .hbm, ⟨23, _⟩ => ⟨S1x2048, .f32⟩
  | .hbm, ⟨24, _⟩ => ⟨S8320x2048, .bf16⟩
  | .hbm, ⟨25, _⟩ => ⟨S1x8x256x128, .f32⟩
  | .hbm, ⟨26, _⟩ => ⟨S1x8x128, .f32⟩
  | .hbm, ⟨27, _⟩ => ⟨S1x1x128, .f32⟩
  | .hbm, ⟨28, _⟩ => ⟨S1x3x2048, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x128, .f32⟩
  | .local _ .vmem, ⟨9, _⟩ => ⟨S64x128, .f32⟩
  | .local _ .vmem, ⟨10, _⟩ => ⟨S1x3x2048, .f32⟩
  | .local _ .vmem, ⟨11, _⟩ => ⟨S1x8x256x128, .f32⟩
  | .local _ .vmem, ⟨12, _⟩ => ⟨S1x8x128, .f32⟩
  | .local _ .vmem, ⟨13, _⟩ => ⟨S1x1x128, .f32⟩
  | .local _ .vmem, ⟨14, _⟩ => ⟨S4x2048, .f32⟩
  | .local _ .vmem, ⟨15, _⟩ => ⟨S1x2048, .f32⟩
  | .local _ .vmem, ⟨16, _⟩ => ⟨S1x128, .f32⟩
  | .local _ .vmem, ⟨17, _⟩ => ⟨S1x2048, .f32⟩
  | .local _ .vmem, ⟨18, _⟩ => ⟨S64x2048, .bf16⟩
  | .local _ .vmem, ⟨19, _⟩ => ⟨S64x2048, .bf16⟩
  | .local _ .vmem, ⟨20, _⟩ => ⟨S1x8x256x128, .f32⟩
  | .local _ .vmem, ⟨21, _⟩ => ⟨S1x8x128, .f32⟩
  | .local _ .vmem, ⟨22, _⟩ => ⟨S1x1x128, .f32⟩
  | .local _ .vmem, ⟨23, _⟩ => ⟨S1x3x2048, .f32⟩
  | .local _ .vmem, ⟨24, _⟩ => ⟨S8x256x128, .f32⟩
  | .local _ .vmem, ⟨25, _⟩ => ⟨S8x128, .f32⟩
  | .local _ .vmem, ⟨26, _⟩ => ⟨S1x128, .f32⟩
  | .local _ .vmem, ⟨27, _⟩ => ⟨S72x2048, .f32⟩
  | .local _ .vmem, ⟨28, _⟩ => ⟨S64x1024, .f32⟩
  | .local _ .vmem, ⟨29, _⟩ => ⟨S64x1024, .f32⟩
  | _, _ => ⟨S8320x6160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_c_0 : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev main_v10_3 : Ref sig .tc := ⟨.hbm, 27, rfl⟩
abbrev main_v10_4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem15_0 : DmaSem sig := 21
abbrev cc0_sem16_0 : DmaSem sig := 22
abbrev cc0_sem17_0 : DmaSem sig := 23

abbrev nD : Nat := 1
abbrev τ : Topo := Topo.v7x

variable {F : FTy → Type} [FloatOps F]

abbrev grid0 : Pipeline.Grid := ⟨2, ![1, 128], ![false, false]⟩

def k0_cond2 (i : grid0.Coords) : BitVec 1 :=
  let arg1 : BitVec 32 := BitVec.ofNat 32 (i 1).val
  let c127_i32 : BitVec 32 := 127#32
  let v1052 : BitVec 1 := Scalar.cmpi .eq arg1 c127_i32
  let v1053 : BitVec 32 := Scalar.extui v1052
  let c0_i32_318 : BitVec 32 := 0#32
  let v1054 : BitVec 1 := Scalar.cmpi .ne v1053 c0_i32_318
  v1054

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x3x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x8x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S4x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S64x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x8x256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]

abbrev stage0_15 : Fin 1 → Memref sig .tc .vmem S1x8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]

abbrev stage0_16 : Fin 1 → Memref sig .tc .vmem S1x1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, false]

abbrev stage0_17 : Fin 1 → Memref sig .tc .vmem S1x3x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, false]
-- ==== ReferenceIdeal.lean ====
abbrev S8320x6160 : Shape := ⟨2, ![8320, 6160]⟩
abbrev S1x3x2048 : Shape := ⟨3, ![1, 3, 2048]⟩
abbrev S1x8x256x128 : Shape := ⟨4, ![1, 8, 256, 128]⟩
abbrev S1x8x128 : Shape := ⟨3, ![1, 8, 128]⟩
abbrev S1x8 : Shape := ⟨2, ![1, 8]⟩
abbrev S4x2048 : Shape := ⟨2, ![4, 2048]⟩
abbrev S2048 : Shape := ⟨1, ![2048]⟩
abbrev S2x8 : Shape := ⟨2, ![2, 8]⟩
abbrev S8192x6160 : Shape := ⟨2, ![8192, 6160]⟩
abbrev S1x8192x6160 : Shape := ⟨3, ![1, 8192, 6160]⟩
abbrev S1x8192x2048 : Shape := ⟨3, ![1, 8192, 2048]⟩
abbrev S1x8192x16 : Shape := ⟨3, ![1, 8192, 16]⟩
abbrev S1x8195x2048 : Shape := ⟨3, ![1, 8195, 2048]⟩
abbrev S1x2048 : Shape := ⟨2, ![1, 2048]⟩
abbrev S1x1x2048 : Shape := ⟨3, ![1, 1, 2048]⟩
abbrev S_ : Shape := ⟨0, ![]⟩
abbrev S1x8192x16x128 : Shape := ⟨4, ![1, 8192, 16, 128]⟩
abbrev S1x8192x8 : Shape := ⟨3, ![1, 8192, 8]⟩
abbrev S8 : Shape := ⟨1, ![8]⟩
abbrev S1x1x8 : Shape := ⟨3, ![1, 1, 8]⟩
abbrev S1x8192x8x128 : Shape := ⟨4, ![1, 8192, 8, 128]⟩
abbrev S1x8192x8x256 : Shape := ⟨4, ![1, 8192, 8, 256]⟩
abbrev S64x64 : Shape := ⟨2, ![64, 64]⟩
abbrev S1x128x64x8x128 : Shape := ⟨5, ![1, 128, 64, 8, 128]⟩
abbrev S128x1x8x64x128 : Shape := ⟨5, ![128, 1, 8, 64, 128]⟩
abbrev S1x128x64x8x256 : Shape := ⟨5, ![1, 128, 64, 8, 256]⟩
abbrev S128x1x8x64x256 : Shape := ⟨5, ![128, 1, 8, 64, 256]⟩
abbrev S1x8192x8x1 : Shape := ⟨4, ![1, 8192, 8, 1]⟩
abbrev S1x128x64x8x1 : Shape := ⟨5, ![1, 128, 64, 8, 1]⟩
abbrev S128x1x8x64x1 : Shape := ⟨5, ![128, 1, 8, 64, 1]⟩
abbrev S128x1x8x64 : Shape := ⟨4, ![128, 1, 8, 64]⟩
abbrev S1x1x8x64x128 : Shape := ⟨5, ![1, 1, 8, 64, 128]⟩
abbrev S1x8x64x128 : Shape := ⟨4, ![1, 8, 64, 128]⟩
abbrev S1x1x8x64x256 : Shape := ⟨5, ![1, 1, 8, 64, 256]⟩
abbrev S1x8x64x256 : Shape := ⟨4, ![1, 8, 64, 256]⟩
abbrev S1x1x8x64 : Shape := ⟨4, ![1, 1, 8, 64]⟩
abbrev S1x8x64 : Shape := ⟨3, ![1, 8, 64]⟩
abbrev S1x8x64x1 : Shape := ⟨4, ![1, 8, 64, 1]⟩
abbrev S1x8x1x64 : Shape := ⟨4, ![1, 8, 1, 64]⟩
abbrev S1x8x64x64 : Shape := ⟨4, ![1, 8, 64, 64]⟩
abbrev S1x8x1 : Shape := ⟨3, ![1, 8, 1]⟩
abbrev S1x8x1x1 : Shape := ⟨4, ![1, 8, 1, 1]⟩
abbrev S8x256 : Shape := ⟨2, ![8, 256]⟩
abbrev S1x1x8x256 : Shape := ⟨4, ![1, 1, 8, 256]⟩
abbrev S8192x2048 : Shape := ⟨2, ![8192, 2048]⟩
abbrev S128x2048 : Shape := ⟨2, ![128, 2048]⟩
abbrev S8320x2048 : Shape := ⟨2, ![8320, 2048]⟩
abbrev S1x128 : Shape := ⟨2, ![1, 128]⟩
abbrev S1x1x128 : Shape := ⟨3, ![1, 1, 128]⟩

abbrev nBuf : Space → Nat
  | .hbm => 280
  | .vmem => 0
  | .smem => 0
  | _ => 0

abbrev hbmTy0_0 (i : Nat) : BufTy := match i % 128 with
  | 0 => ⟨S8320x6160, .f32⟩
  | 1 => ⟨S1x3x2048, .f32⟩
  | 2 => ⟨S1x8x256x128, .f32⟩
  | 3 => ⟨S1x8x128, .f32⟩
  | 4 => ⟨S1x8, .f32⟩
  | 5 => ⟨S4x2048, .f32⟩
  | 6 => ⟨S2048, .f32⟩
  | 7 => ⟨S2x8, .f32⟩
  | 8 => ⟨S2048, .f32⟩
  | 9 => ⟨S8192x6160, .f32⟩
  | 10 => ⟨S1x8192x6160, .f32⟩
  | 11 => ⟨S1x8192x2048, .f32⟩
  | 12 => ⟨S1x8192x2048, .f32⟩
  | 13 => ⟨S1x8192x16, .f32⟩
  | 14 => ⟨S1x8195x2048, .f32⟩
  | 15 => ⟨S1x8192x2048, .f32⟩
  | 16 => ⟨S1x2048, .f32⟩
  | 17 => ⟨S2048, .f32⟩
  | 18 => ⟨S1x1x2048, .f32⟩
  | 19 => ⟨S1x8192x2048, .f32⟩
  | 20 => ⟨S1x8192x2048, .f32⟩
  | 21 => ⟨S_, .f32⟩
  | 22 => ⟨S1x8192x2048, .f32⟩
  | 23 => ⟨S1x8192x2048, .f32⟩
  | 24 => ⟨S1x8192x2048, .f32⟩
  | 25 => ⟨S1x2048, .f32⟩
  | 26 => ⟨S2048, .f32⟩
  | 27 => ⟨S1x1x2048, .f32⟩
  | 28 => ⟨S1x8192x2048, .f32⟩
  | 29 => ⟨S1x8192x2048, .f32⟩
  | 30 => ⟨S1x8192x2048, .f32⟩
  | 31 => ⟨S1x8192x2048, .f32⟩
  | 32 => ⟨S1x2048, .f32⟩
  | 33 => ⟨S2048, .f32⟩
  | 34 => ⟨S1x1x2048, .f32⟩
  | 35 => ⟨S1x8192x2048, .f32⟩
  | 36 => ⟨S1x8192x2048, .f32⟩
  | 37 => ⟨S1x8192x2048, .f32⟩
  | 38 => ⟨S1x8192x2048, .f32⟩
  | 39 => ⟨S1x2048, .f32⟩
  | 40 => ⟨S2048, .f32⟩
  | 41 => ⟨S1x1x2048, .f32⟩
  | 42 => ⟨S1x8192x2048, .f32⟩
  | 43 => ⟨S1x8192x2048, .f32⟩
  | 44 => ⟨S1x8192x2048, .f32⟩
  | 45 => ⟨S1x1x2048, .f32⟩
  | 46 => ⟨S1x8192x2048, .f32⟩
  | 47 => ⟨S1x8192x2048, .f32⟩
  | 48 => ⟨S1x8192x2048, .f32⟩
  | 49 => ⟨S1x8192x2048, .f32⟩
  | 50 => ⟨S_, .f32⟩
  | 51 => ⟨S1x8192x2048, .f32⟩
  | 52 => ⟨S1x8192x2048, .f32⟩
  | 53 => ⟨S_, .f32⟩
  | 54 => ⟨S1x8192x2048, .f32⟩
  | 55 => ⟨S1x8192x2048, .f32⟩
  | 56 => ⟨S1x8192x2048, .f32⟩
  | 57 => ⟨S1x8192x16x128, .f32⟩
  | 58 => ⟨S1x8192x8, .f32⟩
  | 59 => ⟨S1x8, .f32⟩
  | 60 => ⟨S8, .f32⟩
  | 61 => ⟨S1x1x8, .f32⟩
  | 62 => ⟨S1x8192x8, .f32⟩
  | 63 => ⟨S1x8192x8, .f32⟩
  | 64 => ⟨S1x8192x8, .f32⟩
  | 65 => ⟨S1x8, .f32⟩
  | 66 => ⟨S8, .f32⟩
  | 67 => ⟨S1x1x8, .f32⟩
  | 68 => ⟨S1x8192x8, .f32⟩
  | 69 => ⟨S1x8192x8, .f32⟩
  | 70 => ⟨S1x8192x8, .f32⟩
  | 71 => ⟨S_, .f32⟩
  | 72 => ⟨S1x8192x8, .f32⟩
  | 73 => ⟨S1x8192x8, .f32⟩
  | 74 => ⟨S1x8192x8, .f32⟩
  | 75 => ⟨S1x8192x8, .f32⟩
  | 76 => ⟨S1x8192x8, .i1⟩
  | 77 => ⟨S1x8192x8, .f32⟩
  | 78 => ⟨S1x8192x8, .f32⟩
  | 79 => ⟨S1x8192x8, .f32⟩
  | 80 => ⟨S1x8192x8, .f32⟩
  | 81 => ⟨S1x8192x8, .f32⟩
  | 82 => ⟨S1x8192x8, .f32⟩
  | 83 => ⟨S1x8192x8, .f32⟩
  | 84 => ⟨S1x8192x8, .f32⟩
  | 85 => ⟨S1x8192x8, .f32⟩
  | 86 => ⟨S1x8192x8x128, .f32⟩
  | 87 => ⟨S_, .f32⟩
  | 88 => ⟨S1x8192x8x128, .f32⟩
  | 89 => ⟨S1x8192x8x128, .f32⟩
  | 90 => ⟨S1x8192x8x128, .f32⟩
  | 91 => ⟨S1x8192x8x256, .f32⟩
  | 92 => ⟨S_, .i1⟩
  | 93 => ⟨S64x64, .i1⟩
  | 94 => ⟨S64x64, .i32⟩
  | 95 => ⟨S_, .i32⟩
  | 96 => ⟨S64x64, .i32⟩
  | 97 => ⟨S64x64, .i32⟩
  | 98 => ⟨S64x64, .i32⟩
  | 99 => ⟨S64x64, .i1⟩
  | 100 => ⟨S_, .i1⟩
  | 101 => ⟨S64x64, .i1⟩
  | 102 => ⟨S64x64, .i1⟩
  | 103 => ⟨S1x128x64x8x128, .f32⟩
  | 104 => ⟨S128x1x8x64x128, .f32⟩
  | 105 => ⟨S1x128x64x8x128, .f32⟩
  | 106 => ⟨S128x1x8x64x128, .f32⟩
  | 107 => ⟨S1x128x64x8x256, .f32⟩
  | 108 => ⟨S128x1x8x64x256, .f32⟩
  | 109 => ⟨S1x8192x8x1, .f32⟩
  | 110 => ⟨S1x128x64x8x1, .f32⟩
  | 111 => ⟨S128x1x8x64x1, .f32⟩
  | 112 => ⟨S128x1x8x64, .f32⟩
  | 113 => ⟨S1x8192x8x1, .f32⟩
  | 114 => ⟨S1x128x64x8x1, .f32⟩
  | 115 => ⟨S128x1x8x64x1, .f32⟩
  | 116 => ⟨S128x1x8x64, .f32⟩
  | 117 => ⟨S_, .f32⟩
  | 118 => ⟨S128x1x8x64x256, .f32⟩
  | 119 => ⟨S_, .i32⟩
  | 120 => ⟨S128x1x8x64x128, .f32⟩
  | 121 => ⟨S128x1x8x64x128, .f32⟩
  | 122 => ⟨S128x1x8x64x256, .f32⟩
  | 123 => ⟨S128x1x8x64, .f32⟩
  | 124 => ⟨S128x1x8x64, .f32⟩
  | 125 => ⟨S64x64, .i1⟩
  | 126 => ⟨S_, .i32⟩
  | 127 => ⟨S1x8x256x128, .f32⟩
  | _ => ⟨S8320x6160, .f32⟩

abbrev hbmTy0_1 (i : Nat) : BufTy := match i % 128 with
  | 0 => ⟨S1x8x128, .f32⟩
  | 1 => ⟨S1x8, .f32⟩
  | 2 => ⟨S128x1x8x64x256, .f32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S1x1x8x64x128, .f32⟩
  | 10 => ⟨S1x8x64x128, .f32⟩
  | 11 => ⟨S_, .i32⟩
  | 12 => ⟨S_, .i32⟩
  | 13 => ⟨S_, .i32⟩
  | 14 => ⟨S_, .i32⟩
  | 15 => ⟨S1x1x8x64x128, .f32⟩
  | 16 => ⟨S1x8x64x128, .f32⟩
  | 17 => ⟨S_, .i32⟩
  | 18 => ⟨S_, .i32⟩
  | 19 => ⟨S_, .i32⟩
  | 20 => ⟨S_, .i32⟩
  | 21 => ⟨S1x1x8x64x256, .f32⟩
  | 22 => ⟨S1x8x64x256, .f32⟩
  | 23 => ⟨S_, .i32⟩
  | 24 => ⟨S_, .i32⟩
  | 25 => ⟨S_, .i32⟩
  | 26 => ⟨S1x1x8x64, .f32⟩
  | 27 => ⟨S1x8x64, .f32⟩
  | 28 => ⟨S_, .i32⟩
  | 29 => ⟨S_, .i32⟩
  | 30 => ⟨S_, .i32⟩
  | 31 => ⟨S1x1x8x64, .f32⟩
  | 32 => ⟨S1x8x64, .f32⟩
  | 33 => ⟨S_, .f32⟩
  | 34 => ⟨S_, .f32⟩
  | 35 => ⟨S1x8x64, .f32⟩
  | 36 => ⟨S1x8x64x1, .f32⟩
  | 37 => ⟨S1x8x1x64, .f32⟩
  | 38 => ⟨S1x8x64x64, .f32⟩
  | 39 => ⟨S1x8x64x64, .f32⟩
  | 40 => ⟨S1x8x64x64, .f32⟩
  | 41 => ⟨S1x8x1x64, .f32⟩
  | 42 => ⟨S1x8x64x64, .f32⟩
  | 43 => ⟨S1x8x64x64, .f32⟩
  | 44 => ⟨S_, .f32⟩
  | 45 => ⟨S_, .f32⟩
  | 46 => ⟨S1x8x64x64, .i1⟩
  | 47 => ⟨S1x8x64x64, .f32⟩
  | 48 => ⟨S1x8x64x64, .f32⟩
  | 49 => ⟨S1x8x1, .f32⟩
  | 50 => ⟨S1x8x64, .f32⟩
  | 51 => ⟨S1x8x64, .f32⟩
  | 52 => ⟨S_, .f32⟩
  | 53 => ⟨S1x8x64, .f32⟩
  | 54 => ⟨S1x8x64, .f32⟩
  | 55 => ⟨S1x8x64x1, .f32⟩
  | 56 => ⟨S1x8x64x64, .f32⟩
  | 57 => ⟨S1x8x64x64, .f32⟩
  | 58 => ⟨S1x8x64x64, .f32⟩
  | 59 => ⟨S1x8x64, .f32⟩
  | 60 => ⟨S1x8x64, .f32⟩
  | 61 => ⟨S1x8x64x64, .f32⟩
  | 62 => ⟨S1x8x64x64, .f32⟩
  | 63 => ⟨S1x8x64x1, .f32⟩
  | 64 => ⟨S1x8x64x256, .f32⟩
  | 65 => ⟨S1x8x64x256, .f32⟩
  | 66 => ⟨S1x8x64x256, .f32⟩
  | 67 => ⟨S1x8x64x256, .f32⟩
  | 68 => ⟨S1x8x64x256, .f32⟩
  | 69 => ⟨S1x8x64, .f32⟩
  | 70 => ⟨S1x8x64, .f32⟩
  | 71 => ⟨S_, .f32⟩
  | 72 => ⟨S1x8x64, .f32⟩
  | 73 => ⟨S1x8x64, .f32⟩
  | 74 => ⟨S1x8x64, .f32⟩
  | 75 => ⟨S1x8x64, .f32⟩
  | 76 => ⟨S1x8x64, .f32⟩
  | 77 => ⟨S1x8x64, .f32⟩
  | 78 => ⟨S1x8x64x1, .f32⟩
  | 79 => ⟨S1x8x64x256, .f32⟩
  | 80 => ⟨S1x8x64x256, .f32⟩
  | 81 => ⟨S1x8x1x64, .f32⟩
  | 82 => ⟨S1x8x64, .f32⟩
  | 83 => ⟨S1x8x1, .f32⟩
  | 84 => ⟨S1x8, .f32⟩
  | 85 => ⟨S1x8x1x1, .f32⟩
  | 86 => ⟨S1x8x256x128, .f32⟩
  | 87 => ⟨S1x8x256x128, .f32⟩
  | 88 => ⟨S1x8x64x1, .f32⟩
  | 89 => ⟨S1x8x64x128, .f32⟩
  | 90 => ⟨S1x8x64x128, .f32⟩
  | 91 => ⟨S1x8x256x128, .f32⟩
  | 92 => ⟨S1x8x256x128, .f32⟩
  | 93 => ⟨S1x8x1, .f32⟩
  | 94 => ⟨S1x8x128, .f32⟩
  | 95 => ⟨S1x8x128, .f32⟩
  | 96 => ⟨S1x8x128, .f32⟩
  | 97 => ⟨S1x8x128, .f32⟩
  | 98 => ⟨S1x8x1, .f32⟩
  | 99 => ⟨S1x8, .f32⟩
  | 100 => ⟨S1x1x8x64x256, .f32⟩
  | 101 => ⟨S_, .i32⟩
  | 102 => ⟨S_, .i32⟩
  | 103 => ⟨S_, .i32⟩
  | 104 => ⟨S_, .i32⟩
  | 105 => ⟨S128x1x8x64x256, .f32⟩
  | 106 => ⟨S_, .i32⟩
  | 107 => ⟨S_, .i32⟩
  | 108 => ⟨S1x128x64x8x256, .f32⟩
  | 109 => ⟨S1x8192x8x256, .f32⟩
  | 110 => ⟨S8192x6160, .f32⟩
  | 111 => ⟨S1x8192x6160, .f32⟩
  | 112 => ⟨S1x8192x2048, .f32⟩
  | 113 => ⟨S1x8192x2048, .f32⟩
  | 114 => ⟨S1x8195x2048, .f32⟩
  | 115 => ⟨S1x3x2048, .f32⟩
  | 116 => ⟨S8x256, .f32⟩
  | 117 => ⟨S1x8192x8x256, .f32⟩
  | 118 => ⟨S_, .f32⟩
  | 119 => ⟨S1x8192x8, .f32⟩
  | 120 => ⟨S1x8192x8x1, .f32⟩
  | 121 => ⟨S_, .f32⟩
  | 122 => ⟨S1x8192x8x1, .f32⟩
  | 123 => ⟨S1x8192x8x1, .f32⟩
  | 124 => ⟨S_, .f32⟩
  | 125 => ⟨S1x8192x8x1, .f32⟩
  | 126 => ⟨S1x8192x8x1, .f32⟩
  | 127 => ⟨S1x8192x8x1, .f32⟩
  | _ => ⟨S8320x6160, .f32⟩

abbrev hbmTy0_2 (i : Nat) : BufTy := match i % 128 with
  | 0 => ⟨S1x8192x8x256, .f32⟩
  | 1 => ⟨S1x8192x8x256, .f32⟩
  | 2 => ⟨S1x1x8x256, .f32⟩
  | 3 => ⟨S1x8192x8x256, .f32⟩
  | 4 => ⟨S1x8192x8x256, .f32⟩
  | 5 => ⟨S1x8192x2048, .f32⟩
  | 6 => ⟨S1x8192x2048, .f32⟩
  | 7 => ⟨S1x8192x2048, .f32⟩
  | 8 => ⟨S_, .f32⟩
  | 9 => ⟨S1x8192x2048, .f32⟩
  | 10 => ⟨S1x8192x2048, .f32⟩
  | 11 => ⟨S_, .f32⟩
  | 12 => ⟨S1x8192x2048, .f32⟩
  | 13 => ⟨S1x8192x2048, .f32⟩
  | 14 => ⟨S1x8192x2048, .f32⟩
  | 15 => ⟨S8192x2048, .f32⟩
  | 16 => ⟨S_, .f32⟩
  | 17 => ⟨S128x2048, .f32⟩
  | 18 => ⟨S8320x2048, .f32⟩
  | 19 => ⟨S8320x2048, .bf16⟩
  | 20 => ⟨S_, .i32⟩
  | 21 => ⟨S_, .f32⟩
  | 22 => ⟨S1x128, .f32⟩
  | 23 => ⟨S1x1x128, .f32⟩
  | _ => ⟨S8320x6160, .f32⟩

abbrev hbmTy (i : Nat) : BufTy := match i / 128 with
  | 0 => hbmTy0_0 i
  | 1 => hbmTy0_1 i
  | 2 => hbmTy0_2 i
  | _ => ⟨S8320x6160, .f32⟩

abbrev bufTy : (tb : Table) → Fin (tcTables nBuf tb) → BufTy
  | .hbm, ⟨i, _⟩ => hbmTy i
  | _, _ => ⟨S8320x6160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call1_v0 : Ref sig .tc := ⟨.hbm, 70, rfl⟩
abbrev main_call1_call0_cst : Ref sig .tc := ⟨.hbm, 71, rfl⟩
abbrev main_call1_call0_v0 : Ref sig .tc := ⟨.hbm, 72, rfl⟩
abbrev main_call1_call0_v1 : Ref sig .tc := ⟨.hbm, 73, rfl⟩
abbrev main_call1_call0_v2 : Ref sig .tc := ⟨.hbm, 74, rfl⟩
abbrev main_call1_call0_v3 : Ref sig .tc := ⟨.hbm, 75, rfl⟩
abbrev main_call1_call0_v4 : Ref sig .tc := ⟨.hbm, 76, rfl⟩
abbrev main_call1_call0_v5 : Ref sig .tc := ⟨.hbm, 77, rfl⟩
abbrev main_call1_call0_v6 : Ref sig .tc := ⟨.hbm, 78, rfl⟩
abbrev main_call1_call0_v7 : Ref sig .tc := ⟨.hbm, 79, rfl⟩
abbrev main_call1_call0_v8 : Ref sig .tc := ⟨.hbm, 80, rfl⟩
abbrev main_call1_call0_v9 : Ref sig .tc := ⟨.hbm, 81, rfl⟩
abbrev main_call1_call0_v10 : Ref sig .tc := ⟨.hbm, 82, rfl⟩
abbrev main_call1_call0_v11 : Ref sig .tc := ⟨.hbm, 83, rfl⟩
abbrev main_call1_v1 : Ref sig .tc := ⟨.hbm, 84, rfl⟩
abbrev main_v52 : Ref sig .tc := ⟨.hbm, 85, rfl⟩
abbrev main_v53 : Ref sig .tc := ⟨.hbm, 86, rfl⟩
abbrev main_cst_0 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_c : Ref sig .tc := ⟨.hbm, 92, rfl⟩
abbrev main_v58 : Ref sig .tc := ⟨.hbm, 93, rfl⟩
abbrev main_call2_v0 : Ref sig .tc := ⟨.hbm, 94, rfl⟩
abbrev main_call2_c : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_c_0 : Ref sig .tc := ⟨.hbm, 100, rfl⟩
abbrev main_call2_v5 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_1 : Ref sig .tc := ⟨.hbm, 117, rfl⟩
abbrev main_v74 : Ref sig .tc := ⟨.hbm, 118, rfl⟩
abbrev main_c_2 : Ref sig .tc := ⟨.hbm, 119, rfl⟩
abbrev main_v75_0 : Ref sig .tc := ⟨.hbm, 120, rfl⟩
abbrev main_v75_1 : Ref sig .tc := ⟨.hbm, 121, rfl⟩
abbrev main_v75_2 : Ref sig .tc := ⟨.hbm, 122, rfl⟩
abbrev main_v75_3 : Ref sig .tc := ⟨.hbm, 123, rfl⟩
abbrev main_v75_4 : Ref sig .tc := ⟨.hbm, 124, rfl⟩
abbrev main_v75_5 : Ref sig .tc := ⟨.hbm, 125, rfl⟩
abbrev main_v75_6 : Ref sig .tc := ⟨.hbm, 126, rfl⟩
abbrev main_v75_7 : Ref sig .tc := ⟨.hbm, 127, rfl⟩
abbrev main_v75_8 : Ref sig .tc := ⟨.hbm, 128, rfl⟩
abbrev main_v75_9 : Ref sig .tc := ⟨.hbm, 129, rfl⟩
abbrev main_v75_10 : Ref sig .tc := ⟨.hbm, 130, rfl⟩
abbrev main_while0c_c_20 : Ref sig .tc := ⟨.hbm, 131, rfl⟩
abbrev main_while0c_v112 : Ref sig .tc := ⟨.hbm, 132, rfl⟩
abbrev main_while0b_call3_c : Ref sig .tc := ⟨.hbm, 133, rfl⟩
abbrev main_while0b_call3_c_0 : Ref sig .tc := ⟨.hbm, 134, rfl⟩
abbrev main_while0b_call3_c_1 : Ref sig .tc := ⟨.hbm, 135, rfl⟩
abbrev main_while0b_call3_c_2 : Ref sig .tc := ⟨.hbm, 136, rfl⟩
abbrev main_while0b_call3_v0 : Ref sig .tc := ⟨.hbm, 137, rfl⟩
abbrev main_while0b_v112 : Ref sig .tc := ⟨.hbm, 138, rfl⟩
abbrev main_while0b_call4_c : Ref sig .tc := ⟨.hbm, 139, rfl⟩
abbrev main_while0b_call4_c_0 : Ref sig .tc := ⟨.hbm, 140, rfl⟩
abbrev main_while0b_call4_c_1 : Ref sig .tc := ⟨.hbm, 141, rfl⟩
abbrev main_while0b_call4_c_2 : Ref sig .tc := ⟨.hbm, 142, rfl⟩
abbrev main_while0b_call4_v0 : Ref sig .tc := ⟨.hbm, 143, rfl⟩
abbrev main_while0b_v113 : Ref sig .tc := ⟨.hbm, 144, rfl⟩
abbrev main_while0b_call5_c : Ref sig .tc := ⟨.hbm, 145, rfl⟩
abbrev main_while0b_call5_c_0 : Ref sig .tc := ⟨.hbm, 146, rfl⟩
abbrev main_while0b_call5_c_1 : Ref sig .tc := ⟨.hbm, 147, rfl⟩
abbrev main_while0b_call5_c_2 : Ref sig .tc := ⟨.hbm, 148, rfl⟩
abbrev main_while0b_call5_v0 : Ref sig .tc := ⟨.hbm, 149, rfl⟩
abbrev main_while0b_v114 : Ref sig .tc := ⟨.hbm, 150, rfl⟩
abbrev main_while0b_call6_c : Ref sig .tc := ⟨.hbm, 151, rfl⟩
abbrev main_while0b_call6_c_0 : Ref sig .tc := ⟨.hbm, 152, rfl⟩
abbrev main_while0b_call6_c_1 : Ref sig .tc := ⟨.hbm, 153, rfl⟩
abbrev main_while0b_call6_v0 : Ref sig .tc := ⟨.hbm, 154, rfl⟩
abbrev main_while0b_v115 : Ref sig .tc := ⟨.hbm, 155, rfl⟩
abbrev main_while0b_call7_c : Ref sig .tc := ⟨.hbm, 156, rfl⟩
abbrev main_while0b_call7_c_0 : Ref sig .tc := ⟨.hbm, 157, rfl⟩
abbrev main_while0b_call7_c_1 : Ref sig .tc := ⟨.hbm, 158, rfl⟩
abbrev main_while0b_call7_v0 : Ref sig .tc := ⟨.hbm, 159, rfl⟩
abbrev main_while0b_v116 : Ref sig .tc := ⟨.hbm, 160, rfl⟩
abbrev main_while0b_call8_call0_cst : Ref sig .tc := ⟨.hbm, 161, rfl⟩
abbrev main_while0b_call8_call0_v0 : Ref sig .tc := ⟨.hbm, 162, rfl⟩
abbrev main_while0b_v117 : Ref sig .tc := ⟨.hbm, 163, rfl⟩
abbrev main_while0b_v118 : Ref sig .tc := ⟨.hbm, 164, rfl⟩
abbrev main_while0b_v119 : Ref sig .tc := ⟨.hbm, 165, rfl⟩
abbrev main_while0b_v120 : Ref sig .tc := ⟨.hbm, 166, rfl⟩
abbrev main_while0b_v121 : Ref sig .tc := ⟨.hbm, 167, rfl⟩
abbrev main_while0b_v122 : Ref sig .tc := ⟨.hbm, 168, rfl⟩
abbrev main_while0b_v123 : Ref sig .tc := ⟨.hbm, 169, rfl⟩
abbrev main_while0b_v124 : Ref sig .tc := ⟨.hbm, 170, rfl⟩
abbrev main_while0b_v125 : Ref sig .tc := ⟨.hbm, 171, rfl⟩
abbrev main_while0b_cst_20 : Ref sig .tc := ⟨.hbm, 172, rfl⟩
abbrev main_while0b_call9_v0 : Ref sig .tc := ⟨.hbm, 173, rfl⟩
abbrev main_while0b_call9_v1 : Ref sig .tc := ⟨.hbm, 174, rfl⟩
abbrev main_while0b_call9_v2 : Ref sig .tc := ⟨.hbm, 175, rfl⟩
abbrev main_while0b_v126 : Ref sig .tc := ⟨.hbm, 176, rfl⟩
abbrev main_while0b_v127 : Ref sig .tc := ⟨.hbm, 177, rfl⟩
abbrev main_while0b_v128 : Ref sig .tc := ⟨.hbm, 178, rfl⟩
abbrev main_while0b_v129 : Ref sig .tc := ⟨.hbm, 179, rfl⟩
abbrev main_while0b_cst_21 : Ref sig .tc := ⟨.hbm, 180, rfl⟩
abbrev main_while0b_v130 : Ref sig .tc := ⟨.hbm, 181, rfl⟩
abbrev main_while0b_v131 : Ref sig .tc := ⟨.hbm, 182, rfl⟩
abbrev main_while0b_v132 : Ref sig .tc := ⟨.hbm, 183, rfl⟩
abbrev main_while0b_v133 : Ref sig .tc := ⟨.hbm, 184, rfl⟩
abbrev main_while0b_v134 : Ref sig .tc := ⟨.hbm, 185, rfl⟩
abbrev main_while0b_v135 : Ref sig .tc := ⟨.hbm, 186, rfl⟩
abbrev main_while0b_v136 : Ref sig .tc := ⟨.hbm, 187, rfl⟩
abbrev main_while0b_v137 : Ref sig .tc := ⟨.hbm, 188, rfl⟩
abbrev main_while0b_v138 : Ref sig .tc := ⟨.hbm, 189, rfl⟩
abbrev main_while0b_v139 : Ref sig .tc := ⟨.hbm, 190, rfl⟩
abbrev main_while0b_v140 : Ref sig .tc := ⟨.hbm, 191, rfl⟩
abbrev main_while0b_v141 : Ref sig .tc := ⟨.hbm, 192, rfl⟩
abbrev main_while0b_v142 : Ref sig .tc := ⟨.hbm, 193, rfl⟩
abbrev main_while0b_v143 : Ref sig .tc := ⟨.hbm, 194, rfl⟩
abbrev main_while0b_v144 : Ref sig .tc := ⟨.hbm, 195, rfl⟩
abbrev main_while0b_v145 : Ref sig .tc := ⟨.hbm, 196, rfl⟩
abbrev main_while0b_v146 : Ref sig .tc := ⟨.hbm, 197, rfl⟩
abbrev main_while0b_v147 : Ref sig .tc := ⟨.hbm, 198, rfl⟩
abbrev main_while0b_cst_22 : Ref sig .tc := ⟨.hbm, 199, rfl⟩
abbrev main_while0b_v148 : Ref sig .tc := ⟨.hbm, 200, rfl⟩
abbrev main_while0b_v149 : Ref sig .tc := ⟨.hbm, 201, rfl⟩
abbrev main_while0b_v150 : Ref sig .tc := ⟨.hbm, 202, rfl⟩
abbrev main_while0b_v151 : Ref sig .tc := ⟨.hbm, 203, rfl⟩
abbrev main_while0b_v152 : Ref sig .tc := ⟨.hbm, 204, rfl⟩
abbrev main_while0b_v153 : Ref sig .tc := ⟨.hbm, 205, rfl⟩
abbrev main_while0b_v154 : Ref sig .tc := ⟨.hbm, 206, rfl⟩
abbrev main_while0b_v155 : Ref sig .tc := ⟨.hbm, 207, rfl⟩
abbrev main_while0b_v156 : Ref sig .tc := ⟨.hbm, 208, rfl⟩
abbrev main_while0b_v157 : Ref sig .tc := ⟨.hbm, 209, rfl⟩
abbrev main_while0b_v158 : Ref sig .tc := ⟨.hbm, 210, rfl⟩
abbrev main_while0b_v159 : Ref sig .tc := ⟨.hbm, 211, rfl⟩
abbrev main_while0b_v160 : Ref sig .tc := ⟨.hbm, 212, rfl⟩
abbrev main_while0b_v161 : Ref sig .tc := ⟨.hbm, 213, rfl⟩
abbrev main_while0b_v162 : Ref sig .tc := ⟨.hbm, 214, rfl⟩
abbrev main_while0b_v163 : Ref sig .tc := ⟨.hbm, 215, rfl⟩
abbrev main_while0b_v164 : Ref sig .tc := ⟨.hbm, 216, rfl⟩
abbrev main_while0b_v165 : Ref sig .tc := ⟨.hbm, 217, rfl⟩
abbrev main_while0b_v166 : Ref sig .tc := ⟨.hbm, 218, rfl⟩
abbrev main_while0b_v167 : Ref sig .tc := ⟨.hbm, 219, rfl⟩
abbrev main_while0b_v168 : Ref sig .tc := ⟨.hbm, 220, rfl⟩
abbrev main_while0b_v169 : Ref sig .tc := ⟨.hbm, 221, rfl⟩
abbrev main_while0b_v170 : Ref sig .tc := ⟨.hbm, 222, rfl⟩
abbrev main_while0b_v171 : Ref sig .tc := ⟨.hbm, 223, rfl⟩
abbrev main_while0b_v172 : Ref sig .tc := ⟨.hbm, 224, rfl⟩
abbrev main_while0b_v173 : Ref sig .tc := ⟨.hbm, 225, rfl⟩
abbrev main_while0b_v174 : Ref sig .tc := ⟨.hbm, 226, rfl⟩
abbrev main_while0b_v175 : Ref sig .tc := ⟨.hbm, 227, rfl⟩
abbrev main_while0b_call10_v0 : Ref sig .tc := ⟨.hbm, 228, rfl⟩
abbrev main_while0b_call10_c : Ref sig .tc := ⟨.hbm, 229, rfl⟩
abbrev main_while0b_call10_c_0 : Ref sig .tc := ⟨.hbm, 230, rfl⟩
abbrev main_while0b_call10_c_1 : Ref sig .tc := ⟨.hbm, 231, rfl⟩
abbrev main_while0b_call10_c_2 : Ref sig .tc := ⟨.hbm, 232, rfl⟩
abbrev main_while0b_v176 : Ref sig .tc := ⟨.hbm, 233, rfl⟩
abbrev main_while0b_c_23 : Ref sig .tc := ⟨.hbm, 234, rfl⟩
abbrev main_while0b_v177 : Ref sig .tc := ⟨.hbm, 235, rfl⟩
abbrev main_v76 : Ref sig .tc := ⟨.hbm, 236, rfl⟩
abbrev main_v77 : Ref sig .tc := ⟨.hbm, 237, rfl⟩
abbrev main_v78 : Ref sig .tc := ⟨.hbm, 238, rfl⟩
abbrev main_v79 : Ref sig .tc := ⟨.hbm, 239, rfl⟩
abbrev main_v80 : Ref sig .tc := ⟨.hbm, 240, rfl⟩
abbrev main_v81 : Ref sig .tc := ⟨.hbm, 241, rfl⟩
abbrev main_v82 : Ref sig .tc := ⟨.hbm, 242, rfl⟩
abbrev main_v83 : Ref sig .tc := ⟨.hbm, 243, rfl⟩
abbrev main_v84 : Ref sig .tc := ⟨.hbm, 244, rfl⟩
abbrev main_v85 : Ref sig .tc := ⟨.hbm, 245, rfl⟩
abbrev main_cst_3 : Ref sig .tc := ⟨.hbm, 246, rfl⟩
abbrev main_v86 : Ref sig .tc := ⟨.hbm, 247, rfl⟩
abbrev main_v87 : Ref sig .tc := ⟨.hbm, 248, rfl⟩
abbrev main_cst_4 : Ref sig .tc := ⟨.hbm, 249, rfl⟩
abbrev main_v88 : Ref sig .tc := ⟨.hbm, 250, rfl⟩
abbrev main_v89 : Ref sig .tc := ⟨.hbm, 251, rfl⟩
abbrev main_cst_5 : Ref sig .tc := ⟨.hbm, 252, rfl⟩
abbrev main_v90 : Ref sig .tc := ⟨.hbm, 253, rfl⟩
abbrev main_v91 : Ref sig .tc := ⟨.hbm, 254, rfl⟩
abbrev main_v92 : Ref sig .tc := ⟨.hbm, 255, rfl⟩
abbrev main_v93 : Ref sig .tc := ⟨.hbm, 256, rfl⟩
abbrev main_v94 : Ref sig .tc := ⟨.hbm, 257, rfl⟩
abbrev main_v95 : Ref sig .tc := ⟨.hbm, 258, rfl⟩
abbrev main_v96 : Ref sig .tc := ⟨.hbm, 259, rfl⟩
abbrev main_v97 : Ref sig .tc := ⟨.hbm, 260, rfl⟩
abbrev main_v98 : Ref sig .tc := ⟨.hbm, 261, rfl⟩
abbrev main_v99 : Ref sig .tc := ⟨.hbm, 262, rfl⟩
abbrev main_v100 : Ref sig .tc := ⟨.hbm, 263, rfl⟩
abbrev main_cst_6 : Ref sig .tc := ⟨.hbm, 264, rfl⟩
abbrev main_v101 : Ref sig .tc := ⟨.hbm, 265, rfl⟩
abbrev main_v102 : Ref sig .tc := ⟨.hbm, 266, rfl⟩
abbrev main_cst_7 : Ref sig .tc := ⟨.hbm, 267, rfl⟩
abbrev main_v103 : Ref sig .tc := ⟨.hbm, 268, rfl⟩
abbrev main_v104 : Ref sig .tc := ⟨.hbm, 269, rfl⟩
abbrev main_v105 : Ref sig .tc := ⟨.hbm, 270, rfl⟩
abbrev main_v106 : Ref sig .tc := ⟨.hbm, 271, rfl⟩
abbrev main_cst_8 : Ref sig .tc := ⟨.hbm, 272, rfl⟩
abbrev main_v107 : Ref sig .tc := ⟨.hbm, 273, rfl⟩
abbrev main_v108 : Ref sig .tc := ⟨.hbm, 274, rfl⟩
abbrev main_v109 : Ref sig .tc := ⟨.hbm, 275, rfl⟩
abbrev main_c_9 : Ref sig .tc := ⟨.hbm, 276, rfl⟩
abbrev main_call11_v0 : Ref sig .tc := ⟨.hbm, 277, rfl⟩
abbrev main_v110 : Ref sig .tc := ⟨.hbm, 278, rfl⟩
abbrev main_v111 : Ref sig .tc := ⟨.hbm, 279, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S8320x4096 : Shape := ⟨2, ![8320, 4096]⟩
abbrev S4096x32800 : Shape := ⟨2, ![4096, 32800]⟩
abbrev S4096x4096 : Shape := ⟨2, ![4096, 4096]⟩
abbrev S1040x4096 : Shape := ⟨2, ![1040, 4096]⟩
abbrev S4096x1024 : Shape := ⟨2, ![4096, 1024]⟩
abbrev S1040x1024 : Shape := ⟨2, ![1040, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S4096x32800, .f32⟩
  | .hbm, ⟨2, _⟩ => ⟨S4096x4096, .f32⟩
  | .hbm, ⟨3, _⟩ => ⟨S4096x4096, .bf16⟩
  | .hbm, ⟨4, _⟩ => ⟨S8320x4096, .f32⟩
  | .local _ .vmem, ⟨0, _⟩ => ⟨S1040x4096, .bf16⟩
  | .local _ .vmem, ⟨1, _⟩ => ⟨S1040x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1040x1024, .f32⟩
  | .local _ .vmem, ⟨5, _⟩ => ⟨S1040x1024, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8320x4096 : Shape := ⟨2, ![8320, 4096]⟩
abbrev S4096x32800 : Shape := ⟨2, ![4096, 32800]⟩
abbrev S8320x32800 : Shape := ⟨2, ![8320, 32800]⟩

abbrev nBuf : Space → Nat
  | .hbm => 5
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x32800, .f32⟩
  | .hbm, ⟨2, _⟩ => ⟨S8320x4096, .f32⟩
  | .hbm, ⟨3, _⟩ => ⟨S8320x32800, .f32⟩
  | .hbm, ⟨4, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel3.lean ====
abbrev S8320x4096 : Shape := ⟨2, ![8320, 4096]⟩
abbrev S4096x32800 : Shape := ⟨2, ![4096, 32800]⟩
abbrev S4096x6144 : Shape := ⟨2, ![4096, 6144]⟩
abbrev S8320x6144 : Shape := ⟨2, ![8320, 6144]⟩
abbrev S1040x4096 : Shape := ⟨2, ![1040, 4096]⟩
abbrev S4096x1024 : Shape := ⟨2, ![4096, 1024]⟩
abbrev S1040x1024 : Shape := ⟨2, ![1040, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S4096x32800, .f32⟩
  | .hbm, ⟨2, _⟩ => ⟨S4096x6144, .f32⟩
  | .hbm, ⟨3, _⟩ => ⟨S4096x6144, .bf16⟩
  | .hbm, ⟨4, _⟩ => ⟨S8320x6144, .f32⟩
  | .local _ .vmem, ⟨0, _⟩ => ⟨S1040x4096, .bf16⟩
  | .local _ .vmem, ⟨1, _⟩ => ⟨S1040x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1040x1024, .f32⟩
  | .local _ .vmem, ⟨5, _⟩ => ⟨S1040x1024, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8320x4096 : Shape := ⟨2, ![8320, 4096]⟩
abbrev S4096x32800 : Shape := ⟨2, ![4096, 32800]⟩
abbrev S8320x32800 : Shape := ⟨2, ![8320, 32800]⟩
abbrev S8320x6144 : Shape := ⟨2, ![8320, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x32800, .f32⟩
  | .hbm, ⟨2, _⟩ => ⟨S8320x4096, .f32⟩
  | .hbm, ⟨3, _⟩ => ⟨S8320x32800, .f32⟩
  | .hbm, ⟨4, _⟩ => ⟨S8320x6144, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S8320x4096 : Shape := ⟨2, ![8320, 4096]⟩
abbrev S4096x32800 : Shape := ⟨2, ![4096, 32800]⟩
abbrev S4096x22528 : Shape := ⟨2, ![4096, 22528]⟩
abbrev S8320x22528 : Shape := ⟨2, ![8320, 22528]⟩
abbrev S1040x4096 : Shape := ⟨2, ![1040, 4096]⟩
abbrev S4096x1024 : Shape := ⟨2, ![4096, 1024]⟩
abbrev S1040x1024 : Shape := ⟨2, ![1040, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S4096x32800, .f32⟩
  | .hbm, ⟨2, _⟩ => ⟨S4096x22528, .f32⟩
  | .hbm, ⟨3, _⟩ => ⟨S4096x22528, .bf16⟩
  | .hbm, ⟨4, _⟩ => ⟨S8320x22528, .f32⟩
  | .local _ .vmem, ⟨0, _⟩ => ⟨S1040x4096, .bf16⟩
  | .local _ .vmem, ⟨1, _⟩ => ⟨S1040x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1040x1024, .f32⟩
  | .local _ .vmem, ⟨5, _⟩ => ⟨S1040x1024, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8320x4096 : Shape := ⟨2, ![8320, 4096]⟩
abbrev S4096x32800 : Shape := ⟨2, ![4096, 32800]⟩
abbrev S8320x32800 : Shape := ⟨2, ![8320, 32800]⟩
abbrev S8320x22528 : Shape := ⟨2, ![8320, 22528]⟩

abbrev nBuf : Space → Nat
  | .hbm => 5
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x32800, .f32⟩
  | .hbm, ⟨2, _⟩ => ⟨S8320x4096, .f32⟩
  | .hbm, ⟨3, _⟩ => ⟨S8320x32800, .f32⟩
  | .hbm, ⟨4, _⟩ => ⟨S8320x22528, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S8320x4096 : Shape := ⟨2, ![8320, 4096]⟩
abbrev S4096x32800 : Shape := ⟨2, ![4096, 32800]⟩
abbrev S4096x128 : Shape := ⟨2, ![4096, 128]⟩
abbrev S4096x256 : Shape := ⟨2, ![4096, 256]⟩
abbrev S8320x256 : Shape := ⟨2, ![8320, 256]⟩
abbrev S1040x4096 : Shape := ⟨2, ![1040, 4096]⟩
abbrev S1040x256 : Shape := ⟨2, ![1040, 256]⟩

abbrev nBuf : Space → Nat
  | .hbm => 7
  | .vmem => 5
  | .smem => 0
  | _ => 0

abbrev bufTy : (tb : Table) → Fin (tcTables nBuf tb) → BufTy
  | .hbm, ⟨0, _⟩ => ⟨S8320x4096, .bf16⟩
  | .hbm, ⟨1, _⟩ => ⟨S4096x32800, .f32⟩
  | .hbm, ⟨2, _⟩ => ⟨S4096x128, .f32⟩
  | .hbm, ⟨3, _⟩ => ⟨S4096x128, .f32⟩
  | .hbm, ⟨4, _⟩ => ⟨S4096x256, .f32⟩
  | .hbm, ⟨5, _⟩ => ⟨S4096x256, .bf16⟩
  | .hbm, ⟨6, _⟩ => ⟨S8320x256, .f32⟩
  | .local _ .vmem, ⟨0, _⟩ => ⟨S1040x4096, .bf16⟩
  | .local _ .vmem, ⟨1, _⟩ => ⟨S1040x4096, .bf16⟩
  | .local _ .vmem, ⟨2, _⟩ => ⟨S4096x256, .bf16⟩
  | .local _ .vmem, ⟨3, _⟩ => ⟨S1040x256, .f32⟩
  | .local _ .vmem, ⟨4, _⟩ => ⟨S1040x256, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1040x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8320x4096 : Shape := ⟨2, ![8320, 4096]⟩
abbrev S4096x32800 : Shape := ⟨2, ![4096, 32800]⟩
abbrev S8320x32800 : Shape := ⟨2, ![8320, 32800]⟩
abbrev S8320x128 : Shape := ⟨2, ![8320, 128]⟩
abbrev S8320x256 : Shape := ⟨2, ![8320, 256]⟩

abbrev nBuf : Space → Nat
  | .hbm => 7
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x32800, .f32⟩
  | .hbm, ⟨2, _⟩ => ⟨S8320x4096, .f32⟩
  | .hbm, ⟨3, _⟩ => ⟨S8320x32800, .f32⟩
  | .hbm, ⟨4, _⟩ => ⟨S8320x128, .f32⟩
  | .hbm, ⟨5, _⟩ => ⟨S8320x128, .f32⟩
  | .hbm, ⟨6, _⟩ => ⟨S8320x256, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S8320x2048 : Shape := ⟨2, ![8320, 2048]⟩
abbrev S2x2048x4096 : Shape := ⟨3, ![2, 2048, 4096]⟩
abbrev S8320x22528 : Shape := ⟨2, ![8320, 22528]⟩
abbrev S8320x4096 : Shape := ⟨2, ![8320, 4096]⟩
abbrev S520x2048 : Shape := ⟨2, ![520, 2048]⟩
abbrev S1x2048x512 : Shape := ⟨3, ![1, 2048, 512]⟩
abbrev S520x512 : Shape := ⟨2, ![520, 512]⟩
abbrev S2048x512 : Shape := ⟨2, ![2048, 512]⟩

abbrev nBuf : Space → Nat
  | .hbm => 11
  | .vmem => 20
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S8320x2048, .bf16⟩
  | .hbm, ⟨3, _⟩ => ⟨S2x2048x4096, .f32⟩
  | .hbm, ⟨4, _⟩ => ⟨S2x2048x4096, .f32⟩
  | .hbm, ⟨5, _⟩ => ⟨S2x2048x4096, .f32⟩
  | .hbm, ⟨6, _⟩ => ⟨S8320x22528, .f32⟩
  | .hbm, ⟨7, _⟩ => ⟨S2x2048x4096, .bf16⟩
  | .hbm, ⟨8, _⟩ => ⟨S2x2048x4096, .bf16⟩
  | .hbm, ⟨9, _⟩ => ⟨S2x2048x4096, .bf16⟩
  | .hbm, ⟨10, _⟩ => ⟨S8320x4096, .bf16⟩
  | .local _ .vmem, ⟨0, _⟩ => ⟨S520x2048, .bf16⟩
  | .local _ .vmem, ⟨1, _⟩ => ⟨S520x2048, .bf16⟩
  | .local _ .vmem, ⟨2, _⟩ => ⟨S520x2048, .bf16⟩
  | .local _ .vmem, ⟨3, _⟩ => ⟨S520x2048, .bf16⟩
  | .local _ .vmem, ⟨4, _⟩ => ⟨S520x2048, .bf16⟩
  | .local _ .vmem, ⟨5, _⟩ => ⟨S520x2048, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S520x512, .f32⟩
  | .local _ .vmem, ⟨13, _⟩ => ⟨S520x512, .f32⟩
  | .local _ .vmem, ⟨14, _⟩ => ⟨S520x512, .f32⟩
  | .local _ .vmem, ⟨15, _⟩ => ⟨S520x512, .f32⟩
  | .local _ .vmem, ⟨16, _⟩ => ⟨S520x512, .f32⟩
  | .local _ .vmem, ⟨17, _⟩ => ⟨S520x512, .f32⟩
  | .local _ .vmem, ⟨18, _⟩ => ⟨S520x512, .bf16⟩
  | .local _ .vmem, ⟨19, _⟩ => ⟨S520x512, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S520x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S520x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S520x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S520x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S520x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S520x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S520x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S8320x2048 : Shape := ⟨2, ![8320, 2048]⟩
abbrev S2x2048x4096 : Shape := ⟨3, ![2, 2048, 4096]⟩
abbrev S8320x22528 : Shape := ⟨2, ![8320, 22528]⟩
abbrev S8320x12288 : Shape := ⟨2, ![8320, 12288]⟩
abbrev S_ : Shape := ⟨0, ![]⟩
abbrev S8320x3x4096 : Shape := ⟨3, ![8320, 3, 4096]⟩
abbrev S8320x1x4096 : Shape := ⟨3, ![8320, 1, 4096]⟩
abbrev S8320x4096 : Shape := ⟨2, ![8320, 4096]⟩
abbrev S1x2048x4096 : Shape := ⟨3, ![1, 2048, 4096]⟩
abbrev S2048x4096 : Shape := ⟨2, ![2048, 4096]⟩

abbrev nBuf : Space → Nat
  | .hbm => 41
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S8320x2048, .bf16⟩
  | .hbm, ⟨3, _⟩ => ⟨S2x2048x4096, .f32⟩
  | .hbm, ⟨4, _⟩ => ⟨S2x2048x4096, .f32⟩
  | .hbm, ⟨5, _⟩ => ⟨S2x2048x4096, .f32⟩
  | .hbm, ⟨6, _⟩ => ⟨S8320x22528, .f32⟩
  | .hbm, ⟨7, _⟩ => ⟨S8320x2048, .f32⟩
  | .hbm, ⟨8, _⟩ => ⟨S8320x2048, .f32⟩
  | .hbm, ⟨9, _⟩ => ⟨S8320x2048, .f32⟩
  | .hbm, ⟨10, _⟩ => ⟨S8320x12288, .f32⟩
  | .hbm, ⟨11, _⟩ => ⟨S8320x12288, .f32⟩
  | .hbm, ⟨12, _⟩ => ⟨S8320x12288, .f32⟩
  | .hbm, ⟨13, _⟩ => ⟨S_, .f32⟩
  | .hbm, ⟨14, _⟩ => ⟨S8320x12288, .f32⟩
  | .hbm, ⟨15, _⟩ => ⟨S8320x12288, .f32⟩
  | .hbm, ⟨16, _⟩ => ⟨S_, .f32⟩
  | .hbm, ⟨17, _⟩ => ⟨S8320x12288, .f32⟩
  | .hbm, ⟨18, _⟩ => ⟨S8320x12288, .f32⟩
  | .hbm, ⟨19, _⟩ => ⟨S8320x3x4096, .f32⟩
  | .hbm, ⟨20, _⟩ => ⟨S8320x1x4096, .f32⟩
  | .hbm, ⟨21, _⟩ => ⟨S8320x4096, .f32⟩
  | .hbm, ⟨22, _⟩ => ⟨S1x2048x4096, .f32⟩
  | .hbm, ⟨23, _⟩ => ⟨S2048x4096, .f32⟩
  | .hbm, ⟨24, _⟩ => ⟨S8320x4096, .f32⟩
  | .hbm, ⟨25, _⟩ => ⟨S8320x4096, .f32⟩
  | .hbm, ⟨26, _⟩ => ⟨S8320x1x4096, .f32⟩
  | .hbm, ⟨27, _⟩ => ⟨S8320x4096, .f32⟩
  | .hbm, ⟨28, _⟩ => ⟨S1x2048x4096, .f32⟩
  | .hbm, ⟨29, _⟩ => ⟨S2048x4096, .f32⟩
  | .hbm, ⟨30, _⟩ => ⟨S8320x4096, .f32⟩
  | .hbm, ⟨31, _⟩ => ⟨S8320x4096, .f32⟩
  | .hbm, ⟨32, _⟩ => ⟨S8320x4096, .f32⟩
  | .hbm, ⟨33, _⟩ => ⟨S8320x1x4096, .f32⟩
  | .hbm, ⟨34, _⟩ => ⟨S8320x4096, .f32⟩
  | .hbm, ⟨35, _⟩ => ⟨S1x2048x4096, .f32⟩
  | .hbm, ⟨36, _⟩ => ⟨S2048x4096, .f32⟩
  | .hbm, ⟨37, _⟩ => ⟨S8320x4096, .f32⟩
  | .hbm, ⟨38, _⟩ => ⟨S8320x4096, .f32⟩
  | .hbm, ⟨39, _⟩ => ⟨S8320x4096, .f32⟩
  | .hbm, ⟨40, _⟩ => ⟨S8320x4096, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel7.lean ====
abbrev S8320x4096 : Shape := ⟨2, ![8320, 4096]⟩
abbrev S2x4096x4096 : Shape := ⟨3, ![2, 4096, 4096]⟩
abbrev S2x16x24576 : Shape := ⟨3, ![2, 16, 24576]⟩
abbrev S_ : Shape := ⟨0, ![]⟩
abbrev S8192 : Shape := ⟨1, ![8192]⟩
abbrev S128 : Shape := ⟨1, ![128]⟩
abbrev S8320 : Shape := ⟨1, ![8320]⟩
abbrev S8320x1 : Shape := ⟨2, ![8320, 1]⟩
abbrev S16 : Shape := ⟨1, ![16]⟩
abbrev S1x16 : Shape := ⟨2, ![1, 16]⟩
abbrev S8320x16 : Shape := ⟨2, ![8320, 16]⟩
abbrev S1x16x24576 : Shape := ⟨3, ![1, 16, 24576]⟩
abbrev S1040x4096 : Shape := ⟨2, ![1040, 4096]⟩
abbrev S1x4096x512 : Shape := ⟨3, ![1, 4096, 512]⟩
abbrev S1040x512 : Shape := ⟨2, ![1040, 512]⟩
abbrev S1040x16 : Shape := ⟨2, ![1040, 16]⟩
abbrev S1x16x512 : Shape := ⟨3, ![1, 16, 512]⟩
abbrev S4096x512 : Shape := ⟨2, ![4096, 512]⟩
abbrev S1x1x512 : Shape := ⟨3, ![1, 1, 512]⟩
abbrev S1x512 : Shape := ⟨2, ![1, 512]⟩
abbrev S16x512 : Shape := ⟨2, ![16, 512]⟩

abbrev nBuf : Space → Nat
  | .hbm => 39
  | .vmem => 12
  | .smem => 0
  | _ => 0

abbrev bufTy : (tb : Table) → Fin (tcTables nBuf tb) → BufTy
  | .hbm, ⟨0, _⟩ => ⟨S8320x4096, .bf16⟩
  | .hbm, ⟨1, _⟩ => ⟨S2x4096x4096, .f32⟩
  | .hbm, ⟨2, _⟩ => ⟨S8320x4096, .f32⟩
  | .hbm, ⟨3, _⟩ => ⟨S2x16x24576, .f32⟩
  | .hbm, ⟨4, _⟩ => ⟨S_, .i32⟩
  | .hbm, ⟨5, _⟩ => ⟨S8192, .i32⟩
  | .hbm, ⟨6, _⟩ => ⟨S128, .i32⟩
  | .hbm, ⟨7, _⟩ => ⟨S_, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S128, .i1⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S8320, .i32⟩
  | .hbm, ⟨29, _⟩ => ⟨S8320x1, .i32⟩
  | .hbm, ⟨30, _⟩ => ⟨S16, .i32⟩
  | .hbm, ⟨31, _⟩ => ⟨S1x16, .i32⟩
  | .hbm, ⟨32, _⟩ => ⟨S8320x16, .i32⟩
  | .hbm, ⟨33, _⟩ => ⟨S8320x16, .i32⟩
  | .hbm, ⟨34, _⟩ => ⟨S8320x16, .i1⟩
  | .hbm, ⟨35, _⟩ => ⟨S8320x16, .bf16⟩
  | .hbm, ⟨36, _⟩ => ⟨S2x4096x4096, .bf16⟩
  | .hbm, ⟨37, _⟩ => ⟨S1x16x24576, .f32⟩
  | .hbm, ⟨38, _⟩ => ⟨S8320x4096, .f32⟩
  | .local _ .vmem, ⟨0, _⟩ => ⟨S1040x4096, .bf16⟩
  | .local _ .vmem, ⟨1, _⟩ => ⟨S1040x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1040x512, .f32⟩
  | .local _ .vmem, ⟨5, _⟩ => ⟨S1040x512, .f32⟩
  | .local _ .vmem, ⟨6, _⟩ => ⟨S1040x16, .bf16⟩
  | .local _ .vmem, ⟨7, _⟩ => ⟨S1040x16, .bf16⟩
  | .local _ .vmem, ⟨8, _⟩ => ⟨S1x16x512, .f32⟩
  | .local _ .vmem, ⟨9, _⟩ => ⟨S1x16x512, .f32⟩
  | .local _ .vmem, ⟨10, _⟩ => ⟨S1040x512, .f32⟩
  | .local _ .vmem, ⟨11, _⟩ => ⟨S1040x512, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_c_1 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c7_i32 : BitVec 32 := 7#32
  let v4 : BitVec 1 := Scalar.cmpi .ne arg0 c7_i32
  let v5 : BitVec 32 := Scalar.extui v4
  let c0_i32 : BitVec 32 := 0#32
  let v6 : BitVec 1 := Scalar.cmpi .ne v5 c0_i32
  v6

def k0_cond2 (i : grid0.Coords) : BitVec 1 :=
  let arg0 : BitVec 32 := BitVec.ofNat 32 (i 0).val
  let c7_i32_4 : BitVec 32 := 7#32
  let v7 : BitVec 1 := Scalar.cmpi .eq arg0 c7_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1040x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1040x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S8320x4096 : Shape := ⟨2, ![8320, 4096]⟩
abbrev S2x4096x4096 : Shape := ⟨3, ![2, 4096, 4096]⟩
abbrev S2x16x24576 : Shape := ⟨3, ![2, 16, 24576]⟩
abbrev S1x16x4096 : Shape := ⟨3, ![1, 16, 4096]⟩
abbrev S16x4096 : Shape := ⟨2, ![16, 4096]⟩
abbrev S1x4096 : Shape := ⟨2, ![1, 4096]⟩
abbrev S1x8192x4096 : Shape := ⟨3, ![1, 8192, 4096]⟩
abbrev S8192x4096 : Shape := ⟨2, ![8192, 4096]⟩
abbrev S8x4096 : Shape := ⟨2, ![8, 4096]⟩
abbrev S8x16x4096 : Shape := ⟨3, ![8, 16, 4096]⟩
abbrev S128x4096 : Shape := ⟨2, ![128, 4096]⟩
abbrev S1x4096x4096 : Shape := ⟨3, ![1, 4096, 4096]⟩
abbrev S4096x4096 : Shape := ⟨2, ![4096, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2x4096x4096, .f32⟩
  | .hbm, ⟨2, _⟩ => ⟨S8320x4096, .f32⟩
  | .hbm, ⟨3, _⟩ => ⟨S2x16x24576, .f32⟩
  | .hbm, ⟨4, _⟩ => ⟨S1x16x4096, .f32⟩
  | .hbm, ⟨5, _⟩ => ⟨S16x4096, .f32⟩
  | .hbm, ⟨6, _⟩ => ⟨S1x4096, .f32⟩
  | .hbm, ⟨7, _⟩ => ⟨S1x8192x4096, .f32⟩
  | .hbm, ⟨8, _⟩ => ⟨S8192x4096, .f32⟩
  | .hbm, ⟨9, _⟩ => ⟨S8x4096, .f32⟩
  | .hbm, ⟨10, _⟩ => ⟨S8x16x4096, .f32⟩
  | .hbm, ⟨11, _⟩ => ⟨S128x4096, .f32⟩
  | .hbm, ⟨12, _⟩ => ⟨S8320x4096, .f32⟩
  | .hbm, ⟨13, _⟩ => ⟨S8320x4096, .f32⟩
  | .hbm, ⟨14, _⟩ => ⟨S1x4096x4096, .f32⟩
  | .hbm, ⟨15, _⟩ => ⟨S4096x4096, .f32⟩
  | .hbm, ⟨16, _⟩ => ⟨S8320x4096, .f32⟩
  | .hbm, ⟨17, _⟩ => ⟨S8320x4096, .f32⟩
  | .hbm, ⟨18, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel8.lean ====
abbrev S8320x4096 : Shape := ⟨2, ![8320, 4096]⟩
abbrev S4096 : Shape := ⟨1, ![4096]⟩
abbrev S1x4096 : Shape := ⟨2, ![1, 4096]⟩
abbrev S8192x4096 : Shape := ⟨2, ![8192, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8320x4096 : Shape := ⟨2, ![8320, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel9.lean ====
abbrev S8320x4096 : Shape := ⟨2, ![8320, 4096]⟩
abbrev S4096 : Shape := ⟨1, ![4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 4
  | .vmem => 3
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S1x4096, .f32⟩
  | .hbm, ⟨3, _⟩ => ⟨S128x4096, .f32⟩
  | .local _ .vmem, ⟨0, _⟩ => ⟨S128x4096, .f32⟩
  | .local _ .vmem, ⟨1, _⟩ => ⟨S1x4096, .f32⟩
  | .local _ .vmem, ⟨2, _⟩ => ⟨S128x4096, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference9Ideal.lean ====
abbrev S8320x4096 : Shape := ⟨2, ![8320, 4096]⟩
abbrev S4096 : Shape := ⟨1, ![4096]⟩
abbrev S128x4096 : Shape := ⟨2, ![128, 4096]⟩
abbrev S_ : Shape := ⟨0, ![]⟩
abbrev S128 : Shape := ⟨1, ![128]⟩
abbrev S128x1 : Shape := ⟨2, ![128, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S128x4096, .f32⟩
  | .hbm, ⟨3, _⟩ => ⟨S128x4096, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x4096, .f32⟩
  | .hbm, ⟨15, _⟩ => ⟨S128x4096, .f32⟩
  | .hbm, ⟨16, _⟩ => ⟨S1x4096, .f32⟩
  | .hbm, ⟨17, _⟩ => ⟨S128x4096, .f32⟩
  | .hbm, ⟨18, _⟩ => ⟨S128x4096, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.InProj.lean ====
module

public import proofs.«01_k».proof.Proof.Gen.Kernel2Ideal.Value
public import proofs.«01_k».proof.Proof.Gen.Reference2Ideal.Read
public import proofs.«01_k».proof.Proof.Gen.Kernel3Ideal.Value
public import proofs.«01_k».proof.Proof.Gen.Reference3Ideal.Read
public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.Claim

@[expose] public section

set_option maxRecDepth 16384

noncomputable section

namespace Cert

/-- Over the reals a cast to a wider float type changes no number. -/
theorem Hand.extf_id {φ ψ : Idealize.ShloMosaic.FTy} (h : φ.bits < ψ.bits) (x : Idealize.ShloMosaic.Ideal φ) :
    (Idealize.ShloMosaic.FloatOps.extf ψ h x : Idealize.ShloMosaic.Ideal ψ) = x := rfl

/-! ## Columns 0 to 4096 -/

namespace Kernel2Ideal.Hand

open Cert.Kernel2Ideal Cert.Kernel2Ideal.Gen Cert.Kernel2Ideal.Value Idealize.ShloMosaic Idealize.ShloMosaic.TcCoe Idealize.SL.Sem

variable (m : (ℓ : Loc nD τ sig) → Buf (Elt Ideal) ℓ)

theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The array the call returns is the definition's range of the product. -/
theorem value (c : Dev nD) : (dats m 0 c).arrAt 2 cfg0.N =
    Reference2Ideal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  pointwise
  rw [Reference2Ideal.Read.val_main_v2_apply, Reference2Ideal.Read.val_main_v1_apply]
  simp only [Reference2Ideal.Read.val_main_v0_apply, Hand.extf_id]
  blk_point [iblk, V, idx t]

end Kernel2Ideal.Hand

/-! ## Columns 4112 to 10256 -/

namespace Kernel3Ideal.Hand

open Cert.Kernel3Ideal Cert.Kernel3Ideal.Gen Cert.Kernel3Ideal.Value Idealize.ShloMosaic Idealize.ShloMosaic.TcCoe Idealize.SL.Sem

variable (m : (ℓ : Loc nD τ sig) → Buf (Elt Ideal) ℓ)

theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The array the call returns is the definition's range of the product. -/
theorem value (c : Dev nD) : (dats m 0 c).arrAt 2 cfg0.N =
    Reference3Ideal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  pointwise
  rw [Reference3Ideal.Read.val_main_v2_apply, Reference3Ideal.Read.val_main_v1_apply]
  simp only [Reference3Ideal.Read.val_main_v0_apply, Hand.extf_id]
  blk_point [iblk, V, idx t]

end Kernel3Ideal.Hand

/-! ## Columns 10272 to 32800 -/

namespace Kernel4Ideal.Hand

open Cert.Kernel4Ideal Cert.Kernel4Ideal.Gen Cert.Kernel4Ideal.Value Idealize.ShloMosaic Idealize.ShloMosaic.TcCoe Idealize.SL.Sem

variable (m : (ℓ : Loc nD τ sig) → Buf (Elt Ideal) ℓ)

theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The array the call returns is the definition's range of the product. -/
theorem value (c : Dev nD) : (dats m 0 c).arrAt 2 cfg0.N =
    Reference4Ideal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  pointwise
  rw [Reference4Ideal.Read.val_main_v2_apply, Reference4Ideal.Read.val_main_v1_apply]
  simp only [Reference4Ideal.Read.val_main_v0_apply, Hand.extf_id]
  blk_point [iblk, V, idx t]

end Kernel4Ideal.Hand

end Cert

end
-- ==== Proof.InProjGates.lean ====
module

public import proofs.«01_k».proof.Proof.Gen.Kernel5Ideal.Value
public import proofs.«01_k».proof.Proof.Gen.Reference5Ideal.Read
public import Idealize.ShloMosaic.Lib.Pipeline.ValueKit
public import Idealize.ShloMosaic.Lib.Pointwise
public import Idealize.ShloMosaic.Lib.Claim

@[expose] public section

set_option maxRecDepth 16384

noncomputable section

namespace Cert

/-- Over the reals a cast to a wider float type changes no number. -/
theorem Hand.extf_gates {φ ψ : Idealize.ShloMosaic.FTy} (h : φ.bits < ψ.bits) (x : Idealize.ShloMosaic.Ideal φ) :
    (Idealize.ShloMosaic.FloatOps.extf ψ h x : Idealize.ShloMosaic.Ideal ψ) = x := rfl

/-! ## The two windows of gate columns -/

namespace Kernel5Ideal.Hand

open Cert.Kernel5Ideal Cert.Kernel5Ideal.Gen Cert.Kernel5Ideal.Value Idealize.ShloMosaic Idealize.ShloMosaic.TcCoe Idealize.SL.Sem

variable (m : (ℓ : Loc nD τ sig) → Buf (Elt Ideal) ℓ)

theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The second operand at the region's entry: the two windows side by side. -/
theorem entry (c : Dev nD) (i : S4096x256.Idx) : V m c main_v3 i =
    if h : (i 1).val < 128 then m ((c : Thread nD τ).loc main_arg1) (Idealize.ShloMosaic.ix2 (i 0) ⟨4096 + (i 1).val, by omega⟩)
    else m ((c : Thread nD τ).loc main_arg1) (Idealize.ShloMosaic.ix2 (i 0) ⟨10240 + ((i 1).val - 128), by
      have := (i 1).isLt; simp at this; omega⟩) := by
  entry_read
  pointwise

/-- The array the call returns is the definition's range of the product. -/
theorem value (c : Dev nD) : (dats m 0 c).arrAt 2 cfg0.N =
    Reference5Ideal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  pointwise
  unfold Reference5Ideal.Read.val_main_v4
  pointwise
  simp only [Reference5Ideal.Read.val_main_v3_apply, Reference5Ideal.Read.val_main_v2_apply, Reference5Ideal.Read.val_main_v1_apply, Reference5Ideal.Read.val_main_v0_apply, Hand.extf_gates]
  blk_simp [iblk]
  split
  · refine Finset.sum_congr (M := EReal) rfl fun k _ => congrArg₂ (HMul.hMul : EReal → EReal → EReal) ?_ ?_
    · blk_point [iblk, V, idx t]
    · rw [entry, dif_pos]
      · blk_ext [idx t]
      · rename_i h _
        rw [(idx t).2.2] at h
        blk_simp [idx t]
        simpa using h
  · refine Finset.sum_congr (M := EReal) rfl fun k _ => congrArg₂ (HMul.hMul : EReal → EReal → EReal) ?_ ?_
    · blk_point [iblk, V, idx t]
    · rw [entry, dif_neg]
      · blk_ext [idx t]
      · rename_i h _
        rw [(idx t).2.2] at h
        blk_simp [idx t]
        simpa using h

end Kernel5Ideal.Hand

end Cert

end
-- ==== Proof.Merge.lean ====
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise
public import Idealize.ShloMosaic.Lib.Claim

@[expose] public section

set_option maxRecDepth 16384

noncomputable section

namespace Cert

/-- Over the reals a cast to a wider float type changes no number. -/
theorem Hand.extf_merge {φ ψ : Idealize.ShloMosaic.FTy} (h : φ.bits < ψ.bits) (x : Idealize.ShloMosaic.Ideal φ) :
    (Idealize.ShloMosaic.FloatOps.extf ψ h x : Idealize.ShloMosaic.Ideal ψ) = x := rfl

/-- The reference's quotient is the logistic function. -/
theorem Hand.sigmoid (x : EReal) :
    Idealize.ShloMosaic.FloatOps.hostDivf (F := Idealize.ShloMosaic.Ideal) (φ := .f32)
      (Idealize.ShloMosaic.FloatOps.ofBits .f32 1065353216#32)
      (Idealize.ShloMosaic.FloatOps.addf (Idealize.ShloMosaic.FloatOps.ofBits .f32 1065353216#32)
        (Idealize.ShloMosaic.FloatOps.hostUnary .exp (Idealize.ShloMosaic.FloatOps.hostNegf x)))
      = Idealize.ShloMosaic.Ideal.logistic x := by
  pointwise
  rfl

/-! ## The merge -/

namespace Kernel6Ideal.Hand

open Cert.Kernel6Ideal Cert.Kernel6Ideal.Gen Cert.Kernel6Ideal.Value Idealize.ShloMosaic Idealize.ShloMosaic.TcCoe Idealize.SL.Sem

variable (m : (ℓ : Loc nD τ sig) → Buf (Elt Ideal) ℓ)

theorem idx : ∀ t : Fin cfg0.N,
    (win0_0.index t = ![(grid0.coords t 1).val, 0] ∧ win0_1.index t = ![(grid0.coords t 1).val, 0]
      ∧ win0_2.index t = ![(grid0.coords t 1).val, 0])
    ∧ (win0_3.index t = ![0, 0, (grid0.coords t 0).val] ∧ win0_4.index t = ![0, 0, (grid0.coords t 0).val]
      ∧ win0_5.index t = ![0, 0, (grid0.coords t 0).val])
    ∧ (win0_6.index t = ![(grid0.coords t 1).val, 20 + (grid0.coords t 0).val]
      ∧ win0_7.index t = ![(grid0.coords t 1).val, 28 + (grid0.coords t 0).val]
      ∧ win0_8.index t = ![(grid0.coords t 1).val, 36 + (grid0.coords t 0).val])
    ∧ win0_9.index t = ![(grid0.coords t 1).val, (grid0.coords t 0).val] :=
  (by decide +kernel : ∀ t : Fin grid0.N, _)

/-- The weight of mixer 0 at the region's entry, its cast the identity. -/
theorem entry0 (c : Dev nD) (i : S2x2048x4096.Idx) : V m c main_v0 i = m ((c : Thread nD τ).loc main_arg3) i := by
  entry_read
  pointwise

/-- The weight of mixer 1 at the region's entry, its cast the identity. -/
theorem entry1 (c : Dev nD) (i : S2x2048x4096.Idx) : V m c main_v1 i = m ((c : Thread nD τ).loc main_arg4) i := by
  entry_read
  pointwise

/-- The weight of mixer 2 at the region's entry, its cast the identity. -/
theorem entry2 (c : Dev nD) (i : S2x2048x4096.Idx) : V m c main_v2 i = m ((c : Thread nD τ).loc main_arg5) i := by
  entry_read
  pointwise

/-- The array the call returns is the definition's merged array. -/
theorem value (c : Dev nD) : (dats m 0 c).arrAt 9 cfg0.N =
    Reference6Ideal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  frame_out
  unfold k0_pay1
  pointwise
  simp only [Reference6Ideal.Read.val_main_v0_apply, Reference6Ideal.Read.val_main_v1_apply, Reference6Ideal.Read.val_main_v2_apply, Reference6Ideal.Read.val_main_v3_apply, Reference6Ideal.Read.val_main_v4_apply, Reference6Ideal.Read.val_main_v5_apply, Reference6Ideal.Read.val_main_cst_apply, Reference6Ideal.Read.val_main_v6_apply, Reference6Ideal.Read.val_main_v7_apply, Reference6Ideal.Read.val_main_cst_0_apply, Reference6Ideal.Read.val_main_v8_apply, Reference6Ideal.Read.val_main_v9_apply, Reference6Ideal.Read.val_main_v10_apply, Reference6Ideal.Read.val_main_v11_apply, Reference6Ideal.Read.val_main_v12_apply, Reference6Ideal.Read.val_main_v13_apply, Reference6Ideal.Read.val_main_v14_apply, Reference6Ideal.Read.val_main_v15_apply, Reference6Ideal.Read.val_main_v16_apply, Reference6Ideal.Read.val_main_v17_apply, Reference6Ideal.Read.val_main_v18_apply, Reference6Ideal.Read.val_main_v19_apply, Reference6Ideal.Read.val_main_v20_apply, Reference6Ideal.Read.val_main_v21_apply, Reference6Ideal.Read.val_main_v22_apply, Reference6Ideal.Read.val_main_v23_apply, Reference6Ideal.Read.val_main_v24_apply, Reference6Ideal.Read.val_main_v25_apply, Reference6Ideal.Read.val_main_v26_apply, Reference6Ideal.Read.val_main_v27_apply, Reference6Ideal.Read.val_main_v28_apply, Reference6Ideal.Read.val_main_v29_apply, Reference6Ideal.Read.val_main_v30_apply, Reference6Ideal.Read.val_main_v31_apply, Hand.extf_merge, Hand.sigmoid]
  have hc0 : (grid0.coords t 0).val < 8 := (grid0.coords t 0).isLt
  refine congrArg₂ (· + ·) (congrArg₂ (· + ·) ?_ ?_) ?_
  · refine congrArg₂ (· * ·) ?_ (Finset.sum_congr rfl fun k _ => congrArg₂ (· * ·) ?_ ?_)
    · refine congrArg Ideal.logistic (?_ : (_ : EReal) = _)
      blk_point [iblk, V, idx t]
    · blk_point [iblk, V, idx t]
    · blk_simp [iblk]
      rw [entry0]
      blk_ext [idx t] <;> omega
  · refine congrArg₂ (· * ·) ?_ (Finset.sum_congr rfl fun k _ => congrArg₂ (· * ·) ?_ ?_)
    · refine congrArg Ideal.logistic (?_ : (_ : EReal) = _)
      blk_point [iblk, V, idx t]
    · blk_point [iblk, V, idx t]
    · blk_simp [iblk]
      rw [entry1]
      blk_ext [idx t] <;> omega
  · refine congrArg₂ (· * ·) ?_ (Finset.sum_congr rfl fun k _ => congrArg₂ (· * ·) ?_ ?_)
    · refine congrArg Ideal.logistic (?_ : (_ : EReal) = _)
      blk_point [iblk, V, idx t]
    · blk_point [iblk, V, idx t]
    · blk_simp [iblk]
      rw [entry2]
      blk_ext [idx t] <;> omega

end Kernel6Ideal.Hand

end Cert

end
-- ==== Proof.OutProj.lean ====
module

public import proofs.«01_k».proof.Proof.Gen.Kernel7Ideal.Value
public import proofs.«01_k».proof.Proof.Gen.Reference7Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel7Ideal.Hand

open Cert.Kernel7Ideal Cert.Kernel7Ideal.Gen Cert.Kernel7Ideal.Value Idealize.ShloMosaic Idealize.ShloMosaic.TcCoe Idealize.SL.Sem

variable (m : (ℓ : Loc nD τ sig) → Buf (Elt Ideal) ℓ)

theorem extf_id {φ ψ : FTy} (h : φ.bits < ψ.bits) (x : Ideal φ) : (FloatOps.extf ψ h x : Ideal ψ) = x := rfl

/-! ## The operands at the region's entry -/

theorem entry13 (c : Dev nD) (i : S2x4096x4096.Idx) : V m c main_v13 i = m ((c : Thread nD τ).loc main_arg1) i := by
  dsimp only [V, List.flatten_cons, List.flatten_nil, List.append_nil, List.cons_append, List.nil_append]
  after_results_simp
  pointwise

theorem entry14 (c : Dev nD) (i : S1x16x24576.Idx) :
    V m c main_v14 i = m ((c : Thread nD τ).loc main_arg3) (Idealize.ShloMosaic.ix3 (0 : Fin 2) (i 1) (i 2)) := by
  dsimp only [V, List.flatten_cons, List.flatten_nil, List.append_nil, List.cons_append, List.nil_append]
  after_results_simp
  pointwise

/-- The modulation row of a row of the joined group: row 0 for the prompt, one row per sixteen samples after it. -/
def rowOf (r : ℕ) : ℕ := if r < 8192 then 0 else 1 + (r - 8192) / 16

theorem rowOf_lt (r : ℕ) (h : r < 8320) : rowOf r < 9 := by unfold rowOf; split <;> omega

/-- The 32-bit division by sixteen with the corrections of signs, on the 128 sample rows. -/
theorem division : ∀ n : Fin 128, ∀ k : Fin 16,
    IntOp.cmpi CmpIPredicate.eq
      (IntOp.addi (1#32)
            (Scalar.select
              (IntOp.andi
                (IntOp.cmpi CmpIPredicate.ne
                  (if BitVec.ofNat 32 n.val = 0 then (0 : BitVec 32)
                  else if (BitVec.ofNat 32 n.val).msb = true then -1 else 1)
                  (if (16#32) = 0 then (0 : BitVec 32)
                  else if BitVec.msb (16#32) = true then -1 else 1))
                (IntOp.cmpi CmpIPredicate.ne
                  (IntOp.remsi ArithUnit.host (BitVec.ofNat 32 n.val) (16#32)) 0#32))
              (IntOp.subi
                (IntOp.divsi ArithUnit.host (BitVec.ofNat 32 n.val) (16#32)) 1#32)
              (IntOp.divsi ArithUnit.host (BitVec.ofNat 32 n.val) (16#32))))
        (BitVec.ofNat 32 k.val) = if 1 + n.val / 16 = k.val then 1#1 else 0#1 := by
  decide +kernel

theorem prompt : ∀ k : Fin 16, IntOp.cmpi CmpIPredicate.eq (0#32) (BitVec.ofNat 32 k.val) = if 0 = k.val then 1#1 else 0#1 := by
  decide +kernel

theorem bit_one : (FloatOps.uitofp FTy.bf16 1#1 : Ideal .bf16) = (1 : EReal) := by
  show ((((1#1 : BitVec 1).toNat : ℝ)) : EReal) = 1
  norm_num

theorem bit_zero : (FloatOps.uitofp FTy.bf16 0#1 : Ideal .bf16) = (0 : EReal) := by
  show ((((0#1 : BitVec 1).toNat : ℝ)) : EReal) = 0
  norm_num

/-- The selector at the region's entry: 1 at the row's own modulation row, 0 elsewhere. -/
theorem entry12 (c : Dev nD) (i : S8320x16.Idx) :
    V m c main_v12 i = (if rowOf (i 0).val = (i 1).val then (1 : EReal) else 0) := by
  dsimp only [V, List.flatten_cons, List.flatten_nil, List.append_nil, List.cons_append, List.nil_append]
  simp only [StableHlo.TRef.nullary, StableHlo.TRef.unary, StableHlo.TRef.binary, StableHlo.TRef.ternary, StableHlo.TRef.of]
  after_results_simp
  simp only [StableHlo.TRef.ofBuf, StableHlo.TRef.toBuf, cast_eq]
  pointwise
  after_results_simp
  pointwise
  have h16 : id (constantI S_ 32 16#32) Idealize.ShloMosaic.ix0 = 16#32 := rfl
  simp only [h16]
  unfold rowOf
  have hb : (i 0).val < 8320 := (i 0).isLt
  by_cases h : (i 0).val < 8192
  · rw [dif_pos h, if_pos h]
    erw [prompt (i 1)]
    split
    · exact bit_one
    · exact bit_zero
  · rw [dif_neg h, if_neg h]
    erw [division ⟨(i 0).val - 8192, by omega⟩ (i 1)]
    dsimp only
    split
    · exact bit_one
    · exact bit_zero

/-- One entry of a 0/1 row picks one term. -/
theorem pick (f : Fin 16 → EReal) (r : ℕ) (h : r < 16) :
    ∑ k : Fin 16, (if r = k.val then (1 : EReal) else 0) * f k = f ⟨r, h⟩ := by
  rw [Finset.sum_eq_single (⟨r, h⟩ : Fin 16)]
  · simp
  · intro k _ hk
    rw [if_neg (fun e => hk (Fin.ext e.symm)), zero_mul]
  · intro hn
    exact absurd (Finset.mem_univ _) hn

/-- A number below infinity is the sum of its three parts, the second and third being differences of equals. -/
theorem parts (x : EReal) (hx : x < ⊤) : x + (x - x) + (x - x - (x - x)) = x := by
  induction x with
  | bot => simp
  | top => exact absurd hx (lt_irrefl _)
  | coe r =>
    have h0 : (r : EReal) - (r : EReal) = 0 := by rw [← EReal.coe_sub, sub_self, EReal.coe_zero]
    rw [h0]; simp

theorem idx : ∀ t : Fin cfg0.N,
    (win0_0.index t = ![(grid0.coords t 0).val, 0] ∧ win0_1.index t = ![0, 0, (grid0.coords t 1).val]
      ∧ win0_2.index t = ![(grid0.coords t 0).val, (grid0.coords t 1).val])
    ∧ (win0_3.index t = ![(grid0.coords t 0).val, 0] ∧ win0_4.index t = ![0, 0, 16 + (grid0.coords t 1).val])
    ∧ win0_5.index t = ![(grid0.coords t 0).val, (grid0.coords t 1).val]
    ∧ (t.val < 56 ↔ (grid0.coords t 0).val < 7) :=
  (by decide +kernel : ∀ t : Fin grid0.N, _)

theorem pay2_apply (v0 : Vec Ideal S1040x4096 .bf16) (v1 : Vec Ideal S1x4096x512 .bf16) (v10 : Vec Ideal S1040x512 .f32)
    (v11 : Vec Ideal S1x1x512 .f32) (a : Fin 1040) (b : Fin 512) :
    k0_pay2 v0 v1 v10 v11 (Idealize.ShloMosaic.ix2 a b) = (v10 (Idealize.ShloMosaic.ix2 a b) + v11 (Idealize.ShloMosaic.ix3 (0 : Fin 1) (0 : Fin 1) b)
      * ∑ k : Fin 4096, (v0 (Idealize.ShloMosaic.ix2 a k) * v1 (Idealize.ShloMosaic.ix3 (0 : Fin 1) k b) : EReal) : EReal) := by
  unfold k0_pay2 k0_pay1
  pointwise

theorem pay3_apply (v0 : Vec Ideal S1040x4096 .bf16) (v1 : Vec Ideal S1x4096x512 .bf16) (v10 : Vec Ideal S1040x512 .f32)
    (v11 : Vec Ideal S1040x16 .bf16) (v13 : Vec Ideal S1x16x512 .f32) (a : Fin 1040) (b : Fin 512) :
    k0_pay3 v0 v1 v10 v11 v13 (Idealize.ShloMosaic.ix2 a b) = (v10 (Idealize.ShloMosaic.ix2 a b)
      + ((∑ k : Fin 16, (v11 (Idealize.ShloMosaic.ix2 a k) * v13 (Idealize.ShloMosaic.ix3 (0 : Fin 1) k b) : EReal))
        + (∑ k : Fin 16, (v11 (Idealize.ShloMosaic.ix2 a k)
            * (v13 (Idealize.ShloMosaic.ix3 (0 : Fin 1) k b) - v13 (Idealize.ShloMosaic.ix3 (0 : Fin 1) k b)) : EReal))
        + (∑ k : Fin 16, (v11 (Idealize.ShloMosaic.ix2 a k)
            * ((v13 (Idealize.ShloMosaic.ix3 (0 : Fin 1) k b) - v13 (Idealize.ShloMosaic.ix3 (0 : Fin 1) k b))
              - (v13 (Idealize.ShloMosaic.ix3 (0 : Fin 1) k b) - v13 (Idealize.ShloMosaic.ix3 (0 : Fin 1) k b))) : EReal)))
      * ∑ k : Fin 4096, (v0 (Idealize.ShloMosaic.ix2 a k) * v1 (Idealize.ShloMosaic.ix3 (0 : Fin 1) k b) : EReal) : EReal) := by
  unfold k0_pay3 k0_pay1
  dsimp only
  pointwise

/-- An entry of the merged array, of the layer's weight, of the layer's modulation rows. -/
def act (c : Dev nD) (i : Fin 8320) (k : Fin 4096) : EReal := m ((c : Thread nD τ).loc main_arg0) (Idealize.ShloMosaic.ix2 i k)
def wt (c : Dev nD) (k : Fin 4096) (j : Fin 4096) : EReal := m ((c : Thread nD τ).loc main_arg1) (Idealize.ShloMosaic.ix3 (0 : Fin 2) k j)
def md (c : Dev nD) (k : Fin 16) (j : Fin 24576) : EReal := m ((c : Thread nD τ).loc main_arg3) (Idealize.ShloMosaic.ix3 (0 : Fin 2) k j)
/-- The blocks at a point, each at its own shape. -/
def B0 (c : Dev nD) (t : Fin cfg0.N) : Vec Ideal S1040x4096 .bf16 := iblk m c 0 t
def B1 (c : Dev nD) (t : Fin cfg0.N) : Vec Ideal S1x4096x512 .bf16 := iblk m c 1 t
def B2 (c : Dev nD) (t : Fin cfg0.N) : Vec Ideal S1040x512 .f32 := iblk m c 2 t
def B3 (c : Dev nD) (t : Fin cfg0.N) : Vec Ideal S1040x16 .bf16 := iblk m c 3 t
def B4 (c : Dev nD) (t : Fin cfg0.N) : Vec Ideal S1x16x512 .f32 := iblk m c 4 t

theorem coord0 (t : Fin cfg0.N) : (grid0.coords t 0).val < 8 := (grid0.coords t 0).isLt
theorem coord1 (t : Fin cfg0.N) : (grid0.coords t 1).val < 8 := (grid0.coords t 1).isLt

/-- The block of selector rows at a point. -/
theorem sel (c : Dev nD) (t : Fin cfg0.N) (a : Fin 1040) (k : Fin 16) :
    B3 m c t (Idealize.ShloMosaic.ix2 a k) = (if rowOf ((grid0.coords t 0).val * 1040 + a.val) = k.val then (1 : EReal) else 0) := by
  have e : B3 m c t (Idealize.ShloMosaic.ix2 a k) = V m c main_v12 ((win0_3.blk t).view.emb (Idealize.ShloMosaic.ix2 a k)) := by
    unfold B3
    blk_simp [iblk]
  rw [e, entry12]
  have e0 : ((win0_3.blk t).view.emb (Idealize.ShloMosaic.ix2 a k) 0).val = (grid0.coords t 0).val * 1040 + a.val := by
    blk_simp [idx t]
  have e1 : ((win0_3.blk t).view.emb (Idealize.ShloMosaic.ix2 a k) 1).val = k.val := by
    blk_simp [idx t]
  rw [e0, e1]

/-- The block of modulation rows at a point. -/
theorem mods (c : Dev nD) (t : Fin cfg0.N) (k : Fin 16) (b : Fin 512) :
    B4 m c t (Idealize.ShloMosaic.ix3 (0 : Fin 1) k b)
      = md m c k (⟨8192 + ((grid0.coords t 1).val * 512 + b.val), by have := coord1 t; omega⟩ : Fin 24576) := by
  have e : B4 m c t (Idealize.ShloMosaic.ix3 (0 : Fin 1) k b)
      = V m c main_v14 ((win0_4.blk t).view.emb (Idealize.ShloMosaic.ix3 (0 : Fin 1) k b)) := by
    unfold B4
    blk_simp [iblk]
  rw [e, entry14]
  unfold md
  have hc := coord1 t
  blk_ext [idx t] <;> omega

/-- The product of a row of the merged array and a column of the weight. -/
theorem prod (c : Dev nD) (t : Fin cfg0.N) (a : Fin 1040) (b : Fin 512) :
    (∑ k : Fin 4096, (B0 m c t (Idealize.ShloMosaic.ix2 a k) * B1 m c t (Idealize.ShloMosaic.ix3 (0 : Fin 1) k b) : EReal))
      = ∑ k : Fin 4096, (act m c (⟨(grid0.coords t 0).val * 1040 + a.val, by have := coord0 t; omega⟩ : Fin 8320) k
          * wt m c k (⟨(grid0.coords t 1).val * 512 + b.val, by have := coord1 t; omega⟩ : Fin 4096) : EReal) := by
  refine Finset.sum_congr (M := EReal) rfl fun k _ => congrArg₂ (HMul.hMul : EReal → EReal → EReal) ?_ ?_
  · show iblk m c 0 t (Idealize.ShloMosaic.ix2 a k) = m ((c : Thread nD τ).loc main_arg0) (Idealize.ShloMosaic.ix2 _ k)
    blk_point [iblk, V, idx t]
  · have e : B1 m c t (Idealize.ShloMosaic.ix3 (0 : Fin 1) k b)
        = V m c main_v13 ((win0_1.blk t).view.emb (Idealize.ShloMosaic.ix3 (0 : Fin 1) k b)) := by
      unfold B1
      blk_simp [iblk]
    rw [e, entry13]
    unfold wt
    blk_ext [idx t]

/-- What a point of the last row block stores. -/
theorem blockB (c : Dev nD)
    (hfin : ∀ (k : Fin 9) (j : Fin 4096), md m c (⟨k.val, by omega⟩ : Fin 16) (⟨8192 + j.val, by omega⟩ : Fin 24576) < ⊤)
    (t : Fin cfg0.N) (a : Fin 1040) (b : Fin 512) :
    k0_pay3 (B0 m c t) (B1 m c t) (B2 m c t) (B3 m c t) (B4 m c t) (Idealize.ShloMosaic.ix2 a b)
      = (B2 m c t (Idealize.ShloMosaic.ix2 a b) + md m c (⟨rowOf ((grid0.coords t 0).val * 1040 + a.val), by
              have := coord0 t
              exact (rowOf_lt _ (by omega)).trans (by omega)⟩ : Fin 16)
            (⟨8192 + ((grid0.coords t 1).val * 512 + b.val), by have := coord1 t; omega⟩ : Fin 24576)
        * ∑ k : Fin 4096, (act m c (⟨(grid0.coords t 0).val * 1040 + a.val, by have := coord0 t; omega⟩ : Fin 8320) k
          * wt m c k (⟨(grid0.coords t 1).val * 512 + b.val, by have := coord1 t; omega⟩ : Fin 4096) : EReal) : EReal) := by
  have hc0 := coord0 t
  have hc1 := coord1 t
  have hr : rowOf ((grid0.coords t 0).val * 1040 + a.val) < 9 := rowOf_lt _ (by omega)
  rw [pay3_apply, prod]
  simp only [sel]
  rw [pick _ _ (by omega), pick _ _ (by omega), pick _ _ (by omega), parts _ ?_, mods]
  · rw [mods]
    exact hfin ⟨_, hr⟩ ⟨(grid0.coords t 1).val * 512 + b.val, by omega⟩

theorem first_row (x : Vec Ideal S1x16x512 .f32) (b : Fin 512) :
    View.ld x (Rect.unit ![0, 0, 0] ![1, 1, 512] inb_S1x16x512_S1x1x512_0_0_0) (Idealize.ShloMosaic.ix3 (0 : Fin 1) (0 : Fin 1) b)
      = x (Idealize.ShloMosaic.ix3 (0 : Fin 1) (0 : Fin 16) b) := by
  pointwise

/-- What a point before the last row block stores. -/
theorem blockA (c : Dev nD) (t : Fin cfg0.N) (a : Fin 1040) (b : Fin 512) :
    k0_pay2 (B0 m c t) (B1 m c t) (B2 m c t)
        (View.ld (B4 m c t) (Rect.unit ![0, 0, 0] ![1, 1, 512] inb_S1x16x512_S1x1x512_0_0_0)) (Idealize.ShloMosaic.ix2 a b)
      = (B2 m c t (Idealize.ShloMosaic.ix2 a b) + md m c (0 : Fin 16)
            (⟨8192 + ((grid0.coords t 1).val * 512 + b.val), by have := coord1 t; omega⟩ : Fin 24576)
        * ∑ k : Fin 4096, (act m c (⟨(grid0.coords t 0).val * 1040 + a.val, by have := coord0 t; omega⟩ : Fin 8320) k
          * wt m c k (⟨(grid0.coords t 1).val * 512 + b.val, by have := coord1 t; omega⟩ : Fin 4096) : EReal) : EReal) := by
  rw [pay2_apply, prod]
  rw [first_row, mods]

end Cert.Kernel7Ideal.Hand

end
-- ==== Proof.OutProjValue.lean ====
module

public import proofs.«01_k».proof.Proof.OutProj
public import proofs.«01_k».proof.Proof.Gen.Reference7Ideal.Read
public import Idealize.ShloMosaic.Lib.Pipeline.ValueKit
public import Idealize.ShloMosaic.Lib.Pointwise
public import Idealize.ShloMosaic.Lib.Claim

@[expose] public section

set_option maxRecDepth 16384
set_option maxHeartbeats 4000000

noncomputable section

namespace Cert.Kernel7Ideal.Hand

open Cert.Kernel7Ideal Cert.Kernel7Ideal.Gen Cert.Kernel7Ideal.Value Idealize.ShloMosaic Idealize.ShloMosaic.TcCoe Idealize.SL.Sem

variable (m : (ℓ : Loc nD τ sig) → Buf (Elt Ideal) ℓ)

/-- The array the call returns is the definition's: the residual plus the gated product. -/
theorem value (c : Dev nD)
    (hfin : ∀ (k : Fin 9) (j : Fin 4096), md m c (⟨k.val, by omega⟩ : Fin 16) (⟨8192 + j.val, by omega⟩ : Fin 24576) < ⊤) :
    (dats m 0 c).arrAt 5 cfg0.N =
    Reference7Ideal.Read.val_main_v14 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp
  rw [after0_5]
  simp only [Reference7Ideal.Read.val_main_v14_apply, Reference7Ideal.Read.val_main_v13_apply]
  unfold Reference7Ideal.Read.val_main_v8
  pointwise
  simp only [Reference7Ideal.Read.val_main_v12_apply, Reference7Ideal.Read.val_main_v11_apply,
    Reference7Ideal.Read.val_main_v10_apply, Reference7Ideal.Read.val_main_v9_apply, Reference7Ideal.Read.val_main_v7_apply,
    Reference7Ideal.Read.val_main_v6_apply, Reference7Ideal.Read.val_main_v5_apply, Reference7Ideal.Read.val_main_v4_apply,
    Reference7Ideal.Read.val_main_v3_apply, Reference7Ideal.Read.val_main_v2_apply, Reference7Ideal.Read.val_main_v1_apply,
    Reference7Ideal.Read.val_main_v0_apply, extf_id]
  have hc0 := coord0 t
  have hc1 := coord1 t
  have hrow := (idx t).2.2.2
  have e0 : (((View.whole main_v15).slice (win0_5.rect t)).emb y 0).val = (grid0.coords t 0).val * 1040 + (y 0).val := by
    blk_simp [idx t]
  have hy0 : (y 0).val < 1040 := (y 0).isLt
  by_cases h0 : t.val < 56
  · rw [outsAt0_A m c t h0 (by omega)]
    frame_out
    refine Eq.trans (b := k0_pay2 (B0 m c t) (B1 m c t) (B2 m c t)
        (View.ld (B4 m c t) (Rect.unit ![0, 0, 0] ![1, 1, 512] inb_S1x16x512_S1x1x512_0_0_0))
        (Idealize.ShloMosaic.ix2 (y 0 : Fin 1040) (y 1 : Fin 512))) ?_ ((blockA m c t (y 0) (y 1)).trans ?_)
    · exact congrArg (k0_pay2 (B0 m c t) (B1 m c t) (B2 m c t) _) (by blk_ext)
    rw [dif_pos (by rw [e0]; omega)]
    refine congrArg₂ (HAdd.hAdd : EReal → EReal → EReal) ?_ (congrArg₂ (HMul.hMul : EReal → EReal → EReal) ?_
      (Finset.sum_congr (M := EReal) rfl fun k _ => congrArg₂ (HMul.hMul : EReal → EReal → EReal) ?_ ?_))
    · unfold B2
      blk_point [iblk, V, idx t]
    · unfold md
      blk_ext [idx t] <;> omega
    · unfold act
      blk_ext [idx t] <;> omega
    · unfold wt
      blk_ext [idx t] <;> omega
  · rw [outsAt0_B m c t h0 (by omega)]
    frame_out
    refine Eq.trans (b := k0_pay3 (B0 m c t) (B1 m c t) (B2 m c t) (B3 m c t) (B4 m c t)
        (Idealize.ShloMosaic.ix2 (y 0 : Fin 1040) (y 1 : Fin 512))) ?_ ((blockB m c hfin t (y 0) (y 1)).trans ?_)
    · exact congrArg (k0_pay3 (B0 m c t) (B1 m c t) (B2 m c t) (B3 m c t) (B4 m c t)) (by blk_ext)
    refine congrArg₂ (HAdd.hAdd : EReal → EReal → EReal) ?_ (congrArg₂ (HMul.hMul : EReal → EReal → EReal) ?_
      (Finset.sum_congr (M := EReal) rfl fun k _ => congrArg₂ (HMul.hMul : EReal → EReal → EReal) ?_ ?_))
    · unfold B2
      blk_point [iblk, V, idx t]
    · unfold md
      by_cases h8 : (grid0.coords t 0).val * 1040 + (y 0).val < 8192
      · have hr : rowOf ((grid0.coords t 0).val * 1040 + (y 0).val) = 0 := if_pos h8
        rw [dif_pos (by rw [e0]; exact h8)]
        simp only [hr]
        blk_ext [idx t] <;> omega
      · have hr : rowOf ((grid0.coords t 0).val * 1040 + (y 0).val)
            = 1 + ((grid0.coords t 0).val * 1040 + (y 0).val - 8192) / 16 := if_neg h8
        rw [dif_neg (by rw [e0]; exact h8)]
        simp only [hr]
        blk_ext [idx t] <;> omega
    · unfold act
      blk_ext [idx t] <;> omega
    · unfold wt
      blk_ext [idx t] <;> omega

end Cert.Kernel7Ideal.Hand

end
-- ==== Proof.FinalNorm.lean ====
module

public import proofs.«01_k».proof.Proof.Gen.Kernel8Ideal.Value
public import proofs.«01_k».proof.Proof.Gen.Reference8Ideal.Read
public import proofs.«01_k».proof.Proof.Gen.Kernel9Ideal.Value
public import proofs.«01_k».proof.Proof.Gen.Reference9Ideal.Read
public import Idealize.ShloMosaic.Lib.Pipeline.ValueKit
public import Idealize.ShloMosaic.Lib.Pointwise
public import Idealize.ShloMosaic.Lib.Claim

@[expose] public section

set_option maxRecDepth 16384

noncomputable section

namespace Cert

/-! ## The norm after the last layer -/

namespace Kernel8Ideal.Hand

open Cert.Kernel8Ideal Cert.Kernel8Ideal.Gen Cert.Kernel8Ideal.Value Idealize.ShloMosaic Idealize.ShloMosaic.TcCoe Idealize.SL.Sem

variable (m : (ℓ : Loc nD τ sig) → Buf (Elt Ideal) ℓ)

theorem idx : ∀ t : Fin cfg0.N,
    win0_0.index t = ![0 + (grid0.coords t 0).val, 0] ∧ win0_1.index t = ![0, 0]
      ∧ win0_2.index t = ![(grid0.coords t 0).val, 0] :=
  (by decide +kernel : ∀ t : Fin grid0.N, _)

/-- The gain at the region's entry is the argument, as one row. -/
theorem entry0 (c : Dev nD) (i : S1x4096.Idx) :
    V m c main_v0 i = m ((c : Thread nD τ).loc main_arg1) (Idealize.ShloMosaic.ix1 (i 1)) := by
  entry_read
  pointwise

/-- The block of rows the body reads is the array's. -/
theorem rows (c : Dev nD) (t : Fin cfg0.N) (y : S512x4096.Idx) :
    X0_0 m c t y = m ((c : Thread nD τ).loc main_arg0) (Idealize.ShloMosaic.ix2
      (⟨512 * (grid0.coords t 0).val + (y 0).val, by have : (grid0.coords t 0).val < 16 := (grid0.coords t 0).isLt; have : (y 0).val < 512 := (y 0).isLt; omega⟩ : Fin 8320) (y 1 : Fin 4096)) := by
  unfold X0_0 Pipeline.Window.fill
  rw [dif_pos (moved0_0 t y)]
  blk_point [iblk, V, idx t]

/-- The array the call returns is the definition's norm of its rows. -/
theorem value (c : Dev nD) : (dats m 0 c).arrAt 2 cfg0.N =
    Reference8Ideal.Read.val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  unfold k0_pay1
  pointwise
  simp only [Reference8Ideal.Read.val_main_v0_apply, Reference8Ideal.Read.val_main_v1_apply, Reference8Ideal.Read.val_main_cst_apply, Reference8Ideal.Read.val_main_v2_apply, Reference8Ideal.Read.val_main_v3_apply, Reference8Ideal.Read.val_main_cst_0_apply, Reference8Ideal.Read.val_main_v4_apply, Reference8Ideal.Read.val_main_v5_apply, Reference8Ideal.Read.val_main_cst_1_apply, Reference8Ideal.Read.val_main_v6_apply, Reference8Ideal.Read.val_main_v7_apply, Reference8Ideal.Read.val_main_v8_apply, Reference8Ideal.Read.val_main_v9_apply, Reference8Ideal.Read.val_main_v10_apply, Reference8Ideal.Read.val_main_v11_apply, Reference8Ideal.Read.val_main_v12_apply, Reference8Ideal.Read.val_main_v13_apply]
  have hc0 : (grid0.coords t 0).val < 16 := (grid0.coords t 0).isLt
  refine congrArg₂ (HMul.hMul : EReal → EReal → EReal) (congrArg₂ (HMul.hMul : EReal → EReal → EReal) ?_ (congrArg Ideal.rsqrt
    (congrArg₂ (HAdd.hAdd : EReal → EReal → EReal) (congrArg₂ Ideal.div ?_ rfl) rfl))) ?_
  · rw [rows]; blk_ext [idx t] <;> omega
  · refine Eq.trans ?_ ((zero_add (M := EReal) _).symm.trans (congrArg₂ (HAdd.hAdd : EReal → EReal → EReal) ?_ rfl))
    · refine Finset.sum_congr (M := EReal) rfl fun k _ => congrArg₂ (HMul.hMul : EReal → EReal → EReal) ?_ ?_
      · rw [rows]; blk_ext [idx t] <;> omega
      · rw [rows]; blk_ext [idx t] <;> omega
    · pointwise
  · blk_simp [iblk]
    rw [entry0]
    blk_ext [idx t] <;> omega

end Kernel8Ideal.Hand

namespace Kernel9Ideal.Hand

open Cert.Kernel9Ideal Cert.Kernel9Ideal.Gen Cert.Kernel9Ideal.Value Idealize.ShloMosaic Idealize.ShloMosaic.TcCoe Idealize.SL.Sem

variable (m : (ℓ : Loc nD τ sig) → Buf (Elt Ideal) ℓ)

theorem idx : ∀ t : Fin cfg0.N,
    win0_0.index t = ![64 + (grid0.coords t 0).val, 0] ∧ win0_1.index t = ![0, 0]
      ∧ win0_2.index t = ![(grid0.coords t 0).val, 0] :=
  (by decide +kernel : ∀ t : Fin grid0.N, _)

/-- The gain at the region's entry is the argument, as one row. -/
theorem entry0 (c : Dev nD) (i : S1x4096.Idx) :
    V m c main_v0 i = m ((c : Thread nD τ).loc main_arg1) (Idealize.ShloMosaic.ix1 (i 1)) := by
  entry_read
  pointwise

/-- The array the call returns is the definition's norm of its rows. -/
theorem value (c : Dev nD) : (dats m 0 c).arrAt 2 cfg0.N =
    Reference9Ideal.Read.val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  pointwise
  simp only [Reference9Ideal.Read.val_main_v0_apply, Reference9Ideal.Read.val_main_v1_apply, Reference9Ideal.Read.val_main_cst_apply, Reference9Ideal.Read.val_main_v2_apply, Reference9Ideal.Read.val_main_v3_apply, Reference9Ideal.Read.val_main_cst_0_apply, Reference9Ideal.Read.val_main_v4_apply, Reference9Ideal.Read.val_main_v5_apply, Reference9Ideal.Read.val_main_cst_1_apply, Reference9Ideal.Read.val_main_v6_apply, Reference9Ideal.Read.val_main_v7_apply, Reference9Ideal.Read.val_main_v8_apply, Reference9Ideal.Read.val_main_v9_apply, Reference9Ideal.Read.val_main_v10_apply, Reference9Ideal.Read.val_main_v11_apply, Reference9Ideal.Read.val_main_v12_apply, Reference9Ideal.Read.val_main_v13_apply]
  have hc0 : (grid0.coords t 0).val < 1 := (grid0.coords t 0).isLt
  refine congrArg₂ (HMul.hMul : EReal → EReal → EReal) (congrArg₂ (HMul.hMul : EReal → EReal → EReal) ?_ (congrArg Ideal.rsqrt
    (congrArg₂ (HAdd.hAdd : EReal → EReal → EReal) (congrArg₂ Ideal.div ?_ rfl) rfl))) ?_
  · blk_point [iblk, V, idx t]
  · refine Eq.trans ?_ ((zero_add (M := EReal) _).symm.trans (congrArg₂ (HAdd.hAdd : EReal → EReal → EReal) ?_ rfl))
    · refine Finset.sum_congr (M := EReal) rfl fun k _ => congrArg₂ (HMul.hMul : EReal → EReal → EReal) ?_ ?_
      · blk_point [iblk, V, idx t]
      · blk_point [iblk, V, idx t]
    · pointwise
  · blk_simp [iblk]
    rw [entry0]
    blk_ext [idx t] <;> omega

end Kernel9Ideal.Hand

end Cert

end
-- ==== Proof.Claims.lean ====
module

public import proofs.«01_k».proof.Defs
public import proofs.«01_k».proof.Proof.InProj
public import proofs.«01_k».proof.Proof.InProjGates
public import proofs.«01_k».proof.Proof.Merge
public import proofs.«01_k».proof.Proof.OutProjValue
public import proofs.«01_k».proof.Proof.FinalNorm
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Hand

open Idealize.ShloMosaic Idealize.SL.Sem Cert

/-- The side conditions the precondition of the output projection states. -/
theorem pre_facts : Pre_modulations_below_infinity.Facts where
  slices_S2x16x24576_S1x9x4096_0_0_8192 := by decide
  shapeCasts_S1x9x4096_S9x4096 := by decide
  bcast_S_S9x4096 := by decide

/-- The precondition of the output projection, entry by entry. -/
theorem modulations (m : (ℓ : Loc Kernel7Ideal.nD Kernel7Ideal.τ Kernel7Ideal.sig) → Buf (Elt Ideal) ℓ)
    (h : Pre_Kernel7Ideal_modulations_below_infinity (hPre_modulations_below_infinity := pre_facts) m) (c : Dev Kernel7Ideal.nD)
    (k : Fin 9) (j : Fin 4096) :
    Kernel7Ideal.Hand.md m c (⟨k.val, by omega⟩ : Fin 16) (⟨8192 + j.val, by omega⟩ : Fin 24576) < ⊤ := by
  have e := congrFun (h c) (Idealize.ShloMosaic.ix2 k j)
  unfold Pre_modulations_below_infinity.fn at e
  revert e
  pointwise
  intro e
  refine lt_of_lt_of_le (b := Ideal.ofBits FTy.f32 2139095040#32) ?_ le_top
  by_contra hn
  rw [decide_eq_false (by exact hn)] at e
  exact absurd e (by decide)

theorem alg2 : algebraic_Kernel2Ideal_Reference2Ideal (hKernel2Ideal := Kernel2Ideal.Gen.facts) (hReference2Ideal := Reference2Ideal.Gen.facts) := by
  intro m ρ m' ρ' hpre hagree
  refine ⟨fun c => Reference2Ideal.Read.val_main_v2 (F := Ideal) (m ((c.tc : Thread Kernel2Ideal.nD Kernel2Ideal.τ).loc Kernel2Ideal.main_arg0)) (m ((c.tc : Thread Kernel2Ideal.nD Kernel2Ideal.τ).loc Kernel2Ideal.main_arg1)), ?_, ?_⟩
  · exact (θ_run Kernel2Ideal.defs _ _).mono (fun _ h c => ⟨(h c).1.trans (Kernel2Ideal.Hand.value m c), (h c).2⟩) (Kernel2Ideal.Value.run_blocks m ρ)
  · refine (θ_run Reference2Ideal.defs _ _).mono (fun _ h c => ⟨(h c).1.trans ?_, (h c).2⟩) (Reference2Ideal.Value.run m' ρ')
    obtain ⟨h0, h1⟩ := hagree c
    rw [h0, h1]
    exact Reference2Ideal.Read.val_main_v2_eq _ _

theorem alg3 : algebraic_Kernel3Ideal_Reference3Ideal (hKernel3Ideal := Kernel3Ideal.Gen.facts) (hReference3Ideal := Reference3Ideal.Gen.facts) := by
  intro m ρ m' ρ' hpre hagree
  refine ⟨fun c => Reference3Ideal.Read.val_main_v2 (F := Ideal) (m ((c.tc : Thread Kernel3Ideal.nD Kernel3Ideal.τ).loc Kernel3Ideal.main_arg0)) (m ((c.tc : Thread Kernel3Ideal.nD Kernel3Ideal.τ).loc Kernel3Ideal.main_arg1)), ?_, ?_⟩
  · exact (θ_run Kernel3Ideal.defs _ _).mono (fun _ h c => ⟨(h c).1.trans (Kernel3Ideal.Hand.value m c), (h c).2⟩) (Kernel3Ideal.Value.run_blocks m ρ)
  · refine (θ_run Reference3Ideal.defs _ _).mono (fun _ h c => ⟨(h c).1.trans ?_, (h c).2⟩) (Reference3Ideal.Value.run m' ρ')
    obtain ⟨h0, h1⟩ := hagree c
    rw [h0, h1]
    exact Reference3Ideal.Read.val_main_v2_eq _ _

theorem alg4 : algebraic_Kernel4Ideal_Reference4Ideal (hKernel4Ideal := Kernel4Ideal.Gen.facts) (hReference4Ideal := Reference4Ideal.Gen.facts) := by
  intro m ρ m' ρ' hpre hagree
  refine ⟨fun c => Reference4Ideal.Read.val_main_v2 (F := Ideal) (m ((c.tc : Thread Kernel4Ideal.nD Kernel4Ideal.τ).loc Kernel4Ideal.main_arg0)) (m ((c.tc : Thread Kernel4Ideal.nD Kernel4Ideal.τ).loc Kernel4Ideal.main_arg1)), ?_, ?_⟩
  · exact (θ_run Kernel4Ideal.defs _ _).mono (fun _ h c => ⟨(h c).1.trans (Kernel4Ideal.Hand.value m c), (h c).2⟩) (Kernel4Ideal.Value.run_blocks m ρ)
  · refine (θ_run Reference4Ideal.defs _ _).mono (fun _ h c => ⟨(h c).1.trans ?_, (h c).2⟩) (Reference4Ideal.Value.run m' ρ')
    obtain ⟨h0, h1⟩ := hagree c
    rw [h0, h1]
    exact Reference4Ideal.Read.val_main_v2_eq _ _

theorem alg5 : algebraic_Kernel5Ideal_Reference5Ideal (hKernel5Ideal := Kernel5Ideal.Gen.facts) (hReference5Ideal := Reference5Ideal.Gen.facts) := by
  intro m ρ m' ρ' hpre hagree
  refine ⟨fun c => Reference5Ideal.Read.val_main_v4 (F := Ideal) (m ((c.tc : Thread Kernel5Ideal.nD Kernel5Ideal.τ).loc Kernel5Ideal.main_arg0)) (m ((c.tc : Thread Kernel5Ideal.nD Kernel5Ideal.τ).loc Kernel5Ideal.main_arg1)), ?_, ?_⟩
  · exact (θ_run Kernel5Ideal.defs _ _).mono (fun _ h c => ⟨(h c).1.trans (Kernel5Ideal.Hand.value m c), (h c).2⟩) (Kernel5Ideal.Value.run_blocks m ρ)
  · refine (θ_run Reference5Ideal.defs _ _).mono (fun _ h c => ⟨(h c).1.trans ?_, (h c).2⟩) (Reference5Ideal.Value.run m' ρ')
    obtain ⟨h0, h1⟩ := hagree c
    rw [h0, h1]
    exact Reference5Ideal.Read.val_main_v4_eq _ _

theorem alg6 : algebraic_Kernel6Ideal_Reference6Ideal (hKernel6Ideal := Kernel6Ideal.Gen.facts) (hReference6Ideal := Reference6Ideal.Gen.facts) := by
  intro m ρ m' ρ' hpre hagree
  refine ⟨fun c => Reference6Ideal.Read.val_main_v31 (F := Ideal) (m ((c.tc : Thread Kernel6Ideal.nD Kernel6Ideal.τ).loc Kernel6Ideal.main_arg0)) (m ((c.tc : Thread Kernel6Ideal.nD Kernel6Ideal.τ).loc Kernel6Ideal.main_arg1)) (m ((c.tc : Thread Kernel6Ideal.nD Kernel6Ideal.τ).loc Kernel6Ideal.main_arg2)) (m ((c.tc : Thread Kernel6Ideal.nD Kernel6Ideal.τ).loc Kernel6Ideal.main_arg3)) (m ((c.tc : Thread Kernel6Ideal.nD Kernel6Ideal.τ).loc Kernel6Ideal.main_arg4)) (m ((c.tc : Thread Kernel6Ideal.nD Kernel6Ideal.τ).loc Kernel6Ideal.main_arg5)) (m ((c.tc : Thread Kernel6Ideal.nD Kernel6Ideal.τ).loc Kernel6Ideal.main_arg6)), ?_, ?_⟩
  · exact (θ_run Kernel6Ideal.defs _ _).mono (fun _ h c => ⟨(h c).1.trans (Kernel6Ideal.Hand.value m c), (h c).2⟩) (Kernel6Ideal.Value.run_blocks m ρ)
  · refine (θ_run Reference6Ideal.defs _ _).mono (fun _ h c => ⟨(h c).1.trans ?_, (h c).2⟩) (Reference6Ideal.Value.run m' ρ')
    obtain ⟨h0, h1, h2, h3, h4, h5, h6⟩ := hagree c
    rw [h0, h1, h2, h3, h4, h5, h6]
    exact Reference6Ideal.Read.val_main_v31_eq _ _ _ _ _ _ _

theorem alg7 : algebraic_Kernel7Ideal_Reference7Ideal_pre_modulations_below_infinity (hKernel7Ideal := Kernel7Ideal.Gen.facts) (hReference7Ideal := Reference7Ideal.Gen.facts) (hPre_modulations_below_infinity := pre_facts) := by
  intro m ρ m' ρ' hpre hagree
  refine ⟨fun c => Reference7Ideal.Read.val_main_v14 (F := Ideal) (m ((c.tc : Thread Kernel7Ideal.nD Kernel7Ideal.τ).loc Kernel7Ideal.main_arg0)) (m ((c.tc : Thread Kernel7Ideal.nD Kernel7Ideal.τ).loc Kernel7Ideal.main_arg1)) (m ((c.tc : Thread Kernel7Ideal.nD Kernel7Ideal.τ).loc Kernel7Ideal.main_arg2)) (m ((c.tc : Thread Kernel7Ideal.nD Kernel7Ideal.τ).loc Kernel7Ideal.main_arg3)), ?_, ?_⟩
  · exact (θ_run Kernel7Ideal.defs _ _).mono (fun _ h c => ⟨(h c).1.trans (Kernel7Ideal.Hand.value m c (modulations m hpre c)), (h c).2⟩) (Kernel7Ideal.Value.run_blocks m ρ)
  · refine (θ_run Reference7Ideal.defs _ _).mono (fun _ h c => ⟨(h c).1.trans ?_, (h c).2⟩) (Reference7Ideal.Value.run m' ρ')
    obtain ⟨h0, h1, h2, h3⟩ := hagree c
    rw [h0, h1, h2, h3]
    exact Reference7Ideal.Read.val_main_v14_eq _ _ _ _

theorem alg8 : algebraic_Kernel8Ideal_Reference8Ideal (hKernel8Ideal := Kernel8Ideal.Gen.facts) (hReference8Ideal := Reference8Ideal.Gen.facts) := by
  intro m ρ m' ρ' hpre hagree
  refine ⟨fun c => Reference8Ideal.Read.val_main_v13 (F := Ideal) (m ((c.tc : Thread Kernel8Ideal.nD Kernel8Ideal.τ).loc Kernel8Ideal.main_arg0)) (m ((c.tc : Thread Kernel8Ideal.nD Kernel8Ideal.τ).loc Kernel8Ideal.main_arg1)), ?_, ?_⟩
  · exact (θ_run Kernel8Ideal.defs _ _).mono (fun _ h c => ⟨(h c).1.trans (Kernel8Ideal.Hand.value m c), (h c).2⟩) (Kernel8Ideal.Value.run_blocks m ρ)
  · refine (θ_run Reference8Ideal.defs _ _).mono (fun _ h c => ⟨(h c).1.trans ?_, (h c).2⟩) (Reference8Ideal.Value.run m' ρ')
    obtain ⟨h0, h1⟩ := hagree c
    rw [h0, h1]
    exact Reference8Ideal.Read.val_main_v13_eq _ _

theorem alg9 : algebraic_Kernel9Ideal_Reference9Ideal (hKernel9Ideal := Kernel9Ideal.Gen.facts) (hReference9Ideal := Reference9Ideal.Gen.facts) := by
  intro m ρ m' ρ' hpre hagree
  refine ⟨fun c => Reference9Ideal.Read.val_main_v13 (F := Ideal) (m ((c.tc : Thread Kernel9Ideal.nD Kernel9Ideal.τ).loc Kernel9Ideal.main_arg0)) (m ((c.tc : Thread Kernel9Ideal.nD Kernel9Ideal.τ).loc Kernel9Ideal.main_arg1)), ?_, ?_⟩
  · exact (θ_run Kernel9Ideal.defs _ _).mono (fun _ h c => ⟨(h c).1.trans (Kernel9Ideal.Hand.value m c), (h c).2⟩) (Kernel9Ideal.Value.run_blocks m ρ)
  · refine (θ_run Reference9Ideal.defs _ _).mono (fun _ h c => ⟨(h c).1.trans ?_, (h c).2⟩) (Reference9Ideal.Value.run m' ρ')
    obtain ⟨h0, h1⟩ := hagree c
    rw [h0, h1]
    exact Reference9Ideal.Read.val_main_v13_eq _ _

end Cert.Hand

end
-- ==== Proof.MlstmSpec.lean ====
module

public import Idealize.ShloMosaic.Lib.Pointwise
public import Idealize.ShloMosaic.Lib.Claim

@[expose] public section

noncomputable section

/-! The chunked recurrence over the extended reals: what one head does with a chunk of 64 frames, and the state after so many
    chunks, from the arrays the program is given. -/

namespace Cert.Hand.Mlstm

open Idealize.ShloMosaic

/-- The logarithm of the logistic function. -/
def lsg (x : EReal) : EReal := min x 0 - Ideal.log1p (Ideal.exp (0 - (max x (-x) : EReal)))

/-- The logarithm of the weight of frame `s` at frame `t`. -/
def logD (b ig : Fin 64 → EReal) (t s : Fin 64) : EReal :=
  if s.val ≤ t.val then b t - b s + ig s else Ideal.ofBits FTy.f32 4048155338#32

/-- The running maximum at frame `t`. -/
def mt (b ig : Fin 64 → EReal) (m : EReal) (t : Fin 64) : EReal :=
  max (Finset.fold max (Ideal.ofBits FTy.f32 4286578688#32) (fun s => logD b ig t s) Finset.univ) (b t + m)

/-- The weights within the chunk, and the weight of the carried state. -/
def dm (b ig : Fin 64 → EReal) (m : EReal) (t s : Fin 64) : EReal := Ideal.exp (logD b ig t s - mt b ig m t)
def sc (b ig : Fin 64 → EReal) (m : EReal) (t : Fin 64) : EReal := Ideal.exp (b t + m - mt b ig m t)

def sS (b ig : Fin 64 → EReal) (m : EReal) (q k : Fin 64 → Fin 128 → EReal) (t s : Fin 64) : EReal :=
  (∑ d : Fin 128, q t d * k s d) * dm b ig m t s

def num (b ig : Fin 64 → EReal) (m : EReal) (q k : Fin 64 → Fin 128 → EReal) (v : Fin 64 → Fin 256 → EReal)
    (C : Fin 256 → Fin 128 → EReal) (t : Fin 64) (e : Fin 256) : EReal :=
  sc b ig m t * (∑ d : Fin 128, q t d * C e d) + ∑ s : Fin 64, sS b ig m q k t s * v s e

def den (b ig : Fin 64 → EReal) (m : EReal) (q k : Fin 64 → Fin 128 → EReal) (n : Fin 128 → EReal) (t : Fin 64) : EReal :=
  sc b ig m t * (∑ d : Fin 128, q t d * n d) + ∑ s : Fin 64, sS b ig m q k t s

def hc (b ig : Fin 64 → EReal) (m : EReal) (q k : Fin 64 → Fin 128 → EReal) (v : Fin 64 → Fin 256 → EReal)
    (C : Fin 256 → Fin 128 → EReal) (n : Fin 128 → EReal) (t : Fin 64) (e : Fin 256) : EReal :=
  Ideal.div (num b ig m q k v C t e)
    (max (max (den b ig m q k n t) (-(den b ig m q k n t))) (Ideal.exp (0 - mt b ig m t)))

/-- The state after the chunk. -/
def newN (b ig : Fin 64 → EReal) (m : EReal) (k : Fin 64 → Fin 128 → EReal) (n : Fin 128 → EReal) (d : Fin 128) : EReal :=
  sc b ig m 63 * n d + ∑ s : Fin 64, dm b ig m 63 s * k s d

def newC (b ig : Fin 64 → EReal) (m : EReal) (k : Fin 64 → Fin 128 → EReal) (v : Fin 64 → Fin 256 → EReal)
    (C : Fin 256 → Fin 128 → EReal) (e : Fin 256) (d : Fin 128) : EReal :=
  sc b ig m 63 * C e d + ∑ s : Fin 64, v s e * (k s d * dm b ig m 63 s)

/-- The head's output: the normalised quotient, the gain and the output gate. -/
def out (h : Fin 256 → EReal) (e : Fin 256) (g o : EReal) : EReal :=
  h e * Ideal.rsqrt (Ideal.div (∑ x : Fin 256, h x * h x) (Ideal.ofBits FTy.f32 1132462080#32)
    + Ideal.ofBits FTy.f32 897988541#32) * g * Ideal.logistic o

/-! ## The operands, from the program's arguments -/

/-- The arguments. -/
structure Args where
  p : (⟨2, ![8320, 6160]⟩ : Shape).Idx → EReal
  conv0 : (⟨3, ![1, 3, 2048]⟩ : Shape).Idx → EReal
  c0 : (⟨4, ![1, 8, 256, 128]⟩ : Shape).Idx → EReal
  n0 : (⟨3, ![1, 8, 128]⟩ : Shape).Idx → EReal
  m0 : (⟨2, ![1, 8]⟩ : Shape).Idx → EReal
  w : (⟨2, ![4, 2048]⟩ : Shape).Idx → EReal
  cb : (⟨1, ![2048]⟩ : Shape).Idx → EReal
  bg : (⟨2, ![2, 8]⟩ : Shape).Idx → EReal
  hn : (⟨1, ![2048]⟩ : Shape).Idx → EReal

variable (a : Args)

/-- The rows before the convolution, after the three it starts from. -/
def up (r : Fin 8195) (j : Fin 2048) : EReal :=
  if h : r.val < 3 then a.conv0 (ix3 (0 : Fin 1) (⟨r.val, h⟩ : Fin 3) j)
  else a.p (ix2 (⟨r.val - 3, by omega⟩ : Fin 8320) (⟨j.val, by omega⟩ : Fin 6160))

def conv (t : Fin 128) (i : Fin 64) (j : Fin 2048) : EReal :=
  a.cb (ix1 j) + up a (⟨64 * t.val + i.val, by omega⟩ : Fin 8195) j * a.w (ix2 (0 : Fin 4) j)
    + up a (⟨64 * t.val + i.val + 1, by omega⟩ : Fin 8195) j * a.w (ix2 (1 : Fin 4) j)
    + up a (⟨64 * t.val + i.val + 2, by omega⟩ : Fin 8195) j * a.w (ix2 (2 : Fin 4) j)
    + up a (⟨64 * t.val + i.val + 3, by omega⟩ : Fin 8195) j * a.w (ix2 (3 : Fin 4) j)

def silu (x : EReal) : EReal := x * Ideal.logistic x

def qf (t : Fin 128) (h : Fin 8) (i : Fin 64) (d : Fin 128) : EReal :=
  silu (conv a t i (⟨128 * h.val + d.val, by omega⟩ : Fin 2048)) * Ideal.ofBits FTy.f32 1035273459#32

def kf (t : Fin 128) (h : Fin 8) (i : Fin 64) (d : Fin 128) : EReal :=
  silu (conv a t i (⟨1024 + 128 * h.val + d.val, by omega⟩ : Fin 2048))

def vf (t : Fin 128) (h : Fin 8) (i : Fin 64) (e : Fin 256) : EReal :=
  a.p (ix2 (⟨64 * t.val + i.val, by omega⟩ : Fin 8320) (⟨2048 + 256 * h.val + e.val, by omega⟩ : Fin 6160))

def igf (t : Fin 128) (h : Fin 8) (i : Fin 64) : EReal :=
  a.p (ix2 (⟨64 * t.val + i.val, by omega⟩ : Fin 8320) (⟨4096 + h.val, by omega⟩ : Fin 6160)) + a.bg (ix2 (0 : Fin 2) h)

def lff (t : Fin 128) (h : Fin 8) (i : Fin 64) : EReal :=
  lsg (a.p (ix2 (⟨64 * t.val + i.val, by omega⟩ : Fin 8320) (⟨4104 + h.val, by omega⟩ : Fin 6160)) + a.bg (ix2 (1 : Fin 2) h))

/-- The logarithms of the forget gates, summed within the chunk. -/
def bf (t : Fin 128) (h : Fin 8) (i : Fin 64) : EReal :=
  ∑ s : Fin 64, if s.val ≤ i.val then lff a t h s else 0

/-! ## The state after so many chunks -/

def stM (h : Fin 8) : ℕ → EReal
  | 0 => a.m0 (ix2 (0 : Fin 1) h)
  | t + 1 => if ht : t < 128 then mt (bf a ⟨t, ht⟩ h) (igf a ⟨t, ht⟩ h) (stM h t) 63 else 0

def stN (h : Fin 8) : ℕ → Fin 128 → EReal
  | 0 => fun d => a.n0 (ix3 (0 : Fin 1) h d)
  | t + 1 => if ht : t < 128 then newN (bf a ⟨t, ht⟩ h) (igf a ⟨t, ht⟩ h) (stM a h t) (kf a ⟨t, ht⟩ h) (stN h t) else fun _ => 0

def stC (h : Fin 8) : ℕ → Fin 256 → Fin 128 → EReal
  | 0 => fun e d => a.c0 (ix4 (0 : Fin 1) h e d)
  | t + 1 => if ht : t < 128 then
      newC (bf a ⟨t, ht⟩ h) (igf a ⟨t, ht⟩ h) (stM a h t) (kf a ⟨t, ht⟩ h) (vf a ⟨t, ht⟩ h) (stC h t) else fun _ _ => 0

/-- The quotient of a chunk. -/
def hcf (t : Fin 128) (h : Fin 8) : Fin 64 → Fin 256 → EReal :=
  hc (bf a t h) (igf a t h) (stM a h t.val) (qf a t h) (kf a t h) (vf a t h) (stC a h t.val) (stN a h t.val)

theorem stM_succ (h : Fin 8) (t : Fin 128) : stM a h (t.val + 1) = mt (bf a t h) (igf a t h) (stM a h t.val) 63 := dif_pos t.isLt
theorem stN_succ (h : Fin 8) (t : Fin 128) :
    stN a h (t.val + 1) = newN (bf a t h) (igf a t h) (stM a h t.val) (kf a t h) (stN a h t.val) := dif_pos t.isLt
theorem stC_succ (h : Fin 8) (t : Fin 128) :
    stC a h (t.val + 1) = newC (bf a t h) (igf a t h) (stM a h t.val) (kf a t h) (vf a t h) (stC a h t.val) := dif_pos t.isLt

/-! ## Sums over a selecting matrix of a number's three parts -/

/-- A number below infinity is the sum of its three parts, each times 0 or 1. -/
theorem parts (s x : EReal) (hs : s = 1 ∨ s = 0) (hx : s = 1 → x < ⊤) : s * x + s * (x - x) + s * (x - x - (x - x)) = s * x := by
  rcases hs with rfl | rfl
  · have hx := hx rfl
    simp only [one_mul]
    induction x with
    | bot => simp
    | top => exact absurd hx (lt_irrefl _)
    | coe r =>
      have h0 : (r : EReal) - (r : EReal) = 0 := by rw [← EReal.coe_sub, sub_self, EReal.coe_zero]
      rw [h0]; simp
  · simp

theorem parts_sum {n : ℕ} (s x : Fin n → EReal) (hs : ∀ k, s k = 1 ∨ s k = 0) (hx : ∀ k, s k = 1 → x k < ⊤) :
    (∑ k, s k * x k) + (∑ k, s k * (x k - x k)) + (∑ k, s k * (x k - x k - (x k - x k))) = ∑ k, s k * x k := by
  rw [← Finset.sum_add_distrib, ← Finset.sum_add_distrib]
  exact Finset.sum_congr rfl fun k _ => parts _ _ (hs k) (hx k)

theorem exp_nonneg (x : EReal) : 0 ≤ Ideal.exp x := by
  induction x with
  | bot => exact le_refl _
  | top => exact le_top
  | coe r => exact EReal.coe_nonneg.mpr (Real.exp_pos r).le

theorem log1p_nonneg (x : EReal) (h : 0 ≤ x) : 0 ≤ Ideal.log1p x := by
  induction x with
  | bot => exact absurd h (by simp)
  | top => exact (le_top : (0 : EReal) ≤ ⊤)
  | coe r =>
    have hr : 0 ≤ r := EReal.coe_nonneg.mp h
    have e : Ideal.log1p (r : EReal) = if (1 + r) ≤ 0 then ⊥ else (Real.log (1 + r) : EReal) := by
      unfold Ideal.log1p
      rw [← EReal.coe_one, ← EReal.coe_add]
      rfl
    rw [e, if_neg (by linarith)]
    exact EReal.coe_nonneg.mpr (Real.log_nonneg (by linarith))

theorem lsg_nonpos (x : EReal) : lsg x ≤ 0 := by
  unfold lsg
  have h := log1p_nonneg _ (exp_nonneg (0 - (max x (-x) : EReal)))
  generalize Ideal.log1p (Ideal.exp (0 - (max x (-x) : EReal))) = y at h
  calc min x 0 - y ≤ 0 - 0 := EReal.sub_le_sub (min_le_right _ _) h
    _ = 0 := sub_zero _

/-- The other way of writing the logarithm of the logistic function. -/
theorem lsg_neg (y : EReal) : -(max (-y) 0 + Ideal.log1p (Ideal.exp (-(max (-y) (-(-y)) : EReal)))) = lsg y := by
  unfold lsg
  rw [neg_neg, max_comm (-y) y, zero_sub]
  have h := log1p_nonneg _ (exp_nonneg (-(max y (-y) : EReal)))
  generalize Ideal.log1p (Ideal.exp (-(max y (-y) : EReal))) = z at h
  have h2 : (0 : EReal) ≤ max (-y) 0 := le_max_right _ _
  rw [EReal.neg_add (Or.inl (fun e => by rw [e] at h2; exact absurd h2 (by simp))) (Or.inr (fun e => by rw [e] at h; exact absurd h (by simp)))]
  congr 1
  rcases le_total y 0 with hy | hy
  · rw [max_eq_left (EReal.neg_nonneg.mpr hy), min_eq_left hy, neg_neg]
  · rw [max_eq_right (le_of_le_of_eq (EReal.neg_le_neg_iff.mpr hy) neg_zero), min_eq_right hy, neg_zero]

theorem silu_of {x y : EReal} (h : x = y) : x * Ideal.div 1 (1 + Ideal.exp (-x)) = silu y := by rw [h]; rfl

theorem add5 (a b c d e : EReal) : a + (b + c + d + e) = a + b + c + d + e := by
  rw [← add_assoc, ← add_assoc, ← add_assoc]

end Cert.Hand.Mlstm

end
-- ==== Proof.MlstmKerA.lean ====
module

public import proofs.«01_k».proof.Proof.Gen.KernelIdeal.Value
public import proofs.«01_k».proof.Proof.MlstmSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 65536
set_option maxHeartbeats 4000000

noncomputable section

/-! The recurrence's step as the kernel writes it, heads 0 to 3. -/

namespace Cert.KernelIdeal.Hand

open Cert.KernelIdeal Cert.KernelIdeal.Gen Cert.KernelIdeal.Value Idealize.ShloMosaic Idealize.ShloMosaic.TcCoe Idealize.SL.Sem Cert.Hand

/-- The causal mask, as a choice. -/
theorem sel_ge (t s : Fin 64) (x y : EReal) : Scalar.select (IntOp.cmpi CmpIPredicate.sge (BitVec.ofNat 32 t.val) (BitVec.ofNat 32 s.val)) x y = if s.val ≤ t.val then x else y := by
  have e : IntOp.cmpi CmpIPredicate.sge (BitVec.ofNat 32 t.val) (BitVec.ofNat 32 s.val) = if s.val ≤ t.val then 1#1 else 0#1 := by
    revert t s
    decide +kernel
  rw [e]
  split_ifs <;> rfl

theorem mt_0 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (8 : Fin 128)) = b t)
    (hBT : ∀ t : Fin 64, BT (Idealize.ShloMosaic.ix2 (8 : Fin 128) t) = b t) (hIT : ∀ t : Fin 64, IT (Idealize.ShloMosaic.ix2 (0 : Fin 128) t) = ig t) (hG : ∀ t : Fin 64, G (Idealize.ShloMosaic.ix2 t (0 : Fin 128)) = ig t)
    (hM : M (Idealize.ShloMosaic.ix2 (0 : Fin 1) (0 : Fin 128)) = m0) (t : Fin 64) :
    ((k0_pay31 BB IT BT M) : FVec Ideal S64x1 .f32) (Idealize.ShloMosaic.ix2 t (0 : Fin 1)) = Mlstm.mt b ig m0 t := by
  unfold k0_pay31 k0_pay30 k0_pay29 k0_pay27 k0_pay26
  change S64x128.Idx → EReal at BB
  change S128x64.Idx → EReal at IT BT
  change S1x128.Idx → EReal at M
  pointwise
  unfold Mlstm.mt Mlstm.logD
  refine congrArg₂ (max : EReal → EReal → EReal) (Finset.fold_congr fun s _ => ?_) ?_
  · rw [sel_ge]
    exact congrArg₂ (fun x y : EReal => if s.val ≤ t.val then x else y) (congrArg₂ (HAdd.hAdd : EReal → EReal → EReal) (congrArg₂ (HSub.hSub : EReal → EReal → EReal) (hB t) (hBT s)) (hIT s)) rfl
  · exact congrArg₂ (HAdd.hAdd : EReal → EReal → EReal) (hB t) hM

theorem sc_0 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (8 : Fin 128)) = b t)
    (hBT : ∀ t : Fin 64, BT (Idealize.ShloMosaic.ix2 (8 : Fin 128) t) = b t) (hIT : ∀ t : Fin 64, IT (Idealize.ShloMosaic.ix2 (0 : Fin 128) t) = ig t) (hG : ∀ t : Fin 64, G (Idealize.ShloMosaic.ix2 t (0 : Fin 128)) = ig t)
    (hM : M (Idealize.ShloMosaic.ix2 (0 : Fin 1) (0 : Fin 128)) = m0) (t : Fin 64) :
    ((k0_pay32 BB IT BT M) : FVec Ideal S64x1 .f32) (Idealize.ShloMosaic.ix2 t (0 : Fin 1)) = Mlstm.sc b ig m0 t := by
  have hX := mt_0 BB G IT BT M b ig m0 hB hBT hIT hG hM t
  unfold k0_pay32
  generalize k0_pay31 BB IT BT M = X at hX
  try unfold k0_pay30
  try unfold k0_pay27
  change S64x128.Idx → EReal at BB
  change S128x64.Idx → EReal at IT BT
  change S1x128.Idx → EReal at M
  change S64x1.Idx → EReal at X
  pointwise
  exact congrArg Ideal.exp (congrArg₂ (HSub.hSub : EReal → EReal → EReal) (congrArg₂ (HAdd.hAdd : EReal → EReal → EReal) (hB t) hM) hX)

theorem n_0 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (8 : Fin 128)) = b t)
    (hBT : ∀ t : Fin 64, BT (Idealize.ShloMosaic.ix2 (8 : Fin 128) t) = b t) (hIT : ∀ t : Fin 64, IT (Idealize.ShloMosaic.ix2 (0 : Fin 128) t) = ig t) (hG : ∀ t : Fin 64, G (Idealize.ShloMosaic.ix2 t (0 : Fin 128)) = ig t)
    (hM : M (Idealize.ShloMosaic.ix2 (0 : Fin 1) (0 : Fin 128)) = m0) (Kh : FVec Ideal S64x128 .f32) (Nh : FVec Ideal S1x128 .f32) (k : Fin 64 → Fin 128 → EReal) (n : Fin 128 → EReal) (hK : ∀ s d, Kh (Idealize.ShloMosaic.ix2 s d) = k s d) (hN : ∀ d, Nh (Idealize.ShloMosaic.ix2 (0 : Fin 1) d) = n d) (d : Fin 128) :
    ((k0_pay45 (k0_pay44 (k0_pay27 BB) (k0_pay28 G) (k0_pay31 BB IT BT M) (k0_pay32 BB IT BT M) (k0_pay34 Kh) Nh)) : FVec Ideal S1x128 .f32) (Idealize.ShloMosaic.ix2 (0 : Fin 1) d) = Mlstm.newN b ig m0 k n d := by
  have hX := mt_0 BB G IT BT M b ig m0 hB hBT hIT hG hM 63
  have hS := sc_0 BB G IT BT M b ig m0 hB hBT hIT hG hM 63
  generalize k0_pay32 BB IT BT M = S at hS ⊢
  generalize k0_pay31 BB IT BT M = X at hX ⊢
  unfold k0_pay45 k0_pay44 k0_pay42 k0_pay41 k0_pay40 k0_pay34 k0_pay28 k0_pay27
  change S64x128.Idx → EReal at BB G
  change S64x1.Idx → EReal at X S
  change S64x128.Idx → EReal at Kh
  change S1x128.Idx → EReal at Nh
  pointwise
  unfold Mlstm.newN Mlstm.dm
  refine congrArg₂ (HAdd.hAdd : EReal → EReal → EReal) (congrArg₂ (HMul.hMul : EReal → EReal → EReal) hS (hN d)) (Finset.sum_congr (M := EReal) rfl fun s _ => ?_)
  refine congrArg₂ (HMul.hMul : EReal → EReal → EReal) (congrArg Ideal.exp (congrArg₂ (HSub.hSub : EReal → EReal → EReal) ?_ hX)) (hK s d)
  unfold Mlstm.logD
  rw [if_pos (show s.val ≤ (63 : Fin 64).val by have := s.isLt; change s.val ≤ 63; omega)]
  exact congrArg₂ (HAdd.hAdd : EReal → EReal → EReal) (congrArg₂ (HSub.hSub : EReal → EReal → EReal) (hB 63) (hB s)) (hG s)

theorem C_0 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (8 : Fin 128)) = b t)
    (hBT : ∀ t : Fin 64, BT (Idealize.ShloMosaic.ix2 (8 : Fin 128) t) = b t) (hIT : ∀ t : Fin 64, IT (Idealize.ShloMosaic.ix2 (0 : Fin 128) t) = ig t) (hG : ∀ t : Fin 64, G (Idealize.ShloMosaic.ix2 t (0 : Fin 128)) = ig t)
    (hM : M (Idealize.ShloMosaic.ix2 (0 : Fin 1) (0 : Fin 128)) = m0) (Kh : FVec Ideal S64x128 .f32) (Vh : FVec Ideal S64x256 .f32) (Ch : FVec Ideal S1x256x128 .f32) (k : Fin 64 → Fin 128 → EReal) (v : Fin 64 → Fin 256 → EReal) (C : Fin 256 → Fin 128 → EReal) (hK : ∀ s d, Kh (Idealize.ShloMosaic.ix2 s d) = k s d) (hV : ∀ s e, Vh (Idealize.ShloMosaic.ix2 s e) = v s e) (hC : ∀ e d, Ch (Idealize.ShloMosaic.ix3 (0 : Fin 1) e d) = C e d) (e : Fin 256) (d : Fin 128) :
    ((k0_pay43 (k0_pay27 BB) (k0_pay28 G) (k0_pay31 BB IT BT M) (k0_pay32 BB IT BT M) Kh (k0_pay35 Vh) (k0_pay36 Ch)) : FVec Ideal S1x256x128 .f32) (Idealize.ShloMosaic.ix3 (0 : Fin 1) e d) = Mlstm.newC b ig m0 k v C e d := by
  have hX := mt_0 BB G IT BT M b ig m0 hB hBT hIT hG hM 63
  have hS := sc_0 BB G IT BT M b ig m0 hB hBT hIT hG hM 63
  generalize k0_pay32 BB IT BT M = S at hS ⊢
  generalize k0_pay31 BB IT BT M = X at hX ⊢
  unfold k0_pay43 k0_pay42 k0_pay41 k0_pay40 k0_pay36 k0_pay35 k0_pay28 k0_pay27
  change S64x128.Idx → EReal at BB G
  change S64x1.Idx → EReal at X S
  change S64x128.Idx → EReal at Kh
  change S64x256.Idx → EReal at Vh
  change S1x256x128.Idx → EReal at Ch
  pointwise
  unfold Mlstm.newC Mlstm.dm
  refine congrArg₂ (HAdd.hAdd : EReal → EReal → EReal) (congrArg₂ (HMul.hMul : EReal → EReal → EReal) hS (hC e d)) (Finset.sum_congr (M := EReal) rfl fun s _ => ?_)
  refine congrArg₂ (HMul.hMul : EReal → EReal → EReal) (hV s e) (congrArg₂ (HMul.hMul : EReal → EReal → EReal) (hK s d) (congrArg Ideal.exp (congrArg₂ (HSub.hSub : EReal → EReal → EReal) ?_ hX)))
  unfold Mlstm.logD
  rw [if_pos (show s.val ≤ (63 : Fin 64).val by have := s.isLt; change s.val ≤ 63; omega)]
  exact congrArg₂ (HAdd.hAdd : EReal → EReal → EReal) (congrArg₂ (HSub.hSub : EReal → EReal → EReal) (hB 63) (hB s)) (hG s)

theorem ml_0 (P : FVec Ideal S1x128 .f32) (X : FVec Ideal S64x1 .f32) (l : Fin 128) :
    k0_pay46 (F := Ideal) (iota Kind.tc S1x128 32 [1] iota_S1x128_d1_w32) P (k0_pay40 X) (Idealize.ShloMosaic.ix2 (0 : Fin 1) l) = if l.val = 0 then X (Idealize.ShloMosaic.ix2 (63 : Fin 64) (0 : Fin 1)) else P (Idealize.ShloMosaic.ix2 (0 : Fin 1) l) := by
  unfold k0_pay46 k0_pay40
  change S1x128.Idx → EReal at P
  change S64x1.Idx → EReal at X
  pointwise
  rw [show ∀ x y : EReal, Scalar.select (IntOp.cmpi CmpIPredicate.eq (BitVec.ofNat 32 l.val) 0#32) x y = if l.val = 0 then x else y from fun x y => by
    have e : IntOp.cmpi CmpIPredicate.eq (BitVec.ofNat 32 l.val) 0#32 = if l.val = 0 then 1#1 else 0#1 := by
      revert l
      decide +kernel
    rw [e]
    split_ifs <;> rfl]

theorem mt_1 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (9 : Fin 128)) = b t)
    (hBT : ∀ t : Fin 64, BT (Idealize.ShloMosaic.ix2 (9 : Fin 128) t) = b t) (hIT : ∀ t : Fin 64, IT (Idealize.ShloMosaic.ix2 (1 : Fin 128) t) = ig t) (hG : ∀ t : Fin 64, G (Idealize.ShloMosaic.ix2 t (1 : Fin 128)) = ig t)
    (hM : M (Idealize.ShloMosaic.ix2 (0 : Fin 1) (1 : Fin 128)) = m0) (t : Fin 64) :
    ((k0_pay53 (k0_pay51 BB M) (k0_pay52 BB IT BT k0_pay26)) : FVec Ideal S64x1 .f32) (Idealize.ShloMosaic.ix2 t (0 : Fin 1)) = Mlstm.mt b ig m0 t := by
  unfold k0_pay53 k0_pay52 k0_pay50 k0_pay51 k0_pay48 k0_pay26
  change S64x128.Idx → EReal at BB
  change S128x64.Idx → EReal at IT BT
  change S1x128.Idx → EReal at M
  pointwise
  unfold Mlstm.mt Mlstm.logD
  refine congrArg₂ (max : EReal → EReal → EReal) (Finset.fold_congr fun s _ => ?_) ?_
  · rw [sel_ge]
    exact congrArg₂ (fun x y : EReal => if s.val ≤ t.val then x else y) (congrArg₂ (HAdd.hAdd : EReal → EReal → EReal) (congrArg₂ (HSub.hSub : EReal → EReal → EReal) (hB t) (hBT s)) (hIT s)) rfl
  · exact congrArg₂ (HAdd.hAdd : EReal → EReal → EReal) (hB t) hM

theorem sc_1 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (9 : Fin 128)) = b t)
    (hBT : ∀ t : Fin 64, BT (Idealize.ShloMosaic.ix2 (9 : Fin 128) t) = b t) (hIT : ∀ t : Fin 64, IT (Idealize.ShloMosaic.ix2 (1 : Fin 128) t) = ig t) (hG : ∀ t : Fin 64, G (Idealize.ShloMosaic.ix2 t (1 : Fin 128)) = ig t)
    (hM : M (Idealize.ShloMosaic.ix2 (0 : Fin 1) (1 : Fin 128)) = m0) (t : Fin 64) :
    ((k0_pay54 (k0_pay51 BB M) (k0_pay52 BB IT BT k0_pay26)) : FVec Ideal S64x1 .f32) (Idealize.ShloMosaic.ix2 t (0 : Fin 1)) = Mlstm.sc b ig m0 t := by
  have hX := mt_1 BB G IT BT M b ig m0 hB hBT hIT hG hM t
  unfold k0_pay54
  generalize k0_pay53 (k0_pay51 BB M) (k0_pay52 BB IT BT k0_pay26) = X at hX
  try unfold k0_pay52
  try unfold k0_pay50
  try unfold k0_pay51
  try unfold k0_pay48
  change S64x128.Idx → EReal at BB
  change S128x64.Idx → EReal at IT BT
  change S1x128.Idx → EReal at M
  change S64x1.Idx → EReal at X
  pointwise
  exact congrArg Ideal.exp (congrArg₂ (HSub.hSub : EReal → EReal → EReal) (congrArg₂ (HAdd.hAdd : EReal → EReal → EReal) (hB t) hM) hX)

theorem n_1 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (9 : Fin 128)) = b t)
    (hBT : ∀ t : Fin 64, BT (Idealize.ShloMosaic.ix2 (9 : Fin 128) t) = b t) (hIT : ∀ t : Fin 64, IT (Idealize.ShloMosaic.ix2 (1 : Fin 128) t) = ig t) (hG : ∀ t : Fin 64, G (Idealize.ShloMosaic.ix2 t (1 : Fin 128)) = ig t)
    (hM : M (Idealize.ShloMosaic.ix2 (0 : Fin 1) (1 : Fin 128)) = m0) (Kh : FVec Ideal S64x128 .f32) (Nh : FVec Ideal S1x128 .f32) (k : Fin 64 → Fin 128 → EReal) (n : Fin 128 → EReal) (hK : ∀ s d, Kh (Idealize.ShloMosaic.ix2 s d) = k s d) (hN : ∀ d, Nh (Idealize.ShloMosaic.ix2 (0 : Fin 1) d) = n d) (d : Fin 128) :
    ((k0_pay63 (k0_pay48 BB) (k0_pay49 G) (k0_pay53 (k0_pay51 BB M) (k0_pay52 BB IT BT k0_pay26)) (k0_pay54 (k0_pay51 BB M) (k0_pay52 BB IT BT k0_pay26)) (k0_pay55 Kh) Nh) : FVec Ideal S1x128 .f32) (Idealize.ShloMosaic.ix2 (0 : Fin 1) d) = Mlstm.newN b ig m0 k n d := by
  have hX := mt_1 BB G IT BT M b ig m0 hB hBT hIT hG hM 63
  have hS := sc_1 BB G IT BT M b ig m0 hB hBT hIT hG hM 63
  generalize k0_pay54 (k0_pay51 BB M) (k0_pay52 BB IT BT k0_pay26) = S at hS ⊢
  generalize k0_pay53 (k0_pay51 BB M) (k0_pay52 BB IT BT k0_pay26) = X at hX ⊢
  unfold k0_pay63 k0_pay61 k0_pay60 k0_pay59 k0_pay55 k0_pay49 k0_pay48
  change S64x128.Idx → EReal at BB G
  change S64x1.Idx → EReal at X S
  change S64x128.Idx → EReal at Kh
  change S1x128.Idx → EReal at Nh
  pointwise
  unfold Mlstm.newN Mlstm.dm
  refine congrArg₂ (HAdd.hAdd : EReal → EReal → EReal) (congrArg₂ (HMul.hMul : EReal → EReal → EReal) hS (hN d)) (Finset.sum_congr (M := EReal) rfl fun s _ => ?_)
  refine congrArg₂ (HMul.hMul : EReal → EReal → EReal) (congrArg Ideal.exp (congrArg₂ (HSub.hSub : EReal → EReal → EReal) ?_ hX)) (hK s d)
  unfold Mlstm.logD
  rw [if_pos (show s.val ≤ (63 : Fin 64).val by have := s.isLt; change s.val ≤ 63; omega)]
  exact congrArg₂ (HAdd.hAdd : EReal → EReal → EReal) (congrArg₂ (HSub.hSub : EReal → EReal → EReal) (hB 63) (hB s)) (hG s)

theorem C_1 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (9 : Fin 128)) = b t)
    (hBT : ∀ t : Fin 64, BT (Idealize.ShloMosaic.ix2 (9 : Fin 128) t) = b t) (hIT : ∀ t : Fin 64, IT (Idealize.ShloMosaic.ix2 (1 : Fin 128) t) = ig t) (hG : ∀ t : Fin 64, G (Idealize.ShloMosaic.ix2 t (1 : Fin 128)) = ig t)
    (hM : M (Idealize.ShloMosaic.ix2 (0 : Fin 1) (1 : Fin 128)) = m0) (Kh : FVec Ideal S64x128 .f32) (Vh : FVec Ideal S64x256 .f32) (Ch : FVec Ideal S1x256x128 .f32) (k : Fin 64 → Fin 128 → EReal) (v : Fin 64 → Fin 256 → EReal) (C : Fin 256 → Fin 128 → EReal) (hK : ∀ s d, Kh (Idealize.ShloMosaic.ix2 s d) = k s d) (hV : ∀ s e, Vh (Idealize.ShloMosaic.ix2 s e) = v s e) (hC : ∀ e d, Ch (Idealize.ShloMosaic.ix3 (0 : Fin 1) e d) = C e d) (e : Fin 256) (d : Fin 128) :
    ((k0_pay62 (k0_pay48 BB) (k0_pay49 G) (k0_pay53 (k0_pay51 BB M) (k0_pay52 BB IT BT k0_pay26)) (k0_pay54 (k0_pay51 BB M) (k0_pay52 BB IT BT k0_pay26)) Kh (k0_pay56 Vh) (k0_pay57 Ch)) : FVec Ideal S1x256x128 .f32) (Idealize.ShloMosaic.ix3 (0 : Fin 1) e d) = Mlstm.newC b ig m0 k v C e d := by
  have hX := mt_1 BB G IT BT M b ig m0 hB hBT hIT hG hM 63
  have hS := sc_1 BB G IT BT M b ig m0 hB hBT hIT hG hM 63
  generalize k0_pay54 (k0_pay51 BB M) (k0_pay52 BB IT BT k0_pay26) = S at hS ⊢
  generalize k0_pay53 (k0_pay51 BB M) (k0_pay52 BB IT BT k0_pay26) = X at hX ⊢
  unfold k0_pay62 k0_pay61 k0_pay60 k0_pay59 k0_pay57 k0_pay56 k0_pay49 k0_pay48
  change S64x128.Idx → EReal at BB G
  change S64x1.Idx → EReal at X S
  change S64x128.Idx → EReal at Kh
  change S64x256.Idx → EReal at Vh
  change S1x256x128.Idx → EReal at Ch
  pointwise
  unfold Mlstm.newC Mlstm.dm
  refine congrArg₂ (HAdd.hAdd : EReal → EReal → EReal) (congrArg₂ (HMul.hMul : EReal → EReal → EReal) hS (hC e d)) (Finset.sum_congr (M := EReal) rfl fun s _ => ?_)
  refine congrArg₂ (HMul.hMul : EReal → EReal → EReal) (hV s e) (congrArg₂ (HMul.hMul : EReal → EReal → EReal) (hK s d) (congrArg Ideal.exp (congrArg₂ (HSub.hSub : EReal → EReal → EReal) ?_ hX)))
  unfold Mlstm.logD
  rw [if_pos (show s.val ≤ (63 : Fin 64).val by have := s.isLt; change s.val ≤ 63; omega)]
  exact congrArg₂ (HAdd.hAdd : EReal → EReal → EReal) (congrArg₂ (HSub.hSub : EReal → EReal → EReal) (hB 63) (hB s)) (hG s)

theorem ml_1 (P : FVec Ideal S1x128 .f32) (X : FVec Ideal S64x1 .f32) (l : Fin 128) :
    k0_pay64 (F := Ideal) (iota Kind.tc S1x128 32 [1] iota_S1x128_d1_w32) P X (Idealize.ShloMosaic.ix2 (0 : Fin 1) l) = if l.val = 1 then X (Idealize.ShloMosaic.ix2 (63 : Fin 64) (0 : Fin 1)) else P (Idealize.ShloMosaic.ix2 (0 : Fin 1) l) := by
  unfold k0_pay64 k0_pay59
  change S1x128.Idx → EReal at P
  change S64x1.Idx → EReal at X
  pointwise
  rw [show ∀ x y : EReal, Scalar.select (IntOp.cmpi CmpIPredicate.eq (BitVec.ofNat 32 l.val) 1#32) x y = if l.val = 1 then x else y from fun x y => by
    have e : IntOp.cmpi CmpIPredicate.eq (BitVec.ofNat 32 l.val) 1#32 = if l.val = 1 then 1#1 else 0#1 := by
      revert l
      decide +kernel
    rw [e]
    split_ifs <;> rfl]

theorem mt_2 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (10 : Fin 128)) = b t)
    (hBT : ∀ t : Fin 64, BT (Idealize.ShloMosaic.ix2 (10 : Fin 128) t) = b t) (hIT : ∀ t : Fin 64, IT (Idealize.ShloMosaic.ix2 (2 : Fin 128) t) = ig t) (hG : ∀ t : Fin 64, G (Idealize.ShloMosaic.ix2 t (2 : Fin 128)) = ig t)
    (hM : M (Idealize.ShloMosaic.ix2 (0 : Fin 1) (2 : Fin 128)) = m0) (t : Fin 64) :
    ((k0_pay71 BB IT BT k0_pay26 M) : FVec Ideal S64x1 .f32) (Idealize.ShloMosaic.ix2 t (0 : Fin 1)) = Mlstm.mt b ig m0 t := by
  unfold k0_pay71 k0_pay70 k0_pay69 k0_pay67 k0_pay26
  change S64x128.Idx → EReal at BB
  change S128x64.Idx → EReal at IT BT
  change S1x128.Idx → EReal at M
  pointwise
  unfold Mlstm.mt Mlstm.logD
  refine congrArg₂ (max : EReal → EReal → EReal) (Finset.fold_congr fun s _ => ?_) ?_
  · rw [sel_ge]
    exact congrArg₂ (fun x y : EReal => if s.val ≤ t.val then x else y) (congrArg₂ (HAdd.hAdd : EReal → EReal → EReal) (congrArg₂ (HSub.hSub : EReal → EReal → EReal) (hB t) (hBT s)) (hIT s)) rfl
  · exact congrArg₂ (HAdd.hAdd : EReal → EReal → EReal) (hB t) hM

theorem sc_2 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (10 : Fin 128)) = b t)
    (hBT : ∀ t : Fin 64, BT (Idealize.ShloMosaic.ix2 (10 : Fin 128) t) = b t) (hIT : ∀ t : Fin 64, IT (Idealize.ShloMosaic.ix2 (2 : Fin 128) t) = ig t) (hG : ∀ t : Fin 64, G (Idealize.ShloMosaic.ix2 t (2 : Fin 128)) = ig t)
    (hM : M (Idealize.ShloMosaic.ix2 (0 : Fin 1) (2 : Fin 128)) = m0) (t : Fin 64) :
    ((k0_pay73 BB IT BT k0_pay26 M) : FVec Ideal S64x1 .f32) (Idealize.ShloMosaic.ix2 t (0 : Fin 1)) = Mlstm.sc b ig m0 t := by
  have hX := mt_2 BB G IT BT M b ig m0 hB hBT hIT hG hM t
  unfold k0_pay73
  generalize k0_pay71 BB IT BT k0_pay26 M = X at hX
  try unfold k0_pay70
  try unfold k0_pay67
  change S64x128.Idx → EReal at BB
  change S128x64.Idx → EReal at IT BT
  change S1x128.Idx → EReal at M
  change S64x1.Idx → EReal at X
  pointwise
  exact congrArg Ideal.exp (congrArg₂ (HSub.hSub : EReal → EReal → EReal) (congrArg₂ (HAdd.hAdd : EReal → EReal → EReal) (hB t) hM) hX)

theorem n_2 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (10 : Fin 128)) = b t)
    (hBT : ∀ t : Fin 64, BT (Idealize.ShloMosaic.ix2 (10 : Fin 128) t) = b t) (hIT : ∀ t : Fin 64, IT (Idealize.ShloMosaic.ix2 (2 : Fin 128) t) = ig t) (hG : ∀ t : Fin 64, G (Idealize.ShloMosaic.ix2 t (2 : Fin 128)) = ig t)
    (hM : M (Idealize.ShloMosaic.ix2 (0 : Fin 1) (2 : Fin 128)) = m0) (Kh : FVec Ideal S64x128 .f32) (Nh : FVec Ideal S1x128 .f32) (k : Fin 64 → Fin 128 → EReal) (n : Fin 128 → EReal) (hK : ∀ s d, Kh (Idealize.ShloMosaic.ix2 s d) = k s d) (hN : ∀ d, Nh (Idealize.ShloMosaic.ix2 (0 : Fin 1) d) = n d) (d : Fin 128) :
    ((k0_pay84 (k0_pay75 Kh) Nh (k0_pay80 (k0_pay67 BB) (k0_pay68 G) (k0_pay71 BB IT BT k0_pay26 M)) (k0_pay83 (k0_pay73 BB IT BT k0_pay26 M))) : FVec Ideal S1x128 .f32) (Idealize.ShloMosaic.ix2 (0 : Fin 1) d) = Mlstm.newN b ig m0 k n d := by
  have hX := mt_2 BB G IT BT M b ig m0 hB hBT hIT hG hM 63
  have hS := sc_2 BB G IT BT M b ig m0 hB hBT hIT hG hM 63
  generalize k0_pay73 BB IT BT k0_pay26 M = S at hS ⊢
  generalize k0_pay71 BB IT BT k0_pay26 M = X at hX ⊢
  unfold k0_pay84 k0_pay83 k0_pay81 k0_pay80 k0_pay79 k0_pay75 k0_pay68 k0_pay67
  change S64x128.Idx → EReal at BB G
  change S64x1.Idx → EReal at X S
  change S64x128.Idx → EReal at Kh
  change S1x128.Idx → EReal at Nh
  pointwise
  unfold Mlstm.newN Mlstm.dm
  refine congrArg₂ (HAdd.hAdd : EReal → EReal → EReal) (congrArg₂ (HMul.hMul : EReal → EReal → EReal) hS (hN d)) (Finset.sum_congr (M := EReal) rfl fun s _ => ?_)
  refine congrArg₂ (HMul.hMul : EReal → EReal → EReal) (congrArg Ideal.exp (congrArg₂ (HSub.hSub : EReal → EReal → EReal) ?_ hX)) (hK s d)
  unfold Mlstm.logD
  rw [if_pos (show s.val ≤ (63 : Fin 64).val by have := s.isLt; change s.val ≤ 63; omega)]
  exact congrArg₂ (HAdd.hAdd : EReal → EReal → EReal) (congrArg₂ (HSub.hSub : EReal → EReal → EReal) (hB 63) (hB s)) (hG s)

theorem C_2 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (10 : Fin 128)) = b t)
    (hBT : ∀ t : Fin 64, BT (Idealize.ShloMosaic.ix2 (10 : Fin 128) t) = b t) (hIT : ∀ t : Fin 64, IT (Idealize.ShloMosaic.ix2 (2 : Fin 128) t) = ig t) (hG : ∀ t : Fin 64, G (Idealize.ShloMosaic.ix2 t (2 : Fin 128)) = ig t)
    (hM : M (Idealize.ShloMosaic.ix2 (0 : Fin 1) (2 : Fin 128)) = m0) (Kh : FVec Ideal S64x128 .f32) (Vh : FVec Ideal S64x256 .f32) (Ch : FVec Ideal S1x256x128 .f32) (k : Fin 64 → Fin 128 → EReal) (v : Fin 64 → Fin 256 → EReal) (C : Fin 256 → Fin 128 → EReal) (hK : ∀ s d, Kh (Idealize.ShloMosaic.ix2 s d) = k s d) (hV : ∀ s e, Vh (Idealize.ShloMosaic.ix2 s e) = v s e) (hC : ∀ e d, Ch (Idealize.ShloMosaic.ix3 (0 : Fin 1) e d) = C e d) (e : Fin 256) (d : Fin 128) :
    ((k0_pay82 (k0_pay67 BB) (k0_pay68 G) (k0_pay71 BB IT BT k0_pay26 M) (k0_pay73 BB IT BT k0_pay26 M) Kh (k0_pay76 Vh) (k0_pay77 Ch)) : FVec Ideal S1x256x128 .f32) (Idealize.ShloMosaic.ix3 (0 : Fin 1) e d) = Mlstm.newC b ig m0 k v C e d := by
  have hX := mt_2 BB G IT BT M b ig m0 hB hBT hIT hG hM 63
  have hS := sc_2 BB G IT BT M b ig m0 hB hBT hIT hG hM 63
  generalize k0_pay73 BB IT BT k0_pay26 M = S at hS ⊢
  generalize k0_pay71 BB IT BT k0_pay26 M = X at hX ⊢
  unfold k0_pay82 k0_pay81 k0_pay80 k0_pay79 k0_pay77 k0_pay76 k0_pay68 k0_pay67
  change S64x128.Idx → EReal at BB G
  change S64x1.Idx → EReal at X S
  change S64x128.Idx → EReal at Kh
  change S64x256.Idx → EReal at Vh
  change S1x256x128.Idx → EReal at Ch
  pointwise
  unfold Mlstm.newC Mlstm.dm
  refine congrArg₂ (HAdd.hAdd : EReal → EReal → EReal) (congrArg₂ (HMul.hMul : EReal → EReal → EReal) hS (hC e d)) (Finset.sum_congr (M := EReal) rfl fun s _ => ?_)
  refine congrArg₂ (HMul.hMul : EReal → EReal → EReal) (hV s e) (congrArg₂ (HMul.hMul : EReal → EReal → EReal) (hK s d) (congrArg Ideal.exp (congrArg₂ (HSub.hSub : EReal → EReal → EReal) ?_ hX)))
  unfold Mlstm.logD
  rw [if_pos (show s.val ≤ (63 : Fin 64).val by have := s.isLt; change s.val ≤ 63; omega)]
  exact congrArg₂ (HAdd.hAdd : EReal → EReal → EReal) (congrArg₂ (HSub.hSub : EReal → EReal → EReal) (hB 63) (hB s)) (hG s)

theorem ml_2 (P : FVec Ideal S1x128 .f32) (X : FVec Ideal S64x1 .f32) (l : Fin 128) :
    k0_pay85 (F := Ideal) (iota Kind.tc S1x128 32 [1] iota_S1x128_d1_w32) P (k0_pay79 X) (Idealize.ShloMosaic.ix2 (0 : Fin 1) l) = if l.val = 2 then X (Idealize.ShloMosaic.ix2 (63 : Fin 64) (0 : Fin 1)) else P (Idealize.ShloMosaic.ix2 (0 : Fin 1) l) := by
  unfold k0_pay85 k0_pay79
  change S1x128.Idx → EReal at P
  change S64x1.Idx → EReal at X
  pointwise
  rw [show ∀ x y : EReal, Scalar.select (IntOp.cmpi CmpIPredicate.eq (BitVec.ofNat 32 l.val) 2#32) x y = if l.val = 2 then x else y from fun x y => by
    have e : IntOp.cmpi CmpIPredicate.eq (BitVec.ofNat 32 l.val) 2#32 = if l.val = 2 then 1#1 else 0#1 := by
      revert l
      decide +kernel
    rw [e]
    split_ifs <;> rfl]

theorem mt_3 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (11 : Fin 128)) = b t)
    (hBT : ∀ t : Fin 64, BT (Idealize.ShloMosaic.ix2 (11 : Fin 128) t) = b t) (hIT : ∀ t : Fin 64, IT (Idealize.ShloMosaic.ix2 (3 : Fin 128) t) = ig t) (hG : ∀ t : Fin 64, G (Idealize.ShloMosaic.ix2 t (3 : Fin 128)) = ig t)
    (hM : M (Idealize.ShloMosaic.ix2 (0 : Fin 1) (3 : Fin 128)) = m0) (t : Fin 64) :
    ((k0_pay94 k0_pay26 (k0_pay87 BB) (k0_pay89 IT) (k0_pay90 M) (k0_pay91 BB BT)) : FVec Ideal S64x1 .f32) (Idealize.ShloMosaic.ix2 t (0 : Fin 1)) = Mlstm.mt b ig m0 t := by
  unfold k0_pay94 k0_pay93 k0_pay92 k0_pay91 k0_pay90 k0_pay89 k0_pay87 k0_pay26
  change S64x128.Idx → EReal at BB
  change S128x64.Idx → EReal at IT BT
  change S1x128.Idx → EReal at M
  pointwise
  unfold Mlstm.mt Mlstm.logD
  refine congrArg₂ (max : EReal → EReal → EReal) (Finset.fold_congr fun s _ => ?_) ?_
  · rw [sel_ge]
    exact congrArg₂ (fun x y : EReal => if s.val ≤ t.val then x else y) (congrArg₂ (HAdd.hAdd : EReal → EReal → EReal) (congrArg₂ (HSub.hSub : EReal → EReal → EReal) (hB t) (hBT s)) (hIT s)) rfl
  · exact congrArg₂ (HAdd.hAdd : EReal → EReal → EReal) (hB t) hM

theorem sc_3 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (11 : Fin 128)) = b t)
    (hBT : ∀ t : Fin 64, BT (Idealize.ShloMosaic.ix2 (11 : Fin 128) t) = b t) (hIT : ∀ t : Fin 64, IT (Idealize.ShloMosaic.ix2 (3 : Fin 128) t) = ig t) (hG : ∀ t : Fin 64, G (Idealize.ShloMosaic.ix2 t (3 : Fin 128)) = ig t)
    (hM : M (Idealize.ShloMosaic.ix2 (0 : Fin 1) (3 : Fin 128)) = m0) (t : Fin 64) :
    ((k0_pay95 k0_pay26 (k0_pay87 BB) (k0_pay89 IT) (k0_pay90 M) (k0_pay91 BB BT)) : FVec Ideal S64x1 .f32) (Idealize.ShloMosaic.ix2 t (0 : Fin 1)) = Mlstm.sc b ig m0 t := by
  have hX := mt_3 BB G IT BT M b ig m0 hB hBT hIT hG hM t
  unfold k0_pay95
  generalize k0_pay94 k0_pay26 (k0_pay87 BB) (k0_pay89 IT) (k0_pay90 M) (k0_pay91 BB BT) = X at hX
  try unfold k0_pay93
  try unfold k0_pay91
  try unfold k0_pay90
  try unfold k0_pay89
  try unfold k0_pay87
  change S64x128.Idx → EReal at BB
  change S128x64.Idx → EReal at IT BT
  change S1x128.Idx → EReal at M
  change S64x1.Idx → EReal at X
  pointwise
  exact congrArg Ideal.exp (congrArg₂ (HSub.hSub : EReal → EReal → EReal) (congrArg₂ (HAdd.hAdd : EReal → EReal → EReal) (hB t) hM) hX)

theorem n_3 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (11 : Fin 128)) = b t)
    (hBT : ∀ t : Fin 64, BT (Idealize.ShloMosaic.ix2 (11 : Fin 128) t) = b t) (hIT : ∀ t : Fin 64, IT (Idealize.ShloMosaic.ix2 (3 : Fin 128) t) = ig t) (hG : ∀ t : Fin 64, G (Idealize.ShloMosaic.ix2 t (3 : Fin 128)) = ig t)
    (hM : M (Idealize.ShloMosaic.ix2 (0 : Fin 1) (3 : Fin 128)) = m0) (Kh : FVec Ideal S64x128 .f32) (Nh : FVec Ideal S1x128 .f32) (k : Fin 64 → Fin 128 → EReal) (n : Fin 128 → EReal) (hK : ∀ s d, Kh (Idealize.ShloMosaic.ix2 s d) = k s d) (hN : ∀ d, Nh (Idealize.ShloMosaic.ix2 (0 : Fin 1) d) = n d) (d : Fin 128) :
    ((k0_pay109 (k0_pay87 BB) (k0_pay88 G) (k0_pay94 k0_pay26 (k0_pay87 BB) (k0_pay89 IT) (k0_pay90 M) (k0_pay91 BB BT)) (k0_pay95 k0_pay26 (k0_pay87 BB) (k0_pay89 IT) (k0_pay90 M) (k0_pay91 BB BT)) (k0_pay97 Kh) Nh) : FVec Ideal S1x128 .f32) (Idealize.ShloMosaic.ix2 (0 : Fin 1) d) = Mlstm.newN b ig m0 k n d := by
  have hX := mt_3 BB G IT BT M b ig m0 hB hBT hIT hG hM 63
  have hS := sc_3 BB G IT BT M b ig m0 hB hBT hIT hG hM 63
  generalize k0_pay95 k0_pay26 (k0_pay87 BB) (k0_pay89 IT) (k0_pay90 M) (k0_pay91 BB BT) = S at hS ⊢
  generalize k0_pay94 k0_pay26 (k0_pay87 BB) (k0_pay89 IT) (k0_pay90 M) (k0_pay91 BB BT) = X at hX ⊢
  unfold k0_pay109 k0_pay107 k0_pay106 k0_pay105 k0_pay97 k0_pay88 k0_pay87
  change S64x128.Idx → EReal at BB G
  change S64x1.Idx → EReal at X S
  change S64x128.Idx → EReal at Kh
  change S1x128.Idx → EReal at Nh
  pointwise
  unfold Mlstm.newN Mlstm.dm
  refine congrArg₂ (HAdd.hAdd : EReal → EReal → EReal) (congrArg₂ (HMul.hMul : EReal → EReal → EReal) hS (hN d)) (Finset.sum_congr (M := EReal) rfl fun s _ => ?_)
  refine congrArg₂ (HMul.hMul : EReal → EReal → EReal) (congrArg Ideal.exp (congrArg₂ (HSub.hSub : EReal → EReal → EReal) ?_ hX)) (hK s d)
  unfold Mlstm.logD
  rw [if_pos (show s.val ≤ (63 : Fin 64).val by have := s.isLt; change s.val ≤ 63; omega)]
  exact congrArg₂ (HAdd.hAdd : EReal → EReal → EReal) (congrArg₂ (HSub.hSub : EReal → EReal → EReal) (hB 63) (hB s)) (hG s)

theorem C_3 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (11 : Fin 128)) = b t)
    (hBT : ∀ t : Fin 64, BT (Idealize.ShloMosaic.ix2 (11 : Fin 128) t) = b t) (hIT : ∀ t : Fin 64, IT (Idealize.ShloMosaic.ix2 (3 : Fin 128) t) = ig t) (hG : ∀ t : Fin 64, G (Idealize.ShloMosaic.ix2 t (3 : Fin 128)) = ig t)
    (hM : M (Idealize.ShloMosaic.ix2 (0 : Fin 1) (3 : Fin 128)) = m0) (Kh : FVec Ideal S64x128 .f32) (Vh : FVec Ideal S64x256 .f32) (Ch : FVec Ideal S1x256x128 .f32) (k : Fin 64 → Fin 128 → EReal) (v : Fin 64 → Fin 256 → EReal) (C : Fin 256 → Fin 128 → EReal) (hK : ∀ s d, Kh (Idealize.ShloMosaic.ix2 s d) = k s d) (hV : ∀ s e, Vh (Idealize.ShloMosaic.ix2 s e) = v s e) (hC : ∀ e d, Ch (Idealize.ShloMosaic.ix3 (0 : Fin 1) e d) = C e d) (e : Fin 256) (d : Fin 128) :
    ((k0_pay108 (k0_pay87 BB) (k0_pay88 G) (k0_pay94 k0_pay26 (k0_pay87 BB) (k0_pay89 IT) (k0_pay90 M) (k0_pay91 BB BT)) (k0_pay95 k0_pay26 (k0_pay87 BB) (k0_pay89 IT) (k0_pay90 M) (k0_pay91 BB BT)) Kh (k0_pay98 Vh) (k0_pay99 Ch)) : FVec Ideal S1x256x128 .f32) (Idealize.ShloMosaic.ix3 (0 : Fin 1) e d) = Mlstm.newC b ig m0 k v C e d := by
  have hX := mt_3 BB G IT BT M b ig m0 hB hBT hIT hG hM 63
  have hS := sc_3 BB G IT BT M b ig m0 hB hBT hIT hG hM 63
  generalize k0_pay95 k0_pay26 (k0_pay87 BB) (k0_pay89 IT) (k0_pay90 M) (k0_pay91 BB BT) = S at hS ⊢
  generalize k0_pay94 k0_pay26 (k0_pay87 BB) (k0_pay89 IT) (k0_pay90 M) (k0_pay91 BB BT) = X at hX ⊢
  unfold k0_pay108 k0_pay107 k0_pay106 k0_pay105 k0_pay99 k0_pay98 k0_pay88 k0_pay87
  change S64x128.Idx → EReal at BB G
  change S64x1.Idx → EReal at X S
  change S64x128.Idx → EReal at Kh
  change S64x256.Idx → EReal at Vh
  change S1x256x128.Idx → EReal at Ch
  pointwise
  unfold Mlstm.newC Mlstm.dm
  refine congrArg₂ (HAdd.hAdd : EReal → EReal → EReal) (congrArg₂ (HMul.hMul : EReal → EReal → EReal) hS (hC e d)) (Finset.sum_congr (M := EReal) rfl fun s _ => ?_)
  refine congrArg₂ (HMul.hMul : EReal → EReal → EReal) (hV s e) (congrArg₂ (HMul.hMul : EReal → EReal → EReal) (hK s d) (congrArg Ideal.exp (congrArg₂ (HSub.hSub : EReal → EReal → EReal) ?_ hX)))
  unfold Mlstm.logD
  rw [if_pos (show s.val ≤ (63 : Fin 64).val by have := s.isLt; change s.val ≤ 63; omega)]
  exact congrArg₂ (HAdd.hAdd : EReal → EReal → EReal) (congrArg₂ (HSub.hSub : EReal → EReal → EReal) (hB 63) (hB s)) (hG s)

theorem ml_3 (P : FVec Ideal S1x128 .f32) (X : FVec Ideal S64x1 .f32) (l : Fin 128) :
    k0_pay110 (F := Ideal) (iota Kind.tc S1x128 32 [1] iota_S1x128_d1_w32) P X (Idealize.ShloMosaic.ix2 (0 : Fin 1) l) = if l.val = 3 then X (Idealize.ShloMosaic.ix2 (63 : Fin 64) (0 : Fin 1)) else P (Idealize.ShloMosaic.ix2 (0 : Fin 1) l) := by
  unfold k0_pay110 k0_pay105
  change S1x128.Idx → EReal at P
  change S64x1.Idx → EReal at X
  pointwise
  rw [show ∀ x y : EReal, Scalar.select (IntOp.cmpi CmpIPredicate.eq (BitVec.ofNat 32 l.val) 3#32) x y = if l.val = 3 then x else y from fun x y => by
    have e : IntOp.cmpi CmpIPredicate.eq (BitVec.ofNat 32 l.val) 3#32 = if l.val = 3 then 1#1 else 0#1 := by
      revert l
      decide +kernel
    rw [e]
    split_ifs <;> rfl]

end Cert.KernelIdeal.Hand

end
-- ==== Proof.MlstmKerB.lean ====
module

public import proofs.«01_k».proof.Proof.Gen.KernelIdeal.Value
public import proofs.«01_k».proof.Proof.MlstmKerA
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 65536
set_option maxHeartbeats 4000000

noncomputable section

/-! The recurrence's step as the kernel writes it, heads 4 to 7. -/

namespace Cert.KernelIdeal.Hand

open Cert.KernelIdeal Cert.KernelIdeal.Gen Cert.KernelIdeal.Value Idealize.ShloMosaic Idealize.ShloMosaic.TcCoe Idealize.SL.Sem Cert.Hand

theorem mt_4 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (12 : Fin 128)) = b t)
    (hBT : ∀ t : Fin 64, BT (Idealize.ShloMosaic.ix2 (12 : Fin 128) t) = b t) (hIT : ∀ t : Fin 64, IT (Idealize.ShloMosaic.ix2 (4 : Fin 128) t) = ig t) (hG : ∀ t : Fin 64, G (Idealize.ShloMosaic.ix2 t (4 : Fin 128)) = ig t)
    (hM : M (Idealize.ShloMosaic.ix2 (0 : Fin 1) (4 : Fin 128)) = m0) (t : Fin 64) :
    ((k0_pay117 BB IT BT k0_pay26 M) : FVec Ideal S64x1 .f32) (Idealize.ShloMosaic.ix2 t (0 : Fin 1)) = Mlstm.mt b ig m0 t := by
  unfold k0_pay117 k0_pay116 k0_pay115 k0_pay113 k0_pay26
  change S64x128.Idx → EReal at BB
  change S128x64.Idx → EReal at IT BT
  change S1x128.Idx → EReal at M
  pointwise
  unfold Mlstm.mt Mlstm.logD
  refine congrArg₂ (max : EReal → EReal → EReal) (Finset.fold_congr fun s _ => ?_) ?_
  · rw [sel_ge]
    exact congrArg₂ (fun x y : EReal => if s.val ≤ t.val then x else y) (congrArg₂ (HAdd.hAdd : EReal → EReal → EReal) (congrArg₂ (HSub.hSub : EReal → EReal → EReal) (hB t) (hBT s)) (hIT s)) rfl
  · exact congrArg₂ (HAdd.hAdd : EReal → EReal → EReal) (hB t) hM

theorem sc_4 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (12 : Fin 128)) = b t)
    (hBT : ∀ t : Fin 64, BT (Idealize.ShloMosaic.ix2 (12 : Fin 128) t) = b t) (hIT : ∀ t : Fin 64, IT (Idealize.ShloMosaic.ix2 (4 : Fin 128) t) = ig t) (hG : ∀ t : Fin 64, G (Idealize.ShloMosaic.ix2 t (4 : Fin 128)) = ig t)
    (hM : M (Idealize.ShloMosaic.ix2 (0 : Fin 1) (4 : Fin 128)) = m0) (t : Fin 64) :
    ((k0_pay119 BB IT BT k0_pay26 M) : FVec Ideal S64x1 .f32) (Idealize.ShloMosaic.ix2 t (0 : Fin 1)) = Mlstm.sc b ig m0 t := by
  have hX := mt_4 BB G IT BT M b ig m0 hB hBT hIT hG hM t
  unfold k0_pay119
  generalize k0_pay117 BB IT BT k0_pay26 M = X at hX
  try unfold k0_pay116
  try unfold k0_pay113
  change S64x128.Idx → EReal at BB
  change S128x64.Idx → EReal at IT BT
  change S1x128.Idx → EReal at M
  change S64x1.Idx → EReal at X
  pointwise
  exact congrArg Ideal.exp (congrArg₂ (HSub.hSub : EReal → EReal → EReal) (congrArg₂ (HAdd.hAdd : EReal → EReal → EReal) (hB t) hM) hX)

theorem n_4 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (12 : Fin 128)) = b t)
    (hBT : ∀ t : Fin 64, BT (Idealize.ShloMosaic.ix2 (12 : Fin 128) t) = b t) (hIT : ∀ t : Fin 64, IT (Idealize.ShloMosaic.ix2 (4 : Fin 128) t) = ig t) (hG : ∀ t : Fin 64, G (Idealize.ShloMosaic.ix2 t (4 : Fin 128)) = ig t)
    (hM : M (Idealize.ShloMosaic.ix2 (0 : Fin 1) (4 : Fin 128)) = m0) (Kh : FVec Ideal S64x128 .f32) (Nh : FVec Ideal S1x128 .f32) (k : Fin 64 → Fin 128 → EReal) (n : Fin 128 → EReal) (hK : ∀ s d, Kh (Idealize.ShloMosaic.ix2 s d) = k s d) (hN : ∀ d, Nh (Idealize.ShloMosaic.ix2 (0 : Fin 1) d) = n d) (d : Fin 128) :
    ((k0_pay130 (k0_pay120 Kh) Nh (k0_pay125 (k0_pay113 BB) (k0_pay114 G) (k0_pay117 BB IT BT k0_pay26 M)) (k0_pay126 (k0_pay119 BB IT BT k0_pay26 M))) : FVec Ideal S1x128 .f32) (Idealize.ShloMosaic.ix2 (0 : Fin 1) d) = Mlstm.newN b ig m0 k n d := by
  have hX := mt_4 BB G IT BT M b ig m0 hB hBT hIT hG hM 63
  have hS := sc_4 BB G IT BT M b ig m0 hB hBT hIT hG hM 63
  generalize k0_pay119 BB IT BT k0_pay26 M = S at hS ⊢
  generalize k0_pay117 BB IT BT k0_pay26 M = X at hX ⊢
  unfold k0_pay130 k0_pay126 k0_pay125 k0_pay124 k0_pay120 k0_pay114 k0_pay113
  change S64x128.Idx → EReal at BB G
  change S64x1.Idx → EReal at X S
  change S64x128.Idx → EReal at Kh
  change S1x128.Idx → EReal at Nh
  pointwise
  unfold Mlstm.newN Mlstm.dm
  refine congrArg₂ (HAdd.hAdd : EReal → EReal → EReal) (congrArg₂ (HMul.hMul : EReal → EReal → EReal) hS (hN d)) (Finset.sum_congr (M := EReal) rfl fun s _ => ?_)
  refine congrArg₂ (HMul.hMul : EReal → EReal → EReal) (congrArg Ideal.exp (congrArg₂ (HSub.hSub : EReal → EReal → EReal) ?_ hX)) (hK s d)
  unfold Mlstm.logD
  rw [if_pos (show s.val ≤ (63 : Fin 64).val by have := s.isLt; change s.val ≤ 63; omega)]
  exact congrArg₂ (HAdd.hAdd : EReal → EReal → EReal) (congrArg₂ (HSub.hSub : EReal → EReal → EReal) (hB 63) (hB s)) (hG s)

theorem C_4 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (12 : Fin 128)) = b t)
    (hBT : ∀ t : Fin 64, BT (Idealize.ShloMosaic.ix2 (12 : Fin 128) t) = b t) (hIT : ∀ t : Fin 64, IT (Idealize.ShloMosaic.ix2 (4 : Fin 128) t) = ig t) (hG : ∀ t : Fin 64, G (Idealize.ShloMosaic.ix2 t (4 : Fin 128)) = ig t)
    (hM : M (Idealize.ShloMosaic.ix2 (0 : Fin 1) (4 : Fin 128)) = m0) (Kh : FVec Ideal S64x128 .f32) (Vh : FVec Ideal S64x256 .f32) (Ch : FVec Ideal S1x256x128 .f32) (k : Fin 64 → Fin 128 → EReal) (v : Fin 64 → Fin 256 → EReal) (C : Fin 256 → Fin 128 → EReal) (hK : ∀ s d, Kh (Idealize.ShloMosaic.ix2 s d) = k s d) (hV : ∀ s e, Vh (Idealize.ShloMosaic.ix2 s e) = v s e) (hC : ∀ e d, Ch (Idealize.ShloMosaic.ix3 (0 : Fin 1) e d) = C e d) (e : Fin 256) (d : Fin 128) :
    ((k0_pay129 (k0_pay121 Vh) (k0_pay127 (k0_pay119 BB IT BT k0_pay26 M) Ch) (k0_pay128 (k0_pay113 BB) (k0_pay114 G) (k0_pay117 BB IT BT k0_pay26 M) Kh) (constant S256x128 FTy.f32 0#32)) : FVec Ideal S1x256x128 .f32) (Idealize.ShloMosaic.ix3 (0 : Fin 1) e d) = Mlstm.newC b ig m0 k v C e d := by
  have hX := mt_4 BB G IT BT M b ig m0 hB hBT hIT hG hM 63
  have hS := sc_4 BB G IT BT M b ig m0 hB hBT hIT hG hM 63
  generalize k0_pay119 BB IT BT k0_pay26 M = S at hS ⊢
  generalize k0_pay117 BB IT BT k0_pay26 M = X at hX ⊢
  unfold k0_pay129 k0_pay128 k0_pay125 k0_pay124 k0_pay127 k0_pay126 k0_pay122 k0_pay121 k0_pay114 k0_pay113
  change S64x128.Idx → EReal at BB G
  change S64x1.Idx → EReal at X S
  change S64x128.Idx → EReal at Kh
  change S64x256.Idx → EReal at Vh
  change S1x256x128.Idx → EReal at Ch
  pointwise
  unfold Mlstm.newC Mlstm.dm
  refine congrArg₂ (HAdd.hAdd : EReal → EReal → EReal) (congrArg₂ (HMul.hMul : EReal → EReal → EReal) hS (hC e d)) (Finset.sum_congr (M := EReal) rfl fun s _ => ?_)
  refine congrArg₂ (HMul.hMul : EReal → EReal → EReal) (hV s e) (congrArg₂ (HMul.hMul : EReal → EReal → EReal) (hK s d) (congrArg Ideal.exp (congrArg₂ (HSub.hSub : EReal → EReal → EReal) ?_ hX)))
  unfold Mlstm.logD
  rw [if_pos (show s.val ≤ (63 : Fin 64).val by have := s.isLt; change s.val ≤ 63; omega)]
  exact congrArg₂ (HAdd.hAdd : EReal → EReal → EReal) (congrArg₂ (HSub.hSub : EReal → EReal → EReal) (hB 63) (hB s)) (hG s)

theorem ml_4 (P : FVec Ideal S1x128 .f32) (X : FVec Ideal S64x1 .f32) (l : Fin 128) :
    k0_pay131 (F := Ideal) (iota Kind.tc S1x128 32 [1] iota_S1x128_d1_w32) P (k0_pay124 X) (Idealize.ShloMosaic.ix2 (0 : Fin 1) l) = if l.val = 4 then X (Idealize.ShloMosaic.ix2 (63 : Fin 64) (0 : Fin 1)) else P (Idealize.ShloMosaic.ix2 (0 : Fin 1) l) := by
  unfold k0_pay131 k0_pay124
  change S1x128.Idx → EReal at P
  change S64x1.Idx → EReal at X
  pointwise
  rw [show ∀ x y : EReal, Scalar.select (IntOp.cmpi CmpIPredicate.eq (BitVec.ofNat 32 l.val) 4#32) x y = if l.val = 4 then x else y from fun x y => by
    have e : IntOp.cmpi CmpIPredicate.eq (BitVec.ofNat 32 l.val) 4#32 = if l.val = 4 then 1#1 else 0#1 := by
      revert l
      decide +kernel
    rw [e]
    split_ifs <;> rfl]

theorem mt_5 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (13 : Fin 128)) = b t)
    (hBT : ∀ t : Fin 64, BT (Idealize.ShloMosaic.ix2 (13 : Fin 128) t) = b t) (hIT : ∀ t : Fin 64, IT (Idealize.ShloMosaic.ix2 (5 : Fin 128) t) = ig t) (hG : ∀ t : Fin 64, G (Idealize.ShloMosaic.ix2 t (5 : Fin 128)) = ig t)
    (hM : M (Idealize.ShloMosaic.ix2 (0 : Fin 1) (5 : Fin 128)) = m0) (t : Fin 64) :
    ((k0_pay137 BB IT BT k0_pay26 M) : FVec Ideal S64x1 .f32) (Idealize.ShloMosaic.ix2 t (0 : Fin 1)) = Mlstm.mt b ig m0 t := by
  unfold k0_pay137 k0_pay135 k0_pay136 k0_pay133 k0_pay26
  change S64x128.Idx → EReal at BB
  change S128x64.Idx → EReal at IT BT
  change S1x128.Idx → EReal at M
  pointwise
  unfold Mlstm.mt Mlstm.logD
  refine congrArg₂ (max : EReal → EReal → EReal) (Finset.fold_congr fun s _ => ?_) ?_
  · rw [sel_ge]
    exact congrArg₂ (fun x y : EReal => if s.val ≤ t.val then x else y) (congrArg₂ (HAdd.hAdd : EReal → EReal → EReal) (congrArg₂ (HSub.hSub : EReal → EReal → EReal) (hB t) (hBT s)) (hIT s)) rfl
  · exact congrArg₂ (HAdd.hAdd : EReal → EReal → EReal) (hB t) hM

theorem sc_5 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (13 : Fin 128)) = b t)
    (hBT : ∀ t : Fin 64, BT (Idealize.ShloMosaic.ix2 (13 : Fin 128) t) = b t) (hIT : ∀ t : Fin 64, IT (Idealize.ShloMosaic.ix2 (5 : Fin 128) t) = ig t) (hG : ∀ t : Fin 64, G (Idealize.ShloMosaic.ix2 t (5 : Fin 128)) = ig t)
    (hM : M (Idealize.ShloMosaic.ix2 (0 : Fin 1) (5 : Fin 128)) = m0) (t : Fin 64) :
    ((k0_pay138 BB IT BT k0_pay26 M) : FVec Ideal S64x1 .f32) (Idealize.ShloMosaic.ix2 t (0 : Fin 1)) = Mlstm.sc b ig m0 t := by
  have hX := mt_5 BB G IT BT M b ig m0 hB hBT hIT hG hM t
  unfold k0_pay138
  generalize k0_pay137 BB IT BT k0_pay26 M = X at hX
  try unfold k0_pay136
  try unfold k0_pay133
  change S64x128.Idx → EReal at BB
  change S128x64.Idx → EReal at IT BT
  change S1x128.Idx → EReal at M
  change S64x1.Idx → EReal at X
  pointwise
  exact congrArg Ideal.exp (congrArg₂ (HSub.hSub : EReal → EReal → EReal) (congrArg₂ (HAdd.hAdd : EReal → EReal → EReal) (hB t) hM) hX)

theorem n_5 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (13 : Fin 128)) = b t)
    (hBT : ∀ t : Fin 64, BT (Idealize.ShloMosaic.ix2 (13 : Fin 128) t) = b t) (hIT : ∀ t : Fin 64, IT (Idealize.ShloMosaic.ix2 (5 : Fin 128) t) = ig t) (hG : ∀ t : Fin 64, G (Idealize.ShloMosaic.ix2 t (5 : Fin 128)) = ig t)
    (hM : M (Idealize.ShloMosaic.ix2 (0 : Fin 1) (5 : Fin 128)) = m0) (Kh : FVec Ideal S64x128 .f32) (Nh : FVec Ideal S1x128 .f32) (k : Fin 64 → Fin 128 → EReal) (n : Fin 128 → EReal) (hK : ∀ s d, Kh (Idealize.ShloMosaic.ix2 s d) = k s d) (hN : ∀ d, Nh (Idealize.ShloMosaic.ix2 (0 : Fin 1) d) = n d) (d : Fin 128) :
    ((k0_pay151 (k0_pay133 BB) (k0_pay134 G) (k0_pay137 BB IT BT k0_pay26 M) (k0_pay138 BB IT BT k0_pay26 M) (k0_pay140 Kh) Nh) : FVec Ideal S1x128 .f32) (Idealize.ShloMosaic.ix2 (0 : Fin 1) d) = Mlstm.newN b ig m0 k n d := by
  have hX := mt_5 BB G IT BT M b ig m0 hB hBT hIT hG hM 63
  have hS := sc_5 BB G IT BT M b ig m0 hB hBT hIT hG hM 63
  generalize k0_pay138 BB IT BT k0_pay26 M = S at hS ⊢
  generalize k0_pay137 BB IT BT k0_pay26 M = X at hX ⊢
  unfold k0_pay151 k0_pay149 k0_pay148 k0_pay147 k0_pay140 k0_pay134 k0_pay133
  change S64x128.Idx → EReal at BB G
  change S64x1.Idx → EReal at X S
  change S64x128.Idx → EReal at Kh
  change S1x128.Idx → EReal at Nh
  pointwise
  unfold Mlstm.newN Mlstm.dm
  refine congrArg₂ (HAdd.hAdd : EReal → EReal → EReal) (congrArg₂ (HMul.hMul : EReal → EReal → EReal) hS (hN d)) (Finset.sum_congr (M := EReal) rfl fun s _ => ?_)
  refine congrArg₂ (HMul.hMul : EReal → EReal → EReal) (congrArg Ideal.exp (congrArg₂ (HSub.hSub : EReal → EReal → EReal) ?_ hX)) (hK s d)
  unfold Mlstm.logD
  rw [if_pos (show s.val ≤ (63 : Fin 64).val by have := s.isLt; change s.val ≤ 63; omega)]
  exact congrArg₂ (HAdd.hAdd : EReal → EReal → EReal) (congrArg₂ (HSub.hSub : EReal → EReal → EReal) (hB 63) (hB s)) (hG s)

theorem C_5 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (13 : Fin 128)) = b t)
    (hBT : ∀ t : Fin 64, BT (Idealize.ShloMosaic.ix2 (13 : Fin 128) t) = b t) (hIT : ∀ t : Fin 64, IT (Idealize.ShloMosaic.ix2 (5 : Fin 128) t) = ig t) (hG : ∀ t : Fin 64, G (Idealize.ShloMosaic.ix2 t (5 : Fin 128)) = ig t)
    (hM : M (Idealize.ShloMosaic.ix2 (0 : Fin 1) (5 : Fin 128)) = m0) (Kh : FVec Ideal S64x128 .f32) (Vh : FVec Ideal S64x256 .f32) (Ch : FVec Ideal S1x256x128 .f32) (k : Fin 64 → Fin 128 → EReal) (v : Fin 64 → Fin 256 → EReal) (C : Fin 256 → Fin 128 → EReal) (hK : ∀ s d, Kh (Idealize.ShloMosaic.ix2 s d) = k s d) (hV : ∀ s e, Vh (Idealize.ShloMosaic.ix2 s e) = v s e) (hC : ∀ e d, Ch (Idealize.ShloMosaic.ix3 (0 : Fin 1) e d) = C e d) (e : Fin 256) (d : Fin 128) :
    ((k0_pay150 (k0_pay133 BB) (k0_pay134 G) (k0_pay137 BB IT BT k0_pay26 M) (k0_pay138 BB IT BT k0_pay26 M) Kh (k0_pay141 Vh) (k0_pay142 Ch)) : FVec Ideal S1x256x128 .f32) (Idealize.ShloMosaic.ix3 (0 : Fin 1) e d) = Mlstm.newC b ig m0 k v C e d := by
  have hX := mt_5 BB G IT BT M b ig m0 hB hBT hIT hG hM 63
  have hS := sc_5 BB G IT BT M b ig m0 hB hBT hIT hG hM 63
  generalize k0_pay138 BB IT BT k0_pay26 M = S at hS ⊢
  generalize k0_pay137 BB IT BT k0_pay26 M = X at hX ⊢
  unfold k0_pay150 k0_pay149 k0_pay148 k0_pay147 k0_pay142 k0_pay141 k0_pay134 k0_pay133
  change S64x128.Idx → EReal at BB G
  change S64x1.Idx → EReal at X S
  change S64x128.Idx → EReal at Kh
  change S64x256.Idx → EReal at Vh
  change S1x256x128.Idx → EReal at Ch
  pointwise
  unfold Mlstm.newC Mlstm.dm
  refine congrArg₂ (HAdd.hAdd : EReal → EReal → EReal) (congrArg₂ (HMul.hMul : EReal → EReal → EReal) hS (hC e d)) (Finset.sum_congr (M := EReal) rfl fun s _ => ?_)
  refine congrArg₂ (HMul.hMul : EReal → EReal → EReal) (hV s e) (congrArg₂ (HMul.hMul : EReal → EReal → EReal) (hK s d) (congrArg Ideal.exp (congrArg₂ (HSub.hSub : EReal → EReal → EReal) ?_ hX)))
  unfold Mlstm.logD
  rw [if_pos (show s.val ≤ (63 : Fin 64).val by have := s.isLt; change s.val ≤ 63; omega)]
  exact congrArg₂ (HAdd.hAdd : EReal → EReal → EReal) (congrArg₂ (HSub.hSub : EReal → EReal → EReal) (hB 63) (hB s)) (hG s)

theorem ml_5 (P : FVec Ideal S1x128 .f32) (X : FVec Ideal S64x1 .f32) (l : Fin 128) :
    k0_pay152 (F := Ideal) (iota Kind.tc S1x128 32 [1] iota_S1x128_d1_w32) P (k0_pay147 X) (Idealize.ShloMosaic.ix2 (0 : Fin 1) l) = if l.val = 5 then X (Idealize.ShloMosaic.ix2 (63 : Fin 64) (0 : Fin 1)) else P (Idealize.ShloMosaic.ix2 (0 : Fin 1) l) := by
  unfold k0_pay152 k0_pay147
  change S1x128.Idx → EReal at P
  change S64x1.Idx → EReal at X
  pointwise
  rw [show ∀ x y : EReal, Scalar.select (IntOp.cmpi CmpIPredicate.eq (BitVec.ofNat 32 l.val) 5#32) x y = if l.val = 5 then x else y from fun x y => by
    have e : IntOp.cmpi CmpIPredicate.eq (BitVec.ofNat 32 l.val) 5#32 = if l.val = 5 then 1#1 else 0#1 := by
      revert l
      decide +kernel
    rw [e]
    split_ifs <;> rfl]

theorem mt_6 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (14 : Fin 128)) = b t)
    (hBT : ∀ t : Fin 64, BT (Idealize.ShloMosaic.ix2 (14 : Fin 128) t) = b t) (hIT : ∀ t : Fin 64, IT (Idealize.ShloMosaic.ix2 (6 : Fin 128) t) = ig t) (hG : ∀ t : Fin 64, G (Idealize.ShloMosaic.ix2 t (6 : Fin 128)) = ig t)
    (hM : M (Idealize.ShloMosaic.ix2 (0 : Fin 1) (6 : Fin 128)) = m0) (t : Fin 64) :
    ((k0_pay158 BB IT BT k0_pay26 M) : FVec Ideal S64x1 .f32) (Idealize.ShloMosaic.ix2 t (0 : Fin 1)) = Mlstm.mt b ig m0 t := by
  unfold k0_pay158 k0_pay157 k0_pay156 k0_pay154 k0_pay26
  change S64x128.Idx → EReal at BB
  change S128x64.Idx → EReal at IT BT
  change S1x128.Idx → EReal at M
  pointwise
  unfold Mlstm.mt Mlstm.logD
  refine congrArg₂ (max : EReal → EReal → EReal) (Finset.fold_congr fun s _ => ?_) ?_
  · rw [sel_ge]
    exact congrArg₂ (fun x y : EReal => if s.val ≤ t.val then x else y) (congrArg₂ (HAdd.hAdd : EReal → EReal → EReal) (congrArg₂ (HSub.hSub : EReal → EReal → EReal) (hB t) (hBT s)) (hIT s)) rfl
  · exact congrArg₂ (HAdd.hAdd : EReal → EReal → EReal) (hB t) hM

theorem sc_6 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (14 : Fin 128)) = b t)
    (hBT : ∀ t : Fin 64, BT (Idealize.ShloMosaic.ix2 (14 : Fin 128) t) = b t) (hIT : ∀ t : Fin 64, IT (Idealize.ShloMosaic.ix2 (6 : Fin 128) t) = ig t) (hG : ∀ t : Fin 64, G (Idealize.ShloMosaic.ix2 t (6 : Fin 128)) = ig t)
    (hM : M (Idealize.ShloMosaic.ix2 (0 : Fin 1) (6 : Fin 128)) = m0) (t : Fin 64) :
    ((k0_pay161 (k0_pay160 BB IT BT k0_pay26 M)) : FVec Ideal S64x1 .f32) (Idealize.ShloMosaic.ix2 t (0 : Fin 1)) = Mlstm.sc b ig m0 t := by
  have hX := mt_6 BB G IT BT M b ig m0 hB hBT hIT hG hM t
  unfold k0_pay161 k0_pay160
  generalize k0_pay158 BB IT BT k0_pay26 M = X at hX
  try unfold k0_pay160
  try unfold k0_pay158
  try unfold k0_pay156
  try unfold k0_pay157
  try unfold k0_pay154
  change S64x128.Idx → EReal at BB
  change S128x64.Idx → EReal at IT BT
  change S1x128.Idx → EReal at M
  change S64x1.Idx → EReal at X
  pointwise
  exact congrArg Ideal.exp (congrArg₂ (HSub.hSub : EReal → EReal → EReal) (congrArg₂ (HAdd.hAdd : EReal → EReal → EReal) (hB t) hM) hX)

theorem n_6 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (14 : Fin 128)) = b t)
    (hBT : ∀ t : Fin 64, BT (Idealize.ShloMosaic.ix2 (14 : Fin 128) t) = b t) (hIT : ∀ t : Fin 64, IT (Idealize.ShloMosaic.ix2 (6 : Fin 128) t) = ig t) (hG : ∀ t : Fin 64, G (Idealize.ShloMosaic.ix2 t (6 : Fin 128)) = ig t)
    (hM : M (Idealize.ShloMosaic.ix2 (0 : Fin 1) (6 : Fin 128)) = m0) (Kh : FVec Ideal S64x128 .f32) (Nh : FVec Ideal S1x128 .f32) (k : Fin 64 → Fin 128 → EReal) (n : Fin 128 → EReal) (hK : ∀ s d, Kh (Idealize.ShloMosaic.ix2 s d) = k s d) (hN : ∀ d, Nh (Idealize.ShloMosaic.ix2 (0 : Fin 1) d) = n d) (d : Fin 128) :
    ((k0_pay171 (k0_pay161 (k0_pay160 BB IT BT k0_pay26 M)) (k0_pay162 Kh) Nh (k0_pay166 (k0_pay158 BB IT BT k0_pay26 M)) (k0_pay167 (k0_pay154 BB) (k0_pay155 G))) : FVec Ideal S1x128 .f32) (Idealize.ShloMosaic.ix2 (0 : Fin 1) d) = Mlstm.newN b ig m0 k n d := by
  have hX := mt_6 BB G IT BT M b ig m0 hB hBT hIT hG hM 63
  have hS := sc_6 BB G IT BT M b ig m0 hB hBT hIT hG hM 63
  generalize k0_pay161 (k0_pay160 BB IT BT k0_pay26 M) = S at hS ⊢
  generalize k0_pay158 BB IT BT k0_pay26 M = X at hX ⊢
  unfold k0_pay171 k0_pay169 k0_pay168 k0_pay167 k0_pay166 k0_pay162 k0_pay155 k0_pay154
  change S64x128.Idx → EReal at BB G
  change S64x1.Idx → EReal at X S
  change S64x128.Idx → EReal at Kh
  change S1x128.Idx → EReal at Nh
  pointwise
  unfold Mlstm.newN Mlstm.dm
  refine congrArg₂ (HAdd.hAdd : EReal → EReal → EReal) (congrArg₂ (HMul.hMul : EReal → EReal → EReal) hS (hN d)) (Finset.sum_congr (M := EReal) rfl fun s _ => ?_)
  refine congrArg₂ (HMul.hMul : EReal → EReal → EReal) (congrArg Ideal.exp (congrArg₂ (HSub.hSub : EReal → EReal → EReal) ?_ hX)) (hK s d)
  unfold Mlstm.logD
  rw [if_pos (show s.val ≤ (63 : Fin 64).val by have := s.isLt; change s.val ≤ 63; omega)]
  exact congrArg₂ (HAdd.hAdd : EReal → EReal → EReal) (congrArg₂ (HSub.hSub : EReal → EReal → EReal) (hB 63) (hB s)) (hG s)

theorem C_6 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (14 : Fin 128)) = b t)
    (hBT : ∀ t : Fin 64, BT (Idealize.ShloMosaic.ix2 (14 : Fin 128) t) = b t) (hIT : ∀ t : Fin 64, IT (Idealize.ShloMosaic.ix2 (6 : Fin 128) t) = ig t) (hG : ∀ t : Fin 64, G (Idealize.ShloMosaic.ix2 t (6 : Fin 128)) = ig t)
    (hM : M (Idealize.ShloMosaic.ix2 (0 : Fin 1) (6 : Fin 128)) = m0) (Kh : FVec Ideal S64x128 .f32) (Vh : FVec Ideal S64x256 .f32) (Ch : FVec Ideal S1x256x128 .f32) (k : Fin 64 → Fin 128 → EReal) (v : Fin 64 → Fin 256 → EReal) (C : Fin 256 → Fin 128 → EReal) (hK : ∀ s d, Kh (Idealize.ShloMosaic.ix2 s d) = k s d) (hV : ∀ s e, Vh (Idealize.ShloMosaic.ix2 s e) = v s e) (hC : ∀ e d, Ch (Idealize.ShloMosaic.ix3 (0 : Fin 1) e d) = C e d) (e : Fin 256) (d : Fin 128) :
    ((k0_pay170 (k0_pay161 (k0_pay160 BB IT BT k0_pay26 M)) Kh (k0_pay163 Vh) (k0_pay164 Ch) (k0_pay166 (k0_pay158 BB IT BT k0_pay26 M)) (k0_pay167 (k0_pay154 BB) (k0_pay155 G))) : FVec Ideal S1x256x128 .f32) (Idealize.ShloMosaic.ix3 (0 : Fin 1) e d) = Mlstm.newC b ig m0 k v C e d := by
  have hX := mt_6 BB G IT BT M b ig m0 hB hBT hIT hG hM 63
  have hS := sc_6 BB G IT BT M b ig m0 hB hBT hIT hG hM 63
  generalize k0_pay161 (k0_pay160 BB IT BT k0_pay26 M) = S at hS ⊢
  generalize k0_pay158 BB IT BT k0_pay26 M = X at hX ⊢
  unfold k0_pay170 k0_pay169 k0_pay168 k0_pay167 k0_pay166 k0_pay164 k0_pay163 k0_pay155 k0_pay154
  change S64x128.Idx → EReal at BB G
  change S64x1.Idx → EReal at X S
  change S64x128.Idx → EReal at Kh
  change S64x256.Idx → EReal at Vh
  change S1x256x128.Idx → EReal at Ch
  pointwise
  unfold Mlstm.newC Mlstm.dm
  refine congrArg₂ (HAdd.hAdd : EReal → EReal → EReal) (congrArg₂ (HMul.hMul : EReal → EReal → EReal) hS (hC e d)) (Finset.sum_congr (M := EReal) rfl fun s _ => ?_)
  refine congrArg₂ (HMul.hMul : EReal → EReal → EReal) (hV s e) (congrArg₂ (HMul.hMul : EReal → EReal → EReal) (hK s d) (congrArg Ideal.exp (congrArg₂ (HSub.hSub : EReal → EReal → EReal) ?_ hX)))
  unfold Mlstm.logD
  rw [if_pos (show s.val ≤ (63 : Fin 64).val by have := s.isLt; change s.val ≤ 63; omega)]
  exact congrArg₂ (HAdd.hAdd : EReal → EReal → EReal) (congrArg₂ (HSub.hSub : EReal → EReal → EReal) (hB 63) (hB s)) (hG s)

theorem ml_6 (P : FVec Ideal S1x128 .f32) (X : FVec Ideal S64x1 .f32) (l : Fin 128) :
    k0_pay172 (F := Ideal) (iota Kind.tc S1x128 32 [1] iota_S1x128_d1_w32) P (k0_pay166 X) (Idealize.ShloMosaic.ix2 (0 : Fin 1) l) = if l.val = 6 then X (Idealize.ShloMosaic.ix2 (63 : Fin 64) (0 : Fin 1)) else P (Idealize.ShloMosaic.ix2 (0 : Fin 1) l) := by
  unfold k0_pay172 k0_pay166
  change S1x128.Idx → EReal at P
  change S64x1.Idx → EReal at X
  pointwise
  rw [show ∀ x y : EReal, Scalar.select (IntOp.cmpi CmpIPredicate.eq (BitVec.ofNat 32 l.val) 6#32) x y = if l.val = 6 then x else y from fun x y => by
    have e : IntOp.cmpi CmpIPredicate.eq (BitVec.ofNat 32 l.val) 6#32 = if l.val = 6 then 1#1 else 0#1 := by
      revert l
      decide +kernel
    rw [e]
    split_ifs <;> rfl]

theorem mt_7 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (15 : Fin 128)) = b t)
    (hBT : ∀ t : Fin 64, BT (Idealize.ShloMosaic.ix2 (15 : Fin 128) t) = b t) (hIT : ∀ t : Fin 64, IT (Idealize.ShloMosaic.ix2 (7 : Fin 128) t) = ig t) (hG : ∀ t : Fin 64, G (Idealize.ShloMosaic.ix2 t (7 : Fin 128)) = ig t)
    (hM : M (Idealize.ShloMosaic.ix2 (0 : Fin 1) (7 : Fin 128)) = m0) (t : Fin 64) :
    ((k0_pay180 BB IT BT k0_pay26 M) : FVec Ideal S64x1 .f32) (Idealize.ShloMosaic.ix2 t (0 : Fin 1)) = Mlstm.mt b ig m0 t := by
  unfold k0_pay180 k0_pay179 k0_pay178 k0_pay176 k0_pay26
  change S64x128.Idx → EReal at BB
  change S128x64.Idx → EReal at IT BT
  change S1x128.Idx → EReal at M
  pointwise
  unfold Mlstm.mt Mlstm.logD
  refine congrArg₂ (max : EReal → EReal → EReal) (Finset.fold_congr fun s _ => ?_) ?_
  · rw [sel_ge]
    exact congrArg₂ (fun x y : EReal => if s.val ≤ t.val then x else y) (congrArg₂ (HAdd.hAdd : EReal → EReal → EReal) (congrArg₂ (HSub.hSub : EReal → EReal → EReal) (hB t) (hBT s)) (hIT s)) rfl
  · exact congrArg₂ (HAdd.hAdd : EReal → EReal → EReal) (hB t) hM

theorem sc_7 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (15 : Fin 128)) = b t)
    (hBT : ∀ t : Fin 64, BT (Idealize.ShloMosaic.ix2 (15 : Fin 128) t) = b t) (hIT : ∀ t : Fin 64, IT (Idealize.ShloMosaic.ix2 (7 : Fin 128) t) = ig t) (hG : ∀ t : Fin 64, G (Idealize.ShloMosaic.ix2 t (7 : Fin 128)) = ig t)
    (hM : M (Idealize.ShloMosaic.ix2 (0 : Fin 1) (7 : Fin 128)) = m0) (t : Fin 64) :
    ((k0_pay181 BB IT BT k0_pay26 M) : FVec Ideal S64x1 .f32) (Idealize.ShloMosaic.ix2 t (0 : Fin 1)) = Mlstm.sc b ig m0 t := by
  have hX := mt_7 BB G IT BT M b ig m0 hB hBT hIT hG hM t
  unfold k0_pay181
  generalize k0_pay180 BB IT BT k0_pay26 M = X at hX
  try unfold k0_pay179
  try unfold k0_pay176
  change S64x128.Idx → EReal at BB
  change S128x64.Idx → EReal at IT BT
  change S1x128.Idx → EReal at M
  change S64x1.Idx → EReal at X
  pointwise
  exact congrArg Ideal.exp (congrArg₂ (HSub.hSub : EReal → EReal → EReal) (congrArg₂ (HAdd.hAdd : EReal → EReal → EReal) (hB t) hM) hX)

theorem n_7 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (15 : Fin 128)) = b t)
    (hBT : ∀ t : Fin 64, BT (Idealize.ShloMosaic.ix2 (15 : Fin 128) t) = b t) (hIT : ∀ t : Fin 64, IT (Idealize.ShloMosaic.ix2 (7 : Fin 128) t) = ig t) (hG : ∀ t : Fin 64, G (Idealize.ShloMosaic.ix2 t (7 : Fin 128)) = ig t)
    (hM : M (Idealize.ShloMosaic.ix2 (0 : Fin 1) (7 : Fin 128)) = m0) (Kh : FVec Ideal S64x128 .f32) (Nh : FVec Ideal S1x128 .f32) (k : Fin 64 → Fin 128 → EReal) (n : Fin 128 → EReal) (hK : ∀ s d, Kh (Idealize.ShloMosaic.ix2 s d) = k s d) (hN : ∀ d, Nh (Idealize.ShloMosaic.ix2 (0 : Fin 1) d) = n d) (d : Fin 128) :
    ((k0_pay195 (k0_pay192 (k0_pay181 BB IT BT k0_pay26 M) Nh) (k0_pay193 (k0_pay183 Kh)) (k0_pay194 (k0_pay176 BB) (k0_pay177 G) (k0_pay180 BB IT BT k0_pay26 M))) : FVec Ideal S1x128 .f32) (Idealize.ShloMosaic.ix2 (0 : Fin 1) d) = Mlstm.newN b ig m0 k n d := by
  have hX := mt_7 BB G IT BT M b ig m0 hB hBT hIT hG hM 63
  have hS := sc_7 BB G IT BT M b ig m0 hB hBT hIT hG hM 63
  generalize k0_pay181 BB IT BT k0_pay26 M = S at hS ⊢
  generalize k0_pay180 BB IT BT k0_pay26 M = X at hX ⊢
  unfold k0_pay195 k0_pay194 k0_pay189 k0_pay188 k0_pay193 k0_pay192 k0_pay190 k0_pay183 k0_pay177 k0_pay176
  change S64x128.Idx → EReal at BB G
  change S64x1.Idx → EReal at X S
  change S64x128.Idx → EReal at Kh
  change S1x128.Idx → EReal at Nh
  pointwise
  unfold Mlstm.newN Mlstm.dm
  refine congrArg₂ (HAdd.hAdd : EReal → EReal → EReal) (congrArg₂ (HMul.hMul : EReal → EReal → EReal) hS (hN d)) (Finset.sum_congr (M := EReal) rfl fun s _ => ?_)
  refine congrArg₂ (HMul.hMul : EReal → EReal → EReal) (congrArg Ideal.exp (congrArg₂ (HSub.hSub : EReal → EReal → EReal) ?_ hX)) (hK s d)
  unfold Mlstm.logD
  rw [if_pos (show s.val ≤ (63 : Fin 64).val by have := s.isLt; change s.val ≤ 63; omega)]
  exact congrArg₂ (HAdd.hAdd : EReal → EReal → EReal) (congrArg₂ (HSub.hSub : EReal → EReal → EReal) (hB 63) (hB s)) (hG s)

theorem C_7 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (15 : Fin 128)) = b t)
    (hBT : ∀ t : Fin 64, BT (Idealize.ShloMosaic.ix2 (15 : Fin 128) t) = b t) (hIT : ∀ t : Fin 64, IT (Idealize.ShloMosaic.ix2 (7 : Fin 128) t) = ig t) (hG : ∀ t : Fin 64, G (Idealize.ShloMosaic.ix2 t (7 : Fin 128)) = ig t)
    (hM : M (Idealize.ShloMosaic.ix2 (0 : Fin 1) (7 : Fin 128)) = m0) (Kh : FVec Ideal S64x128 .f32) (Vh : FVec Ideal S64x256 .f32) (Ch : FVec Ideal S1x256x128 .f32) (k : Fin 64 → Fin 128 → EReal) (v : Fin 64 → Fin 256 → EReal) (C : Fin 256 → Fin 128 → EReal) (hK : ∀ s d, Kh (Idealize.ShloMosaic.ix2 s d) = k s d) (hV : ∀ s e, Vh (Idealize.ShloMosaic.ix2 s e) = v s e) (hC : ∀ e d, Ch (Idealize.ShloMosaic.ix3 (0 : Fin 1) e d) = C e d) (e : Fin 256) (d : Fin 128) :
    ((k0_pay191 (k0_pay176 BB) (k0_pay177 G) (k0_pay180 BB IT BT k0_pay26 M) (k0_pay181 BB IT BT k0_pay26 M) Kh (k0_pay184 Vh) (k0_pay185 Ch)) : FVec Ideal S1x256x128 .f32) (Idealize.ShloMosaic.ix3 (0 : Fin 1) e d) = Mlstm.newC b ig m0 k v C e d := by
  have hX := mt_7 BB G IT BT M b ig m0 hB hBT hIT hG hM 63
  have hS := sc_7 BB G IT BT M b ig m0 hB hBT hIT hG hM 63
  generalize k0_pay181 BB IT BT k0_pay26 M = S at hS ⊢
  generalize k0_pay180 BB IT BT k0_pay26 M = X at hX ⊢
  unfold k0_pay191 k0_pay190 k0_pay189 k0_pay188 k0_pay185 k0_pay184 k0_pay177 k0_pay176
  change S64x128.Idx → EReal at BB G
  change S64x1.Idx → EReal at X S
  change S64x128.Idx → EReal at Kh
  change S64x256.Idx → EReal at Vh
  change S1x256x128.Idx → EReal at Ch
  pointwise
  unfold Mlstm.newC Mlstm.dm
  refine congrArg₂ (HAdd.hAdd : EReal → EReal → EReal) (congrArg₂ (HMul.hMul : EReal → EReal → EReal) hS (hC e d)) (Finset.sum_congr (M := EReal) rfl fun s _ => ?_)
  refine congrArg₂ (HMul.hMul : EReal → EReal → EReal) (hV s e) (congrArg₂ (HMul.hMul : EReal → EReal → EReal) (hK s d) (congrArg Ideal.exp (congrArg₂ (HSub.hSub : EReal → EReal → EReal) ?_ hX)))
  unfold Mlstm.logD
  rw [if_pos (show s.val ≤ (63 : Fin 64).val by have := s.isLt; change s.val ≤ 63; omega)]
  exact congrArg₂ (HAdd.hAdd : EReal → EReal → EReal) (congrArg₂ (HSub.hSub : EReal → EReal → EReal) (hB 63) (hB s)) (hG s)

theorem ml_7 (P : FVec Ideal S1x128 .f32) (X : FVec Ideal S64x1 .f32) (l : Fin 128) :
    k0_pay196 (F := Ideal) (iota Kind.tc S1x128 32 [1] iota_S1x128_d1_w32) P (k0_pay188 X) (Idealize.ShloMosaic.ix2 (0 : Fin 1) l) = if l.val = 7 then X (Idealize.ShloMosaic.ix2 (63 : Fin 64) (0 : Fin 1)) else P (Idealize.ShloMosaic.ix2 (0 : Fin 1) l) := by
  unfold k0_pay196 k0_pay188
  change S1x128.Idx → EReal at P
  change S64x1.Idx → EReal at X
  pointwise
  rw [show ∀ x y : EReal, Scalar.select (IntOp.cmpi CmpIPredicate.eq (BitVec.ofNat 32 l.val) 7#32) x y = if l.val = 7 then x else y from fun x y => by
    have e : IntOp.cmpi CmpIPredicate.eq (BitVec.ofNat 32 l.val) 7#32 = if l.val = 7 then 1#1 else 0#1 := by
      revert l
      decide +kernel
    rw [e]
    split_ifs <;> rfl]

end Cert.KernelIdeal.Hand

end
-- ==== Proof.MlstmKerNC.lean ====
module

public import proofs.«01_k».proof.Proof.Gen.KernelIdeal.Value
public import proofs.«01_k».proof.Proof.MlstmKerB
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 65536
set_option maxHeartbeats 4000000

noncomputable section

/-! A chunk, all heads: the maxima, the sums of keys and the memories it leaves. -/

namespace Cert.KernelIdeal.Hand

open Cert.KernelIdeal Cert.KernelIdeal.Gen Cert.KernelIdeal.Value Idealize.ShloMosaic Idealize.ShloMosaic.TcCoe Idealize.SL.Sem Cert.Hand

/-- What a chunk's gates and carried maxima are, head by head. -/
structure Gates (BB G : FVec Ideal S64x128 .f32) (IT BT : FVec Ideal S128x64 .f32) (M : FVec Ideal S1x128 .f32) (b ig : Fin 8 → Fin 64 → EReal) (m0 : Fin 8 → EReal) : Prop where
  hB : ∀ (h : Fin 8) (t : Fin 64), BB (Idealize.ShloMosaic.ix2 t (⟨8 + h.val, by omega⟩ : Fin 128)) = b h t
  hBT : ∀ (h : Fin 8) (t : Fin 64), BT (Idealize.ShloMosaic.ix2 (⟨8 + h.val, by omega⟩ : Fin 128) t) = b h t
  hIT : ∀ (h : Fin 8) (t : Fin 64), IT (Idealize.ShloMosaic.ix2 (⟨h.val, by omega⟩ : Fin 128) t) = ig h t
  hG : ∀ (h : Fin 8) (t : Fin 64), G (Idealize.ShloMosaic.ix2 t (⟨h.val, by omega⟩ : Fin 128)) = ig h t
  hM : ∀ h : Fin 8, M (Idealize.ShloMosaic.ix2 (0 : Fin 1) (⟨h.val, by omega⟩ : Fin 128)) = m0 h

theorem rowhit (k : ℕ) (hk : k < 8) (inb) (w : FVec Ideal S1x128 .f32) (L : List (View.Piece (Elt Ideal) S8x128 .f32)) (d : Fin 128) :
    View.canon (⟨Rect.unit (s := S8x128) ![k, 0] ![1, 128] inb, w⟩ :: L) (Idealize.ShloMosaic.ix2 (⟨k, hk⟩ : Fin 8) d) = w (Idealize.ShloMosaic.ix2 (0 : Fin 1) d) := by
  have e : (Rect.unit (s := S8x128) ![k, 0] ![1, 128] inb).emb (Idealize.ShloMosaic.ix2 (0 : Fin 1) d) = (Idealize.ShloMosaic.ix2 (⟨k, hk⟩ : Fin 8) d) := by
    funext a
    revert a
    exact Fin.forall_fin_two.mpr ⟨Fin.ext (by show k + 1 * 0 = k; omega), Fin.ext (by show 0 + 1 * d.val = d.val; omega)⟩
  rw [← e, View.canon_cons_emb]

theorem rowmiss (k r : ℕ) (hr : r < 8) (inb) (w : FVec Ideal S1x128 .f32) (L : List (View.Piece (Elt Ideal) S8x128 .f32)) (d : Fin 128) (hn : r ≠ k) :
    View.canon (⟨Rect.unit (s := S8x128) ![k, 0] ![1, 128] inb, w⟩ :: L) (Idealize.ShloMosaic.ix2 (⟨r, hr⟩ : Fin 8) d) = View.canon L (Idealize.ShloMosaic.ix2 (⟨r, hr⟩ : Fin 8) d) := by
  refine View.canon_cons_of_not_mem _ L fun hm => ?_
  obtain ⟨j, hj, e⟩ := ((Rect.unit (s := S8x128) ![k, 0] ![1, 128] inb).mem_set).mp hm (0 : Fin 2)
  have e : r = k + 1 * j := e
  have hj : j < 1 := hj
  omega

theorem slabhit (k : ℕ) (hk : k < 8) (inb) (w : FVec Ideal S1x256x128 .f32) (L : List (View.Piece (Elt Ideal) S8x256x128 .f32)) (e : Fin 256) (d : Fin 128) :
    View.canon (⟨Rect.unit (s := S8x256x128) ![k, 0, 0] ![1, 256, 128] inb, w⟩ :: L) (Idealize.ShloMosaic.ix3 (⟨k, hk⟩ : Fin 8) e d) = w (Idealize.ShloMosaic.ix3 (0 : Fin 1) e d) := by
  have e : (Rect.unit (s := S8x256x128) ![k, 0, 0] ![1, 256, 128] inb).emb (Idealize.ShloMosaic.ix3 (0 : Fin 1) e d) = (Idealize.ShloMosaic.ix3 (⟨k, hk⟩ : Fin 8) e d) := by
    funext a
    revert a
    exact Fin.forall_fin_succ.mpr ⟨Fin.ext (by show k + 1 * 0 = k; omega), Fin.forall_fin_two.mpr ⟨Fin.ext (by show 0 + 1 * e.val = e.val; omega), Fin.ext (by show 0 + 1 * d.val = d.val; omega)⟩⟩
  rw [← e, View.canon_cons_emb]

theorem slabmiss (k r : ℕ) (hr : r < 8) (inb) (w : FVec Ideal S1x256x128 .f32) (L : List (View.Piece (Elt Ideal) S8x256x128 .f32)) (e : Fin 256) (d : Fin 128) (hn : r ≠ k) :
    View.canon (⟨Rect.unit (s := S8x256x128) ![k, 0, 0] ![1, 256, 128] inb, w⟩ :: L) (Idealize.ShloMosaic.ix3 (⟨r, hr⟩ : Fin 8) e d) = View.canon L (Idealize.ShloMosaic.ix3 (⟨r, hr⟩ : Fin 8) e d) := by
  refine View.canon_cons_of_not_mem _ L fun hm => ?_
  obtain ⟨j, hj, e⟩ := ((Rect.unit (s := S8x256x128) ![k, 0, 0] ![1, 256, 128] inb).mem_set).mp hm (0 : Fin 3)
  have e : r = k + 1 * j := e
  have hj : j < 1 := hj
  omega

theorem ldK (KK : FVec Ideal S64x1024 .f32) (o : ℕ) (inb) (s : Fin 64) (d : Fin 128) (ho : o + d.val < 1024) :
    (View.ld (Val := Elt Ideal) (e' := .f32) KK (Rect.unit (s := S64x1024) ![0, o] ![64, 128] inb) : FVec Ideal S64x128 .f32) (Idealize.ShloMosaic.ix2 s d) = KK (Idealize.ShloMosaic.ix2 s (⟨o + d.val, ho⟩ : Fin 1024)) :=
  View.ld_unit_apply_of (Val := Elt Ideal) (e := .f32) KK _ _ _ _ _ (Fin.forall_fin_two.mpr ⟨by show s.val = 0 + s.val; omega, by show o + d.val = o + d.val; rfl⟩)

theorem ldV (KK : FVec Ideal S64x2048 .f32) (o : ℕ) (inb) (s : Fin 64) (d : Fin 256) (ho : o + d.val < 2048) :
    (View.ld (Val := Elt Ideal) (e' := .f32) KK (Rect.unit (s := S64x2048) ![0, o] ![64, 256] inb) : FVec Ideal S64x256 .f32) (Idealize.ShloMosaic.ix2 s d) = KK (Idealize.ShloMosaic.ix2 s (⟨o + d.val, ho⟩ : Fin 2048)) :=
  View.ld_unit_apply_of (Val := Elt Ideal) (e := .f32) KK _ _ _ _ _ (Fin.forall_fin_two.mpr ⟨by show s.val = 0 + s.val; omega, by show o + d.val = o + d.val; rfl⟩)

theorem ldN (N : FVec Ideal S8x128 .f32) (k : ℕ) (hk : k < 8) (inb) (d : Fin 128) :
    (View.ld (Val := Elt Ideal) (e' := .f32) N (Rect.unit (s := S8x128) ![k, 0] ![1, 128] inb) : FVec Ideal S1x128 .f32) (Idealize.ShloMosaic.ix2 (0 : Fin 1) d) = N (Idealize.ShloMosaic.ix2 (⟨k, hk⟩ : Fin 8) d) :=
  View.ld_unit_apply_of (Val := Elt Ideal) (e := .f32) N _ _ _ _ _ (Fin.forall_fin_two.mpr ⟨by show k = k + 0; omega, by show d.val = 0 + d.val; omega⟩)

theorem ldC (N : FVec Ideal S8x256x128 .f32) (k : ℕ) (hk : k < 8) (inb) (e : Fin 256) (d : Fin 128) :
    (View.ld (Val := Elt Ideal) (e' := .f32) N (Rect.unit (s := S8x256x128) ![k, 0, 0] ![1, 256, 128] inb) : FVec Ideal S1x256x128 .f32) (Idealize.ShloMosaic.ix3 (0 : Fin 1) e d) = N (Idealize.ShloMosaic.ix3 (⟨k, hk⟩ : Fin 8) e d) :=
  View.ld_unit_apply_of (Val := Elt Ideal) (e := .f32) N _ _ _ _ _ (Fin.forall_fin_succ.mpr ⟨by show k = k + 0; omega, Fin.forall_fin_two.mpr ⟨by show e.val = 0 + e.val; omega, by show d.val = 0 + d.val; omega⟩⟩)

theorem pay2_apply (X : FVec Ideal S1x128 .f32) (l : Fin 128) : k0_pay2 (F := Ideal) X (Idealize.ShloMosaic.ix2 (0 : Fin 1) l) = X (Idealize.ShloMosaic.ix2 (0 : Fin 1) l) := by
  unfold k0_pay2
  pointwise

/-- The maxima a chunk leaves. -/
theorem m_after {BB G : FVec Ideal S64x128 .f32} {IT BT : FVec Ideal S128x64 .f32} {M : FVec Ideal S1x128 .f32} {b ig : Fin 8 → Fin 64 → EReal} {m0 : Fin 8 → EReal} (g : Gates BB G IT BT M b ig m0) (l : Fin 128) :
    k0_pay2 (F := Ideal) (k0_pay196 (F := Ideal) (iota Kind.tc S1x128 32 [1] iota_S1x128_d1_w32) (k0_pay172 (F := Ideal) (iota Kind.tc S1x128 32 [1] iota_S1x128_d1_w32) (k0_pay152 (F := Ideal) (iota Kind.tc S1x128 32 [1] iota_S1x128_d1_w32) (k0_pay131 (F := Ideal) (iota Kind.tc S1x128 32 [1] iota_S1x128_d1_w32) (k0_pay110 (F := Ideal) (iota Kind.tc S1x128 32 [1] iota_S1x128_d1_w32) (k0_pay85 (F := Ideal) (iota Kind.tc S1x128 32 [1] iota_S1x128_d1_w32) (k0_pay64 (F := Ideal) (iota Kind.tc S1x128 32 [1] iota_S1x128_d1_w32) (k0_pay46 (F := Ideal) (iota Kind.tc S1x128 32 [1] iota_S1x128_d1_w32) M (k0_pay40 (k0_pay31 BB IT BT M))) (k0_pay53 (k0_pay51 BB M) (k0_pay52 BB IT BT k0_pay26))) (k0_pay79 (k0_pay71 BB IT BT k0_pay26 M))) (k0_pay94 k0_pay26 (k0_pay87 BB) (k0_pay89 IT) (k0_pay90 M) (k0_pay91 BB BT))) (k0_pay124 (k0_pay117 BB IT BT k0_pay26 M))) (k0_pay147 (k0_pay137 BB IT BT k0_pay26 M))) (k0_pay166 (k0_pay158 BB IT BT k0_pay26 M))) (k0_pay188 (k0_pay180 BB IT BT k0_pay26 M))) (Idealize.ShloMosaic.ix2 (0 : Fin 1) l) = if hl : l.val < 8 then Mlstm.mt (b ⟨l.val, hl⟩) (ig ⟨l.val, hl⟩) (m0 ⟨l.val, hl⟩) 63 else M (Idealize.ShloMosaic.ix2 (0 : Fin 1) l) := by
  rw [pay2_apply, ml_7, ml_6, ml_5, ml_4, ml_3, ml_2, ml_1, ml_0]
  rw [mt_7 BB G IT BT M (b 7) (ig 7) (m0 7) (g.hB 7) (g.hBT 7) (g.hIT 7) (g.hG 7) (g.hM 7) 63, mt_6 BB G IT BT M (b 6) (ig 6) (m0 6) (g.hB 6) (g.hBT 6) (g.hIT 6) (g.hG 6) (g.hM 6) 63, mt_5 BB G IT BT M (b 5) (ig 5) (m0 5) (g.hB 5) (g.hBT 5) (g.hIT 5) (g.hG 5) (g.hM 5) 63, mt_4 BB G IT BT M (b 4) (ig 4) (m0 4) (g.hB 4) (g.hBT 4) (g.hIT 4) (g.hG 4) (g.hM 4) 63, mt_3 BB G IT BT M (b 3) (ig 3) (m0 3) (g.hB 3) (g.hBT 3) (g.hIT 3) (g.hG 3) (g.hM 3) 63, mt_2 BB G IT BT M (b 2) (ig 2) (m0 2) (g.hB 2) (g.hBT 2) (g.hIT 2) (g.hG 2) (g.hM 2) 63, mt_1 BB G IT BT M (b 1) (ig 1) (m0 1) (g.hB 1) (g.hBT 1) (g.hIT 1) (g.hG 1) (g.hM 1) 63, mt_0 BB G IT BT M (b 0) (ig 0) (m0 0) (g.hB 0) (g.hBT 0) (g.hIT 0) (g.hG 0) (g.hM 0) 63]
  by_cases hl : l.val < 8
  · rw [dif_pos hl]
    obtain ⟨l, hl'⟩ := l
    have hl : l < 8 := hl
    interval_cases l <;> rfl
  · rw [dif_neg hl, if_neg (show ¬l.val = 7 by omega), if_neg (show ¬l.val = 6 by omega), if_neg (show ¬l.val = 5 by omega), if_neg (show ¬l.val = 4 by omega), if_neg (show ¬l.val = 3 by omega), if_neg (show ¬l.val = 2 by omega), if_neg (show ¬l.val = 1 by omega), if_neg (show ¬l.val = 0 by omega)]

/-- The sums of keys a chunk leaves. -/
theorem n_after {BB G : FVec Ideal S64x128 .f32} {IT BT : FVec Ideal S128x64 .f32} {M : FVec Ideal S1x128 .f32} {b ig : Fin 8 → Fin 64 → EReal} {m0 : Fin 8 → EReal} (g : Gates BB G IT BT M b ig m0) (KK : FVec Ideal S64x1024 .f32) (N : FVec Ideal S8x128 .f32) (L : List (View.Piece (Elt Ideal) S8x128 .f32))
    (k : Fin 8 → Fin 64 → Fin 128 → EReal) (n : Fin 8 → Fin 128 → EReal)
    (hK : ∀ (h : Fin 8) (s : Fin 64) (d : Fin 128), KK (Idealize.ShloMosaic.ix2 s (⟨128 * h.val + d.val, by omega⟩ : Fin 1024)) = k h s d)
    (hN : ∀ (h : Fin 8) (d : Fin 128), N (Idealize.ShloMosaic.ix2 h d) = n h d) (h : Fin 8) (d : Fin 128) :
    View.canon (⟨Rect.unit ![7, 0] ![1, 128] inb_S8x128_S1x128_7_0, (k0_pay195 (k0_pay192 (k0_pay181 BB IT BT k0_pay26 M) (View.ld N (Rect.unit (s := S8x128) ![7, 0] ![1, 128] inb_S8x128_S1x128_7_0))) (k0_pay193 (k0_pay183 (View.ld KK (Rect.unit (s := S64x1024) ![0, 896] ![64, 128] inb_S64x1024_S64x128_0_896)))) (k0_pay194 (k0_pay176 BB) (k0_pay177 G) (k0_pay180 BB IT BT k0_pay26 M)) : FVec Ideal S1x128 .f32)⟩ ::
      ⟨Rect.unit ![6, 0] ![1, 128] inb_S8x128_S1x128_6_0, (k0_pay171 (k0_pay161 (k0_pay160 BB IT BT k0_pay26 M)) (k0_pay162 (View.ld KK (Rect.unit (s := S64x1024) ![0, 768] ![64, 128] inb_S64x1024_S64x128_0_768))) (View.ld N (Rect.unit (s := S8x128) ![6, 0] ![1, 128] inb_S8x128_S1x128_6_0)) (k0_pay166 (k0_pay158 BB IT BT k0_pay26 M)) (k0_pay167 (k0_pay154 BB) (k0_pay155 G)) : FVec Ideal S1x128 .f32)⟩ ::
      ⟨Rect.unit ![5, 0] ![1, 128] inb_S8x128_S1x128_5_0, (k0_pay151 (k0_pay133 BB) (k0_pay134 G) (k0_pay137 BB IT BT k0_pay26 M) (k0_pay138 BB IT BT k0_pay26 M) (k0_pay140 (View.ld KK (Rect.unit (s := S64x1024) ![0, 640] ![64, 128] inb_S64x1024_S64x128_0_640))) (View.ld N (Rect.unit (s := S8x128) ![5, 0] ![1, 128] inb_S8x128_S1x128_5_0)) : FVec Ideal S1x128 .f32)⟩ ::
      ⟨Rect.unit ![4, 0] ![1, 128] inb_S8x128_S1x128_4_0, (k0_pay130 (k0_pay120 (View.ld KK (Rect.unit (s := S64x1024) ![0, 512] ![64, 128] inb_S64x1024_S64x128_0_512))) (View.ld N (Rect.unit (s := S8x128) ![4, 0] ![1, 128] inb_S8x128_S1x128_4_0)) (k0_pay125 (k0_pay113 BB) (k0_pay114 G) (k0_pay117 BB IT BT k0_pay26 M)) (k0_pay126 (k0_pay119 BB IT BT k0_pay26 M)) : FVec Ideal S1x128 .f32)⟩ ::
      ⟨Rect.unit ![3, 0] ![1, 128] inb_S8x128_S1x128_3_0, (k0_pay109 (k0_pay87 BB) (k0_pay88 G) (k0_pay94 k0_pay26 (k0_pay87 BB) (k0_pay89 IT) (k0_pay90 M) (k0_pay91 BB BT)) (k0_pay95 k0_pay26 (k0_pay87 BB) (k0_pay89 IT) (k0_pay90 M) (k0_pay91 BB BT)) (k0_pay97 (View.ld KK (Rect.unit (s := S64x1024) ![0, 384] ![64, 128] inb_S64x1024_S64x128_0_384))) (View.ld N (Rect.unit (s := S8x128) ![3, 0] ![1, 128] inb_S8x128_S1x128_3_0)) : FVec Ideal S1x128 .f32)⟩ ::
      ⟨Rect.unit ![2, 0] ![1, 128] inb_S8x128_S1x128_2_0, (k0_pay84 (k0_pay75 (View.ld KK (Rect.unit (s := S64x1024) ![0, 256] ![64, 128] inb_S64x1024_S64x128_0_256))) (View.ld N (Rect.unit (s := S8x128) ![2, 0] ![1, 128] inb_S8x128_S1x128_2_0)) (k0_pay80 (k0_pay67 BB) (k0_pay68 G) (k0_pay71 BB IT BT k0_pay26 M)) (k0_pay83 (k0_pay73 BB IT BT k0_pay26 M)) : FVec Ideal S1x128 .f32)⟩ ::
      ⟨Rect.unit ![1, 0] ![1, 128] inb_S8x128_S1x128_1_0, (k0_pay63 (k0_pay48 BB) (k0_pay49 G) (k0_pay53 (k0_pay51 BB M) (k0_pay52 BB IT BT k0_pay26)) (k0_pay54 (k0_pay51 BB M) (k0_pay52 BB IT BT k0_pay26)) (k0_pay55 (View.ld KK (Rect.unit (s := S64x1024) ![0, 128] ![64, 128] inb_S64x1024_S64x128_0_128))) (View.ld N (Rect.unit (s := S8x128) ![1, 0] ![1, 128] inb_S8x128_S1x128_1_0)) : FVec Ideal S1x128 .f32)⟩ ::
      ⟨Rect.unit ![0, 0] ![1, 128] inb_S8x128_S1x128_0_0, (k0_pay45 (k0_pay44 (k0_pay27 BB) (k0_pay28 G) (k0_pay31 BB IT BT M) (k0_pay32 BB IT BT M) (k0_pay34 (View.ld KK (Rect.unit (s := S64x1024) ![0, 0] ![64, 128] inb_S64x1024_S64x128_0_0))) (View.ld N (Rect.unit (s := S8x128) ![0, 0] ![1, 128] inb_S8x128_S1x128_0_0))) : FVec Ideal S1x128 .f32)⟩ :: L : List (View.Piece (Elt Ideal) S8x128 .f32)) (Idealize.ShloMosaic.ix2 h d) = Mlstm.newN (b h) (ig h) (m0 h) (k h) (n h) d := by
  obtain ⟨h, hh⟩ := h
  interval_cases h
  · refine (rowmiss 7 0 (by decide) _ _ _ d (by decide)).trans ?_
    refine (rowmiss 6 0 (by decide) _ _ _ d (by decide)).trans ?_
    refine (rowmiss 5 0 (by decide) _ _ _ d (by decide)).trans ?_
    refine (rowmiss 4 0 (by decide) _ _ _ d (by decide)).trans ?_
    refine (rowmiss 3 0 (by decide) _ _ _ d (by decide)).trans ?_
    refine (rowmiss 2 0 (by decide) _ _ _ d (by decide)).trans ?_
    refine (rowmiss 1 0 (by decide) _ _ _ d (by decide)).trans ?_
    refine (rowhit 0 (by decide) _ _ _ d).trans ?_
    exact n_0 BB G IT BT M (b 0) (ig 0) (m0 0) (g.hB 0) (g.hBT 0) (g.hIT 0) (g.hG 0) (g.hM 0) _ _ (k 0) (n 0) (fun s d => (ldK KK 0 _ s d (by omega)).trans (hK 0 s d)) (fun d => (ldN N 0 (by decide) _ d).trans (hN 0 d)) d
  · refine (rowmiss 7 1 (by decide) _ _ _ d (by decide)).trans ?_
    refine (rowmiss 6 1 (by decide) _ _ _ d (by decide)).trans ?_
    refine (rowmiss 5 1 (by decide) _ _ _ d (by decide)).trans ?_
    refine (rowmiss 4 1 (by decide) _ _ _ d (by decide)).trans ?_
    refine (rowmiss 3 1 (by decide) _ _ _ d (by decide)).trans ?_
    refine (rowmiss 2 1 (by decide) _ _ _ d (by decide)).trans ?_
    refine (rowhit 1 (by decide) _ _ _ d).trans ?_
    exact n_1 BB G IT BT M (b 1) (ig 1) (m0 1) (g.hB 1) (g.hBT 1) (g.hIT 1) (g.hG 1) (g.hM 1) _ _ (k 1) (n 1) (fun s d => (ldK KK 128 _ s d (by omega)).trans (hK 1 s d)) (fun d => (ldN N 1 (by decide) _ d).trans (hN 1 d)) d
  · refine (rowmiss 7 2 (by decide) _ _ _ d (by decide)).trans ?_
    refine (rowmiss 6 2 (by decide) _ _ _ d (by decide)).trans ?_
    refine (rowmiss 5 2 (by decide) _ _ _ d (by decide)).trans ?_
    refine (rowmiss 4 2 (by decide) _ _ _ d (by decide)).trans ?_
    refine (rowmiss 3 2 (by decide) _ _ _ d (by decide)).trans ?_
    refine (rowhit 2 (by decide) _ _ _ d).trans ?_
    exact n_2 BB G IT BT M (b 2) (ig 2) (m0 2) (g.hB 2) (g.hBT 2) (g.hIT 2) (g.hG 2) (g.hM 2) _ _ (k 2) (n 2) (fun s d => (ldK KK 256 _ s d (by omega)).trans (hK 2 s d)) (fun d => (ldN N 2 (by decide) _ d).trans (hN 2 d)) d
  · refine (rowmiss 7 3 (by decide) _ _ _ d (by decide)).trans ?_
    refine (rowmiss 6 3 (by decide) _ _ _ d (by decide)).trans ?_
    refine (rowmiss 5 3 (by decide) _ _ _ d (by decide)).trans ?_
    refine (rowmiss 4 3 (by decide) _ _ _ d (by decide)).trans ?_
    refine (rowhit 3 (by decide) _ _ _ d).trans ?_
    exact n_3 BB G IT BT M (b 3) (ig 3) (m0 3) (g.hB 3) (g.hBT 3) (g.hIT 3) (g.hG 3) (g.hM 3) _ _ (k 3) (n 3) (fun s d => (ldK KK 384 _ s d (by omega)).trans (hK 3 s d)) (fun d => (ldN N 3 (by decide) _ d).trans (hN 3 d)) d
  · refine (rowmiss 7 4 (by decide) _ _ _ d (by decide)).trans ?_
    refine (rowmiss 6 4 (by decide) _ _ _ d (by decide)).trans ?_
    refine (rowmiss 5 4 (by decide) _ _ _ d (by decide)).trans ?_
    refine (rowhit 4 (by decide) _ _ _ d).trans ?_
    exact n_4 BB G IT BT M (b 4) (ig 4) (m0 4) (g.hB 4) (g.hBT 4) (g.hIT 4) (g.hG 4) (g.hM 4) _ _ (k 4) (n 4) (fun s d => (ldK KK 512 _ s d (by omega)).trans (hK 4 s d)) (fun d => (ldN N 4 (by decide) _ d).trans (hN 4 d)) d
  · refine (rowmiss 7 5 (by decide) _ _ _ d (by decide)).trans ?_
    refine (rowmiss 6 5 (by decide) _ _ _ d (by decide)).trans ?_
    refine (rowhit 5 (by decide) _ _ _ d).trans ?_
    exact n_5 BB G IT BT M (b 5) (ig 5) (m0 5) (g.hB 5) (g.hBT 5) (g.hIT 5) (g.hG 5) (g.hM 5) _ _ (k 5) (n 5) (fun s d => (ldK KK 640 _ s d (by omega)).trans (hK 5 s d)) (fun d => (ldN N 5 (by decide) _ d).trans (hN 5 d)) d
  · refine (rowmiss 7 6 (by decide) _ _ _ d (by decide)).trans ?_
    refine (rowhit 6 (by decide) _ _ _ d).trans ?_
    exact n_6 BB G IT BT M (b 6) (ig 6) (m0 6) (g.hB 6) (g.hBT 6) (g.hIT 6) (g.hG 6) (g.hM 6) _ _ (k 6) (n 6) (fun s d => (ldK KK 768 _ s d (by omega)).trans (hK 6 s d)) (fun d => (ldN N 6 (by decide) _ d).trans (hN 6 d)) d
  · refine (rowhit 7 (by decide) _ _ _ d).trans ?_
    exact n_7 BB G IT BT M (b 7) (ig 7) (m0 7) (g.hB 7) (g.hBT 7) (g.hIT 7) (g.hG 7) (g.hM 7) _ _ (k 7) (n 7) (fun s d => (ldK KK 896 _ s d (by omega)).trans (hK 7 s d)) (fun d => (ldN N 7 (by decide) _ d).trans (hN 7 d)) d

/-- The memories a chunk leaves. -/
theorem C_after {BB G : FVec Ideal S64x128 .f32} {IT BT : FVec Ideal S128x64 .f32} {M : FVec Ideal S1x128 .f32} {b ig : Fin 8 → Fin 64 → EReal} {m0 : Fin 8 → EReal} (g : Gates BB G IT BT M b ig m0) (KK : FVec Ideal S64x1024 .f32) (XV : FVec Ideal S64x2048 .f32) (C : FVec Ideal S8x256x128 .f32) (L : List (View.Piece (Elt Ideal) S8x256x128 .f32))
    (k : Fin 8 → Fin 64 → Fin 128 → EReal) (v : Fin 8 → Fin 64 → Fin 256 → EReal) (cc : Fin 8 → Fin 256 → Fin 128 → EReal)
    (hK : ∀ (h : Fin 8) (s : Fin 64) (d : Fin 128), KK (Idealize.ShloMosaic.ix2 s (⟨128 * h.val + d.val, by omega⟩ : Fin 1024)) = k h s d)
    (hV : ∀ (h : Fin 8) (s : Fin 64) (e : Fin 256), XV (Idealize.ShloMosaic.ix2 s (⟨256 * h.val + e.val, by omega⟩ : Fin 2048)) = v h s e)
    (hC : ∀ (h : Fin 8) (e : Fin 256) (d : Fin 128), C (Idealize.ShloMosaic.ix3 h e d) = cc h e d) (h : Fin 8) (e : Fin 256) (d : Fin 128) :
    View.canon (⟨Rect.unit ![7, 0, 0] ![1, 256, 128] inb_S8x256x128_S1x256x128_7_0_0, (k0_pay191 (k0_pay176 BB) (k0_pay177 G) (k0_pay180 BB IT BT k0_pay26 M) (k0_pay181 BB IT BT k0_pay26 M) (View.ld KK (Rect.unit (s := S64x1024) ![0, 896] ![64, 128] inb_S64x1024_S64x128_0_896)) (k0_pay184 (View.ld XV (Rect.unit (s := S64x2048) ![0, 1792] ![64, 256] inb_S64x2048_S64x256_0_1792))) (k0_pay185 (View.ld C (Rect.unit (s := S8x256x128) ![7, 0, 0] ![1, 256, 128] inb_S8x256x128_S1x256x128_7_0_0))) : FVec Ideal S1x256x128 .f32)⟩ ::
      ⟨Rect.unit ![6, 0, 0] ![1, 256, 128] inb_S8x256x128_S1x256x128_6_0_0, (k0_pay170 (k0_pay161 (k0_pay160 BB IT BT k0_pay26 M)) (View.ld KK (Rect.unit (s := S64x1024) ![0, 768] ![64, 128] inb_S64x1024_S64x128_0_768)) (k0_pay163 (View.ld XV (Rect.unit (s := S64x2048) ![0, 1536] ![64, 256] inb_S64x2048_S64x256_0_1536))) (k0_pay164 (View.ld C (Rect.unit (s := S8x256x128) ![6, 0, 0] ![1, 256, 128] inb_S8x256x128_S1x256x128_6_0_0))) (k0_pay166 (k0_pay158 BB IT BT k0_pay26 M)) (k0_pay167 (k0_pay154 BB) (k0_pay155 G)) : FVec Ideal S1x256x128 .f32)⟩ ::
      ⟨Rect.unit ![5, 0, 0] ![1, 256, 128] inb_S8x256x128_S1x256x128_5_0_0, (k0_pay150 (k0_pay133 BB) (k0_pay134 G) (k0_pay137 BB IT BT k0_pay26 M) (k0_pay138 BB IT BT k0_pay26 M) (View.ld KK (Rect.unit (s := S64x1024) ![0, 640] ![64, 128] inb_S64x1024_S64x128_0_640)) (k0_pay141 (View.ld XV (Rect.unit (s := S64x2048) ![0, 1280] ![64, 256] inb_S64x2048_S64x256_0_1280))) (k0_pay142 (View.ld C (Rect.unit (s := S8x256x128) ![5, 0, 0] ![1, 256, 128] inb_S8x256x128_S1x256x128_5_0_0))) : FVec Ideal S1x256x128 .f32)⟩ ::
      ⟨Rect.unit ![4, 0, 0] ![1, 256, 128] inb_S8x256x128_S1x256x128_4_0_0, (k0_pay129 (k0_pay121 (View.ld XV (Rect.unit (s := S64x2048) ![0, 1024] ![64, 256] inb_S64x2048_S64x256_0_1024))) (k0_pay127 (k0_pay119 BB IT BT k0_pay26 M) (View.ld C (Rect.unit (s := S8x256x128) ![4, 0, 0] ![1, 256, 128] inb_S8x256x128_S1x256x128_4_0_0))) (k0_pay128 (k0_pay113 BB) (k0_pay114 G) (k0_pay117 BB IT BT k0_pay26 M) (View.ld KK (Rect.unit (s := S64x1024) ![0, 512] ![64, 128] inb_S64x1024_S64x128_0_512))) (constant S256x128 FTy.f32 0#32) : FVec Ideal S1x256x128 .f32)⟩ ::
      ⟨Rect.unit ![3, 0, 0] ![1, 256, 128] inb_S8x256x128_S1x256x128_3_0_0, (k0_pay108 (k0_pay87 BB) (k0_pay88 G) (k0_pay94 k0_pay26 (k0_pay87 BB) (k0_pay89 IT) (k0_pay90 M) (k0_pay91 BB BT)) (k0_pay95 k0_pay26 (k0_pay87 BB) (k0_pay89 IT) (k0_pay90 M) (k0_pay91 BB BT)) (View.ld KK (Rect.unit (s := S64x1024) ![0, 384] ![64, 128] inb_S64x1024_S64x128_0_384)) (k0_pay98 (View.ld XV (Rect.unit (s := S64x2048) ![0, 768] ![64, 256] inb_S64x2048_S64x256_0_768))) (k0_pay99 (View.ld C (Rect.unit (s := S8x256x128) ![3, 0, 0] ![1, 256, 128] inb_S8x256x128_S1x256x128_3_0_0))) : FVec Ideal S1x256x128 .f32)⟩ ::
      ⟨Rect.unit ![2, 0, 0] ![1, 256, 128] inb_S8x256x128_S1x256x128_2_0_0, (k0_pay82 (k0_pay67 BB) (k0_pay68 G) (k0_pay71 BB IT BT k0_pay26 M) (k0_pay73 BB IT BT k0_pay26 M) (View.ld KK (Rect.unit (s := S64x1024) ![0, 256] ![64, 128] inb_S64x1024_S64x128_0_256)) (k0_pay76 (View.ld XV (Rect.unit (s := S64x2048) ![0, 512] ![64, 256] inb_S64x2048_S64x256_0_512))) (k0_pay77 (View.ld C (Rect.unit (s := S8x256x128) ![2, 0, 0] ![1, 256, 128] inb_S8x256x128_S1x256x128_2_0_0))) : FVec Ideal S1x256x128 .f32)⟩ ::
      ⟨Rect.unit ![1, 0, 0] ![1, 256, 128] inb_S8x256x128_S1x256x128_1_0_0, (k0_pay62 (k0_pay48 BB) (k0_pay49 G) (k0_pay53 (k0_pay51 BB M) (k0_pay52 BB IT BT k0_pay26)) (k0_pay54 (k0_pay51 BB M) (k0_pay52 BB IT BT k0_pay26)) (View.ld KK (Rect.unit (s := S64x1024) ![0, 128] ![64, 128] inb_S64x1024_S64x128_0_128)) (k0_pay56 (View.ld XV (Rect.unit (s := S64x2048) ![0, 256] ![64, 256] inb_S64x2048_S64x256_0_256))) (k0_pay57 (View.ld C (Rect.unit (s := S8x256x128) ![1, 0, 0] ![1, 256, 128] inb_S8x256x128_S1x256x128_1_0_0))) : FVec Ideal S1x256x128 .f32)⟩ ::
      ⟨Rect.unit ![0, 0, 0] ![1, 256, 128] inb_S8x256x128_S1x256x128_0_0_0, (k0_pay43 (k0_pay27 BB) (k0_pay28 G) (k0_pay31 BB IT BT M) (k0_pay32 BB IT BT M) (View.ld KK (Rect.unit (s := S64x1024) ![0, 0] ![64, 128] inb_S64x1024_S64x128_0_0)) (k0_pay35 (View.ld XV (Rect.unit (s := S64x2048) ![0, 0] ![64, 256] inb_S64x2048_S64x256_0_0))) (k0_pay36 (View.ld C (Rect.unit (s := S8x256x128) ![0, 0, 0] ![1, 256, 128] inb_S8x256x128_S1x256x128_0_0_0))) : FVec Ideal S1x256x128 .f32)⟩ :: L : List (View.Piece (Elt Ideal) S8x256x128 .f32)) (Idealize.ShloMosaic.ix3 h e d) = Mlstm.newC (b h) (ig h) (m0 h) (k h) (v h) (cc h) e d := by
  obtain ⟨h, hh⟩ := h
  interval_cases h
  · refine (slabmiss 7 0 (by decide) _ _ _ e d (by decide)).trans ?_
    refine (slabmiss 6 0 (by decide) _ _ _ e d (by decide)).trans ?_
    refine (slabmiss 5 0 (by decide) _ _ _ e d (by decide)).trans ?_
    refine (slabmiss 4 0 (by decide) _ _ _ e d (by decide)).trans ?_
    refine (slabmiss 3 0 (by decide) _ _ _ e d (by decide)).trans ?_
    refine (slabmiss 2 0 (by decide) _ _ _ e d (by decide)).trans ?_
    refine (slabmiss 1 0 (by decide) _ _ _ e d (by decide)).trans ?_
    refine (slabhit 0 (by decide) _ _ _ e d).trans ?_
    exact C_0 BB G IT BT M (b 0) (ig 0) (m0 0) (g.hB 0) (g.hBT 0) (g.hIT 0) (g.hG 0) (g.hM 0) _ _ _ (k 0) (v 0) (cc 0) (fun s d => (ldK KK 0 _ s d (by omega)).trans (hK 0 s d)) (fun s e => (ldV XV 0 _ s e (by omega)).trans (hV 0 s e)) (fun e d => (ldC C 0 (by decide) _ e d).trans (hC 0 e d)) e d
  · refine (slabmiss 7 1 (by decide) _ _ _ e d (by decide)).trans ?_
    refine (slabmiss 6 1 (by decide) _ _ _ e d (by decide)).trans ?_
    refine (slabmiss 5 1 (by decide) _ _ _ e d (by decide)).trans ?_
    refine (slabmiss 4 1 (by decide) _ _ _ e d (by decide)).trans ?_
    refine (slabmiss 3 1 (by decide) _ _ _ e d (by decide)).trans ?_
    refine (slabmiss 2 1 (by decide) _ _ _ e d (by decide)).trans ?_
    refine (slabhit 1 (by decide) _ _ _ e d).trans ?_
    exact C_1 BB G IT BT M (b 1) (ig 1) (m0 1) (g.hB 1) (g.hBT 1) (g.hIT 1) (g.hG 1) (g.hM 1) _ _ _ (k 1) (v 1) (cc 1) (fun s d => (ldK KK 128 _ s d (by omega)).trans (hK 1 s d)) (fun s e => (ldV XV 256 _ s e (by omega)).trans (hV 1 s e)) (fun e d => (ldC C 1 (by decide) _ e d).trans (hC 1 e d)) e d
  · refine (slabmiss 7 2 (by decide) _ _ _ e d (by decide)).trans ?_
    refine (slabmiss 6 2 (by decide) _ _ _ e d (by decide)).trans ?_
    refine (slabmiss 5 2 (by decide) _ _ _ e d (by decide)).trans ?_
    refine (slabmiss 4 2 (by decide) _ _ _ e d (by decide)).trans ?_
    refine (slabmiss 3 2 (by decide) _ _ _ e d (by decide)).trans ?_
    refine (slabhit 2 (by decide) _ _ _ e d).trans ?_
    exact C_2 BB G IT BT M (b 2) (ig 2) (m0 2) (g.hB 2) (g.hBT 2) (g.hIT 2) (g.hG 2) (g.hM 2) _ _ _ (k 2) (v 2) (cc 2) (fun s d => (ldK KK 256 _ s d (by omega)).trans (hK 2 s d)) (fun s e => (ldV XV 512 _ s e (by omega)).trans (hV 2 s e)) (fun e d => (ldC C 2 (by decide) _ e d).trans (hC 2 e d)) e d
  · refine (slabmiss 7 3 (by decide) _ _ _ e d (by decide)).trans ?_
    refine (slabmiss 6 3 (by decide) _ _ _ e d (by decide)).trans ?_
    refine (slabmiss 5 3 (by decide) _ _ _ e d (by decide)).trans ?_
    refine (slabmiss 4 3 (by decide) _ _ _ e d (by decide)).trans ?_
    refine (slabhit 3 (by decide) _ _ _ e d).trans ?_
    exact C_3 BB G IT BT M (b 3) (ig 3) (m0 3) (g.hB 3) (g.hBT 3) (g.hIT 3) (g.hG 3) (g.hM 3) _ _ _ (k 3) (v 3) (cc 3) (fun s d => (ldK KK 384 _ s d (by omega)).trans (hK 3 s d)) (fun s e => (ldV XV 768 _ s e (by omega)).trans (hV 3 s e)) (fun e d => (ldC C 3 (by decide) _ e d).trans (hC 3 e d)) e d
  · refine (slabmiss 7 4 (by decide) _ _ _ e d (by decide)).trans ?_
    refine (slabmiss 6 4 (by decide) _ _ _ e d (by decide)).trans ?_
    refine (slabmiss 5 4 (by decide) _ _ _ e d (by decide)).trans ?_
    refine (slabhit 4 (by decide) _ _ _ e d).trans ?_
    exact C_4 BB G IT BT M (b 4) (ig 4) (m0 4) (g.hB 4) (g.hBT 4) (g.hIT 4) (g.hG 4) (g.hM 4) _ _ _ (k 4) (v 4) (cc 4) (fun s d => (ldK KK 512 _ s d (by omega)).trans (hK 4 s d)) (fun s e => (ldV XV 1024 _ s e (by omega)).trans (hV 4 s e)) (fun e d => (ldC C 4 (by decide) _ e d).trans (hC 4 e d)) e d
  · refine (slabmiss 7 5 (by decide) _ _ _ e d (by decide)).trans ?_
    refine (slabmiss 6 5 (by decide) _ _ _ e d (by decide)).trans ?_
    refine (slabhit 5 (by decide) _ _ _ e d).trans ?_
    exact C_5 BB G IT BT M (b 5) (ig 5) (m0 5) (g.hB 5) (g.hBT 5) (g.hIT 5) (g.hG 5) (g.hM 5) _ _ _ (k 5) (v 5) (cc 5) (fun s d => (ldK KK 640 _ s d (by omega)).trans (hK 5 s d)) (fun s e => (ldV XV 1280 _ s e (by omega)).trans (hV 5 s e)) (fun e d => (ldC C 5 (by decide) _ e d).trans (hC 5 e d)) e d
  · refine (slabmiss 7 6 (by decide) _ _ _ e d (by decide)).trans ?_
    refine (slabhit 6 (by decide) _ _ _ e d).trans ?_
    exact C_6 BB G IT BT M (b 6) (ig 6) (m0 6) (g.hB 6) (g.hBT 6) (g.hIT 6) (g.hG 6) (g.hM 6) _ _ _ (k 6) (v 6) (cc 6) (fun s d => (ldK KK 768 _ s d (by omega)).trans (hK 6 s d)) (fun s e => (ldV XV 1536 _ s e (by omega)).trans (hV 6 s e)) (fun e d => (ldC C 6 (by decide) _ e d).trans (hC 6 e d)) e d
  · refine (slabhit 7 (by decide) _ _ _ e d).trans ?_
    exact C_7 BB G IT BT M (b 7) (ig 7) (m0 7) (g.hB 7) (g.hBT 7) (g.hIT 7) (g.hG 7) (g.hM 7) _ _ _ (k 7) (v 7) (cc 7) (fun s d => (ldK KK 896 _ s d (by omega)).trans (hK 7 s d)) (fun s e => (ldV XV 1792 _ s e (by omega)).trans (hV 7 s e)) (fun e d => (ldC C 7 (by decide) _ e d).trans (hC 7 e d)) e d

end Cert.KernelIdeal.Hand

end
-- ==== Proof.MlstmKerGate.lean ====
module

public import proofs.«01_k».proof.Proof.Gen.KernelIdeal.Value
public import proofs.«01_k».proof.Proof.MlstmKerA
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 65536
set_option maxHeartbeats 4000000

noncomputable section

/-! The gates of a chunk and its keys, as the kernel computes them. -/

namespace Cert.KernelIdeal.Hand

open Cert.KernelIdeal Cert.KernelIdeal.Gen Cert.KernelIdeal.Value Idealize.ShloMosaic Idealize.ShloMosaic.TcCoe Idealize.SL.Sem Cert.Hand

theorem pay18_apply (x : FVec Ideal S64x128 .f32) (y : FVec Ideal S1x128 .f32) (s : Fin 64) (l : Fin 128) :
    k0_pay18 (F := Ideal) x y (Idealize.ShloMosaic.ix2 s l) = (x (Idealize.ShloMosaic.ix2 s l) + y (Idealize.ShloMosaic.ix2 (0 : Fin 1) l) : EReal) := by
  unfold k0_pay18
  pointwise

theorem tri (t s : Fin 64) : k0_pay19 (F := Ideal) (Idealize.ShloMosaic.ix2 t s) = (if s.val ≤ t.val then (1 : EReal) else 0) := by
  unfold k0_pay19
  pointwise
  exact sel_ge t s 1 0

theorem eye (l k : Fin 128) : k0_pay23 (F := Ideal) (Idealize.ShloMosaic.ix2 l k) = (if l.val = k.val then (1 : EReal) else 0) := by
  unfold k0_pay23
  pointwise
  have e : IntOp.cmpi CmpIPredicate.eq (BitVec.ofNat 32 l.val) (BitVec.ofNat 32 k.val) = if l.val = k.val then 1#1 else 0#1 := by
    revert l k
    decide +kernel
  rw [e]
  split_ifs <;> rfl

theorem pay22_apply (L : FVec Ideal S64x64 .bf16) (x : FVec Ideal S64x128 .f32) (y : FVec Ideal S1x128 .f32) (t : Fin 64) (l : Fin 128)
   (hL : ∀ s, L (Idealize.ShloMosaic.ix2 t s) = (if s.val ≤ t.val then (1 : EReal) else 0)) :
    k0_pay22 (F := Ideal) L (k0_pay20 x y) (k0_pay21 x y) (Idealize.ShloMosaic.ix2 t l) = ∑ s : Fin 64, (if s.val ≤ t.val then Mlstm.lsg (x (Idealize.ShloMosaic.ix2 s l) + y (Idealize.ShloMosaic.ix2 (0 : Fin 1) l) : EReal) else 0) := by
  have hz := fun s => pay18_apply x y s l
  unfold k0_pay22 k0_pay20 k0_pay21
  generalize k0_pay18 (F := Ideal) x y = Z at hz
  change S64x64.Idx → EReal at L
  change S64x128.Idx → EReal at Z
  pointwise
  have hx : ∀ s, (min (Z (Idealize.ShloMosaic.ix2 s l)) 0 - Ideal.log1p (Ideal.exp (0 - FloatOps.absf (F := Ideal) (φ := .f32) (Z (Idealize.ShloMosaic.ix2 s l)))) : EReal) = Mlstm.lsg (x (Idealize.ShloMosaic.ix2 s l) + y (Idealize.ShloMosaic.ix2 (0 : Fin 1) l) : EReal) := fun s => by
    rw [← hz s]
    rfl
  simp only [hx]
  refine (Mlstm.parts_sum (fun s => L (Idealize.ShloMosaic.ix2 t s)) (fun s => Mlstm.lsg (x (Idealize.ShloMosaic.ix2 s l) + y (Idealize.ShloMosaic.ix2 (0 : Fin 1) l) : EReal)) (fun s => ?_) fun s _ => lt_of_le_of_lt (Mlstm.lsg_nonpos _) EReal.zero_lt_top).trans ?_
  · rw [hL s]; split_ifs <;> simp
  · refine Finset.sum_congr (M := EReal) rfl fun s _ => ?_
    try dsimp only
    rw [hL s]; split_ifs <;> simp

theorem pay24_apply (Z : FVec Ideal S64x128 .f32) (l : Fin 128) (s : Fin 64) (hZ : Z (Idealize.ShloMosaic.ix2 s l) < (⊤ : EReal)) :
    k0_pay24 (F := Ideal) Z (Idealize.ShloMosaic.ix2 l s) = Z (Idealize.ShloMosaic.ix2 s l) := by
  have he := fun k => eye l k
  unfold k0_pay24
  generalize k0_pay23 (F := Ideal) = E at he
  change S128x128.Idx → EReal at E
  change S64x128.Idx → EReal at Z
  pointwise
  refine (Mlstm.parts_sum (fun k => E (Idealize.ShloMosaic.ix2 l k)) (fun k => Z (Idealize.ShloMosaic.ix2 s k)) (fun k => ?_) fun k hk => ?_).trans ?_
  · rw [he k]; split_ifs <;> simp
  · try dsimp only at hk ⊢
    rw [he k] at hk
    split_ifs at hk with e
    · rw [← show l = k from Fin.ext e]; exact hZ
    · exact absurd hk (by simp)
  · rw [Finset.sum_eq_single l]
    · try dsimp only
      rw [he l, if_pos rfl, one_mul]
    · intro k _ hk
      try dsimp only
      rw [he k, if_neg (fun e => hk (Fin.ext e.symm)), zero_mul]
    · exact fun h => absurd (Finset.mem_univ _) h

theorem pay25_apply (L : FVec Ideal S64x64 .bf16) (P Q : FVec Ideal S64x128 .f32) (l : Fin 128) (s : Fin 64) (hZ : k0_pay22 (F := Ideal) L P Q (Idealize.ShloMosaic.ix2 s l) < (⊤ : EReal)) :
    k0_pay25 (F := Ideal) L P Q (Idealize.ShloMosaic.ix2 l s) = k0_pay22 (F := Ideal) L P Q (Idealize.ShloMosaic.ix2 s l) := by
  have he := fun k => eye l k
  unfold k0_pay25
  generalize k0_pay23 (F := Ideal) = E at he
  generalize k0_pay22 (F := Ideal) L P Q = Z at hZ
  change S128x128.Idx → EReal at E
  change S64x128.Idx → EReal at Z
  pointwise
  refine (Mlstm.parts_sum (fun k => E (Idealize.ShloMosaic.ix2 l k)) (fun k => Z (Idealize.ShloMosaic.ix2 s k)) (fun k => ?_) fun k hk => ?_).trans ?_
  · rw [he k]; split_ifs <;> simp
  · try dsimp only at hk ⊢
    rw [he k] at hk
    split_ifs at hk with e
    · rw [← show l = k from Fin.ext e]; exact hZ
    · exact absurd hk (by simp)
  · rw [Finset.sum_eq_single l]
    · try dsimp only
      rw [he l, if_pos rfl, one_mul]
    · intro k _ hk
      try dsimp only
      rw [he k, if_neg (fun e => hk (Fin.ext e.symm)), zero_mul]
    · exact fun h => absurd (Finset.mem_univ _) h

theorem pay17_apply (cb : FVec Ideal S1x2048 .f32) (u0 u1 u2 u3 : FVec Ideal S64x2048 .f32) (w0 w1 w2 w3 : FVec Ideal S1x2048 .f32) (i : Fin 64) (j : Fin 1024) :
    k0_pay17 (F := Ideal) (k0_pay13 cb u0 w0 u1 w1 u2 w2) u3 w3 (Idealize.ShloMosaic.ix2 i j) = Mlstm.silu (cb (Idealize.ShloMosaic.ix2 (0 : Fin 1) (⟨1024 + j.val, by omega⟩ : Fin 2048))
      + u0 (Idealize.ShloMosaic.ix2 i (⟨1024 + j.val, by omega⟩ : Fin 2048)) * w0 (Idealize.ShloMosaic.ix2 (0 : Fin 1) (⟨1024 + j.val, by omega⟩ : Fin 2048))
      + u1 (Idealize.ShloMosaic.ix2 i (⟨1024 + j.val, by omega⟩ : Fin 2048)) * w1 (Idealize.ShloMosaic.ix2 (0 : Fin 1) (⟨1024 + j.val, by omega⟩ : Fin 2048))
      + u2 (Idealize.ShloMosaic.ix2 i (⟨1024 + j.val, by omega⟩ : Fin 2048)) * w2 (Idealize.ShloMosaic.ix2 (0 : Fin 1) (⟨1024 + j.val, by omega⟩ : Fin 2048))
      + u3 (Idealize.ShloMosaic.ix2 i (⟨1024 + j.val, by omega⟩ : Fin 2048)) * w3 (Idealize.ShloMosaic.ix2 (0 : Fin 1) (⟨1024 + j.val, by omega⟩ : Fin 2048))) := by
  unfold k0_pay17 k0_pay15 k0_pay13
  change S1x2048.Idx → EReal at cb w0 w1 w2 w3
  change S64x2048.Idx → EReal at u0 u1 u2 u3
  pointwise
  rfl

/-- Sums of nonpositive numbers lie below infinity. -/
theorem sum_le (f : Fin 64 → EReal) (h : ∀ s, f s ≤ 0) : (∑ s, f s) < ⊤ :=
  lt_of_le_of_lt (Finset.sum_nonpos fun s _ => h s) EReal.zero_lt_top

end Cert.KernelIdeal.Hand

end
-- ==== Proof.MlstmKerUbuf.lean ====
module

public import proofs.«01_k».proof.Proof.Gen.KernelIdeal.Value
public import proofs.«01_k».proof.Proof.MlstmSpec
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.Claim

@[expose] public section

set_option maxRecDepth 65536
set_option maxHeartbeats 4000000

noncomputable section

/-! The buffer of raw queries and keys: the last three rows of the chunk before, then the chunk. -/

namespace Cert.KernelIdeal.Hand

open Cert.KernelIdeal Cert.KernelIdeal.Gen Cert.KernelIdeal.Value Idealize.ShloMosaic Idealize.ShloMosaic.TcCoe Idealize.SL.Sem Cert.Hand

abbrev W3 := View.whole (sig := sig) cc0_scratch3

/-- A row of the chunk, queries before keys. -/
def qk (Q K : FVec Ideal S64x1024 .f32) (r : Fin 64) (j : Fin 2048) : EReal :=
  if h : j.val < 1024 then Q (Idealize.ShloMosaic.ix2 r (⟨j.val, h⟩ : Fin 1024)) else K (Idealize.ShloMosaic.ix2 r (⟨j.val - 1024, by omega⟩ : Fin 1024))

theorem pay11_apply (Q : FVec Ideal S64x1024 .f32) (r : Fin 64) (j : Fin 1024) : k0_pay11 (F := Ideal) Q (Idealize.ShloMosaic.ix2 r j) = Q (Idealize.ShloMosaic.ix2 r j) := by
  unfold k0_pay11
  pointwise

theorem pay12_apply (Q : FVec Ideal S64x1024 .f32) (r : Fin 64) (j : Fin 1024) : k0_pay12 (F := Ideal) Q (Idealize.ShloMosaic.ix2 r j) = Q (Idealize.ShloMosaic.ix2 r j) := by
  unfold k0_pay12
  pointwise

theorem pay10_apply (Q : FVec Ideal S1x3x2048 .f32) (r : Fin 3) (j : Fin 2048) : k0_pay10 (F := Ideal) Q (Idealize.ShloMosaic.ix2 r j) = Q (Idealize.ShloMosaic.ix3 (0 : Fin 1) r j) := by
  unfold k0_pay10
  pointwise

theorem pay14_apply (Q : FVec Ideal S8x2048 .f32) (r : Fin 8) (j : Fin 2048) : k0_pay14 (F := Ideal) Q (Idealize.ShloMosaic.ix2 r j) = Q (Idealize.ShloMosaic.ix2 r j) := by
  unfold k0_pay14
  pointwise

theorem pay6_apply (Q : FVec Ideal S3x2048 .f32) (r : Fin 3) (j : Fin 2048) : k0_pay6 (F := Ideal) Q (Idealize.ShloMosaic.ix3 (0 : Fin 1) r j) = Q (Idealize.ShloMosaic.ix2 r j) := by
  unfold k0_pay6
  pointwise

/-- Row 8 on: the chunk, whatever lay there before. -/
theorem raw_hi (f) (Q K : FVec Ideal S64x1024 .f32) (L) (r : Fin 72) (j : Fin 2048) (h : 8 ≤ r.val) :
    View.read (Elt Ideal) W3 (W3.writes (Elt Ideal) f (⟨Rect.unit ![8, 1024] ![64, 1024] inb_S72x2048_S64x1024_8_1024, k0_pay12 (F := Ideal) K⟩ :: ⟨Rect.unit ![8, 0] ![64, 1024] inb_S72x2048_S64x1024_8_0, k0_pay11 (F := Ideal) Q⟩ :: L)) (Idealize.ShloMosaic.ix2 r j)
      = qk Q K (⟨r.val - 8, by omega⟩ : Fin 64) j := by
  unfold qk
  by_cases hj : j.val < 1024
  · rw [dif_pos hj]
    refine (View.read_writes_cons_unit_of_not_mem W3 f _ _ _ _ rfl (1 : Fin 2) (Or.inl hj)).trans ?_
    exact (View.read_writes_cons_unit_of_mem W3 f _ _ _ _ (Idealize.ShloMosaic.ix2 (⟨r.val - 8, by omega⟩ : Fin 64) (⟨j.val, hj⟩ : Fin 1024)) rfl (Fin.forall_fin_two.mpr ⟨by show r.val = 8 + (r.val - 8); omega, by show j.val = 0 + j.val; omega⟩)).trans (pay11_apply Q _ _)
  · rw [dif_neg hj]
    exact (View.read_writes_cons_unit_of_mem W3 f _ _ _ _ (Idealize.ShloMosaic.ix2 (⟨r.val - 8, by omega⟩ : Fin 64) (⟨j.val - 1024, by omega⟩ : Fin 1024)) rfl (Fin.forall_fin_two.mpr ⟨by show r.val = 8 + (r.val - 8); omega, by show j.val = 1024 + (j.val - 1024); omega⟩)).trans (pay12_apply K _ _)

/-- Before row 8: what lay there before. -/
theorem raw_lo (f) (Q K : FVec Ideal S64x1024 .f32) (L) (r : Fin 72) (j : Fin 2048) (h : r.val < 8) :
    View.read (Elt Ideal) W3 (W3.writes (Elt Ideal) f (⟨Rect.unit ![8, 1024] ![64, 1024] inb_S72x2048_S64x1024_8_1024, k0_pay12 (F := Ideal) K⟩ :: ⟨Rect.unit ![8, 0] ![64, 1024] inb_S72x2048_S64x1024_8_0, k0_pay11 (F := Ideal) Q⟩ :: L)) (Idealize.ShloMosaic.ix2 r j)
      = View.read (Elt Ideal) W3 (W3.writes (Elt Ideal) f L) (Idealize.ShloMosaic.ix2 r j) := by
  refine (View.read_writes_cons_unit_of_not_mem W3 f _ _ _ _ rfl (0 : Fin 2) (Or.inl h)).trans ?_
  exact (View.read_writes_cons_unit_of_not_mem W3 f _ _ _ _ rfl (0 : Fin 2) (Or.inl h))

/-- The initial rows. -/
theorem raw_init (f) (c5 : FVec Ideal S1x3x2048 .f32) (L) (r : Fin 72) (j : Fin 2048) (h : r.val < 8) (h5 : 5 ≤ r.val) :
    View.read (Elt Ideal) W3 (W3.writes (Elt Ideal) f (⟨Rect.unit ![5, 0] ![3, 2048] inb_S72x2048_S3x2048_5_0, k0_pay10 (F := Ideal) c5⟩ :: L)) (Idealize.ShloMosaic.ix2 r j)
      = c5 (Idealize.ShloMosaic.ix3 (0 : Fin 1) (⟨r.val - 5, by omega⟩ : Fin 3) j) := by
  exact (View.read_writes_cons_unit_of_mem W3 f _ _ _ _ (Idealize.ShloMosaic.ix2 (⟨r.val - 5, by omega⟩ : Fin 3) j) rfl (Fin.forall_fin_two.mpr ⟨by show r.val = 5 + (r.val - 5); omega, by show j.val = 0 + j.val; omega⟩)).trans (pay10_apply c5 _ _)

/-- The same of what a load reads of covered rows. -/
theorem mem_unit {s : Shape} {off size : Fin s.rank → ℕ} (inb : ∀ a, off a + size a ≤ s.size a) (x : (Rect.unit off size inb).shape.Idx) (y : s.Idx)
    (h : ∀ a, (y a).val = off a + (x a).val) : y ∈ (Rect.unit off size inb).set := by
  exact ((Rect.unit off size inb).mem_set).mpr fun a => ⟨(x a).val, (x a).isLt, by show (y a).val = off a + 1 * (x a).val; rw [h a, Nat.one_mul]⟩

theorem canon_hi (Q K : FVec Ideal S64x1024 .f32) (L : List (View.Piece (Elt Ideal) S72x2048 .f32)) (r : Fin 72) (j : Fin 2048) (h : 8 ≤ r.val) :
    View.canon ((⟨Rect.unit ![8, 1024] ![64, 1024] inb_S72x2048_S64x1024_8_1024, k0_pay12 (F := Ideal) K⟩ : View.Piece (Elt Ideal) S72x2048 .f32) :: ⟨Rect.unit ![8, 0] ![64, 1024] inb_S72x2048_S64x1024_8_0, k0_pay11 (F := Ideal) Q⟩ :: L) (Idealize.ShloMosaic.ix2 r j)
      = qk Q K (⟨r.val - 8, by omega⟩ : Fin 64) j := by
  rw [← View.read_writes_apply_eq_canon W3 (fun _ => (0 : EReal)) _ _ ?_]
  · exact raw_hi _ Q K L r j h
  · by_cases hj : j.val < 1024
    · exact ⟨_, List.mem_cons_of_mem _ List.mem_cons_self, mem_unit (s := S72x2048) inb_S72x2048_S64x1024_8_0 (Idealize.ShloMosaic.ix2 (⟨r.val - 8, by omega⟩ : Fin 64) (⟨j.val, hj⟩ : Fin 1024)) _ (Fin.forall_fin_two.mpr ⟨by show r.val = 8 + (r.val - 8); omega, by show j.val = 0 + j.val; omega⟩)⟩
    · exact ⟨_, List.mem_cons_self, mem_unit (s := S72x2048) inb_S72x2048_S64x1024_8_1024 (Idealize.ShloMosaic.ix2 (⟨r.val - 8, by omega⟩ : Fin 64) (⟨j.val - 1024, by omega⟩ : Fin 1024)) _ (Fin.forall_fin_two.mpr ⟨by show r.val = 8 + (r.val - 8); omega, by show j.val = 1024 + (j.val - 1024); omega⟩)⟩

theorem canon_lo (Q K : FVec Ideal S64x1024 .f32) (c5 : FVec Ideal S1x3x2048 .f32) (r : Fin 72) (j : Fin 2048) (h : r.val < 8) (h5 : 5 ≤ r.val) :
    View.canon [(⟨Rect.unit ![8, 1024] ![64, 1024] inb_S72x2048_S64x1024_8_1024, k0_pay12 (F := Ideal) K⟩ : View.Piece (Elt Ideal) S72x2048 .f32), ⟨Rect.unit ![8, 0] ![64, 1024] inb_S72x2048_S64x1024_8_0, k0_pay11 (F := Ideal) Q⟩, ⟨Rect.unit ![5, 0] ![3, 2048] inb_S72x2048_S3x2048_5_0, k0_pay10 (F := Ideal) c5⟩] (Idealize.ShloMosaic.ix2 r j)
      = c5 (Idealize.ShloMosaic.ix3 (0 : Fin 1) (⟨r.val - 5, by omega⟩ : Fin 3) j) := by
  rw [← View.read_writes_apply_eq_canon W3 (fun _ => (0 : EReal)) _ _ ?_]
  · exact (raw_lo _ Q K _ r j h).trans (raw_init _ c5 _ r j h h5)
  · exact ⟨_, List.mem_cons_of_mem _ (List.mem_cons_of_mem _ List.mem_cons_self), mem_unit (s := S72x2048) inb_S72x2048_S3x2048_5_0 (Idealize.ShloMosaic.ix2 (⟨r.val - 5, by omega⟩ : Fin 3) j) _ (Fin.forall_fin_two.mpr ⟨by show r.val = 5 + (r.val - 5); omega, by show j.val = 0 + j.val; omega⟩)⟩

/-- The rows handed on: the chunk's last three. -/
theorem tail_apply (Q K : FVec Ideal S64x1024 .f32) (L L' : List (View.Piece (Elt Ideal) S72x2048 .f32)) (r : Fin 3) (j : Fin 2048) :
    View.canon (⟨Rect.unit ![0, 0] ![8, 2048] inb_S72x2048_S8x2048_0_0, k0_pay14 (F := Ideal) (W3.readCov (⟨Rect.unit ![8, 1024] ![64, 1024] inb_S72x2048_S64x1024_8_1024, k0_pay12 (F := Ideal) K⟩ :: ⟨Rect.unit ![8, 0] ![64, 1024] inb_S72x2048_S64x1024_8_0, k0_pay11 (F := Ideal) Q⟩ :: L) (Rect.unit (s := S72x2048) ![64, 0] ![8, 2048] inb_S72x2048_S8x2048_64_0).toLoadRect : FVec Ideal S8x2048 .f32)⟩ :: L')
        (Idealize.ShloMosaic.ix2 (⟨5 + r.val, by omega⟩ : Fin 72) j)
      = qk Q K (⟨61 + r.val, by omega⟩ : Fin 64) j := by
  have e : (Rect.unit (s := S72x2048) ![0, 0] ![8, 2048] inb_S72x2048_S8x2048_0_0).emb (Idealize.ShloMosaic.ix2 (⟨5 + r.val, by omega⟩ : Fin 8) j) = (Idealize.ShloMosaic.ix2 (⟨5 + r.val, by omega⟩ : Fin 72) j) := by
    funext a
    revert a
    exact Fin.forall_fin_two.mpr ⟨Fin.ext (by show 0 + 1 * (5 + r.val) = 5 + r.val; omega), Fin.ext (by show 0 + 1 * j.val = j.val; omega)⟩
  rw [← e, View.canon_cons_emb]
  refine (pay14_apply _ _ _).trans ?_
  rw [View.readCov_eq_canon']
  refine Eq.trans (congrArg _ (?_ : _ = (Idealize.ShloMosaic.ix2 (⟨69 + r.val, by omega⟩ : Fin 72) j))) ((canon_hi Q K L (⟨69 + r.val, by omega⟩ : Fin 72) j (by show 8 ≤ 69 + r.val; omega)).trans ?_)
  · funext a
    revert a
    exact Fin.forall_fin_two.mpr ⟨Fin.ext (by show 64 + 1 * (5 + r.val) = 69 + r.val; omega), Fin.ext (by show 0 + 1 * j.val = j.val; omega)⟩
  · exact congrArg (fun x => qk Q K x j) (Fin.ext (by show 69 + r.val - 8 = 61 + r.val; omega))

end Cert.KernelIdeal.Hand

end
-- ==== Proof.MlstmKerIn.lean ====
module

public import proofs.«01_k».proof.Proof.Gen.KernelIdeal.Value
public import proofs.«01_k».proof.Proof.MlstmSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 65536
set_option maxHeartbeats 4000000

noncomputable section

/-! The kernel's operands: each window's block at a chunk, from the program's arguments. -/

namespace Cert.KernelIdeal.Hand

open Cert.KernelIdeal Cert.KernelIdeal.Gen Cert.KernelIdeal.Value Idealize.ShloMosaic Idealize.ShloMosaic.TcCoe Idealize.SL.Sem Cert.Hand

variable (m : (ℓ : Loc nD τ sig) → Buf (Elt Ideal) ℓ) (c : Dev nD)

/-- The arguments. -/
def kargs : Mlstm.Args where
  p := m ((c.tc : Thread nD τ).loc main_arg0)
  conv0 := m ((c.tc : Thread nD τ).loc main_arg1)
  c0 := m ((c.tc : Thread nD τ).loc main_arg2)
  n0 := m ((c.tc : Thread nD τ).loc main_arg3)
  m0 := m ((c.tc : Thread nD τ).loc main_arg4)
  w := m ((c.tc : Thread nD τ).loc main_arg5)
  cb := m ((c.tc : Thread nD τ).loc main_arg6)
  bg := m ((c.tc : Thread nD τ).loc main_arg7)
  hn := m ((c.tc : Thread nD τ).loc main_arg8)

theorem idx : ∀ t : Fin cfg0.N,
    (win0_0.index t = ![t.val, 0] ∧ win0_1.index t = ![t.val, 1] ∧ win0_2.index t = ![t.val, 1] ∧ win0_3.index t = ![t.val, 0] ∧ win0_4.index t = ![t.val, 0])
    ∧ (win0_5.index t = ![0, 0, 0] ∧ win0_6.index t = ![0, 0, 0, 0] ∧ win0_7.index t = ![0, 0, 0] ∧ win0_8.index t = ![0, 0, 0])
    ∧ (win0_9.index t = ![0, 0] ∧ win0_10.index t = ![0, 0] ∧ win0_11.index t = ![0, 0] ∧ win0_12.index t = ![0, 0])
    ∧ (win0_13.index t = ![t.val, 0] ∧ win0_14.index t = ![0, 0, 0, 0] ∧ win0_15.index t = ![0, 0, 0] ∧ win0_16.index t = ![0, 0, 0] ∧ win0_17.index t = ![0, 0, 0]) :=
  (by decide +kernel : ∀ t : Fin grid0.N, _)

theorem t_lt (t : Fin cfg0.N) : t.val < 128 := t.isLt.trans_eq N_0

/-- The chunk of a grid point. -/
def ch (t : Fin cfg0.N) : Fin 128 := ⟨t.val, t_lt t⟩

def X0 (t : Fin cfg0.N) : FVec Ideal S64x1024 .f32 := iblk m c 0 t
def X1 (t : Fin cfg0.N) : FVec Ideal S64x1024 .f32 := iblk m c 1 t
def X2 (t : Fin cfg0.N) : FVec Ideal S64x2048 .f32 := iblk m c 2 t
def X3 (t : Fin cfg0.N) : FVec Ideal S64x2048 .f32 := iblk m c 3 t
def X4 (t : Fin cfg0.N) : FVec Ideal S64x128 .f32 := iblk m c 4 t
def X5 (t : Fin cfg0.N) : FVec Ideal S1x3x2048 .f32 := iblk m c 5 t
def X6 (t : Fin cfg0.N) : FVec Ideal S1x8x256x128 .f32 := iblk m c 6 t
def X7 (t : Fin cfg0.N) : FVec Ideal S1x8x128 .f32 := iblk m c 7 t
def X8 (t : Fin cfg0.N) : FVec Ideal S1x1x128 .f32 := iblk m c 8 t
def X9 (t : Fin cfg0.N) : FVec Ideal S4x2048 .f32 := iblk m c 9 t
def X10 (t : Fin cfg0.N) : FVec Ideal S1x2048 .f32 := iblk m c 10 t
def X11 (t : Fin cfg0.N) : FVec Ideal S1x128 .f32 := iblk m c 11 t
def X12 (t : Fin cfg0.N) : FVec Ideal S1x2048 .f32 := iblk m c 12 t

theorem entry_v0 (i : S8320x4096.Idx) : V m c main_v0 i = (kargs m c).p (Idealize.ShloMosaic.ix2 (i 0) (⟨(i 1).val, (i 1).isLt.trans (by decide)⟩ : Fin 6160)) := by
  dsimp only [V, List.flatten_cons, List.flatten_nil, List.append_nil, List.cons_append, List.nil_append]
  simp only [StableHlo.TRef.nullary, StableHlo.TRef.unary, StableHlo.TRef.binary, StableHlo.TRef.ternary, StableHlo.TRef.of]
  after_results_simp
  try simp -implicitDefEqProofs only [id_eq, StableHlo.TRef.toBuf, StableHlo.TRef.ofBuf, cast_cast, cast_eq]
  pointwise
  rfl

theorem entry_v1 (i : S8320x2048.Idx) : V m c main_v1 i = (kargs m c).p (Idealize.ShloMosaic.ix2 (i 0) (⟨4112 + (i 1).val, Nat.lt_of_lt_of_le (Nat.add_lt_add_left (i 1).isLt 4112) (by decide)⟩ : Fin 6160)) := by
  dsimp only [V, List.flatten_cons, List.flatten_nil, List.append_nil, List.cons_append, List.nil_append]
  simp only [StableHlo.TRef.nullary, StableHlo.TRef.unary, StableHlo.TRef.binary, StableHlo.TRef.ternary, StableHlo.TRef.of]
  after_results_simp
  try simp -implicitDefEqProofs only [id_eq, StableHlo.TRef.toBuf, StableHlo.TRef.ofBuf, cast_cast, cast_eq]
  pointwise
  rfl

theorem entry_v2 (i : S8320x128.Idx) : V m c main_v2 i = (kargs m c).p (Idealize.ShloMosaic.ix2 (i 0) (⟨4096 + (i 1).val, Nat.lt_of_lt_of_le (Nat.add_lt_add_left (i 1).isLt 4096) (by decide)⟩ : Fin 6160)) := by
  dsimp only [V, List.flatten_cons, List.flatten_nil, List.append_nil, List.cons_append, List.nil_append]
  simp only [StableHlo.TRef.nullary, StableHlo.TRef.unary, StableHlo.TRef.binary, StableHlo.TRef.ternary, StableHlo.TRef.of]
  after_results_simp
  try simp -implicitDefEqProofs only [id_eq, StableHlo.TRef.toBuf, StableHlo.TRef.ofBuf, cast_cast, cast_eq]
  pointwise
  rfl

theorem entry_v4 (g : Fin 2) (h : Fin 8) : V m c main_v4 (Idealize.ShloMosaic.ix2 (0 : Fin 1) (⟨8 * g.val + h.val, by omega⟩ : Fin 128)) = (kargs m c).bg (Idealize.ShloMosaic.ix2 g h) := by
  dsimp only [V, List.flatten_cons, List.flatten_nil, List.append_nil, List.cons_append, List.nil_append]
  simp only [StableHlo.TRef.nullary, StableHlo.TRef.unary, StableHlo.TRef.binary, StableHlo.TRef.ternary, StableHlo.TRef.of]
  after_results_simp
  try simp -implicitDefEqProofs only [id_eq, StableHlo.TRef.toBuf, StableHlo.TRef.ofBuf, cast_cast, cast_eq]
  pointwise
  rw [dif_pos (by omega)]
  exact congrArg (m ((c.tc : Thread nD τ).loc main_arg7)) (congrArg₂ Idealize.ShloMosaic.ix2 (Fin.ext (by show (8 * g.val + h.val) / 8 = g.val; omega)) (Fin.ext (by show (8 * g.val + h.val) % 8 = h.val; omega)))

theorem entry_v6 (l : Fin 128) : V m c main_v6 (Idealize.ShloMosaic.ix3 (0 : Fin 1) (0 : Fin 1) l) = if h : l.val < 8 then (kargs m c).m0 (Idealize.ShloMosaic.ix2 (0 : Fin 1) (⟨l.val, h⟩ : Fin 8)) else (0 : EReal) := by
  dsimp only [V, List.flatten_cons, List.flatten_nil, List.append_nil, List.cons_append, List.nil_append]
  simp only [StableHlo.TRef.nullary, StableHlo.TRef.unary, StableHlo.TRef.binary, StableHlo.TRef.ternary, StableHlo.TRef.of]
  after_results_simp
  try simp -implicitDefEqProofs only [id_eq, StableHlo.TRef.toBuf, StableHlo.TRef.ofBuf, cast_cast, cast_eq]
  pointwise
  split_ifs
  · rfl
  · show ((((0#32 : BitVec 32).toInt : ℝ)) : EReal) = 0
    norm_num

theorem entry_v8 (j : Fin 2048) : V m c main_v8 (Idealize.ShloMosaic.ix2 (0 : Fin 1) j) = (kargs m c).cb (Idealize.ShloMosaic.ix1 j) := by
  dsimp only [V, List.flatten_cons, List.flatten_nil, List.append_nil, List.cons_append, List.nil_append]
  simp only [StableHlo.TRef.nullary, StableHlo.TRef.unary, StableHlo.TRef.binary, StableHlo.TRef.ternary, StableHlo.TRef.of]
  after_results_simp
  try simp -implicitDefEqProofs only [id_eq, StableHlo.TRef.toBuf, StableHlo.TRef.ofBuf, cast_cast, cast_eq]
  pointwise
  rfl

theorem entry_v9 (j : Fin 2048) : V m c main_v9 (Idealize.ShloMosaic.ix2 (0 : Fin 1) j) = (kargs m c).hn (Idealize.ShloMosaic.ix1 j) := by
  dsimp only [V, List.flatten_cons, List.flatten_nil, List.append_nil, List.cons_append, List.nil_append]
  simp only [StableHlo.TRef.nullary, StableHlo.TRef.unary, StableHlo.TRef.binary, StableHlo.TRef.ternary, StableHlo.TRef.of]
  after_results_simp
  try simp -implicitDefEqProofs only [id_eq, StableHlo.TRef.toBuf, StableHlo.TRef.ofBuf, cast_cast, cast_eq]
  pointwise
  rfl

theorem x0_apply (t : Fin cfg0.N) (i : Fin 64) (j : Fin 1024) : X0 m c t (Idealize.ShloMosaic.ix2 i j) = (kargs m c).p (Idealize.ShloMosaic.ix2 (⟨64 * t.val + i.val, by have := t_lt t; omega⟩ : Fin 8320) (⟨j.val, by omega⟩ : Fin 6160)) := by
  have e : X0 m c t (Idealize.ShloMosaic.ix2 i j) = V m c main_v0 (Idealize.ShloMosaic.ix2 (⟨64 * t.val + i.val, by have := t_lt t; omega⟩ : Fin 8320) (⟨j.val, by omega⟩ : Fin 4096)) := by
    unfold X0
    blk_point [iblk, idx t]
  rw [e]
  exact entry_v0 m c _

theorem x1_apply (t : Fin cfg0.N) (i : Fin 64) (j : Fin 1024) : X1 m c t (Idealize.ShloMosaic.ix2 i j) = (kargs m c).p (Idealize.ShloMosaic.ix2 (⟨64 * t.val + i.val, by have := t_lt t; omega⟩ : Fin 8320) (⟨1024 + j.val, by omega⟩ : Fin 6160)) := by
  have e : X1 m c t (Idealize.ShloMosaic.ix2 i j) = V m c main_v0 (Idealize.ShloMosaic.ix2 (⟨64 * t.val + i.val, by have := t_lt t; omega⟩ : Fin 8320) (⟨1024 + j.val, by omega⟩ : Fin 4096)) := by
    unfold X1
    blk_point [iblk, idx t]
  rw [e]
  exact entry_v0 m c _

theorem x2_apply (t : Fin cfg0.N) (i : Fin 64) (j : Fin 2048) : X2 m c t (Idealize.ShloMosaic.ix2 i j) = (kargs m c).p (Idealize.ShloMosaic.ix2 (⟨64 * t.val + i.val, by have := t_lt t; omega⟩ : Fin 8320) (⟨2048 + j.val, by omega⟩ : Fin 6160)) := by
  have e : X2 m c t (Idealize.ShloMosaic.ix2 i j) = V m c main_v0 (Idealize.ShloMosaic.ix2 (⟨64 * t.val + i.val, by have := t_lt t; omega⟩ : Fin 8320) (⟨2048 + j.val, by omega⟩ : Fin 4096)) := by
    unfold X2
    blk_point [iblk, idx t]
  rw [e]
  exact entry_v0 m c _

theorem x3_apply (t : Fin cfg0.N) (i : Fin 64) (j : Fin 2048) : X3 m c t (Idealize.ShloMosaic.ix2 i j) = (kargs m c).p (Idealize.ShloMosaic.ix2 (⟨64 * t.val + i.val, by have := t_lt t; omega⟩ : Fin 8320) (⟨4112 + j.val, by omega⟩ : Fin 6160)) := by
  have e : X3 m c t (Idealize.ShloMosaic.ix2 i j) = V m c main_v1 (Idealize.ShloMosaic.ix2 (⟨64 * t.val + i.val, by have := t_lt t; omega⟩ : Fin 8320) j) := by
    unfold X3
    blk_point [iblk, idx t]
  rw [e]
  exact entry_v1 m c _

theorem x4_apply (t : Fin cfg0.N) (i : Fin 64) (j : Fin 128) : X4 m c t (Idealize.ShloMosaic.ix2 i j) = (kargs m c).p (Idealize.ShloMosaic.ix2 (⟨64 * t.val + i.val, by have := t_lt t; omega⟩ : Fin 8320) (⟨4096 + j.val, by omega⟩ : Fin 6160)) := by
  have e : X4 m c t (Idealize.ShloMosaic.ix2 i j) = V m c main_v2 (Idealize.ShloMosaic.ix2 (⟨64 * t.val + i.val, by have := t_lt t; omega⟩ : Fin 8320) j) := by
    unfold X4
    blk_point [iblk, idx t]
  rw [e]
  exact entry_v2 m c _

theorem x5_apply (t : Fin cfg0.N) (r : Fin 3) (j : Fin 2048) : X5 m c t (Idealize.ShloMosaic.ix3 (0 : Fin 1) r j) = (kargs m c).conv0 (Idealize.ShloMosaic.ix3 (0 : Fin 1) r j) := by
  have e : X5 m c t (Idealize.ShloMosaic.ix3 (0 : Fin 1) r j) = V m c main_arg1 (Idealize.ShloMosaic.ix3 (0 : Fin 1) r j) := by
    unfold X5
    blk_point [iblk, idx t]
  rw [e]
  exact congrFun (V_main_arg1 m c) _

theorem x6_apply (t : Fin cfg0.N) (h : Fin 8) (e : Fin 256) (d : Fin 128) : X6 m c t (Idealize.ShloMosaic.ix4 (0 : Fin 1) h e d) = (kargs m c).c0 (Idealize.ShloMosaic.ix4 (0 : Fin 1) h e d) := by
  have ee : X6 m c t (Idealize.ShloMosaic.ix4 (0 : Fin 1) h e d) = V m c main_arg2 (Idealize.ShloMosaic.ix4 (0 : Fin 1) h e d) := by
    unfold X6
    blk_point [iblk, idx t]
  rw [ee]
  exact congrFun (V_main_arg2 m c) _

theorem x7_apply (t : Fin cfg0.N) (h : Fin 8) (d : Fin 128) : X7 m c t (Idealize.ShloMosaic.ix3 (0 : Fin 1) h d) = (kargs m c).n0 (Idealize.ShloMosaic.ix3 (0 : Fin 1) h d) := by
  have e : X7 m c t (Idealize.ShloMosaic.ix3 (0 : Fin 1) h d) = V m c main_arg3 (Idealize.ShloMosaic.ix3 (0 : Fin 1) h d) := by
    unfold X7
    blk_point [iblk, idx t]
  rw [e]
  exact congrFun (V_main_arg3 m c) _

theorem x8_apply (t : Fin cfg0.N) (l : Fin 128) : X8 m c t (Idealize.ShloMosaic.ix3 (0 : Fin 1) (0 : Fin 1) l) = if h : l.val < 8 then (kargs m c).m0 (Idealize.ShloMosaic.ix2 (0 : Fin 1) (⟨l.val, h⟩ : Fin 8)) else (0 : EReal) := by
  have e : X8 m c t (Idealize.ShloMosaic.ix3 (0 : Fin 1) (0 : Fin 1) l) = V m c main_v6 (Idealize.ShloMosaic.ix3 (0 : Fin 1) (0 : Fin 1) l) := by
    unfold X8
    blk_point [iblk, idx t]
  rw [e]
  exact entry_v6 m c l

theorem x9_apply (t : Fin cfg0.N) (r : Fin 4) (j : Fin 2048) : X9 m c t (Idealize.ShloMosaic.ix2 r j) = (kargs m c).w (Idealize.ShloMosaic.ix2 r j) := by
  have e : X9 m c t (Idealize.ShloMosaic.ix2 r j) = V m c main_arg5 (Idealize.ShloMosaic.ix2 r j) := by
    unfold X9
    blk_point [iblk, idx t]
  rw [e]
  exact congrFun (V_main_arg5 m c) _

theorem x10_apply (t : Fin cfg0.N) (j : Fin 2048) : X10 m c t (Idealize.ShloMosaic.ix2 (0 : Fin 1) j) = (kargs m c).cb (Idealize.ShloMosaic.ix1 j) := by
  have e : X10 m c t (Idealize.ShloMosaic.ix2 (0 : Fin 1) j) = V m c main_v8 (Idealize.ShloMosaic.ix2 (0 : Fin 1) j) := by
    unfold X10
    blk_point [iblk, idx t]
  rw [e]
  exact entry_v8 m c j

theorem x11_apply (t : Fin cfg0.N) (g : Fin 2) (h : Fin 8) : X11 m c t (Idealize.ShloMosaic.ix2 (0 : Fin 1) (⟨8 * g.val + h.val, by omega⟩ : Fin 128)) = (kargs m c).bg (Idealize.ShloMosaic.ix2 g h) := by
  have e : X11 m c t (Idealize.ShloMosaic.ix2 (0 : Fin 1) (⟨8 * g.val + h.val, by omega⟩ : Fin 128)) = V m c main_v4 (Idealize.ShloMosaic.ix2 (0 : Fin 1) (⟨8 * g.val + h.val, by omega⟩ : Fin 128)) := by
    unfold X11
    blk_point [iblk, idx t]
  rw [e]
  exact entry_v4 m c g h

theorem x12_apply (t : Fin cfg0.N) (j : Fin 2048) : X12 m c t (Idealize.ShloMosaic.ix2 (0 : Fin 1) j) = (kargs m c).hn (Idealize.ShloMosaic.ix1 j) := by
  have e : X12 m c t (Idealize.ShloMosaic.ix2 (0 : Fin 1) j) = V m c main_v9 (Idealize.ShloMosaic.ix2 (0 : Fin 1) j) := by
    unfold X12
    blk_point [iblk, idx t]
  rw [e]
  exact entry_v9 m c j

end Cert.KernelIdeal.Hand

end
-- ==== Proof.MlstmKerSt.lean ====
module

public import proofs.«01_k».proof.Proof.Gen.KernelIdeal.Value
public import proofs.«01_k».proof.Proof.MlstmKerNC
public import proofs.«01_k».proof.Proof.MlstmKerGate
public import proofs.«01_k».proof.Proof.MlstmKerUbuf
public import proofs.«01_k».proof.Proof.MlstmKerIn
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 65536
set_option maxHeartbeats 4000000

noncomputable section

/-! The operands of a chunk, and the state between chunks. -/

namespace Cert.KernelIdeal.Hand

open Cert.KernelIdeal Cert.KernelIdeal.Gen Cert.KernelIdeal.Value Idealize.ShloMosaic Idealize.ShloMosaic.TcCoe Idealize.SL.Sem Cert.Hand

variable (m : (ℓ : Loc nD τ sig) → Buf (Elt Ideal) ℓ) (c : Dev nD)

theorem bb_apply (t : Fin cfg0.N) (h : Fin 8) (s : Fin 64) : (k0_pay22 (F := Ideal) k0_pay19 (k0_pay20 (X4 m c t) (X11 m c t)) (k0_pay21 (X4 m c t) (X11 m c t))) (Idealize.ShloMosaic.ix2 s (⟨8 + h.val, by omega⟩ : Fin 128)) = Mlstm.bf (kargs m c) (ch t) h s := by
  rw [pay22_apply _ _ _ _ _ (fun x => tri s x)]
  unfold Mlstm.bf
  refine Finset.sum_congr (M := EReal) rfl fun x _ => ?_
  have e : X11 m c t (Idealize.ShloMosaic.ix2 (0 : Fin 1) (⟨8 + h.val, by omega⟩ : Fin 128)) = (kargs m c).bg (Idealize.ShloMosaic.ix2 (1 : Fin 2) h) := x11_apply m c t 1 h
  rw [x4_apply, e]
  unfold Mlstm.lff
  have e2 : (⟨4096 + (8 + h.val), by omega⟩ : Fin 6160) = ⟨4104 + h.val, by omega⟩ := Fin.ext (by show 4096 + (8 + h.val) = 4104 + h.val; omega)
  rw [e2]
  rfl

theorem g_apply (t : Fin cfg0.N) (h : Fin 8) (s : Fin 64) : (k0_pay18 (F := Ideal) (X4 m c t) (X11 m c t)) (Idealize.ShloMosaic.ix2 s (⟨h.val, by omega⟩ : Fin 128)) = Mlstm.igf (kargs m c) (ch t) h s := by
  rw [pay18_apply, x4_apply]
  have e : X11 m c t (Idealize.ShloMosaic.ix2 (0 : Fin 1) (⟨h.val, by omega⟩ : Fin 128)) = (kargs m c).bg (Idealize.ShloMosaic.ix2 (0 : Fin 2) h) := by
    have e1 := x11_apply m c t 0 h
    have e2 : (⟨8 * (0 : Fin 2).val + h.val, by show 8 * 0 + h.val < 128; omega⟩ : Fin 128) = ⟨h.val, by omega⟩ := Fin.ext (by show 8 * 0 + h.val = h.val; omega)
    rw [← e1]
    exact congrArg (fun l => X11 m c t (Idealize.ShloMosaic.ix2 (0 : Fin 1) l)) e2.symm
  rw [e]
  rfl

theorem bf_lt (t : Fin 128) (h : Fin 8) (s : Fin 64) (a : Mlstm.Args) : Mlstm.bf a t h s < (⊤ : EReal) :=
  sum_le _ fun x => by
    split_ifs
    · exact Mlstm.lsg_nonpos _
    · exact le_refl _

/-- A chunk's gates. -/
theorem gates (t : Fin cfg0.N) (hig : ∀ (t : Fin 128) (h : Fin 8) (i : Fin 64), Mlstm.igf (kargs m c) t h i < (⊤ : EReal))
    (M : FVec Ideal S1x128 .f32) (m0 : Fin 8 → EReal) (hM : ∀ h : Fin 8, M (Idealize.ShloMosaic.ix2 (0 : Fin 1) (⟨h.val, by omega⟩ : Fin 128)) = m0 h) :
    Gates (k0_pay22 (F := Ideal) k0_pay19 (k0_pay20 (X4 m c t) (X11 m c t)) (k0_pay21 (X4 m c t) (X11 m c t))) (k0_pay18 (F := Ideal) (X4 m c t) (X11 m c t)) (k0_pay24 (k0_pay18 (F := Ideal) (X4 m c t) (X11 m c t))) (k0_pay25 k0_pay19 (k0_pay20 (X4 m c t) (X11 m c t)) (k0_pay21 (X4 m c t) (X11 m c t))) M (Mlstm.bf (kargs m c) (ch t)) (Mlstm.igf (kargs m c) (ch t)) m0 where
  hB := bb_apply m c t
  hBT h s := (pay25_apply _ _ _ _ _ (lt_of_eq_of_lt (bb_apply m c t h s) (bf_lt _ _ _ _))).trans (bb_apply m c t h s)
  hIT h s := (pay24_apply _ _ _ (lt_of_eq_of_lt (g_apply m c t h s) (hig _ _ _))).trans (g_apply m c t h s)
  hG := g_apply m c t
  hM := hM

theorem qk_up (t : Fin cfg0.N) (r : Fin 64) (j : Fin 2048) :
    qk (X0 m c t) (X1 m c t) r j = Mlstm.up (kargs m c) (⟨64 * t.val + r.val + 3, by have := t_lt t; omega⟩ : Fin 8195) j := by
  have e0 : Mlstm.up (kargs m c) (⟨64 * t.val + r.val + 3, by have := t_lt t; omega⟩ : Fin 8195) j = (kargs m c).p (Idealize.ShloMosaic.ix2 (⟨64 * t.val + r.val + 3 - 3, by have := t_lt t; omega⟩ : Fin 8320) (⟨j.val, by omega⟩ : Fin 6160)) :=
    dif_neg (by show ¬(64 * t.val + r.val + 3 < 3); omega)
  rw [e0]
  unfold qk
  have e : (⟨64 * t.val + r.val + 3 - 3, by have := t_lt t; omega⟩ : Fin 8320) = ⟨64 * t.val + r.val, by have := t_lt t; omega⟩ := Fin.ext (by show 64 * t.val + r.val + 3 - 3 = 64 * t.val + r.val; omega)
  split_ifs with h
  · rw [x0_apply]
    exact congrArg (fun x => (kargs m c).p (Idealize.ShloMosaic.ix2 x (⟨j.val, by omega⟩ : Fin 6160))) e.symm
  · rw [x1_apply]
    exact congrArg₂ (fun (x : Fin 8320) (y : Fin 6160) => (kargs m c).p (Idealize.ShloMosaic.ix2 x y)) e.symm (Fin.ext (by show 1024 + (j.val - 1024) = j.val; omega))

theorem ldW (t : Fin cfg0.N) (k : ℕ) (hk : k < 4) (inb) (j : Fin 2048) :
    (View.ld (Val := Elt Ideal) (e' := .f32) (X9 m c t) (Rect.unit (s := S4x2048) ![k, 0] ![1, 2048] inb) : FVec Ideal S1x2048 .f32) (Idealize.ShloMosaic.ix2 (0 : Fin 1) j) = (kargs m c).w (Idealize.ShloMosaic.ix2 (⟨k, hk⟩ : Fin 4) j) :=
  (View.ld_unit_apply_of (Val := Elt Ideal) (e := .f32) (X9 m c t) _ _ _ _ _ (Fin.forall_fin_two.mpr ⟨by show k = k + 0; omega, by show j.val = 0 + j.val; omega⟩)).trans (x9_apply m c t ⟨k, hk⟩ j)

/-- The keys of a chunk, from four shifts of the rows before the convolution. -/
theorem kk_of (t : Fin cfg0.N) (u0 u1 u2 u3 : FVec Ideal S64x2048 .f32)
    (h0 : ∀ (i : Fin 64) (j : Fin 2048), u0 (Idealize.ShloMosaic.ix2 i j) = Mlstm.up (kargs m c) (⟨64 * t.val + i.val, by have := t_lt t; omega⟩ : Fin 8195) j)
    (h1 : ∀ (i : Fin 64) (j : Fin 2048), u1 (Idealize.ShloMosaic.ix2 i j) = Mlstm.up (kargs m c) (⟨64 * t.val + i.val + 1, by have := t_lt t; omega⟩ : Fin 8195) j)
    (h2 : ∀ (i : Fin 64) (j : Fin 2048), u2 (Idealize.ShloMosaic.ix2 i j) = Mlstm.up (kargs m c) (⟨64 * t.val + i.val + 2, by have := t_lt t; omega⟩ : Fin 8195) j)
    (h3 : ∀ (i : Fin 64) (j : Fin 2048), u3 (Idealize.ShloMosaic.ix2 i j) = Mlstm.up (kargs m c) (⟨64 * t.val + i.val + 3, by have := t_lt t; omega⟩ : Fin 8195) j)
    (h : Fin 8) (s : Fin 64) (d : Fin 128) :
    k0_pay17 (F := Ideal) (k0_pay13 (X10 m c t) u0 (View.ld (X9 m c t) (Rect.unit (s := S4x2048) ![0, 0] ![1, 2048] inb_S4x2048_S1x2048_0_0)) u1 (View.ld (X9 m c t) (Rect.unit (s := S4x2048) ![1, 0] ![1, 2048] inb_S4x2048_S1x2048_1_0)) u2 (View.ld (X9 m c t) (Rect.unit (s := S4x2048) ![2, 0] ![1, 2048] inb_S4x2048_S1x2048_2_0))) u3 (View.ld (X9 m c t) (Rect.unit (s := S4x2048) ![3, 0] ![1, 2048] inb_S4x2048_S1x2048_3_0))
      (Idealize.ShloMosaic.ix2 s (⟨128 * h.val + d.val, by omega⟩ : Fin 1024)) = Mlstm.kf (kargs m c) (ch t) h s d := by
  rw [pay17_apply, x10_apply, ldW m c t 0 (by decide), ldW m c t 1 (by decide), ldW m c t 2 (by decide), ldW m c t 3 (by decide), h0, h1, h2, h3]
  unfold Mlstm.kf Mlstm.conv
  have e : (⟨1024 + (128 * h.val + d.val), by omega⟩ : Fin 2048) = ⟨1024 + 128 * h.val + d.val, by omega⟩ := Fin.ext (by show 1024 + (128 * h.val + d.val) = 1024 + 128 * h.val + d.val; omega)
  rw [e]
  rfl

theorem ldU (U : FVec Ideal S72x2048 .f32) (k : ℕ) (inb) (i : Fin 64) (j : Fin 2048) (hk : k + i.val < 72) :
    (View.ld (Val := Elt Ideal) (e' := .f32) U (Rect.unit (s := S72x2048) ![k, 0] ![64, 2048] inb) : FVec Ideal S64x2048 .f32) (Idealize.ShloMosaic.ix2 i j) = U (Idealize.ShloMosaic.ix2 (⟨k + i.val, hk⟩ : Fin 72) j) :=
  View.ld_unit_apply_of (Val := Elt Ideal) (e := .f32) U _ _ _ _ _ (Fin.forall_fin_two.mpr ⟨by show k + i.val = k + i.val; rfl, by show j.val = 0 + j.val; omega⟩)

theorem covU (L : List (View.Piece (Elt Ideal) S72x2048 .f32)) (k : ℕ) (inb) (i : Fin 64) (j : Fin 2048) (hk : k + i.val < 72) :
    (W3.readCov L (Rect.unit (s := S72x2048) ![k, 0] ![64, 2048] inb).toLoadRect : FVec Ideal S64x2048 .f32) (Idealize.ShloMosaic.ix2 i j) = View.canon L (Idealize.ShloMosaic.ix2 (⟨k + i.val, hk⟩ : Fin 72) j) := by
  rw [View.readCov_eq_canon']
  refine congrArg (View.canon L) (funext ?_)
  exact Fin.forall_fin_two.mpr ⟨Fin.ext (by show k + 1 * i.val = k + i.val; omega), Fin.ext (by show 0 + 1 * j.val = j.val; omega)⟩

theorem rowsB (t : Fin cfg0.N) (f) (hf : ∀ (r : Fin 3) (j : Fin 2048), View.read (Elt Ideal) W3 f (Idealize.ShloMosaic.ix2 (⟨5 + r.val, by omega⟩ : Fin 72) j) = Mlstm.up (kargs m c) (⟨64 * t.val + r.val, by have := t_lt t; omega⟩ : Fin 8195) j)
    (r : Fin 67) (j : Fin 2048) :
    View.read (Elt Ideal) W3 (W3.writes (Elt Ideal) f [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩]) (Idealize.ShloMosaic.ix2 (⟨5 + r.val, by omega⟩ : Fin 72) j) = Mlstm.up (kargs m c) (⟨64 * t.val + r.val, by have := t_lt t; omega⟩ : Fin 8195) j := by
  by_cases h : r.val < 3
  · exact (raw_lo f _ _ [] _ j (by show 5 + r.val < 8; omega)).trans (hf ⟨r.val, h⟩ j)
  · refine (raw_hi f _ _ [] _ j (by show 8 ≤ 5 + r.val; omega)).trans ((qk_up m c t _ j).trans ?_)
    exact congrArg (fun x => Mlstm.up (kargs m c) x j) (Fin.ext (by show 64 * t.val + (5 + r.val - 8) + 3 = 64 * t.val + r.val; omega))

theorem rowsA (t : Fin cfg0.N) (ht : t.val = 0) (r : Fin 67) (j : Fin 2048) :
    View.canon [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩, ⟨Rect.unit ![5, 0] ![3, 2048] inb_S72x2048_S3x2048_5_0, k0_pay10 (F := Ideal) (X5 m c t)⟩] (Idealize.ShloMosaic.ix2 (⟨5 + r.val, by omega⟩ : Fin 72) j) = Mlstm.up (kargs m c) (⟨64 * t.val + r.val, by have := t_lt t; omega⟩ : Fin 8195) j := by
  by_cases h : r.val < 3
  · refine (canon_lo _ _ _ _ j (by show 5 + r.val < 8; omega) (by show 5 ≤ 5 + r.val; omega)).trans ?_
    rw [x5_apply]
    unfold Mlstm.up
    rw [dif_pos (by show 64 * t.val + r.val < 3; omega)]
    exact congrArg (fun x => (kargs m c).conv0 (Idealize.ShloMosaic.ix3 (0 : Fin 1) x j)) (Fin.ext (by show 5 + r.val - 5 = 64 * t.val + r.val; omega))
  · refine (canon_hi _ _ _ _ j (by show 8 ≤ 5 + r.val; omega)).trans ((qk_up m c t _ j).trans ?_)
    exact congrArg (fun x => Mlstm.up (kargs m c) x j) (Fin.ext (by show 64 * t.val + (5 + r.val - 8) + 3 = 64 * t.val + r.val; omega))

theorem rows3 (t : Fin cfg0.N) (i : Fin 64) (j : Fin 2048) (L : List (View.Piece (Elt Ideal) S72x2048 .f32)) :
    View.canon ((⟨Rect.unit ![8, 1024] ![64, 1024] inb_S72x2048_S64x1024_8_1024, k0_pay12 (F := Ideal) (X1 m c t)⟩ : View.Piece (Elt Ideal) S72x2048 .f32) :: ⟨Rect.unit ![8, 0] ![64, 1024] inb_S72x2048_S64x1024_8_0, k0_pay11 (F := Ideal) (X0 m c t)⟩ :: L) (Idealize.ShloMosaic.ix2 (⟨8 + i.val, by omega⟩ : Fin 72) j) = Mlstm.up (kargs m c) (⟨64 * t.val + i.val + 3, by have := t_lt t; omega⟩ : Fin 8195) j := by
  refine (canon_hi _ _ _ _ j (by show 8 ≤ 8 + i.val; omega)).trans ((qk_up m c t _ j).trans ?_)
  exact congrArg (fun x => Mlstm.up (kargs m c) x j) (Fin.ext (by show 64 * t.val + (8 + i.val - 8) + 3 = 64 * t.val + i.val + 3; omega))

/-- The keys at a later chunk, whose first rows the chunk before left. -/
theorem kkB (t : Fin cfg0.N) (f) (hf : ∀ (r : Fin 3) (j : Fin 2048), View.read (Elt Ideal) W3 f (Idealize.ShloMosaic.ix2 (⟨5 + r.val, by omega⟩ : Fin 72) j) = Mlstm.up (kargs m c) (⟨64 * t.val + r.val, by have := t_lt t; omega⟩ : Fin 8195) j)
    (h : Fin 8) (s : Fin 64) (d : Fin 128) :
    (k0_pay17 (F := Ideal) (k0_pay13 (X10 m c t) (View.ld (View.read (Elt Ideal) W3 (W3.writes (Elt Ideal) f [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩])) (Rect.unit (s := S72x2048) ![5, 0] ![64, 2048] inb_S72x2048_S64x2048_5_0)) (View.ld (X9 m c t) (Rect.unit (s := S4x2048) ![0, 0] ![1, 2048] inb_S4x2048_S1x2048_0_0)) (View.ld (View.read (Elt Ideal) W3 (W3.writes (Elt Ideal) f [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩])) (Rect.unit (s := S72x2048) ![6, 0] ![64, 2048] inb_S72x2048_S64x2048_6_0)) (View.ld (X9 m c t) (Rect.unit (s := S4x2048) ![1, 0] ![1, 2048] inb_S4x2048_S1x2048_1_0)) (View.ld (View.read (Elt Ideal) W3 (W3.writes (Elt Ideal) f [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩])) (Rect.unit (s := S72x2048) ![7, 0] ![64, 2048] inb_S72x2048_S64x2048_7_0)) (View.ld (X9 m c t) (Rect.unit (s := S4x2048) ![2, 0] ![1, 2048] inb_S4x2048_S1x2048_2_0))) (W3.readCov [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩] (Rect.unit (s := S72x2048) ![8, 0] ![64, 2048] inb_S72x2048_S64x2048_8_0).toLoadRect : FVec Ideal S64x2048 .f32) (View.ld (X9 m c t) (Rect.unit (s := S4x2048) ![3, 0] ![1, 2048] inb_S4x2048_S1x2048_3_0))) (Idealize.ShloMosaic.ix2 s (⟨128 * h.val + d.val, by omega⟩ : Fin 1024)) = Mlstm.kf (kargs m c) (ch t) h s d := by
  refine kk_of m c t _ _ _ _ (fun i j => ?_) (fun i j => ?_) (fun i j => ?_) (fun i j => ?_) h s d
  · refine (ldU _ 5 _ i j (by omega)).trans (Eq.trans (congrArg (fun x => View.read (Elt Ideal) W3 (W3.writes (Elt Ideal) f [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩]) (Idealize.ShloMosaic.ix2 x j)) (Fin.ext (by show 5 + i.val = 5 + (i.val + 0); omega))) ((rowsB m c t f hf ⟨i.val + 0, by omega⟩ j).trans ?_))
    exact congrArg (fun x => Mlstm.up (kargs m c) x j) (Fin.ext (by show 64 * t.val + (i.val + 0) = 64 * t.val + i.val + 0; omega))
  · refine (ldU _ 6 _ i j (by omega)).trans (Eq.trans (congrArg (fun x => View.read (Elt Ideal) W3 (W3.writes (Elt Ideal) f [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩]) (Idealize.ShloMosaic.ix2 x j)) (Fin.ext (by show 6 + i.val = 5 + (i.val + 1); omega))) ((rowsB m c t f hf ⟨i.val + 1, by omega⟩ j).trans ?_))
    exact congrArg (fun x => Mlstm.up (kargs m c) x j) (Fin.ext (by show 64 * t.val + (i.val + 1) = 64 * t.val + i.val + 1; omega))
  · refine (ldU _ 7 _ i j (by omega)).trans (Eq.trans (congrArg (fun x => View.read (Elt Ideal) W3 (W3.writes (Elt Ideal) f [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩]) (Idealize.ShloMosaic.ix2 x j)) (Fin.ext (by show 7 + i.val = 5 + (i.val + 2); omega))) ((rowsB m c t f hf ⟨i.val + 2, by omega⟩ j).trans ?_))
    exact congrArg (fun x => Mlstm.up (kargs m c) x j) (Fin.ext (by show 64 * t.val + (i.val + 2) = 64 * t.val + i.val + 2; omega))
  · exact (covU _ 8 _ i j (by omega)).trans (rows3 m c t i j [])

/-- The keys at the first chunk. -/
theorem kkA (t : Fin cfg0.N) (ht : t.val = 0) (h : Fin 8) (s : Fin 64) (d : Fin 128) :
    (k0_pay17 (F := Ideal) (k0_pay13 (X10 m c t) (W3.readCov [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩, ⟨Rect.unit ![5, 0] ![3, 2048] inb_S72x2048_S3x2048_5_0, k0_pay10 (F := Ideal) (X5 m c t)⟩] (Rect.unit (s := S72x2048) ![5, 0] ![64, 2048] inb_S72x2048_S64x2048_5_0).toLoadRect : FVec Ideal S64x2048 .f32) (View.ld (X9 m c t) (Rect.unit (s := S4x2048) ![0, 0] ![1, 2048] inb_S4x2048_S1x2048_0_0)) (W3.readCov [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩, ⟨Rect.unit ![5, 0] ![3, 2048] inb_S72x2048_S3x2048_5_0, k0_pay10 (F := Ideal) (X5 m c t)⟩] (Rect.unit (s := S72x2048) ![6, 0] ![64, 2048] inb_S72x2048_S64x2048_6_0).toLoadRect : FVec Ideal S64x2048 .f32) (View.ld (X9 m c t) (Rect.unit (s := S4x2048) ![1, 0] ![1, 2048] inb_S4x2048_S1x2048_1_0)) (W3.readCov [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩, ⟨Rect.unit ![5, 0] ![3, 2048] inb_S72x2048_S3x2048_5_0, k0_pay10 (F := Ideal) (X5 m c t)⟩] (Rect.unit (s := S72x2048) ![7, 0] ![64, 2048] inb_S72x2048_S64x2048_7_0).toLoadRect : FVec Ideal S64x2048 .f32) (View.ld (X9 m c t) (Rect.unit (s := S4x2048) ![2, 0] ![1, 2048] inb_S4x2048_S1x2048_2_0))) (W3.readCov [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩, ⟨Rect.unit ![5, 0] ![3, 2048] inb_S72x2048_S3x2048_5_0, k0_pay10 (F := Ideal) (X5 m c t)⟩] (Rect.unit (s := S72x2048) ![8, 0] ![64, 2048] inb_S72x2048_S64x2048_8_0).toLoadRect : FVec Ideal S64x2048 .f32) (View.ld (X9 m c t) (Rect.unit (s := S4x2048) ![3, 0] ![1, 2048] inb_S4x2048_S1x2048_3_0))) (Idealize.ShloMosaic.ix2 s (⟨128 * h.val + d.val, by omega⟩ : Fin 1024)) = Mlstm.kf (kargs m c) (ch t) h s d := by
  refine kk_of m c t _ _ _ _ (fun i j => ?_) (fun i j => ?_) (fun i j => ?_) (fun i j => ?_) h s d
  · refine (covU _ 5 _ i j (by omega)).trans (Eq.trans (congrArg (fun x => View.canon [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩, ⟨Rect.unit ![5, 0] ![3, 2048] inb_S72x2048_S3x2048_5_0, k0_pay10 (F := Ideal) (X5 m c t)⟩] (Idealize.ShloMosaic.ix2 x j)) (Fin.ext (by show 5 + i.val = 5 + (i.val + 0); omega))) ((rowsA m c t ht ⟨i.val + 0, by omega⟩ j).trans ?_))
    exact congrArg (fun x => Mlstm.up (kargs m c) x j) (Fin.ext (by show 64 * t.val + (i.val + 0) = 64 * t.val + i.val + 0; omega))
  · refine (covU _ 6 _ i j (by omega)).trans (Eq.trans (congrArg (fun x => View.canon [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩, ⟨Rect.unit ![5, 0] ![3, 2048] inb_S72x2048_S3x2048_5_0, k0_pay10 (F := Ideal) (X5 m c t)⟩] (Idealize.ShloMosaic.ix2 x j)) (Fin.ext (by show 6 + i.val = 5 + (i.val + 1); omega))) ((rowsA m c t ht ⟨i.val + 1, by omega⟩ j).trans ?_))
    exact congrArg (fun x => Mlstm.up (kargs m c) x j) (Fin.ext (by show 64 * t.val + (i.val + 1) = 64 * t.val + i.val + 1; omega))
  · refine (covU _ 7 _ i j (by omega)).trans (Eq.trans (congrArg (fun x => View.canon [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩, ⟨Rect.unit ![5, 0] ![3, 2048] inb_S72x2048_S3x2048_5_0, k0_pay10 (F := Ideal) (X5 m c t)⟩] (Idealize.ShloMosaic.ix2 x j)) (Fin.ext (by show 7 + i.val = 5 + (i.val + 2); omega))) ((rowsA m c t ht ⟨i.val + 2, by omega⟩ j).trans ?_))
    exact congrArg (fun x => Mlstm.up (kargs m c) x j) (Fin.ext (by show 64 * t.val + (i.val + 2) = 64 * t.val + i.val + 2; omega))
  · refine (covU _ 8 _ i j (by omega)).trans (Eq.trans (congrArg (fun x => View.canon [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩, ⟨Rect.unit ![5, 0] ![3, 2048] inb_S72x2048_S3x2048_5_0, k0_pay10 (F := Ideal) (X5 m c t)⟩] (Idealize.ShloMosaic.ix2 x j)) (Fin.ext (by show 8 + i.val = 5 + (i.val + 3); omega))) ((rowsA m c t ht ⟨i.val + 3, by omega⟩ j).trans ?_))
    exact congrArg (fun x => Mlstm.up (kargs m c) x j) (Fin.ext (by show 64 * t.val + (i.val + 3) = 64 * t.val + i.val + 3; omega))

/-- The carried rows after a chunk. -/
theorem tail_up (t : Fin cfg0.N) (L L' : List (View.Piece (Elt Ideal) S72x2048 .f32)) (r : Fin 3) (j : Fin 2048) :
    View.canon (⟨Rect.unit ![0, 0] ![8, 2048] inb_S72x2048_S8x2048_0_0, k0_pay14 (F := Ideal) (W3.readCov ((⟨Rect.unit ![8, 1024] ![64, 1024] inb_S72x2048_S64x1024_8_1024, k0_pay12 (F := Ideal) (X1 m c t)⟩ : View.Piece (Elt Ideal) S72x2048 .f32) :: ⟨Rect.unit ![8, 0] ![64, 1024] inb_S72x2048_S64x1024_8_0, k0_pay11 (F := Ideal) (X0 m c t)⟩ :: L) (Rect.unit (s := S72x2048) ![64, 0] ![8, 2048] inb_S72x2048_S8x2048_64_0).toLoadRect : FVec Ideal S8x2048 .f32)⟩ :: L') (Idealize.ShloMosaic.ix2 (⟨5 + r.val, by omega⟩ : Fin 72) j) = Mlstm.up (kargs m c) (⟨64 * (t.val + 1) + r.val, by have := t_lt t; omega⟩ : Fin 8195) j := by
  refine (tail_apply _ _ L L' r j).trans ((qk_up m c t _ j).trans ?_)
  exact congrArg (fun x => Mlstm.up (kargs m c) x j) (Fin.ext (by show 64 * t.val + (61 + r.val) + 3 = 64 * (t.val + 1) + r.val; omega))

/-- The state after so many chunks. -/
structure St (U : FVec Ideal S72x2048 .f32) (M : FVec Ideal S1x128 .f32) (N : FVec Ideal S8x128 .f32) (C : FVec Ideal S8x256x128 .f32) (n : ℕ) (hn : n ≤ 128) : Prop where
  hU : ∀ (r : Fin 3) (j : Fin 2048), U (Idealize.ShloMosaic.ix2 (⟨5 + r.val, by omega⟩ : Fin 72) j) = Mlstm.up (kargs m c) (⟨64 * n + r.val, by omega⟩ : Fin 8195) j
  hM : ∀ l : Fin 128, M (Idealize.ShloMosaic.ix2 (0 : Fin 1) l) = if h : l.val < 8 then Mlstm.stM (kargs m c) ⟨l.val, h⟩ n else 0
  hN : ∀ (h : Fin 8) (d : Fin 128), N (Idealize.ShloMosaic.ix2 h d) = Mlstm.stN (kargs m c) h n d
  hC : ∀ (h : Fin 8) (e : Fin 256) (d : Fin 128), C (Idealize.ShloMosaic.ix3 h e d) = Mlstm.stC (kargs m c) h n e d

theorem pay9_apply (t : Fin cfg0.N) (l : Fin 128) : k0_pay9 (F := Ideal) (X8 m c t) (Idealize.ShloMosaic.ix2 (0 : Fin 1) l) = if h : l.val < 8 then Mlstm.stM (kargs m c) ⟨l.val, h⟩ 0 else 0 := by
  refine Eq.trans ?_ (x8_apply m c t l)
  unfold k0_pay9
  pointwise

theorem pay8_apply (t : Fin cfg0.N) (h : Fin 8) (d : Fin 128) : k0_pay8 (F := Ideal) (X7 m c t) (Idealize.ShloMosaic.ix2 h d) = Mlstm.stN (kargs m c) h 0 d := by
  refine Eq.trans ?_ (x7_apply m c t h d)
  unfold k0_pay8
  pointwise

theorem pay7_apply (t : Fin cfg0.N) (h : Fin 8) (e : Fin 256) (d : Fin 128) : k0_pay7 (F := Ideal) (X6 m c t) (Idealize.ShloMosaic.ix3 h e d) = Mlstm.stC (kargs m c) h 0 e d := by
  refine Eq.trans ?_ (x6_apply m c t h e d)
  unfold k0_pay7
  pointwise

theorem xv_apply (t : Fin cfg0.N) (h : Fin 8) (s : Fin 64) (e : Fin 256) : X2 m c t (Idealize.ShloMosaic.ix2 s (⟨256 * h.val + e.val, by omega⟩ : Fin 2048)) = Mlstm.vf (kargs m c) (ch t) h s e := by
  rw [x2_apply]
  unfold Mlstm.vf
  exact congrArg (fun x => (kargs m c).p (Idealize.ShloMosaic.ix2 (⟨64 * t.val + s.val, by have := t_lt t; omega⟩ : Fin 8320) x)) (Fin.ext (by show 2048 + (256 * h.val + e.val) = 2048 + 256 * h.val + e.val; omega))

end Cert.KernelIdeal.Hand

end
-- ==== Proof.MlstmKerStepA.lean ====
module

public import proofs.«01_k».proof.Proof.Gen.KernelIdeal.Value
public import proofs.«01_k».proof.Proof.MlstmKerSt
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 65536
set_option maxHeartbeats 4000000

noncomputable section

/-! The first chunk: what it leaves in the carried buffers. -/

namespace Cert.KernelIdeal.Hand

open Cert.KernelIdeal Cert.KernelIdeal.Gen Cert.KernelIdeal.Value Idealize.ShloMosaic Idealize.ShloMosaic.TcCoe Idealize.SL.Sem Cert.Hand

variable (m : (ℓ : Loc nD τ sig) → Buf (Elt Ideal) ℓ) (c : Dev nD)

theorem stepA_0 (t : Fin cfg0.N) (h0 : t.val % 128 = 0) (h1 : ¬t.val % 128 = 127) (hig : ∀ (t : Fin 128) (h : Fin 8) (i : Fin 64), Mlstm.igf (kargs m c) t h i < (⊤ : EReal))
     (h : Fin 8) (e : Fin 256) (d : Fin 128) :
    (outsAt0 m c t.val t.isLt).2.2.2.2.2.1 (Idealize.ShloMosaic.ix3 h e d) = Mlstm.stC (kargs m c) h (t.val + 1) e d := by
  have htl := t_lt t
  rw [outsAt0_A m c t h0 h1]
  dsimp only
  unfold sout0_A_0
  frame_open
  simp (disch := decide) only [↓ View.readCov_skip, ↓ View.readCov_cons_toLoadRect, ↓ View.readCov_fill]
  frame_out
  try simp only [read_unread_whole]
  have ht : t.val = 0 := by omega
  generalize hK : k0_pay17 (F := Ideal) _ _ _ = KK
  have hKK : ∀ (h : Fin 8) (s : Fin 64) (d : Fin 128), KK (Idealize.ShloMosaic.ix2 s (⟨128 * h.val + d.val, by omega⟩ : Fin 1024)) = Mlstm.kf (kargs m c) (ch t) h s d := by
    intro h s d
    rw [← hK]
    exact kkA m c t ht h s d
  generalize hMe : k0_pay9 (F := Ideal) (iblk m c 8 t) = M
  have hM : ∀ l : Fin 128, M (Idealize.ShloMosaic.ix2 (0 : Fin 1) l) = if h : l.val < 8 then Mlstm.stM (kargs m c) ⟨l.val, h⟩ t.val else 0 := by
    intro l
    rw [← hMe, ht]
    exact pay9_apply m c t l
  have g := gates m c t hig M (fun h => Mlstm.stM (kargs m c) h t.val) (fun h => (hM _).trans (dif_pos h.isLt))
  generalize hBB : k0_pay22 (F := Ideal) _ _ _ = BB
  generalize hIT : k0_pay24 (F := Ideal) _ = IT
  generalize hBT : k0_pay25 (F := Ideal) _ _ _ = BT
  generalize hG : k0_pay18 (F := Ideal) _ _ = G
  replace g : Gates BB (k0_pay18 (F := Ideal) (X4 m c t) (X11 m c t)) IT BT M (Mlstm.bf (kargs m c) (ch t)) (Mlstm.igf (kargs m c) (ch t)) (fun h => Mlstm.stM (kargs m c) h t.val) := by
    rw [← hBB, ← hIT, ← hBT]
    exact g
  replace g : Gates BB G IT BT M (Mlstm.bf (kargs m c) (ch t)) (Mlstm.igf (kargs m c) (ch t)) (fun h => Mlstm.stM (kargs m c) h t.val) := by
    rw [← hG]
    exact g
  clear hK hBB hIT hBT hG
  refine Eq.trans ?_ (congrFun (congrFun (Mlstm.stC_succ (kargs m c) h (ch t)).symm e) d)
  exact C_after g KK _ _ _ _ _ (fun h => Mlstm.stC (kargs m c) h t.val) hKK (xv_apply m c t) (fun h e d => by rw [ht]; exact pay7_apply m c t h e d) h e d

theorem stepA_1 (t : Fin cfg0.N) (h0 : t.val % 128 = 0) (h1 : ¬t.val % 128 = 127) (hig : ∀ (t : Fin 128) (h : Fin 8) (i : Fin 64), Mlstm.igf (kargs m c) t h i < (⊤ : EReal))
     (h : Fin 8) (d : Fin 128) :
    (outsAt0 m c t.val t.isLt).2.2.2.2.2.2.1 (Idealize.ShloMosaic.ix2 h d) = Mlstm.stN (kargs m c) h (t.val + 1) d := by
  have htl := t_lt t
  rw [outsAt0_A m c t h0 h1]
  dsimp only
  unfold sout0_A_1
  frame_open
  simp (disch := decide) only [↓ View.readCov_skip, ↓ View.readCov_cons_toLoadRect, ↓ View.readCov_fill]
  frame_out
  try simp only [read_unread_whole]
  have ht : t.val = 0 := by omega
  generalize hK : k0_pay17 (F := Ideal) _ _ _ = KK
  have hKK : ∀ (h : Fin 8) (s : Fin 64) (d : Fin 128), KK (Idealize.ShloMosaic.ix2 s (⟨128 * h.val + d.val, by omega⟩ : Fin 1024)) = Mlstm.kf (kargs m c) (ch t) h s d := by
    intro h s d
    rw [← hK]
    exact kkA m c t ht h s d
  generalize hMe : k0_pay9 (F := Ideal) (iblk m c 8 t) = M
  have hM : ∀ l : Fin 128, M (Idealize.ShloMosaic.ix2 (0 : Fin 1) l) = if h : l.val < 8 then Mlstm.stM (kargs m c) ⟨l.val, h⟩ t.val else 0 := by
    intro l
    rw [← hMe, ht]
    exact pay9_apply m c t l
  have g := gates m c t hig M (fun h => Mlstm.stM (kargs m c) h t.val) (fun h => (hM _).trans (dif_pos h.isLt))
  generalize hBB : k0_pay22 (F := Ideal) _ _ _ = BB
  generalize hIT : k0_pay24 (F := Ideal) _ = IT
  generalize hBT : k0_pay25 (F := Ideal) _ _ _ = BT
  generalize hG : k0_pay18 (F := Ideal) _ _ = G
  replace g : Gates BB (k0_pay18 (F := Ideal) (X4 m c t) (X11 m c t)) IT BT M (Mlstm.bf (kargs m c) (ch t)) (Mlstm.igf (kargs m c) (ch t)) (fun h => Mlstm.stM (kargs m c) h t.val) := by
    rw [← hBB, ← hIT, ← hBT]
    exact g
  replace g : Gates BB G IT BT M (Mlstm.bf (kargs m c) (ch t)) (Mlstm.igf (kargs m c) (ch t)) (fun h => Mlstm.stM (kargs m c) h t.val) := by
    rw [← hG]
    exact g
  clear hK hBB hIT hBT hG
  refine Eq.trans ?_ (congrFun (Mlstm.stN_succ (kargs m c) h (ch t)).symm d)
  exact n_after g KK _ _ _ (fun h => Mlstm.stN (kargs m c) h t.val) hKK (fun h d => by rw [ht]; exact pay8_apply m c t h d) h d

theorem stepA_2 (t : Fin cfg0.N) (h0 : t.val % 128 = 0) (h1 : ¬t.val % 128 = 127) (hig : ∀ (t : Fin 128) (h : Fin 8) (i : Fin 64), Mlstm.igf (kargs m c) t h i < (⊤ : EReal))
     (l : Fin 128) :
    (outsAt0 m c t.val t.isLt).2.2.2.2.2.2.2.1 (Idealize.ShloMosaic.ix2 (0 : Fin 1) l) = (if h : l.val < 8 then Mlstm.stM (kargs m c) ⟨l.val, h⟩ (t.val + 1) else 0) := by
  have htl := t_lt t
  rw [outsAt0_A m c t h0 h1]
  dsimp only
  unfold sout0_A_2
  frame_open
  simp (disch := decide) only [↓ View.readCov_skip, ↓ View.readCov_cons_toLoadRect, ↓ View.readCov_fill]
  frame_out
  try simp only [read_unread_whole]
  have ht : t.val = 0 := by omega
  generalize hMe : k0_pay9 (F := Ideal) (iblk m c 8 t) = M
  have hM : ∀ l : Fin 128, M (Idealize.ShloMosaic.ix2 (0 : Fin 1) l) = if h : l.val < 8 then Mlstm.stM (kargs m c) ⟨l.val, h⟩ t.val else 0 := by
    intro l
    rw [← hMe, ht]
    exact pay9_apply m c t l
  have g := gates m c t hig M (fun h => Mlstm.stM (kargs m c) h t.val) (fun h => (hM _).trans (dif_pos h.isLt))
  generalize hBB : k0_pay22 (F := Ideal) _ _ _ = BB
  generalize hIT : k0_pay24 (F := Ideal) _ = IT
  generalize hBT : k0_pay25 (F := Ideal) _ _ _ = BT
  try generalize hG : k0_pay18 (F := Ideal) _ _ = G
  replace g : Gates BB (k0_pay18 (F := Ideal) (X4 m c t) (X11 m c t)) IT BT M (Mlstm.bf (kargs m c) (ch t)) (Mlstm.igf (kargs m c) (ch t)) (fun h => Mlstm.stM (kargs m c) h t.val) := by
    rw [← hBB, ← hIT, ← hBT]
    exact g
  refine (m_after g l).trans ?_
  by_cases hl : l.val < 8
  · rw [dif_pos hl, dif_pos hl]
    exact (Mlstm.stM_succ (kargs m c) ⟨l.val, hl⟩ (ch t)).symm
  · rw [dif_neg hl, dif_neg hl]
    exact (hM l).trans (dif_neg hl)

theorem stepA_3 (t : Fin cfg0.N) (h0 : t.val % 128 = 0) (h1 : ¬t.val % 128 = 127) (hig : ∀ (t : Fin 128) (h : Fin 8) (i : Fin 64), Mlstm.igf (kargs m c) t h i < (⊤ : EReal))
     (r : Fin 3) (j : Fin 2048) :
    (outsAt0 m c t.val t.isLt).2.2.2.2.2.2.2.2 (Idealize.ShloMosaic.ix2 (⟨5 + r.val, by omega⟩ : Fin 72) j) = Mlstm.up (kargs m c) (⟨64 * (t.val + 1) + r.val, by have := t_lt t; omega⟩ : Fin 8195) j := by
  have htl := t_lt t
  rw [outsAt0_A m c t h0 h1]
  dsimp only
  unfold sout0_A_3
  frame_open
  simp (disch := decide) only [↓ View.readCov_skip, ↓ View.readCov_cons_toLoadRect, ↓ View.readCov_fill]
  frame_out
  try simp only [read_unread_whole]
  have ht : t.val = 0 := by omega
  exact tail_up m c t _ _ r j

end Cert.KernelIdeal.Hand

end
-- ==== Proof.MlstmKerStepB.lean ====
module

public import proofs.«01_k».proof.Proof.Gen.KernelIdeal.Value
public import proofs.«01_k».proof.Proof.MlstmKerSt
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 65536
set_option maxHeartbeats 4000000

noncomputable section

/-! A later chunk: what it leaves in the carried buffers. -/

namespace Cert.KernelIdeal.Hand

open Cert.KernelIdeal Cert.KernelIdeal.Gen Cert.KernelIdeal.Value Idealize.ShloMosaic Idealize.ShloMosaic.TcCoe Idealize.SL.Sem Cert.Hand

variable (m : (ℓ : Loc nD τ sig) → Buf (Elt Ideal) ℓ) (c : Dev nD)

theorem stepB_0 (t : Fin cfg0.N) (h0 : ¬t.val % 128 = 0) (h1 : ¬t.val % 128 = 127) (hig : ∀ (t : Fin 128) (h : Fin 8) (i : Fin 64), Mlstm.igf (kargs m c) t h i < (⊤ : EReal))
    (hp : St m c (outsAt0 m c (t.val - 1) (by have := t.isLt; omega)).2.2.2.2.2.2.2.2 (outsAt0 m c (t.val - 1) (by have := t.isLt; omega)).2.2.2.2.2.2.2.1 (outsAt0 m c (t.val - 1) (by have := t.isLt; omega)).2.2.2.2.2.2.1 (outsAt0 m c (t.val - 1) (by have := t.isLt; omega)).2.2.2.2.2.1 t.val (Nat.le_of_lt (t_lt t))) (h : Fin 8) (e : Fin 256) (d : Fin 128) :
    (outsAt0 m c t.val t.isLt).2.2.2.2.2.1 (Idealize.ShloMosaic.ix3 h e d) = Mlstm.stC (kargs m c) h (t.val + 1) e d := by
  have htl := t_lt t
  rw [outsAt0_B m c t h0 h1]
  dsimp only
  unfold sout0_B_0
  frame_open
  simp (disch := decide) only [↓ View.readCov_skip, ↓ View.readCov_cons_toLoadRect, ↓ View.readCov_fill]
  frame_out
  try simp only [read_unread_whole]
  generalize hK : k0_pay17 (F := Ideal) _ _ _ = KK
  have hKK : ∀ (h : Fin 8) (s : Fin 64) (d : Fin 128), KK (Idealize.ShloMosaic.ix2 s (⟨128 * h.val + d.val, by omega⟩ : Fin 1024)) = Mlstm.kf (kargs m c) (ch t) h s d := by
    intro h s d
    rw [← hK]
    exact kkB m c t _ (fun r j => (congrFun (read_unread_whole _ _ _) _).trans (hp.hU r j)) h s d
  have hM := hp.hM
  have hN := hp.hN
  have hC := hp.hC
  clear hp
  generalize outsAt0 m c (t.val - 1) _ = OO at hM hN hC ⊢
  generalize OO.2.2.2.2.2.2.2.1 = M at hM ⊢
  have g := gates m c t hig M (fun h => Mlstm.stM (kargs m c) h t.val) (fun h => (hM _).trans (dif_pos h.isLt))
  generalize hBB : k0_pay22 (F := Ideal) _ _ _ = BB
  generalize hIT : k0_pay24 (F := Ideal) _ = IT
  generalize hBT : k0_pay25 (F := Ideal) _ _ _ = BT
  generalize hG : k0_pay18 (F := Ideal) _ _ = G
  replace g : Gates BB (k0_pay18 (F := Ideal) (X4 m c t) (X11 m c t)) IT BT M (Mlstm.bf (kargs m c) (ch t)) (Mlstm.igf (kargs m c) (ch t)) (fun h => Mlstm.stM (kargs m c) h t.val) := by
    rw [← hBB, ← hIT, ← hBT]
    exact g
  replace g : Gates BB G IT BT M (Mlstm.bf (kargs m c) (ch t)) (Mlstm.igf (kargs m c) (ch t)) (fun h => Mlstm.stM (kargs m c) h t.val) := by
    rw [← hG]
    exact g
  clear hK hBB hIT hBT hG
  refine Eq.trans ?_ (congrFun (congrFun (Mlstm.stC_succ (kargs m c) h (ch t)).symm e) d)
  exact C_after g KK _ _ _ _ _ (fun h => Mlstm.stC (kargs m c) h t.val) hKK (xv_apply m c t) hC h e d

theorem stepB_1 (t : Fin cfg0.N) (h0 : ¬t.val % 128 = 0) (h1 : ¬t.val % 128 = 127) (hig : ∀ (t : Fin 128) (h : Fin 8) (i : Fin 64), Mlstm.igf (kargs m c) t h i < (⊤ : EReal))
    (hp : St m c (outsAt0 m c (t.val - 1) (by have := t.isLt; omega)).2.2.2.2.2.2.2.2 (outsAt0 m c (t.val - 1) (by have := t.isLt; omega)).2.2.2.2.2.2.2.1 (outsAt0 m c (t.val - 1) (by have := t.isLt; omega)).2.2.2.2.2.2.1 (outsAt0 m c (t.val - 1) (by have := t.isLt; omega)).2.2.2.2.2.1 t.val (Nat.le_of_lt (t_lt t))) (h : Fin 8) (d : Fin 128) :
    (outsAt0 m c t.val t.isLt).2.2.2.2.2.2.1 (Idealize.ShloMosaic.ix2 h d) = Mlstm.stN (kargs m c) h (t.val + 1) d := by
  have htl := t_lt t
  rw [outsAt0_B m c t h0 h1]
  dsimp only
  unfold sout0_B_1
  frame_open
  simp (disch := decide) only [↓ View.readCov_skip, ↓ View.readCov_cons_toLoadRect, ↓ View.readCov_fill]
  frame_out
  try simp only [read_unread_whole]
  generalize hK : k0_pay17 (F := Ideal) _ _ _ = KK
  have hKK : ∀ (h : Fin 8) (s : Fin 64) (d : Fin 128), KK (Idealize.ShloMosaic.ix2 s (⟨128 * h.val + d.val, by omega⟩ : Fin 1024)) = Mlstm.kf (kargs m c) (ch t) h s d := by
    intro h s d
    rw [← hK]
    exact kkB m c t _ (fun r j => (congrFun (read_unread_whole _ _ _) _).trans (hp.hU r j)) h s d
  have hM := hp.hM
  have hN := hp.hN
  have hC := hp.hC
  clear hp
  generalize outsAt0 m c (t.val - 1) _ = OO at hM hN hC ⊢
  generalize OO.2.2.2.2.2.2.2.1 = M at hM ⊢
  have g := gates m c t hig M (fun h => Mlstm.stM (kargs m c) h t.val) (fun h => (hM _).trans (dif_pos h.isLt))
  generalize hBB : k0_pay22 (F := Ideal) _ _ _ = BB
  generalize hIT : k0_pay24 (F := Ideal) _ = IT
  generalize hBT : k0_pay25 (F := Ideal) _ _ _ = BT
  generalize hG : k0_pay18 (F := Ideal) _ _ = G
  replace g : Gates BB (k0_pay18 (F := Ideal) (X4 m c t) (X11 m c t)) IT BT M (Mlstm.bf (kargs m c) (ch t)) (Mlstm.igf (kargs m c) (ch t)) (fun h => Mlstm.stM (kargs m c) h t.val) := by
    rw [← hBB, ← hIT, ← hBT]
    exact g
  replace g : Gates BB G IT BT M (Mlstm.bf (kargs m c) (ch t)) (Mlstm.igf (kargs m c) (ch t)) (fun h => Mlstm.stM (kargs m c) h t.val) := by
    rw [← hG]
    exact g
  clear hK hBB hIT hBT hG
  refine Eq.trans ?_ (congrFun (Mlstm.stN_succ (kargs m c) h (ch t)).symm d)
  exact n_after g KK _ _ _ (fun h => Mlstm.stN (kargs m c) h t.val) hKK hN h d

theorem stepB_2 (t : Fin cfg0.N) (h0 : ¬t.val % 128 = 0) (h1 : ¬t.val % 128 = 127) (hig : ∀ (t : Fin 128) (h : Fin 8) (i : Fin 64), Mlstm.igf (kargs m c) t h i < (⊤ : EReal))
    (hp : St m c (outsAt0 m c (t.val - 1) (by have := t.isLt; omega)).2.2.2.2.2.2.2.2 (outsAt0 m c (t.val - 1) (by have := t.isLt; omega)).2.2.2.2.2.2.2.1 (outsAt0 m c (t.val - 1) (by have := t.isLt; omega)).2.2.2.2.2.2.1 (outsAt0 m c (t.val - 1) (by have := t.isLt; omega)).2.2.2.2.2.1 t.val (Nat.le_of_lt (t_lt t))) (l : Fin 128) :
    (outsAt0 m c t.val t.isLt).2.2.2.2.2.2.2.1 (Idealize.ShloMosaic.ix2 (0 : Fin 1) l) = (if h : l.val < 8 then Mlstm.stM (kargs m c) ⟨l.val, h⟩ (t.val + 1) else 0) := by
  have htl := t_lt t
  rw [outsAt0_B m c t h0 h1]
  dsimp only
  unfold sout0_B_2
  frame_open
  simp (disch := decide) only [↓ View.readCov_skip, ↓ View.readCov_cons_toLoadRect, ↓ View.readCov_fill]
  frame_out
  try simp only [read_unread_whole]
  have hM := hp.hM
  have hN := hp.hN
  have hC := hp.hC
  clear hp
  generalize outsAt0 m c (t.val - 1) _ = OO at hM hN hC ⊢
  generalize OO.2.2.2.2.2.2.2.1 = M at hM ⊢
  have g := gates m c t hig M (fun h => Mlstm.stM (kargs m c) h t.val) (fun h => (hM _).trans (dif_pos h.isLt))
  generalize hBB : k0_pay22 (F := Ideal) _ _ _ = BB
  generalize hIT : k0_pay24 (F := Ideal) _ = IT
  generalize hBT : k0_pay25 (F := Ideal) _ _ _ = BT
  try generalize hG : k0_pay18 (F := Ideal) _ _ = G
  replace g : Gates BB (k0_pay18 (F := Ideal) (X4 m c t) (X11 m c t)) IT BT M (Mlstm.bf (kargs m c) (ch t)) (Mlstm.igf (kargs m c) (ch t)) (fun h => Mlstm.stM (kargs m c) h t.val) := by
    rw [← hBB, ← hIT, ← hBT]
    exact g
  refine (m_after g l).trans ?_
  by_cases hl : l.val < 8
  · rw [dif_pos hl, dif_pos hl]
    exact (Mlstm.stM_succ (kargs m c) ⟨l.val, hl⟩ (ch t)).symm
  · rw [dif_neg hl, dif_neg hl]
    exact (hM l).trans (dif_neg hl)

theorem stepB_3 (t : Fin cfg0.N) (h0 : ¬t.val % 128 = 0) (h1 : ¬t.val % 128 = 127) (hig : ∀ (t : Fin 128) (h : Fin 8) (i : Fin 64), Mlstm.igf (kargs m c) t h i < (⊤ : EReal))
    (hp : St m c (outsAt0 m c (t.val - 1) (by have := t.isLt; omega)).2.2.2.2.2.2.2.2 (outsAt0 m c (t.val - 1) (by have := t.isLt; omega)).2.2.2.2.2.2.2.1 (outsAt0 m c (t.val - 1) (by have := t.isLt; omega)).2.2.2.2.2.2.1 (outsAt0 m c (t.val - 1) (by have := t.isLt; omega)).2.2.2.2.2.1 t.val (Nat.le_of_lt (t_lt t))) (r : Fin 3) (j : Fin 2048) :
    (outsAt0 m c t.val t.isLt).2.2.2.2.2.2.2.2 (Idealize.ShloMosaic.ix2 (⟨5 + r.val, by omega⟩ : Fin 72) j) = Mlstm.up (kargs m c) (⟨64 * (t.val + 1) + r.val, by have := t_lt t; omega⟩ : Fin 8195) j := by
  have htl := t_lt t
  rw [outsAt0_B m c t h0 h1]
  dsimp only
  unfold sout0_B_3
  frame_open
  simp (disch := decide) only [↓ View.readCov_skip, ↓ View.readCov_cons_toLoadRect, ↓ View.readCov_fill]
  frame_out
  try simp only [read_unread_whole]
  exact tail_up m c t _ _ r j

end Cert.KernelIdeal.Hand

end
-- ==== Proof.MlstmKerStepC.lean ====
module

public import proofs.«01_k».proof.Proof.Gen.KernelIdeal.Value
public import proofs.«01_k».proof.Proof.MlstmKerSt
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 65536
set_option maxHeartbeats 4000000

noncomputable section

/-! The last chunk: what it leaves in the carried buffers. -/

namespace Cert.KernelIdeal.Hand

open Cert.KernelIdeal Cert.KernelIdeal.Gen Cert.KernelIdeal.Value Idealize.ShloMosaic Idealize.ShloMosaic.TcCoe Idealize.SL.Sem Cert.Hand

variable (m : (ℓ : Loc nD τ sig) → Buf (Elt Ideal) ℓ) (c : Dev nD)

theorem stepC_0 (t : Fin cfg0.N) (h0 : ¬t.val % 128 = 0) (h1 : t.val % 128 = 127) (hig : ∀ (t : Fin 128) (h : Fin 8) (i : Fin 64), Mlstm.igf (kargs m c) t h i < (⊤ : EReal))
    (hp : St m c (outsAt0 m c (t.val - 1) (by have := t.isLt; omega)).2.2.2.2.2.2.2.2 (outsAt0 m c (t.val - 1) (by have := t.isLt; omega)).2.2.2.2.2.2.2.1 (outsAt0 m c (t.val - 1) (by have := t.isLt; omega)).2.2.2.2.2.2.1 (outsAt0 m c (t.val - 1) (by have := t.isLt; omega)).2.2.2.2.2.1 t.val (Nat.le_of_lt (t_lt t))) (h : Fin 8) (e : Fin 256) (d : Fin 128) :
    (outsAt0 m c t.val t.isLt).2.2.2.2.2.1 (Idealize.ShloMosaic.ix3 h e d) = Mlstm.stC (kargs m c) h (t.val + 1) e d := by
  have htl := t_lt t
  rw [outsAt0_C m c t h0 h1]
  dsimp only
  unfold sout0_C_0
  frame_open
  simp (disch := decide) only [↓ View.readCov_skip, ↓ View.readCov_cons_toLoadRect, ↓ View.readCov_fill]
  frame_out
  try simp only [read_unread_whole]
  generalize hK : k0_pay17 (F := Ideal) _ _ _ = KK
  have hKK : ∀ (h : Fin 8) (s : Fin 64) (d : Fin 128), KK (Idealize.ShloMosaic.ix2 s (⟨128 * h.val + d.val, by omega⟩ : Fin 1024)) = Mlstm.kf (kargs m c) (ch t) h s d := by
    intro h s d
    rw [← hK]
    exact kkB m c t _ (fun r j => (congrFun (read_unread_whole _ _ _) _).trans (hp.hU r j)) h s d
  have hM := hp.hM
  have hN := hp.hN
  have hC := hp.hC
  clear hp
  generalize outsAt0 m c (t.val - 1) _ = OO at hM hN hC ⊢
  generalize OO.2.2.2.2.2.2.2.1 = M at hM ⊢
  have g := gates m c t hig M (fun h => Mlstm.stM (kargs m c) h t.val) (fun h => (hM _).trans (dif_pos h.isLt))
  generalize hBB : k0_pay22 (F := Ideal) _ _ _ = BB
  generalize hIT : k0_pay24 (F := Ideal) _ = IT
  generalize hBT : k0_pay25 (F := Ideal) _ _ _ = BT
  generalize hG : k0_pay18 (F := Ideal) _ _ = G
  replace g : Gates BB (k0_pay18 (F := Ideal) (X4 m c t) (X11 m c t)) IT BT M (Mlstm.bf (kargs m c) (ch t)) (Mlstm.igf (kargs m c) (ch t)) (fun h => Mlstm.stM (kargs m c) h t.val) := by
    rw [← hBB, ← hIT, ← hBT]
    exact g
  replace g : Gates BB G IT BT M (Mlstm.bf (kargs m c) (ch t)) (Mlstm.igf (kargs m c) (ch t)) (fun h => Mlstm.stM (kargs m c) h t.val) := by
    rw [← hG]
    exact g
  clear hK hBB hIT hBT hG
  refine Eq.trans ?_ (congrFun (congrFun (Mlstm.stC_succ (kargs m c) h (ch t)).symm e) d)
  exact C_after g KK _ _ _ _ _ (fun h => Mlstm.stC (kargs m c) h t.val) hKK (xv_apply m c t) hC h e d

theorem stepC_1 (t : Fin cfg0.N) (h0 : ¬t.val % 128 = 0) (h1 : t.val % 128 = 127) (hig : ∀ (t : Fin 128) (h : Fin 8) (i : Fin 64), Mlstm.igf (kargs m c) t h i < (⊤ : EReal))
    (hp : St m c (outsAt0 m c (t.val - 1) (by have := t.isLt; omega)).2.2.2.2.2.2.2.2 (outsAt0 m c (t.val - 1) (by have := t.isLt; omega)).2.2.2.2.2.2.2.1 (outsAt0 m c (t.val - 1) (by have := t.isLt; omega)).2.2.2.2.2.2.1 (outsAt0 m c (t.val - 1) (by have := t.isLt; omega)).2.2.2.2.2.1 t.val (Nat.le_of_lt (t_lt t))) (h : Fin 8) (d : Fin 128) :
    (outsAt0 m c t.val t.isLt).2.2.2.2.2.2.1 (Idealize.ShloMosaic.ix2 h d) = Mlstm.stN (kargs m c) h (t.val + 1) d := by
  have htl := t_lt t
  rw [outsAt0_C m c t h0 h1]
  dsimp only
  unfold sout0_C_1
  frame_open
  simp (disch := decide) only [↓ View.readCov_skip, ↓ View.readCov_cons_toLoadRect, ↓ View.readCov_fill]
  frame_out
  try simp only [read_unread_whole]
  generalize hK : k0_pay17 (F := Ideal) _ _ _ = KK
  have hKK : ∀ (h : Fin 8) (s : Fin 64) (d : Fin 128), KK (Idealize.ShloMosaic.ix2 s (⟨128 * h.val + d.val, by omega⟩ : Fin 1024)) = Mlstm.kf (kargs m c) (ch t) h s d := by
    intro h s d
    rw [← hK]
    exact kkB m c t _ (fun r j => (congrFun (read_unread_whole _ _ _) _).trans (hp.hU r j)) h s d
  have hM := hp.hM
  have hN := hp.hN
  have hC := hp.hC
  clear hp
  generalize outsAt0 m c (t.val - 1) _ = OO at hM hN hC ⊢
  generalize OO.2.2.2.2.2.2.2.1 = M at hM ⊢
  have g := gates m c t hig M (fun h => Mlstm.stM (kargs m c) h t.val) (fun h => (hM _).trans (dif_pos h.isLt))
  generalize hBB : k0_pay22 (F := Ideal) _ _ _ = BB
  generalize hIT : k0_pay24 (F := Ideal) _ = IT
  generalize hBT : k0_pay25 (F := Ideal) _ _ _ = BT
  generalize hG : k0_pay18 (F := Ideal) _ _ = G
  replace g : Gates BB (k0_pay18 (F := Ideal) (X4 m c t) (X11 m c t)) IT BT M (Mlstm.bf (kargs m c) (ch t)) (Mlstm.igf (kargs m c) (ch t)) (fun h => Mlstm.stM (kargs m c) h t.val) := by
    rw [← hBB, ← hIT, ← hBT]
    exact g
  replace g : Gates BB G IT BT M (Mlstm.bf (kargs m c) (ch t)) (Mlstm.igf (kargs m c) (ch t)) (fun h => Mlstm.stM (kargs m c) h t.val) := by
    rw [← hG]
    exact g
  clear hK hBB hIT hBT hG
  refine Eq.trans ?_ (congrFun (Mlstm.stN_succ (kargs m c) h (ch t)).symm d)
  exact n_after g KK _ _ _ (fun h => Mlstm.stN (kargs m c) h t.val) hKK hN h d

theorem stepC_2 (t : Fin cfg0.N) (h0 : ¬t.val % 128 = 0) (h1 : t.val % 128 = 127) (hig : ∀ (t : Fin 128) (h : Fin 8) (i : Fin 64), Mlstm.igf (kargs m c) t h i < (⊤ : EReal))
    (hp : St m c (outsAt0 m c (t.val - 1) (by have := t.isLt; omega)).2.2.2.2.2.2.2.2 (outsAt0 m c (t.val - 1) (by have := t.isLt; omega)).2.2.2.2.2.2.2.1 (outsAt0 m c (t.val - 1) (by have := t.isLt; omega)).2.2.2.2.2.2.1 (outsAt0 m c (t.val - 1) (by have := t.isLt; omega)).2.2.2.2.2.1 t.val (Nat.le_of_lt (t_lt t))) (l : Fin 128) :
    (outsAt0 m c t.val t.isLt).2.2.2.2.2.2.2.1 (Idealize.ShloMosaic.ix2 (0 : Fin 1) l) = (if h : l.val < 8 then Mlstm.stM (kargs m c) ⟨l.val, h⟩ (t.val + 1) else 0) := by
  have htl := t_lt t
  rw [outsAt0_C m c t h0 h1]
  dsimp only
  unfold sout0_C_2
  frame_open
  simp (disch := decide) only [↓ View.readCov_skip, ↓ View.readCov_cons_toLoadRect, ↓ View.readCov_fill]
  frame_out
  try simp only [read_unread_whole]
  have hM := hp.hM
  have hN := hp.hN
  have hC := hp.hC
  clear hp
  generalize outsAt0 m c (t.val - 1) _ = OO at hM hN hC ⊢
  generalize OO.2.2.2.2.2.2.2.1 = M at hM ⊢
  have g := gates m c t hig M (fun h => Mlstm.stM (kargs m c) h t.val) (fun h => (hM _).trans (dif_pos h.isLt))
  generalize hBB : k0_pay22 (F := Ideal) _ _ _ = BB
  generalize hIT : k0_pay24 (F := Ideal) _ = IT
  generalize hBT : k0_pay25 (F := Ideal) _ _ _ = BT
  try generalize hG : k0_pay18 (F := Ideal) _ _ = G
  replace g : Gates BB (k0_pay18 (F := Ideal) (X4 m c t) (X11 m c t)) IT BT M (Mlstm.bf (kargs m c) (ch t)) (Mlstm.igf (kargs m c) (ch t)) (fun h => Mlstm.stM (kargs m c) h t.val) := by
    rw [← hBB, ← hIT, ← hBT]
    exact g
  refine (m_after g l).trans ?_
  by_cases hl : l.val < 8
  · rw [dif_pos hl, dif_pos hl]
    exact (Mlstm.stM_succ (kargs m c) ⟨l.val, hl⟩ (ch t)).symm
  · rw [dif_neg hl, dif_neg hl]
    exact (hM l).trans (dif_neg hl)

theorem stepC_3 (t : Fin cfg0.N) (h0 : ¬t.val % 128 = 0) (h1 : t.val % 128 = 127) (hig : ∀ (t : Fin 128) (h : Fin 8) (i : Fin 64), Mlstm.igf (kargs m c) t h i < (⊤ : EReal))
    (hp : St m c (outsAt0 m c (t.val - 1) (by have := t.isLt; omega)).2.2.2.2.2.2.2.2 (outsAt0 m c (t.val - 1) (by have := t.isLt; omega)).2.2.2.2.2.2.2.1 (outsAt0 m c (t.val - 1) (by have := t.isLt; omega)).2.2.2.2.2.2.1 (outsAt0 m c (t.val - 1) (by have := t.isLt; omega)).2.2.2.2.2.1 t.val (Nat.le_of_lt (t_lt t))) (r : Fin 3) (j : Fin 2048) :
    (outsAt0 m c t.val t.isLt).2.2.2.2.2.2.2.2 (Idealize.ShloMosaic.ix2 (⟨5 + r.val, by omega⟩ : Fin 72) j) = Mlstm.up (kargs m c) (⟨64 * (t.val + 1) + r.val, by have := t_lt t; omega⟩ : Fin 8195) j := by
  have htl := t_lt t
  rw [outsAt0_C m c t h0 h1]
  dsimp only
  unfold sout0_C_3
  frame_open
  simp (disch := decide) only [↓ View.readCov_skip, ↓ View.readCov_cons_toLoadRect, ↓ View.readCov_fill]
  frame_out
  try simp only [read_unread_whole]
  exact tail_up m c t _ _ r j

end Cert.KernelIdeal.Hand

end
-- ==== Proof.MlstmKerStepD.lean ====
module

public import proofs.«01_k».proof.Proof.Gen.KernelIdeal.Value
public import proofs.«01_k».proof.Proof.MlstmKerSt
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 65536
set_option maxHeartbeats 4000000

noncomputable section

/-! The last chunk: what it leaves in the results. -/

namespace Cert.KernelIdeal.Hand

open Cert.KernelIdeal Cert.KernelIdeal.Gen Cert.KernelIdeal.Value Idealize.ShloMosaic Idealize.ShloMosaic.TcCoe Idealize.SL.Sem Cert.Hand

variable (m : (ℓ : Loc nD τ sig) → Buf (Elt Ideal) ℓ) (c : Dev nD)

theorem pay3_apply (L : List (View.Piece (Elt Ideal) S8x256x128 .f32)) (h : Fin 8) (e : Fin 256) (d : Fin 128) :
    k0_pay3 (F := Ideal) ((View.whole (sig := sig) cc0_scratch0).readCov L (Rect.unit (s := S8x256x128) ![0, 0, 0] ![8, 256, 128] inb_S8x256x128_S8x256x128_0_0_0).toLoadRect : FVec Ideal S8x256x128 .f32) (Idealize.ShloMosaic.ix4 (0 : Fin 1) h e d) = View.canon L (Idealize.ShloMosaic.ix3 h e d) := by
  rw [View.readCov_eq_canon']
  unfold k0_pay3
  pointwise
  try exact congrArg (View.canon L) (funext (Fin.forall_fin_succ.mpr ⟨Fin.ext (by show 0 + 1 * h.val = h.val; omega), Fin.forall_fin_two.mpr ⟨Fin.ext (by show 0 + 1 * e.val = e.val; omega), Fin.ext (by show 0 + 1 * d.val = d.val; omega)⟩⟩))

theorem pay4_apply (L : List (View.Piece (Elt Ideal) S8x128 .f32)) (h : Fin 8) (d : Fin 128) :
    k0_pay4 (F := Ideal) ((View.whole (sig := sig) cc0_scratch1).readCov L (Rect.unit (s := S8x128) ![0, 0] ![8, 128] inb_S8x128_S8x128_0_0).toLoadRect : FVec Ideal S8x128 .f32) (Idealize.ShloMosaic.ix3 (0 : Fin 1) h d) = View.canon L (Idealize.ShloMosaic.ix2 h d) := by
  rw [View.readCov_eq_canon']
  unfold k0_pay4
  pointwise
  try exact congrArg (View.canon L) (funext (Fin.forall_fin_two.mpr ⟨Fin.ext (by show 0 + 1 * h.val = h.val; omega), Fin.ext (by show 0 + 1 * d.val = d.val; omega)⟩))

theorem pay5_apply (X : FVec Ideal S1x128 .f32) (l : Fin 128) : k0_pay5 (F := Ideal) X (Idealize.ShloMosaic.ix3 (0 : Fin 1) (0 : Fin 1) l) = X (Idealize.ShloMosaic.ix2 (0 : Fin 1) l) := by
  unfold k0_pay5
  pointwise

theorem stepC_14 (t : Fin cfg0.N) (h0 : ¬t.val % 128 = 0) (h1 : t.val % 128 = 127) (hig : ∀ (t : Fin 128) (h : Fin 8) (i : Fin 64), Mlstm.igf (kargs m c) t h i < (⊤ : EReal))
    (hp : St m c (outsAt0 m c (t.val - 1) (by have := t.isLt; omega)).2.2.2.2.2.2.2.2 (outsAt0 m c (t.val - 1) (by have := t.isLt; omega)).2.2.2.2.2.2.2.1 (outsAt0 m c (t.val - 1) (by have := t.isLt; omega)).2.2.2.2.2.2.1 (outsAt0 m c (t.val - 1) (by have := t.isLt; omega)).2.2.2.2.2.1 t.val (Nat.le_of_lt (t_lt t))) (h : Fin 8) (e : Fin 256) (d : Fin 128) :
    (outsAt0 m c t.val t.isLt).2.1 (Idealize.ShloMosaic.ix4 (0 : Fin 1) h e d) = Mlstm.stC (kargs m c) h (t.val + 1) e d := by
  have htl := t_lt t
  rw [outsAt0_C m c t h0 h1]
  dsimp only
  unfold out0_C_14
  frame_open
  simp (disch := decide) only [↓ View.readCov_skip, ↓ View.readCov_cons_toLoadRect, ↓ View.readCov_fill]
  frame_out
  try simp only [read_unread_whole]
  generalize hK : k0_pay17 (F := Ideal) _ _ _ = KK
  have hKK : ∀ (h : Fin 8) (s : Fin 64) (d : Fin 128), KK (Idealize.ShloMosaic.ix2 s (⟨128 * h.val + d.val, by omega⟩ : Fin 1024)) = Mlstm.kf (kargs m c) (ch t) h s d := by
    intro h s d
    rw [← hK]
    exact kkB m c t _ (fun r j => (congrFun (read_unread_whole _ _ _) _).trans (hp.hU r j)) h s d
  have hM := hp.hM
  have hN := hp.hN
  have hC := hp.hC
  clear hp
  generalize outsAt0 m c (t.val - 1) _ = OO at hM hN hC ⊢
  generalize OO.2.2.2.2.2.2.2.1 = M at hM ⊢
  have g := gates m c t hig M (fun h => Mlstm.stM (kargs m c) h t.val) (fun h => (hM _).trans (dif_pos h.isLt))
  generalize hBB : k0_pay22 (F := Ideal) _ _ _ = BB
  generalize hIT : k0_pay24 (F := Ideal) _ = IT
  generalize hBT : k0_pay25 (F := Ideal) _ _ _ = BT
  generalize hG : k0_pay18 (F := Ideal) _ _ = G
  replace g : Gates BB (k0_pay18 (F := Ideal) (X4 m c t) (X11 m c t)) IT BT M (Mlstm.bf (kargs m c) (ch t)) (Mlstm.igf (kargs m c) (ch t)) (fun h => Mlstm.stM (kargs m c) h t.val) := by
    rw [← hBB, ← hIT, ← hBT]
    exact g
  replace g : Gates BB G IT BT M (Mlstm.bf (kargs m c) (ch t)) (Mlstm.igf (kargs m c) (ch t)) (fun h => Mlstm.stM (kargs m c) h t.val) := by
    rw [← hG]
    exact g
  clear hK hBB hIT hBT hG
  refine (pay3_apply _ h e d).trans ?_
  refine Eq.trans ?_ (congrFun (congrFun (Mlstm.stC_succ (kargs m c) h (ch t)).symm e) d)
  exact C_after g KK _ _ _ _ _ (fun h => Mlstm.stC (kargs m c) h t.val) hKK (xv_apply m c t) hC h e d

theorem stepC_15 (t : Fin cfg0.N) (h0 : ¬t.val % 128 = 0) (h1 : t.val % 128 = 127) (hig : ∀ (t : Fin 128) (h : Fin 8) (i : Fin 64), Mlstm.igf (kargs m c) t h i < (⊤ : EReal))
    (hp : St m c (outsAt0 m c (t.val - 1) (by have := t.isLt; omega)).2.2.2.2.2.2.2.2 (outsAt0 m c (t.val - 1) (by have := t.isLt; omega)).2.2.2.2.2.2.2.1 (outsAt0 m c (t.val - 1) (by have := t.isLt; omega)).2.2.2.2.2.2.1 (outsAt0 m c (t.val - 1) (by have := t.isLt; omega)).2.2.2.2.2.1 t.val (Nat.le_of_lt (t_lt t))) (h : Fin 8) (d : Fin 128) :
    (outsAt0 m c t.val t.isLt).2.2.1 (Idealize.ShloMosaic.ix3 (0 : Fin 1) h d) = Mlstm.stN (kargs m c) h (t.val + 1) d := by
  have htl := t_lt t
  rw [outsAt0_C m c t h0 h1]
  dsimp only
  unfold out0_C_15
  frame_open
  simp (disch := decide) only [↓ View.readCov_skip, ↓ View.readCov_cons_toLoadRect, ↓ View.readCov_fill]
  frame_out
  try simp only [read_unread_whole]
  generalize hK : k0_pay17 (F := Ideal) _ _ _ = KK
  have hKK : ∀ (h : Fin 8) (s : Fin 64) (d : Fin 128), KK (Idealize.ShloMosaic.ix2 s (⟨128 * h.val + d.val, by omega⟩ : Fin 1024)) = Mlstm.kf (kargs m c) (ch t) h s d := by
    intro h s d
    rw [← hK]
    exact kkB m c t _ (fun r j => (congrFun (read_unread_whole _ _ _) _).trans (hp.hU r j)) h s d
  have hM := hp.hM
  have hN := hp.hN
  have hC := hp.hC
  clear hp
  generalize outsAt0 m c (t.val - 1) _ = OO at hM hN hC ⊢
  generalize OO.2.2.2.2.2.2.2.1 = M at hM ⊢
  have g := gates m c t hig M (fun h => Mlstm.stM (kargs m c) h t.val) (fun h => (hM _).trans (dif_pos h.isLt))
  generalize hBB : k0_pay22 (F := Ideal) _ _ _ = BB
  generalize hIT : k0_pay24 (F := Ideal) _ = IT
  generalize hBT : k0_pay25 (F := Ideal) _ _ _ = BT
  generalize hG : k0_pay18 (F := Ideal) _ _ = G
  replace g : Gates BB (k0_pay18 (F := Ideal) (X4 m c t) (X11 m c t)) IT BT M (Mlstm.bf (kargs m c) (ch t)) (Mlstm.igf (kargs m c) (ch t)) (fun h => Mlstm.stM (kargs m c) h t.val) := by
    rw [← hBB, ← hIT, ← hBT]
    exact g
  replace g : Gates BB G IT BT M (Mlstm.bf (kargs m c) (ch t)) (Mlstm.igf (kargs m c) (ch t)) (fun h => Mlstm.stM (kargs m c) h t.val) := by
    rw [← hG]
    exact g
  clear hK hBB hIT hBT hG
  refine (pay4_apply _ h d).trans ?_
  refine Eq.trans ?_ (congrFun (Mlstm.stN_succ (kargs m c) h (ch t)).symm d)
  exact n_after g KK _ _ _ (fun h => Mlstm.stN (kargs m c) h t.val) hKK hN h d

theorem stepC_16 (t : Fin cfg0.N) (h0 : ¬t.val % 128 = 0) (h1 : t.val % 128 = 127) (hig : ∀ (t : Fin 128) (h : Fin 8) (i : Fin 64), Mlstm.igf (kargs m c) t h i < (⊤ : EReal))
    (hp : St m c (outsAt0 m c (t.val - 1) (by have := t.isLt; omega)).2.2.2.2.2.2.2.2 (outsAt0 m c (t.val - 1) (by have := t.isLt; omega)).2.2.2.2.2.2.2.1 (outsAt0 m c (t.val - 1) (by have := t.isLt; omega)).2.2.2.2.2.2.1 (outsAt0 m c (t.val - 1) (by have := t.isLt; omega)).2.2.2.2.2.1 t.val (Nat.le_of_lt (t_lt t))) (l : Fin 128) :
    (outsAt0 m c t.val t.isLt).2.2.2.1 (Idealize.ShloMosaic.ix3 (0 : Fin 1) (0 : Fin 1) l) = (if h : l.val < 8 then Mlstm.stM (kargs m c) ⟨l.val, h⟩ (t.val + 1) else 0) := by
  have htl := t_lt t
  rw [outsAt0_C m c t h0 h1]
  dsimp only
  unfold out0_C_16
  frame_open
  simp (disch := decide) only [↓ View.readCov_skip, ↓ View.readCov_cons_toLoadRect, ↓ View.readCov_fill]
  frame_out
  try simp only [read_unread_whole]
  have hM := hp.hM
  have hN := hp.hN
  have hC := hp.hC
  clear hp
  generalize outsAt0 m c (t.val - 1) _ = OO at hM hN hC ⊢
  generalize OO.2.2.2.2.2.2.2.1 = M at hM ⊢
  have g := gates m c t hig M (fun h => Mlstm.stM (kargs m c) h t.val) (fun h => (hM _).trans (dif_pos h.isLt))
  generalize hBB : k0_pay22 (F := Ideal) _ _ _ = BB
  generalize hIT : k0_pay24 (F := Ideal) _ = IT
  generalize hBT : k0_pay25 (F := Ideal) _ _ _ = BT
  try generalize hG : k0_pay18 (F := Ideal) _ _ = G
  replace g : Gates BB (k0_pay18 (F := Ideal) (X4 m c t) (X11 m c t)) IT BT M (Mlstm.bf (kargs m c) (ch t)) (Mlstm.igf (kargs m c) (ch t)) (fun h => Mlstm.stM (kargs m c) h t.val) := by
    rw [← hBB, ← hIT, ← hBT]
    exact g
  refine (pay5_apply _ l).trans ?_
  refine (m_after g l).trans ?_
  by_cases hl : l.val < 8
  · rw [dif_pos hl, dif_pos hl]
    exact (Mlstm.stM_succ (kargs m c) ⟨l.val, hl⟩ (ch t)).symm
  · rw [dif_neg hl, dif_neg hl]
    exact (hM l).trans (dif_neg hl)

theorem stepC_17 (t : Fin cfg0.N) (h0 : ¬t.val % 128 = 0) (h1 : t.val % 128 = 127) (hig : ∀ (t : Fin 128) (h : Fin 8) (i : Fin 64), Mlstm.igf (kargs m c) t h i < (⊤ : EReal))
    (hp : St m c (outsAt0 m c (t.val - 1) (by have := t.isLt; omega)).2.2.2.2.2.2.2.2 (outsAt0 m c (t.val - 1) (by have := t.isLt; omega)).2.2.2.2.2.2.2.1 (outsAt0 m c (t.val - 1) (by have := t.isLt; omega)).2.2.2.2.2.2.1 (outsAt0 m c (t.val - 1) (by have := t.isLt; omega)).2.2.2.2.2.1 t.val (Nat.le_of_lt (t_lt t))) (r : Fin 3) (j : Fin 2048) :
    (outsAt0 m c t.val t.isLt).2.2.2.2.1 (Idealize.ShloMosaic.ix3 (0 : Fin 1) r j) = Mlstm.up (kargs m c) (⟨64 * (t.val + 1) + r.val, by have := t_lt t; omega⟩ : Fin 8195) j := by
  have htl := t_lt t
  rw [outsAt0_C m c t h0 h1]
  dsimp only
  unfold out0_C_17
  frame_open
  simp (disch := decide) only [↓ View.readCov_skip, ↓ View.readCov_cons_toLoadRect, ↓ View.readCov_fill]
  frame_out
  try simp only [read_unread_whole]
  refine (pay6_apply _ r j).trans ?_
  rw [View.readCov_eq_canon']
  refine Eq.trans (congrArg (View.canon _) (funext ?_)) (tail_up m c t [] _ r j)
  exact Fin.forall_fin_two.mpr ⟨Fin.ext (by show 5 + 1 * r.val = 5 + r.val; omega), Fin.ext (by show 0 + 1 * j.val = j.val; omega)⟩

end Cert.KernelIdeal.Hand

end
-- ==== Proof.MlstmKerState.lean ====
module

public import proofs.«01_k».proof.Proof.Gen.KernelIdeal.Value
public import proofs.«01_k».proof.Proof.MlstmKerStepA
public import proofs.«01_k».proof.Proof.MlstmKerStepB
public import proofs.«01_k».proof.Proof.MlstmKerStepC
public import proofs.«01_k».proof.Proof.MlstmKerStepD
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 65536
set_option maxHeartbeats 4000000

noncomputable section

/-! The state after every chunk. -/

namespace Cert.KernelIdeal.Hand

open Cert.KernelIdeal Cert.KernelIdeal.Gen Cert.KernelIdeal.Value Idealize.ShloMosaic Idealize.ShloMosaic.TcCoe Idealize.SL.Sem Cert.Hand

variable (m : (ℓ : Loc nD τ sig) → Buf (Elt Ideal) ℓ) (c : Dev nD)

/-- After chunk `n` the carried buffers hold the state after `n + 1` chunks. -/
theorem state (hig : ∀ (t : Fin 128) (h : Fin 8) (i : Fin 64), Mlstm.igf (kargs m c) t h i < (⊤ : EReal)) :
    ∀ (n : ℕ) (hn : n < cfg0.N) (hn' : n + 1 ≤ 128), St m c (outsAt0 m c n hn).2.2.2.2.2.2.2.2 (outsAt0 m c n hn).2.2.2.2.2.2.2.1 (outsAt0 m c n hn).2.2.2.2.2.2.1 (outsAt0 m c n hn).2.2.2.2.2.1 (n + 1) hn' := by
  intro n
  induction n with
  | zero =>
    intro hn hn'
    have h0 : (⟨0, hn⟩ : Fin cfg0.N).val % 128 = 0 := rfl
    have h1 : ¬(⟨0, hn⟩ : Fin cfg0.N).val % 128 = 127 := by show ¬(0 % 128 = 127); decide
    exact ⟨fun r j => stepA_3 m c ⟨0, hn⟩ h0 h1 hig r j, fun l => stepA_2 m c ⟨0, hn⟩ h0 h1 hig l,
      fun h d => stepA_1 m c ⟨0, hn⟩ h0 h1 hig h d, fun h e d => stepA_0 m c ⟨0, hn⟩ h0 h1 hig h e d⟩
  | succ n ih =>
    intro hn hn'
    have hp := ih (Nat.lt_of_succ_lt hn) (by omega)
    have h0 : ¬(⟨n + 1, hn⟩ : Fin cfg0.N).val % 128 = 0 := by show ¬((n + 1) % 128 = 0); omega
    by_cases h1 : (⟨n + 1, hn⟩ : Fin cfg0.N).val % 128 = 127
    · exact ⟨fun r j => stepC_3 m c ⟨n + 1, hn⟩ h0 h1 hig hp r j, fun l => stepC_2 m c ⟨n + 1, hn⟩ h0 h1 hig hp l,
        fun h d => stepC_1 m c ⟨n + 1, hn⟩ h0 h1 hig hp h d, fun h e d => stepC_0 m c ⟨n + 1, hn⟩ h0 h1 hig hp h e d⟩
    · exact ⟨fun r j => stepB_3 m c ⟨n + 1, hn⟩ h0 h1 hig hp r j, fun l => stepB_2 m c ⟨n + 1, hn⟩ h0 h1 hig hp l,
        fun h d => stepB_1 m c ⟨n + 1, hn⟩ h0 h1 hig hp h d, fun h e d => stepB_0 m c ⟨n + 1, hn⟩ h0 h1 hig hp h e d⟩

theorem prev (hig : ∀ (t : Fin 128) (h : Fin 8) (i : Fin 64), Mlstm.igf (kargs m c) t h i < (⊤ : EReal)) (t : Fin cfg0.N) (h0 : ¬t.val % 128 = 0) :
    St m c (outsAt0 m c (t.val - 1) (by have := t.isLt; omega)).2.2.2.2.2.2.2.2 (outsAt0 m c (t.val - 1) (by have := t.isLt; omega)).2.2.2.2.2.2.2.1 (outsAt0 m c (t.val - 1) (by have := t.isLt; omega)).2.2.2.2.2.2.1 (outsAt0 m c (t.val - 1) (by have := t.isLt; omega)).2.2.2.2.2.1 t.val (Nat.le_of_lt (t_lt t)) := by
  obtain ⟨n, hn⟩ := t
  cases n with
  | zero => exact absurd rfl h0
  | succ n => exact state m c hig n (Nat.lt_of_succ_lt hn) (by have := hn.trans_eq N_0; omega)

end Cert.KernelIdeal.Hand

end
-- ==== Proof.MlstmRes.lean ====
module

public import proofs.«01_k».proof.Proof.MlstmSpec

@[expose] public section

noncomputable section

/-! The layer's results, entry by entry. -/

namespace Cert.Hand.Mlstm

open Idealize.ShloMosaic

variable (a : Args)

/-- The output of frame `r` at column `j`; the rows after the last frame are zero. -/
def rO (r : Fin 8320) (j : Fin 2048) : EReal :=
  if hr : r.val < 8192 then
    out (hcf a (⟨r.val / 64, by omega⟩ : Fin 128) (⟨j.val / 256, by omega⟩ : Fin 8) (⟨r.val % 64, by omega⟩ : Fin 64)) (⟨j.val % 256, by omega⟩ : Fin 256)
      (a.hn (ix1 j)) (a.p (ix2 r (⟨4112 + j.val, by omega⟩ : Fin 6160)))
  else 0

/-- The maxima, in the first columns of a row of 128. -/
def rM (l : Fin 128) : EReal := if h : l.val < 8 then stM a (⟨l.val, h⟩ : Fin 8) 128 else 0

/-- The last three rows before the convolution. -/
def rV (r : Fin 3) (j : Fin 2048) : EReal := up a (⟨8192 + r.val, by omega⟩ : Fin 8195) j

theorem rV_eq (r : Fin 3) (j : Fin 2048) : rV a r j = a.p (ix2 (⟨8189 + r.val, by omega⟩ : Fin 8320) (⟨j.val, by omega⟩ : Fin 6160)) := by
  unfold rV up
  rw [dif_neg (by dsimp only; omega)]
  exact congrArg (fun x => a.p (ix2 x (⟨j.val, by omega⟩ : Fin 6160))) (Fin.ext (by dsimp only; omega))

theorem rO_zero (r : Fin 8320) (j : Fin 2048) (hr : ¬r.val < 8192) : rO a r j = 0 := dif_neg hr

theorem rO_row (r : Fin 8320) (j : Fin 2048) (hr : r.val < 8192) : rO a r j =
    out (hcf a (⟨r.val / 64, by omega⟩ : Fin 128) (⟨j.val / 256, by omega⟩ : Fin 8) (⟨r.val % 64, by omega⟩ : Fin 64)) (⟨j.val % 256, by omega⟩ : Fin 256)
      (a.hn (ix1 j)) (a.p (ix2 r (⟨4112 + j.val, by omega⟩ : Fin 6160))) := dif_pos hr

theorem rO_chunk (t : Fin 128) (h : Fin 8) (i : Fin 64) (e : Fin 256) :
    rO a (⟨64 * t.val + i.val, by omega⟩ : Fin 8320) (⟨256 * h.val + e.val, by omega⟩ : Fin 2048)
      = out (hcf a t h i) e (a.hn (ix1 (⟨256 * h.val + e.val, by omega⟩ : Fin 2048)))
        (a.p (ix2 (⟨64 * t.val + i.val, by omega⟩ : Fin 8320) (⟨4112 + (256 * h.val + e.val), by omega⟩ : Fin 6160))) := by
  unfold rO
  rw [dif_pos (by dsimp only; omega)]
  have e1 : (⟨(64 * t.val + i.val) / 64, by omega⟩ : Fin 128) = t := Fin.ext (by dsimp only; omega)
  have e2 : (⟨(256 * h.val + e.val) / 256, by omega⟩ : Fin 8) = h := Fin.ext (by dsimp only; omega)
  have e3 : (⟨(64 * t.val + i.val) % 64, by omega⟩ : Fin 64) = i := Fin.ext (by dsimp only; omega)
  have e4 : (⟨(256 * h.val + e.val) % 256, by omega⟩ : Fin 256) = e := Fin.ext (by dsimp only; omega)
  show out (hcf a (⟨(64 * t.val + i.val) / 64, _⟩ : Fin 128) (⟨(256 * h.val + e.val) / 256, _⟩ : Fin 8) (⟨(64 * t.val + i.val) % 64, _⟩ : Fin 64)) (⟨(256 * h.val + e.val) % 256, _⟩ : Fin 256) _ _ = _
  rw [e1, e2, e3, e4]

end Cert.Hand.Mlstm

end
-- ==== Proof.MlstmKerArr.lean ====
module

public import proofs.«01_k».proof.Proof.Gen.KernelIdeal.Value
public import proofs.«01_k».proof.Proof.MlstmKerState
public import proofs.«01_k».proof.Proof.MlstmRes
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 65536
set_option maxHeartbeats 4000000

noncomputable section

/-! The carried results, entry by entry. -/

namespace Cert.KernelIdeal.Hand

open Cert.KernelIdeal Cert.KernelIdeal.Gen Cert.KernelIdeal.Value Idealize.ShloMosaic Idealize.ShloMosaic.TcCoe Idealize.SL.Sem Cert.Hand

variable (m : (ℓ : Loc nD τ sig) → Buf (Elt Ideal) ℓ) (c : Dev nD)

theorem arr14 (hig : ∀ (t : Fin 128) (h : Fin 8) (i : Fin 64), Mlstm.igf (kargs m c) t h i < (⊤ : EReal)) : (dats m 0 c).arrAt 14 cfg0.N = fun i => Mlstm.stC (kargs m c) (i 1) 128 (i 2) (i 3) := by
  refine (dats m 0 c).arrAt_eq_of_covers 14 _ (by decide +kernel) fun t hf y => ?_
  blk_simp
  rw [after0_14]
  have h1 : t.val % 128 = 127 := (by decide +kernel : ∀ t : Fin cfg0.N, (cfg0.win 14).flush t = true → t.val % 128 = 127) t hf
  have ht : t.val + 1 = 128 := by have := t_lt t; omega
  have h0 : ¬t.val % 128 = 0 := by omega
  change S1x8x256x128.Idx at y
  have hy : y = Idealize.ShloMosaic.ix4 (0 : Fin 1) (y 1) (y 2) (y 3) := by
    funext a
    match a with
    | ⟨0, _⟩ => exact Subsingleton.elim (α := Fin 1) _ _
    | ⟨1, _⟩ => rfl
    | ⟨2, _⟩ => rfl
    | ⟨3, _⟩ => rfl
  have e1 : (win0_14.blk t).view.emb y 1 = y 1 := Fin.ext (by blk_simp [idx t])
  have e2 : (win0_14.blk t).view.emb y 2 = y 2 := Fin.ext (by blk_simp [idx t])
  have e3 : (win0_14.blk t).view.emb y 3 = y 3 := Fin.ext (by blk_simp [idx t])
  rw [e1, e2, e3]
  refine (congrArg (outsAt0 m c t.val t.isLt).2.1 hy).trans ((stepC_14 m c t h0 h1 hig (prev m c hig t h0) (y 1) (y 2) (y 3)).trans ?_)
  rw [ht]

theorem arr15 (hig : ∀ (t : Fin 128) (h : Fin 8) (i : Fin 64), Mlstm.igf (kargs m c) t h i < (⊤ : EReal)) : (dats m 0 c).arrAt 15 cfg0.N = fun i => Mlstm.stN (kargs m c) (i 1) 128 (i 2) := by
  refine (dats m 0 c).arrAt_eq_of_covers 15 _ (by decide +kernel) fun t hf y => ?_
  blk_simp
  rw [after0_15]
  have h1 : t.val % 128 = 127 := (by decide +kernel : ∀ t : Fin cfg0.N, (cfg0.win 15).flush t = true → t.val % 128 = 127) t hf
  have ht : t.val + 1 = 128 := by have := t_lt t; omega
  have h0 : ¬t.val % 128 = 0 := by omega
  change S1x8x128.Idx at y
  have hy : y = Idealize.ShloMosaic.ix3 (0 : Fin 1) (y 1) (y 2) := by
    funext a
    match a with
    | ⟨0, _⟩ => exact Subsingleton.elim (α := Fin 1) _ _
    | ⟨1, _⟩ => rfl
    | ⟨2, _⟩ => rfl
  have e1 : (win0_15.blk t).view.emb y 1 = y 1 := Fin.ext (by blk_simp [idx t])
  have e2 : (win0_15.blk t).view.emb y 2 = y 2 := Fin.ext (by blk_simp [idx t])
  rw [e1, e2]
  refine (congrArg (outsAt0 m c t.val t.isLt).2.2.1 hy).trans ((stepC_15 m c t h0 h1 hig (prev m c hig t h0) (y 1) (y 2)).trans ?_)
  rw [ht]

theorem arr16 (hig : ∀ (t : Fin 128) (h : Fin 8) (i : Fin 64), Mlstm.igf (kargs m c) t h i < (⊤ : EReal)) : (dats m 0 c).arrAt 16 cfg0.N = fun i => Mlstm.rM (kargs m c) (i 2) := by
  refine (dats m 0 c).arrAt_eq_of_covers 16 _ (by decide +kernel) fun t hf y => ?_
  blk_simp
  rw [after0_16]
  have h1 : t.val % 128 = 127 := (by decide +kernel : ∀ t : Fin cfg0.N, (cfg0.win 16).flush t = true → t.val % 128 = 127) t hf
  have ht : t.val + 1 = 128 := by have := t_lt t; omega
  have h0 : ¬t.val % 128 = 0 := by omega
  change S1x1x128.Idx at y
  have hy : y = Idealize.ShloMosaic.ix3 (0 : Fin 1) (0 : Fin 1) (y 2) := by
    funext a
    match a with
    | ⟨0, _⟩ => exact Subsingleton.elim (α := Fin 1) _ _
    | ⟨1, _⟩ => exact Subsingleton.elim (α := Fin 1) _ _
    | ⟨2, _⟩ => rfl
  have e2 : (win0_16.blk t).view.emb y 2 = y 2 := Fin.ext (by blk_simp [idx t])
  rw [e2]
  refine (congrArg (outsAt0 m c t.val t.isLt).2.2.2.1 hy).trans ((stepC_16 m c t h0 h1 hig (prev m c hig t h0) (y 2)).trans ?_)
  unfold Mlstm.rM
  rw [ht]

theorem arr17 (hig : ∀ (t : Fin 128) (h : Fin 8) (i : Fin 64), Mlstm.igf (kargs m c) t h i < (⊤ : EReal)) : (dats m 0 c).arrAt 17 cfg0.N = fun i => Mlstm.rV (kargs m c) (i 1) (i 2) := by
  refine (dats m 0 c).arrAt_eq_of_covers 17 _ (by decide +kernel) fun t hf y => ?_
  blk_simp
  rw [after0_17]
  have h1 : t.val % 128 = 127 := (by decide +kernel : ∀ t : Fin cfg0.N, (cfg0.win 17).flush t = true → t.val % 128 = 127) t hf
  have ht : t.val + 1 = 128 := by have := t_lt t; omega
  have h0 : ¬t.val % 128 = 0 := by omega
  change S1x3x2048.Idx at y
  have hy : y = Idealize.ShloMosaic.ix3 (0 : Fin 1) (y 1) (y 2) := by
    funext a
    match a with
    | ⟨0, _⟩ => exact Subsingleton.elim (α := Fin 1) _ _
    | ⟨1, _⟩ => rfl
    | ⟨2, _⟩ => rfl
  have e1 : (win0_17.blk t).view.emb y 1 = y 1 := Fin.ext (by blk_simp [idx t])
  have e2 : (win0_17.blk t).view.emb y 2 = y 2 := Fin.ext (by blk_simp [idx t])
  rw [e1, e2]
  refine (congrArg (outsAt0 m c t.val t.isLt).2.2.2.2.1 hy).trans ((stepC_17 m c t h0 h1 hig (prev m c hig t h0) (y 1) (y 2)).trans ?_)
  unfold Mlstm.rV
  exact congrArg (fun x => Mlstm.up (kargs m c) x (y 2)) (Fin.ext (by show 64 * (t.val + 1) + (y 1).val = 8192 + (y 1).val; omega))

end Cert.KernelIdeal.Hand

end
-- ==== Proof.MlstmKerQ.lean ====
module

public import proofs.«01_k».proof.Proof.Gen.KernelIdeal.Value
public import proofs.«01_k».proof.Proof.MlstmKerSt
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 65536
set_option maxHeartbeats 4000000

noncomputable section

/-! The queries of a chunk. -/

namespace Cert.KernelIdeal.Hand

open Cert.KernelIdeal Cert.KernelIdeal.Gen Cert.KernelIdeal.Value Idealize.ShloMosaic Idealize.ShloMosaic.TcCoe Idealize.SL.Sem Cert.Hand

variable (m : (ℓ : Loc nD τ sig) → Buf (Elt Ideal) ℓ) (c : Dev nD)

theorem pay16_apply (cb : FVec Ideal S1x2048 .f32) (u0 u1 u2 u3 : FVec Ideal S64x2048 .f32) (w0 w1 w2 w3 : FVec Ideal S1x2048 .f32) (i : Fin 64) (j : Fin 1024) :
    k0_pay16 (F := Ideal) (k0_pay13 cb u0 w0 u1 w1 u2 w2) u3 w3 (Idealize.ShloMosaic.ix2 i j) = Mlstm.silu (cb (Idealize.ShloMosaic.ix2 (0 : Fin 1) (⟨j.val, by omega⟩ : Fin 2048))
      + u0 (Idealize.ShloMosaic.ix2 i (⟨j.val, by omega⟩ : Fin 2048)) * w0 (Idealize.ShloMosaic.ix2 (0 : Fin 1) (⟨j.val, by omega⟩ : Fin 2048)) + u1 (Idealize.ShloMosaic.ix2 i (⟨j.val, by omega⟩ : Fin 2048)) * w1 (Idealize.ShloMosaic.ix2 (0 : Fin 1) (⟨j.val, by omega⟩ : Fin 2048)) + u2 (Idealize.ShloMosaic.ix2 i (⟨j.val, by omega⟩ : Fin 2048)) * w2 (Idealize.ShloMosaic.ix2 (0 : Fin 1) (⟨j.val, by omega⟩ : Fin 2048)) + u3 (Idealize.ShloMosaic.ix2 i (⟨j.val, by omega⟩ : Fin 2048)) * w3 (Idealize.ShloMosaic.ix2 (0 : Fin 1) (⟨j.val, by omega⟩ : Fin 2048))) * Ideal.ofBits FTy.f32 1035273459#32 := by
  unfold k0_pay16 k0_pay15 k0_pay13
  change S1x2048.Idx → EReal at cb w0 w1 w2 w3
  change S64x2048.Idx → EReal at u0 u1 u2 u3
  pointwise
  rfl

/-- The queries of a chunk, from four shifts of the rows before the convolution. -/
theorem qq_of (t : Fin cfg0.N) (u0 u1 u2 u3 : FVec Ideal S64x2048 .f32)
    (h0 : ∀ (i : Fin 64) (j : Fin 2048), u0 (Idealize.ShloMosaic.ix2 i j) = Mlstm.up (kargs m c) (⟨64 * t.val + i.val, by have := t_lt t; omega⟩ : Fin 8195) j)
    (h1 : ∀ (i : Fin 64) (j : Fin 2048), u1 (Idealize.ShloMosaic.ix2 i j) = Mlstm.up (kargs m c) (⟨64 * t.val + i.val + 1, by have := t_lt t; omega⟩ : Fin 8195) j)
    (h2 : ∀ (i : Fin 64) (j : Fin 2048), u2 (Idealize.ShloMosaic.ix2 i j) = Mlstm.up (kargs m c) (⟨64 * t.val + i.val + 2, by have := t_lt t; omega⟩ : Fin 8195) j)
    (h3 : ∀ (i : Fin 64) (j : Fin 2048), u3 (Idealize.ShloMosaic.ix2 i j) = Mlstm.up (kargs m c) (⟨64 * t.val + i.val + 3, by have := t_lt t; omega⟩ : Fin 8195) j)
    (h : Fin 8) (s : Fin 64) (d : Fin 128) :
    k0_pay16 (F := Ideal) (k0_pay13 (X10 m c t) u0 (View.ld (X9 m c t) (Rect.unit (s := S4x2048) ![0, 0] ![1, 2048] inb_S4x2048_S1x2048_0_0)) u1 (View.ld (X9 m c t) (Rect.unit (s := S4x2048) ![1, 0] ![1, 2048] inb_S4x2048_S1x2048_1_0)) u2 (View.ld (X9 m c t) (Rect.unit (s := S4x2048) ![2, 0] ![1, 2048] inb_S4x2048_S1x2048_2_0))) u3 (View.ld (X9 m c t) (Rect.unit (s := S4x2048) ![3, 0] ![1, 2048] inb_S4x2048_S1x2048_3_0))
      (Idealize.ShloMosaic.ix2 s (⟨128 * h.val + d.val, by omega⟩ : Fin 1024)) = Mlstm.qf (kargs m c) (ch t) h s d := by
  rw [pay16_apply, x10_apply, ldW m c t 0 (by decide), ldW m c t 1 (by decide), ldW m c t 2 (by decide), ldW m c t 3 (by decide), h0, h1, h2, h3]
  unfold Mlstm.qf Mlstm.conv
  rfl

theorem qqB (t : Fin cfg0.N) (f) (hf : ∀ (r : Fin 3) (j : Fin 2048), View.read (Elt Ideal) W3 f (Idealize.ShloMosaic.ix2 (⟨5 + r.val, by omega⟩ : Fin 72) j) = Mlstm.up (kargs m c) (⟨64 * t.val + r.val, by have := t_lt t; omega⟩ : Fin 8195) j)
    (h : Fin 8) (s : Fin 64) (d : Fin 128) :
    (k0_pay16 (F := Ideal) (k0_pay13 (X10 m c t) (View.ld (View.read (Elt Ideal) W3 (W3.writes (Elt Ideal) f [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩])) (Rect.unit (s := S72x2048) ![5, 0] ![64, 2048] inb_S72x2048_S64x2048_5_0)) (View.ld (X9 m c t) (Rect.unit (s := S4x2048) ![0, 0] ![1, 2048] inb_S4x2048_S1x2048_0_0)) (View.ld (View.read (Elt Ideal) W3 (W3.writes (Elt Ideal) f [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩])) (Rect.unit (s := S72x2048) ![6, 0] ![64, 2048] inb_S72x2048_S64x2048_6_0)) (View.ld (X9 m c t) (Rect.unit (s := S4x2048) ![1, 0] ![1, 2048] inb_S4x2048_S1x2048_1_0)) (View.ld (View.read (Elt Ideal) W3 (W3.writes (Elt Ideal) f [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩])) (Rect.unit (s := S72x2048) ![7, 0] ![64, 2048] inb_S72x2048_S64x2048_7_0)) (View.ld (X9 m c t) (Rect.unit (s := S4x2048) ![2, 0] ![1, 2048] inb_S4x2048_S1x2048_2_0))) (W3.readCov [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩] (Rect.unit (s := S72x2048) ![8, 0] ![64, 2048] inb_S72x2048_S64x2048_8_0).toLoadRect : FVec Ideal S64x2048 .f32) (View.ld (X9 m c t) (Rect.unit (s := S4x2048) ![3, 0] ![1, 2048] inb_S4x2048_S1x2048_3_0))) (Idealize.ShloMosaic.ix2 s (⟨128 * h.val + d.val, by omega⟩ : Fin 1024)) = Mlstm.qf (kargs m c) (ch t) h s d := by
  refine qq_of m c t _ _ _ _ (fun i j => ?_) (fun i j => ?_) (fun i j => ?_) (fun i j => ?_) h s d
  · refine (ldU _ 5 _ i j (by omega)).trans (Eq.trans (congrArg (fun x => View.read (Elt Ideal) W3 (W3.writes (Elt Ideal) f [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩]) (Idealize.ShloMosaic.ix2 x j)) (Fin.ext (by show 5 + i.val = 5 + (i.val + 0); omega))) ((rowsB m c t f hf ⟨i.val + 0, by omega⟩ j).trans ?_))
    exact congrArg (fun x => Mlstm.up (kargs m c) x j) (Fin.ext (by show 64 * t.val + (i.val + 0) = 64 * t.val + i.val + 0; omega))
  · refine (ldU _ 6 _ i j (by omega)).trans (Eq.trans (congrArg (fun x => View.read (Elt Ideal) W3 (W3.writes (Elt Ideal) f [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩]) (Idealize.ShloMosaic.ix2 x j)) (Fin.ext (by show 6 + i.val = 5 + (i.val + 1); omega))) ((rowsB m c t f hf ⟨i.val + 1, by omega⟩ j).trans ?_))
    exact congrArg (fun x => Mlstm.up (kargs m c) x j) (Fin.ext (by show 64 * t.val + (i.val + 1) = 64 * t.val + i.val + 1; omega))
  · refine (ldU _ 7 _ i j (by omega)).trans (Eq.trans (congrArg (fun x => View.read (Elt Ideal) W3 (W3.writes (Elt Ideal) f [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩]) (Idealize.ShloMosaic.ix2 x j)) (Fin.ext (by show 7 + i.val = 5 + (i.val + 2); omega))) ((rowsB m c t f hf ⟨i.val + 2, by omega⟩ j).trans ?_))
    exact congrArg (fun x => Mlstm.up (kargs m c) x j) (Fin.ext (by show 64 * t.val + (i.val + 2) = 64 * t.val + i.val + 2; omega))
  · exact (covU _ 8 _ i j (by omega)).trans (rows3 m c t i j [])

theorem qqA (t : Fin cfg0.N) (ht : t.val = 0) (h : Fin 8) (s : Fin 64) (d : Fin 128) :
    (k0_pay16 (F := Ideal) (k0_pay13 (X10 m c t) (W3.readCov [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩, ⟨Rect.unit ![5, 0] ![3, 2048] inb_S72x2048_S3x2048_5_0, k0_pay10 (F := Ideal) (X5 m c t)⟩] (Rect.unit (s := S72x2048) ![5, 0] ![64, 2048] inb_S72x2048_S64x2048_5_0).toLoadRect : FVec Ideal S64x2048 .f32) (View.ld (X9 m c t) (Rect.unit (s := S4x2048) ![0, 0] ![1, 2048] inb_S4x2048_S1x2048_0_0)) (W3.readCov [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩, ⟨Rect.unit ![5, 0] ![3, 2048] inb_S72x2048_S3x2048_5_0, k0_pay10 (F := Ideal) (X5 m c t)⟩] (Rect.unit (s := S72x2048) ![6, 0] ![64, 2048] inb_S72x2048_S64x2048_6_0).toLoadRect : FVec Ideal S64x2048 .f32) (View.ld (X9 m c t) (Rect.unit (s := S4x2048) ![1, 0] ![1, 2048] inb_S4x2048_S1x2048_1_0)) (W3.readCov [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩, ⟨Rect.unit ![5, 0] ![3, 2048] inb_S72x2048_S3x2048_5_0, k0_pay10 (F := Ideal) (X5 m c t)⟩] (Rect.unit (s := S72x2048) ![7, 0] ![64, 2048] inb_S72x2048_S64x2048_7_0).toLoadRect : FVec Ideal S64x2048 .f32) (View.ld (X9 m c t) (Rect.unit (s := S4x2048) ![2, 0] ![1, 2048] inb_S4x2048_S1x2048_2_0))) (W3.readCov [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩, ⟨Rect.unit ![5, 0] ![3, 2048] inb_S72x2048_S3x2048_5_0, k0_pay10 (F := Ideal) (X5 m c t)⟩] (Rect.unit (s := S72x2048) ![8, 0] ![64, 2048] inb_S72x2048_S64x2048_8_0).toLoadRect : FVec Ideal S64x2048 .f32) (View.ld (X9 m c t) (Rect.unit (s := S4x2048) ![3, 0] ![1, 2048] inb_S4x2048_S1x2048_3_0))) (Idealize.ShloMosaic.ix2 s (⟨128 * h.val + d.val, by omega⟩ : Fin 1024)) = Mlstm.qf (kargs m c) (ch t) h s d := by
  refine qq_of m c t _ _ _ _ (fun i j => ?_) (fun i j => ?_) (fun i j => ?_) (fun i j => ?_) h s d
  · refine (covU _ 5 _ i j (by omega)).trans (Eq.trans (congrArg (fun x => View.canon [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩, ⟨Rect.unit ![5, 0] ![3, 2048] inb_S72x2048_S3x2048_5_0, k0_pay10 (F := Ideal) (X5 m c t)⟩] (Idealize.ShloMosaic.ix2 x j)) (Fin.ext (by show 5 + i.val = 5 + (i.val + 0); omega))) ((rowsA m c t ht ⟨i.val + 0, by omega⟩ j).trans ?_))
    exact congrArg (fun x => Mlstm.up (kargs m c) x j) (Fin.ext (by show 64 * t.val + (i.val + 0) = 64 * t.val + i.val + 0; omega))
  · refine (covU _ 6 _ i j (by omega)).trans (Eq.trans (congrArg (fun x => View.canon [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩, ⟨Rect.unit ![5, 0] ![3, 2048] inb_S72x2048_S3x2048_5_0, k0_pay10 (F := Ideal) (X5 m c t)⟩] (Idealize.ShloMosaic.ix2 x j)) (Fin.ext (by show 6 + i.val = 5 + (i.val + 1); omega))) ((rowsA m c t ht ⟨i.val + 1, by omega⟩ j).trans ?_))
    exact congrArg (fun x => Mlstm.up (kargs m c) x j) (Fin.ext (by show 64 * t.val + (i.val + 1) = 64 * t.val + i.val + 1; omega))
  · refine (covU _ 7 _ i j (by omega)).trans (Eq.trans (congrArg (fun x => View.canon [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩, ⟨Rect.unit ![5, 0] ![3, 2048] inb_S72x2048_S3x2048_5_0, k0_pay10 (F := Ideal) (X5 m c t)⟩] (Idealize.ShloMosaic.ix2 x j)) (Fin.ext (by show 7 + i.val = 5 + (i.val + 2); omega))) ((rowsA m c t ht ⟨i.val + 2, by omega⟩ j).trans ?_))
    exact congrArg (fun x => Mlstm.up (kargs m c) x j) (Fin.ext (by show 64 * t.val + (i.val + 2) = 64 * t.val + i.val + 2; omega))
  · refine (covU _ 8 _ i j (by omega)).trans (Eq.trans (congrArg (fun x => View.canon [(⟨Rect.unit ![8, 1024] ![64, 1024] inb_S72x2048_S64x1024_8_1024, k0_pay12 (F := Ideal) (X1 m c t)⟩ : View.Piece (Elt Ideal) S72x2048 .f32), ⟨Rect.unit ![8, 0] ![64, 1024] inb_S72x2048_S64x1024_8_0, k0_pay11 (F := Ideal) (X0 m c t)⟩, ⟨Rect.unit ![5, 0] ![3, 2048] inb_S72x2048_S3x2048_5_0, k0_pay10 (F := Ideal) (X5 m c t)⟩] (Idealize.ShloMosaic.ix2 x j)) (Fin.ext (by show 8 + i.val = 5 + (i.val + 3); omega))) ((rowsA m c t ht ⟨i.val + 3, by omega⟩ j).trans ?_))
    exact congrArg (fun x => Mlstm.up (kargs m c) x j) (Fin.ext (by show 64 * t.val + (i.val + 3) = 64 * t.val + i.val + 3; omega))

end Cert.KernelIdeal.Hand

end
-- ==== Proof.MlstmKerHc.lean ====
module

public import proofs.«01_k».proof.Proof.Gen.KernelIdeal.Value
public import proofs.«01_k».proof.Proof.MlstmKerB
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 65536
set_option maxHeartbeats 4000000

noncomputable section

/-! The quotient of a chunk and the head's output as the kernel writes them. -/

namespace Cert.KernelIdeal.Hand

open Cert.KernelIdeal Cert.KernelIdeal.Gen Cert.KernelIdeal.Value Idealize.ShloMosaic Idealize.ShloMosaic.TcCoe Idealize.SL.Sem Cert.Hand

theorem hc_0 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (8 : Fin 128)) = b t)
    (hBT : ∀ t : Fin 64, BT (Idealize.ShloMosaic.ix2 (8 : Fin 128) t) = b t) (hIT : ∀ t : Fin 64, IT (Idealize.ShloMosaic.ix2 (0 : Fin 128) t) = ig t) (hG : ∀ t : Fin 64, G (Idealize.ShloMosaic.ix2 t (0 : Fin 128)) = ig t)
    (hM : M (Idealize.ShloMosaic.ix2 (0 : Fin 1) (0 : Fin 128)) = m0) (Qh Kh : FVec Ideal S64x128 .f32) (Vh : FVec Ideal S64x256 .f32) (Ch : FVec Ideal S1x256x128 .f32) (Nh : FVec Ideal S1x128 .f32) (q k : Fin 64 → Fin 128 → EReal) (v : Fin 64 → Fin 256 → EReal) (C : Fin 256 → Fin 128 → EReal) (n : Fin 128 → EReal)
    (hQ : ∀ s d, Qh (Idealize.ShloMosaic.ix2 s d) = q s d) (hK : ∀ s d, Kh (Idealize.ShloMosaic.ix2 s d) = k s d) (hV : ∀ s e, Vh (Idealize.ShloMosaic.ix2 s e) = v s e) (hC : ∀ e d, Ch (Idealize.ShloMosaic.ix3 (0 : Fin 1) e d) = C e d) (hN : ∀ d, Nh (Idealize.ShloMosaic.ix2 (0 : Fin 1) d) = n d) (t : Fin 64) (e : Fin 256) :
    ((k0_pay39 (k0_pay31 BB IT BT M) (k0_pay32 BB IT BT M) (k0_pay33 Qh) (k0_pay35 Vh) Nh (k0_pay37 BB IT BT M Qh Kh) (k0_pay38 BB IT BT M Qh Ch)) : FVec Ideal S64x256 .f32) (Idealize.ShloMosaic.ix2 t e) = Mlstm.hc b ig m0 q k v C n t e := by
  have hX := mt_0 BB G IT BT M b ig m0 hB hBT hIT hG hM t
  have hS := sc_0 BB G IT BT M b ig m0 hB hBT hIT hG hM t
  unfold k0_pay39 k0_pay38 k0_pay36 k0_pay37 k0_pay34 k0_pay35 k0_pay33
  generalize k0_pay32 BB IT BT M = S at hS ⊢
  generalize k0_pay31 BB IT BT M = X at hX ⊢
  try unfold k0_pay32
  try unfold k0_pay31
  try unfold k0_pay30
  try unfold k0_pay29
  try unfold k0_pay27
  try unfold k0_pay26
  change S64x128.Idx → EReal at BB
  change S128x64.Idx → EReal at IT BT
  change S64x1.Idx → EReal at X S
  change S64x128.Idx → EReal at Qh Kh
  change S64x256.Idx → EReal at Vh
  change S1x256x128.Idx → EReal at Ch
  change S1x128.Idx → EReal at Nh
  pointwise
  unfold Mlstm.hc Mlstm.num Mlstm.den Mlstm.sS Mlstm.dm
  have hD : ∀ s : Fin 64, Ideal.exp ((Scalar.select (IntOp.cmpi CmpIPredicate.sge (BitVec.ofNat 32 t.val) (BitVec.ofNat 32 s.val)) (BB (Idealize.ShloMosaic.ix2 t (8 : Fin 128)) - BT (Idealize.ShloMosaic.ix2 (8 : Fin 128) s) + IT (Idealize.ShloMosaic.ix2 (0 : Fin 128) s) : EReal) (Ideal.ofBits FTy.f32 4048155338#32) : EReal) - X (Idealize.ShloMosaic.ix2 t (0 : Fin 1))) = Ideal.exp (Mlstm.logD b ig t s - Mlstm.mt b ig m0 t) := by
    intro s
    rw [sel_ge, hX, hB, hBT, hIT]
    rfl
  have hSD : ∀ s : Fin 64, ((∑ d : Fin 128, Qh (Idealize.ShloMosaic.ix2 t d) * Kh (Idealize.ShloMosaic.ix2 s d)) * Ideal.exp ((Scalar.select (IntOp.cmpi CmpIPredicate.sge (BitVec.ofNat 32 t.val) (BitVec.ofNat 32 s.val)) (BB (Idealize.ShloMosaic.ix2 t (8 : Fin 128)) - BT (Idealize.ShloMosaic.ix2 (8 : Fin 128) s) + IT (Idealize.ShloMosaic.ix2 (0 : Fin 128) s) : EReal) (Ideal.ofBits FTy.f32 4048155338#32) : EReal) - X (Idealize.ShloMosaic.ix2 t (0 : Fin 1))) : EReal)
      = (∑ d : Fin 128, q t d * k s d) * Ideal.exp (Mlstm.logD b ig t s - Mlstm.mt b ig m0 t) := fun s =>
    congrArg₂ (HMul.hMul : EReal → EReal → EReal) (Finset.sum_congr (M := EReal) rfl fun d _ => congrArg₂ (HMul.hMul : EReal → EReal → EReal) (hQ t d) (hK s d)) (hD s)
  have hden : (S (Idealize.ShloMosaic.ix2 t (0 : Fin 1)) * (∑ d : Fin 128, Qh (Idealize.ShloMosaic.ix2 t d) * Nh (Idealize.ShloMosaic.ix2 (0 : Fin 1) d)) + ∑ s : Fin 64, ((∑ d : Fin 128, Qh (Idealize.ShloMosaic.ix2 t d) * Kh (Idealize.ShloMosaic.ix2 s d)) * Ideal.exp ((Scalar.select (IntOp.cmpi CmpIPredicate.sge (BitVec.ofNat 32 t.val) (BitVec.ofNat 32 s.val)) (BB (Idealize.ShloMosaic.ix2 t (8 : Fin 128)) - BT (Idealize.ShloMosaic.ix2 (8 : Fin 128) s) + IT (Idealize.ShloMosaic.ix2 (0 : Fin 128) s) : EReal) (Ideal.ofBits FTy.f32 4048155338#32) : EReal) - X (Idealize.ShloMosaic.ix2 t (0 : Fin 1))) : EReal) : EReal)
      = Mlstm.sc b ig m0 t * (∑ d : Fin 128, q t d * n d) + ∑ s : Fin 64, (∑ d : Fin 128, q t d * k s d) * Ideal.exp (Mlstm.logD b ig t s - Mlstm.mt b ig m0 t) :=
    congrArg₂ (HAdd.hAdd : EReal → EReal → EReal) (congrArg₂ (HMul.hMul : EReal → EReal → EReal) hS (Finset.sum_congr (M := EReal) rfl fun d _ => congrArg₂ (HMul.hMul : EReal → EReal → EReal) (hQ t d) (hN d))) (Finset.sum_congr (M := EReal) rfl fun s _ => hSD s)
  refine congrArg₂ Ideal.div (congrArg₂ (HAdd.hAdd : EReal → EReal → EReal) (congrArg₂ (HMul.hMul : EReal → EReal → EReal) hS (Finset.sum_congr (M := EReal) rfl fun d _ => congrArg₂ (HMul.hMul : EReal → EReal → EReal) (hQ t d) (hC e d)))
    (Finset.sum_congr (M := EReal) rfl fun s _ => congrArg₂ (HMul.hMul : EReal → EReal → EReal) (hSD s) (hV s e)))
    (congrArg₂ (max : EReal → EReal → EReal) (congrArg (fun x : EReal => max x (-x)) hden) (congrArg Ideal.exp (congrArg₂ (HSub.hSub : EReal → EReal → EReal) ?_ hX)))
  first | rfl | pointwise

theorem hc_1 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (9 : Fin 128)) = b t)
    (hBT : ∀ t : Fin 64, BT (Idealize.ShloMosaic.ix2 (9 : Fin 128) t) = b t) (hIT : ∀ t : Fin 64, IT (Idealize.ShloMosaic.ix2 (1 : Fin 128) t) = ig t) (hG : ∀ t : Fin 64, G (Idealize.ShloMosaic.ix2 t (1 : Fin 128)) = ig t)
    (hM : M (Idealize.ShloMosaic.ix2 (0 : Fin 1) (1 : Fin 128)) = m0) (Qh Kh : FVec Ideal S64x128 .f32) (Vh : FVec Ideal S64x256 .f32) (Ch : FVec Ideal S1x256x128 .f32) (Nh : FVec Ideal S1x128 .f32) (q k : Fin 64 → Fin 128 → EReal) (v : Fin 64 → Fin 256 → EReal) (C : Fin 256 → Fin 128 → EReal) (n : Fin 128 → EReal)
    (hQ : ∀ s d, Qh (Idealize.ShloMosaic.ix2 s d) = q s d) (hK : ∀ s d, Kh (Idealize.ShloMosaic.ix2 s d) = k s d) (hV : ∀ s e, Vh (Idealize.ShloMosaic.ix2 s e) = v s e) (hC : ∀ e d, Ch (Idealize.ShloMosaic.ix3 (0 : Fin 1) e d) = C e d) (hN : ∀ d, Nh (Idealize.ShloMosaic.ix2 (0 : Fin 1) d) = n d) (t : Fin 64) (e : Fin 256) :
    ((k0_pay58 (k0_pay50 BB IT BT k0_pay26) (k0_pay51 BB M) (k0_pay52 BB IT BT k0_pay26) Qh Kh Vh Ch Nh) : FVec Ideal S64x256 .f32) (Idealize.ShloMosaic.ix2 t e) = Mlstm.hc b ig m0 q k v C n t e := by
  have hX := mt_1 BB G IT BT M b ig m0 hB hBT hIT hG hM t
  have hS := sc_1 BB G IT BT M b ig m0 hB hBT hIT hG hM t
  unfold k0_pay58 k0_pay57 k0_pay56 k0_pay55
  generalize k0_pay54 (k0_pay51 BB M) (k0_pay52 BB IT BT k0_pay26) = S at hS ⊢
  generalize k0_pay53 (k0_pay51 BB M) (k0_pay52 BB IT BT k0_pay26) = X at hX ⊢
  try unfold k0_pay54
  try unfold k0_pay53
  try unfold k0_pay52
  try unfold k0_pay51
  try unfold k0_pay50
  try unfold k0_pay48
  try unfold k0_pay26
  change S64x128.Idx → EReal at BB
  change S128x64.Idx → EReal at IT BT
  change S64x1.Idx → EReal at X S
  change S64x128.Idx → EReal at Qh Kh
  change S64x256.Idx → EReal at Vh
  change S1x256x128.Idx → EReal at Ch
  change S1x128.Idx → EReal at Nh
  pointwise
  unfold Mlstm.hc Mlstm.num Mlstm.den Mlstm.sS Mlstm.dm
  have hD : ∀ s : Fin 64, Ideal.exp ((Scalar.select (IntOp.cmpi CmpIPredicate.sge (BitVec.ofNat 32 t.val) (BitVec.ofNat 32 s.val)) (BB (Idealize.ShloMosaic.ix2 t (9 : Fin 128)) - BT (Idealize.ShloMosaic.ix2 (9 : Fin 128) s) + IT (Idealize.ShloMosaic.ix2 (1 : Fin 128) s) : EReal) (Ideal.ofBits FTy.f32 4048155338#32) : EReal) - X (Idealize.ShloMosaic.ix2 t (0 : Fin 1))) = Ideal.exp (Mlstm.logD b ig t s - Mlstm.mt b ig m0 t) := by
    intro s
    rw [sel_ge, hX, hB, hBT, hIT]
    rfl
  have hSD : ∀ s : Fin 64, ((∑ d : Fin 128, Qh (Idealize.ShloMosaic.ix2 t d) * Kh (Idealize.ShloMosaic.ix2 s d)) * Ideal.exp ((Scalar.select (IntOp.cmpi CmpIPredicate.sge (BitVec.ofNat 32 t.val) (BitVec.ofNat 32 s.val)) (BB (Idealize.ShloMosaic.ix2 t (9 : Fin 128)) - BT (Idealize.ShloMosaic.ix2 (9 : Fin 128) s) + IT (Idealize.ShloMosaic.ix2 (1 : Fin 128) s) : EReal) (Ideal.ofBits FTy.f32 4048155338#32) : EReal) - X (Idealize.ShloMosaic.ix2 t (0 : Fin 1))) : EReal)
      = (∑ d : Fin 128, q t d * k s d) * Ideal.exp (Mlstm.logD b ig t s - Mlstm.mt b ig m0 t) := fun s =>
    congrArg₂ (HMul.hMul : EReal → EReal → EReal) (Finset.sum_congr (M := EReal) rfl fun d _ => congrArg₂ (HMul.hMul : EReal → EReal → EReal) (hQ t d) (hK s d)) (hD s)
  have hden : (S (Idealize.ShloMosaic.ix2 t (0 : Fin 1)) * (∑ d : Fin 128, Qh (Idealize.ShloMosaic.ix2 t d) * Nh (Idealize.ShloMosaic.ix2 (0 : Fin 1) d)) + ∑ s : Fin 64, ((∑ d : Fin 128, Qh (Idealize.ShloMosaic.ix2 t d) * Kh (Idealize.ShloMosaic.ix2 s d)) * Ideal.exp ((Scalar.select (IntOp.cmpi CmpIPredicate.sge (BitVec.ofNat 32 t.val) (BitVec.ofNat 32 s.val)) (BB (Idealize.ShloMosaic.ix2 t (9 : Fin 128)) - BT (Idealize.ShloMosaic.ix2 (9 : Fin 128) s) + IT (Idealize.ShloMosaic.ix2 (1 : Fin 128) s) : EReal) (Ideal.ofBits FTy.f32 4048155338#32) : EReal) - X (Idealize.ShloMosaic.ix2 t (0 : Fin 1))) : EReal) : EReal)
      = Mlstm.sc b ig m0 t * (∑ d : Fin 128, q t d * n d) + ∑ s : Fin 64, (∑ d : Fin 128, q t d * k s d) * Ideal.exp (Mlstm.logD b ig t s - Mlstm.mt b ig m0 t) :=
    congrArg₂ (HAdd.hAdd : EReal → EReal → EReal) (congrArg₂ (HMul.hMul : EReal → EReal → EReal) hS (Finset.sum_congr (M := EReal) rfl fun d _ => congrArg₂ (HMul.hMul : EReal → EReal → EReal) (hQ t d) (hN d))) (Finset.sum_congr (M := EReal) rfl fun s _ => hSD s)
  refine congrArg₂ Ideal.div (congrArg₂ (HAdd.hAdd : EReal → EReal → EReal) (congrArg₂ (HMul.hMul : EReal → EReal → EReal) hS (Finset.sum_congr (M := EReal) rfl fun d _ => congrArg₂ (HMul.hMul : EReal → EReal → EReal) (hQ t d) (hC e d)))
    (Finset.sum_congr (M := EReal) rfl fun s _ => congrArg₂ (HMul.hMul : EReal → EReal → EReal) (hSD s) (hV s e)))
    (congrArg₂ (max : EReal → EReal → EReal) (congrArg (fun x : EReal => max x (-x)) hden) (congrArg Ideal.exp (congrArg₂ (HSub.hSub : EReal → EReal → EReal) ?_ hX)))
  first | rfl | pointwise

theorem hc_2 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (10 : Fin 128)) = b t)
    (hBT : ∀ t : Fin 64, BT (Idealize.ShloMosaic.ix2 (10 : Fin 128) t) = b t) (hIT : ∀ t : Fin 64, IT (Idealize.ShloMosaic.ix2 (2 : Fin 128) t) = ig t) (hG : ∀ t : Fin 64, G (Idealize.ShloMosaic.ix2 t (2 : Fin 128)) = ig t)
    (hM : M (Idealize.ShloMosaic.ix2 (0 : Fin 1) (2 : Fin 128)) = m0) (Qh Kh : FVec Ideal S64x128 .f32) (Vh : FVec Ideal S64x256 .f32) (Ch : FVec Ideal S1x256x128 .f32) (Nh : FVec Ideal S1x128 .f32) (q k : Fin 64 → Fin 128 → EReal) (v : Fin 64 → Fin 256 → EReal) (C : Fin 256 → Fin 128 → EReal) (n : Fin 128 → EReal)
    (hQ : ∀ s d, Qh (Idealize.ShloMosaic.ix2 s d) = q s d) (hK : ∀ s d, Kh (Idealize.ShloMosaic.ix2 s d) = k s d) (hV : ∀ s e, Vh (Idealize.ShloMosaic.ix2 s e) = v s e) (hC : ∀ e d, Ch (Idealize.ShloMosaic.ix3 (0 : Fin 1) e d) = C e d) (hN : ∀ d, Nh (Idealize.ShloMosaic.ix2 (0 : Fin 1) d) = n d) (t : Fin 64) (e : Fin 256) :
    ((k0_pay78 (k0_pay71 BB IT BT k0_pay26 M) (k0_pay72 BB IT BT k0_pay26 M) (k0_pay73 BB IT BT k0_pay26 M) (k0_pay74 Qh) (k0_pay75 Kh) (k0_pay76 Vh) (k0_pay77 Ch) Nh) : FVec Ideal S64x256 .f32) (Idealize.ShloMosaic.ix2 t e) = Mlstm.hc b ig m0 q k v C n t e := by
  have hX := mt_2 BB G IT BT M b ig m0 hB hBT hIT hG hM t
  have hS := sc_2 BB G IT BT M b ig m0 hB hBT hIT hG hM t
  unfold k0_pay78 k0_pay77 k0_pay76 k0_pay75 k0_pay74 k0_pay72
  generalize k0_pay73 BB IT BT k0_pay26 M = S at hS ⊢
  generalize k0_pay71 BB IT BT k0_pay26 M = X at hX ⊢
  try unfold k0_pay73
  try unfold k0_pay71
  try unfold k0_pay70
  try unfold k0_pay69
  try unfold k0_pay67
  try unfold k0_pay26
  change S64x128.Idx → EReal at BB
  change S128x64.Idx → EReal at IT BT
  change S64x1.Idx → EReal at X S
  change S64x128.Idx → EReal at Qh Kh
  change S64x256.Idx → EReal at Vh
  change S1x256x128.Idx → EReal at Ch
  change S1x128.Idx → EReal at Nh
  pointwise
  unfold Mlstm.hc Mlstm.num Mlstm.den Mlstm.sS Mlstm.dm
  have hD : ∀ s : Fin 64, Ideal.exp ((Scalar.select (IntOp.cmpi CmpIPredicate.sge (BitVec.ofNat 32 t.val) (BitVec.ofNat 32 s.val)) (BB (Idealize.ShloMosaic.ix2 t (10 : Fin 128)) - BT (Idealize.ShloMosaic.ix2 (10 : Fin 128) s) + IT (Idealize.ShloMosaic.ix2 (2 : Fin 128) s) : EReal) (Ideal.ofBits FTy.f32 4048155338#32) : EReal) - X (Idealize.ShloMosaic.ix2 t (0 : Fin 1))) = Ideal.exp (Mlstm.logD b ig t s - Mlstm.mt b ig m0 t) := by
    intro s
    rw [sel_ge, hX, hB, hBT, hIT]
    rfl
  have hSD : ∀ s : Fin 64, ((∑ d : Fin 128, Qh (Idealize.ShloMosaic.ix2 t d) * Kh (Idealize.ShloMosaic.ix2 s d)) * Ideal.exp ((Scalar.select (IntOp.cmpi CmpIPredicate.sge (BitVec.ofNat 32 t.val) (BitVec.ofNat 32 s.val)) (BB (Idealize.ShloMosaic.ix2 t (10 : Fin 128)) - BT (Idealize.ShloMosaic.ix2 (10 : Fin 128) s) + IT (Idealize.ShloMosaic.ix2 (2 : Fin 128) s) : EReal) (Ideal.ofBits FTy.f32 4048155338#32) : EReal) - X (Idealize.ShloMosaic.ix2 t (0 : Fin 1))) : EReal)
      = (∑ d : Fin 128, q t d * k s d) * Ideal.exp (Mlstm.logD b ig t s - Mlstm.mt b ig m0 t) := fun s =>
    congrArg₂ (HMul.hMul : EReal → EReal → EReal) (Finset.sum_congr (M := EReal) rfl fun d _ => congrArg₂ (HMul.hMul : EReal → EReal → EReal) (hQ t d) (hK s d)) (hD s)
  have hden : (S (Idealize.ShloMosaic.ix2 t (0 : Fin 1)) * (∑ d : Fin 128, Qh (Idealize.ShloMosaic.ix2 t d) * Nh (Idealize.ShloMosaic.ix2 (0 : Fin 1) d)) + ∑ s : Fin 64, ((∑ d : Fin 128, Qh (Idealize.ShloMosaic.ix2 t d) * Kh (Idealize.ShloMosaic.ix2 s d)) * Ideal.exp ((Scalar.select (IntOp.cmpi CmpIPredicate.sge (BitVec.ofNat 32 t.val) (BitVec.ofNat 32 s.val)) (BB (Idealize.ShloMosaic.ix2 t (10 : Fin 128)) - BT (Idealize.ShloMosaic.ix2 (10 : Fin 128) s) + IT (Idealize.ShloMosaic.ix2 (2 : Fin 128) s) : EReal) (Ideal.ofBits FTy.f32 4048155338#32) : EReal) - X (Idealize.ShloMosaic.ix2 t (0 : Fin 1))) : EReal) : EReal)
      = Mlstm.sc b ig m0 t * (∑ d : Fin 128, q t d * n d) + ∑ s : Fin 64, (∑ d : Fin 128, q t d * k s d) * Ideal.exp (Mlstm.logD b ig t s - Mlstm.mt b ig m0 t) :=
    congrArg₂ (HAdd.hAdd : EReal → EReal → EReal) (congrArg₂ (HMul.hMul : EReal → EReal → EReal) hS (Finset.sum_congr (M := EReal) rfl fun d _ => congrArg₂ (HMul.hMul : EReal → EReal → EReal) (hQ t d) (hN d))) (Finset.sum_congr (M := EReal) rfl fun s _ => hSD s)
  refine congrArg₂ Ideal.div (congrArg₂ (HAdd.hAdd : EReal → EReal → EReal) (congrArg₂ (HMul.hMul : EReal → EReal → EReal) hS (Finset.sum_congr (M := EReal) rfl fun d _ => congrArg₂ (HMul.hMul : EReal → EReal → EReal) (hQ t d) (hC e d)))
    (Finset.sum_congr (M := EReal) rfl fun s _ => congrArg₂ (HMul.hMul : EReal → EReal → EReal) (hSD s) (hV s e)))
    (congrArg₂ (max : EReal → EReal → EReal) (congrArg (fun x : EReal => max x (-x)) hden) (congrArg Ideal.exp (congrArg₂ (HSub.hSub : EReal → EReal → EReal) ?_ hX)))
  first | rfl | pointwise

theorem hc_3 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (11 : Fin 128)) = b t)
    (hBT : ∀ t : Fin 64, BT (Idealize.ShloMosaic.ix2 (11 : Fin 128) t) = b t) (hIT : ∀ t : Fin 64, IT (Idealize.ShloMosaic.ix2 (3 : Fin 128) t) = ig t) (hG : ∀ t : Fin 64, G (Idealize.ShloMosaic.ix2 t (3 : Fin 128)) = ig t)
    (hM : M (Idealize.ShloMosaic.ix2 (0 : Fin 1) (3 : Fin 128)) = m0) (Qh Kh : FVec Ideal S64x128 .f32) (Vh : FVec Ideal S64x256 .f32) (Ch : FVec Ideal S1x256x128 .f32) (Nh : FVec Ideal S1x128 .f32) (q k : Fin 64 → Fin 128 → EReal) (v : Fin 64 → Fin 256 → EReal) (C : Fin 256 → Fin 128 → EReal) (n : Fin 128 → EReal)
    (hQ : ∀ s d, Qh (Idealize.ShloMosaic.ix2 s d) = q s d) (hK : ∀ s d, Kh (Idealize.ShloMosaic.ix2 s d) = k s d) (hV : ∀ s e, Vh (Idealize.ShloMosaic.ix2 s e) = v s e) (hC : ∀ e d, Ch (Idealize.ShloMosaic.ix3 (0 : Fin 1) e d) = C e d) (hN : ∀ d, Nh (Idealize.ShloMosaic.ix2 (0 : Fin 1) d) = n d) (t : Fin 64) (e : Fin 256) :
    ((k0_pay104 (k0_pay94 k0_pay26 (k0_pay87 BB) (k0_pay89 IT) (k0_pay90 M) (k0_pay91 BB BT)) (k0_pay101 k0_pay26 (k0_pay87 BB) (k0_pay89 IT) (k0_pay90 M) (k0_pay91 BB BT) Qh Kh Vh Ch) (k0_pay102 k0_pay26 (k0_pay87 BB) (k0_pay89 IT) (k0_pay90 M) (k0_pay91 BB BT) Qh Nh) (k0_pay103 k0_pay26 (k0_pay87 BB) (k0_pay89 IT) (k0_pay90 M) (k0_pay91 BB BT) Qh Kh)) : FVec Ideal S64x256 .f32) (Idealize.ShloMosaic.ix2 t e) = Mlstm.hc b ig m0 q k v C n t e := by
  have hX := mt_3 BB G IT BT M b ig m0 hB hBT hIT hG hM t
  have hS := sc_3 BB G IT BT M b ig m0 hB hBT hIT hG hM t
  unfold k0_pay104 k0_pay103 k0_pay102 k0_pay101 k0_pay100 k0_pay97 k0_pay99 k0_pay98 k0_pay96
  generalize k0_pay95 k0_pay26 (k0_pay87 BB) (k0_pay89 IT) (k0_pay90 M) (k0_pay91 BB BT) = S at hS ⊢
  generalize k0_pay94 k0_pay26 (k0_pay87 BB) (k0_pay89 IT) (k0_pay90 M) (k0_pay91 BB BT) = X at hX ⊢
  try unfold k0_pay95
  try unfold k0_pay94
  try unfold k0_pay93
  try unfold k0_pay92
  try unfold k0_pay91
  try unfold k0_pay90
  try unfold k0_pay89
  try unfold k0_pay87
  try unfold k0_pay26
  change S64x128.Idx → EReal at BB
  change S128x64.Idx → EReal at IT BT
  change S64x1.Idx → EReal at X S
  change S64x128.Idx → EReal at Qh Kh
  change S64x256.Idx → EReal at Vh
  change S1x256x128.Idx → EReal at Ch
  change S1x128.Idx → EReal at Nh
  pointwise
  unfold Mlstm.hc Mlstm.num Mlstm.den Mlstm.sS Mlstm.dm
  have hD : ∀ s : Fin 64, Ideal.exp ((Scalar.select (IntOp.cmpi CmpIPredicate.sge (BitVec.ofNat 32 t.val) (BitVec.ofNat 32 s.val)) (BB (Idealize.ShloMosaic.ix2 t (11 : Fin 128)) - BT (Idealize.ShloMosaic.ix2 (11 : Fin 128) s) + IT (Idealize.ShloMosaic.ix2 (3 : Fin 128) s) : EReal) (Ideal.ofBits FTy.f32 4048155338#32) : EReal) - X (Idealize.ShloMosaic.ix2 t (0 : Fin 1))) = Ideal.exp (Mlstm.logD b ig t s - Mlstm.mt b ig m0 t) := by
    intro s
    rw [sel_ge, hX, hB, hBT, hIT]
    rfl
  have hSD : ∀ s : Fin 64, ((∑ d : Fin 128, Qh (Idealize.ShloMosaic.ix2 t d) * Kh (Idealize.ShloMosaic.ix2 s d)) * Ideal.exp ((Scalar.select (IntOp.cmpi CmpIPredicate.sge (BitVec.ofNat 32 t.val) (BitVec.ofNat 32 s.val)) (BB (Idealize.ShloMosaic.ix2 t (11 : Fin 128)) - BT (Idealize.ShloMosaic.ix2 (11 : Fin 128) s) + IT (Idealize.ShloMosaic.ix2 (3 : Fin 128) s) : EReal) (Ideal.ofBits FTy.f32 4048155338#32) : EReal) - X (Idealize.ShloMosaic.ix2 t (0 : Fin 1))) : EReal)
      = (∑ d : Fin 128, q t d * k s d) * Ideal.exp (Mlstm.logD b ig t s - Mlstm.mt b ig m0 t) := fun s =>
    congrArg₂ (HMul.hMul : EReal → EReal → EReal) (Finset.sum_congr (M := EReal) rfl fun d _ => congrArg₂ (HMul.hMul : EReal → EReal → EReal) (hQ t d) (hK s d)) (hD s)
  have hden : (S (Idealize.ShloMosaic.ix2 t (0 : Fin 1)) * (∑ d : Fin 128, Qh (Idealize.ShloMosaic.ix2 t d) * Nh (Idealize.ShloMosaic.ix2 (0 : Fin 1) d)) + ∑ s : Fin 64, ((∑ d : Fin 128, Qh (Idealize.ShloMosaic.ix2 t d) * Kh (Idealize.ShloMosaic.ix2 s d)) * Ideal.exp ((Scalar.select (IntOp.cmpi CmpIPredicate.sge (BitVec.ofNat 32 t.val) (BitVec.ofNat 32 s.val)) (BB (Idealize.ShloMosaic.ix2 t (11 : Fin 128)) - BT (Idealize.ShloMosaic.ix2 (11 : Fin 128) s) + IT (Idealize.ShloMosaic.ix2 (3 : Fin 128) s) : EReal) (Ideal.ofBits FTy.f32 4048155338#32) : EReal) - X (Idealize.ShloMosaic.ix2 t (0 : Fin 1))) : EReal) : EReal)
      = Mlstm.sc b ig m0 t * (∑ d : Fin 128, q t d * n d) + ∑ s : Fin 64, (∑ d : Fin 128, q t d * k s d) * Ideal.exp (Mlstm.logD b ig t s - Mlstm.mt b ig m0 t) :=
    congrArg₂ (HAdd.hAdd : EReal → EReal → EReal) (congrArg₂ (HMul.hMul : EReal → EReal → EReal) hS (Finset.sum_congr (M := EReal) rfl fun d _ => congrArg₂ (HMul.hMul : EReal → EReal → EReal) (hQ t d) (hN d))) (Finset.sum_congr (M := EReal) rfl fun s _ => hSD s)
  refine congrArg₂ Ideal.div (congrArg₂ (HAdd.hAdd : EReal → EReal → EReal) (congrArg₂ (HMul.hMul : EReal → EReal → EReal) hS (Finset.sum_congr (M := EReal) rfl fun d _ => congrArg₂ (HMul.hMul : EReal → EReal → EReal) (hQ t d) (hC e d)))
    (Finset.sum_congr (M := EReal) rfl fun s _ => congrArg₂ (HMul.hMul : EReal → EReal → EReal) (hSD s) (hV s e)))
    (congrArg₂ (max : EReal → EReal → EReal) (congrArg (fun x : EReal => max x (-x)) hden) (congrArg Ideal.exp (congrArg₂ (HSub.hSub : EReal → EReal → EReal) ?_ hX)))
  first | rfl | pointwise

theorem out_0 (H : FVec Ideal S64x256 .f32) (Gh : FVec Ideal S1x256 .f32) (Oh : FVec Ideal S64x256 .f32) (t : Fin 64) (hv : Fin 256 → EReal) (hH : ∀ x, H (Idealize.ShloMosaic.ix2 t x) = hv x) (e : Fin 256) :
    ((k0_pay47 (F := Ideal) H Gh Oh) : FVec Ideal S64x256 .bf16) (Idealize.ShloMosaic.ix2 t e) = Mlstm.out hv e (Gh (Idealize.ShloMosaic.ix2 (0 : Fin 1) e)) (Oh (Idealize.ShloMosaic.ix2 t e)) := by
  unfold k0_pay47
  change S64x256.Idx → EReal at H Oh
  change S1x256.Idx → EReal at Gh
  pointwise
  unfold Mlstm.out
  refine congrArg₂ (HMul.hMul : EReal → EReal → EReal) (congrArg₂ (HMul.hMul : EReal → EReal → EReal) (congrArg₂ (HMul.hMul : EReal → EReal → EReal) (hH e) (congrArg Ideal.rsqrt (congrArg₂ (HAdd.hAdd : EReal → EReal → EReal) (congrArg₂ Ideal.div (Finset.sum_congr (M := EReal) rfl fun x _ => congrArg₂ (HMul.hMul : EReal → EReal → EReal) (hH x) (hH x)) rfl) rfl))) rfl) rfl

theorem out_1 (H : FVec Ideal S64x256 .f32) (Gh : FVec Ideal S1x256 .f32) (Oh : FVec Ideal S64x256 .f32) (t : Fin 64) (hv : Fin 256 → EReal) (hH : ∀ x, H (Idealize.ShloMosaic.ix2 t x) = hv x) (e : Fin 256) :
    ((k0_pay66 (F := Ideal) (k0_pay65 H) Gh Oh) : FVec Ideal S64x256 .bf16) (Idealize.ShloMosaic.ix2 t e) = Mlstm.out hv e (Gh (Idealize.ShloMosaic.ix2 (0 : Fin 1) e)) (Oh (Idealize.ShloMosaic.ix2 t e)) := by
  unfold k0_pay66 k0_pay65
  change S64x256.Idx → EReal at H Oh
  change S1x256.Idx → EReal at Gh
  pointwise
  unfold Mlstm.out
  refine congrArg₂ (HMul.hMul : EReal → EReal → EReal) (congrArg₂ (HMul.hMul : EReal → EReal → EReal) (congrArg₂ (HMul.hMul : EReal → EReal → EReal) (hH e) (congrArg Ideal.rsqrt (congrArg₂ (HAdd.hAdd : EReal → EReal → EReal) (congrArg₂ Ideal.div (Finset.sum_congr (M := EReal) rfl fun x _ => congrArg₂ (HMul.hMul : EReal → EReal → EReal) (hH x) (hH x)) rfl) rfl))) rfl) rfl

theorem out_2 (H : FVec Ideal S64x256 .f32) (Gh : FVec Ideal S1x256 .f32) (Oh : FVec Ideal S64x256 .f32) (t : Fin 64) (hv : Fin 256 → EReal) (hH : ∀ x, H (Idealize.ShloMosaic.ix2 t x) = hv x) (e : Fin 256) :
    ((k0_pay86 (F := Ideal) H Gh Oh) : FVec Ideal S64x256 .bf16) (Idealize.ShloMosaic.ix2 t e) = Mlstm.out hv e (Gh (Idealize.ShloMosaic.ix2 (0 : Fin 1) e)) (Oh (Idealize.ShloMosaic.ix2 t e)) := by
  unfold k0_pay86
  change S64x256.Idx → EReal at H Oh
  change S1x256.Idx → EReal at Gh
  pointwise
  unfold Mlstm.out
  refine congrArg₂ (HMul.hMul : EReal → EReal → EReal) (congrArg₂ (HMul.hMul : EReal → EReal → EReal) (congrArg₂ (HMul.hMul : EReal → EReal → EReal) (hH e) (congrArg Ideal.rsqrt (congrArg₂ (HAdd.hAdd : EReal → EReal → EReal) (congrArg₂ Ideal.div (Finset.sum_congr (M := EReal) rfl fun x _ => congrArg₂ (HMul.hMul : EReal → EReal → EReal) (hH x) (hH x)) rfl) rfl))) rfl) rfl

theorem out_3 (P1 : FVec Ideal S64x1 .f32) (P2 : FVec Ideal S64x256 .f32) (P3 : FVec Ideal S64x1 .f32) (P4 : FVec Ideal S64 .f32) (Gh : FVec Ideal S1x256 .f32) (Oh : FVec Ideal S64x256 .f32) (t : Fin 64) (hv : Fin 256 → EReal) (hH : ∀ x, (k0_pay104 (F := Ideal) P1 P2 P3 P4) (Idealize.ShloMosaic.ix2 t x) = hv x) (e : Fin 256) :
    ((k0_pay112 (F := Ideal) (k0_pay104 (F := Ideal) P1 P2 P3 P4) (k0_pay111 P1 P2 P3 P4) Gh Oh) : FVec Ideal S64x256 .bf16) (Idealize.ShloMosaic.ix2 t e) = Mlstm.out hv e (Gh (Idealize.ShloMosaic.ix2 (0 : Fin 1) e)) (Oh (Idealize.ShloMosaic.ix2 t e)) := by
  unfold k0_pay111 k0_pay112
  try unfold k0_pay110
  generalize (k0_pay104 (F := Ideal) P1 P2 P3 P4) = H at hH ⊢
  change S64x256.Idx → EReal at H Oh
  change S1x256.Idx → EReal at Gh
  pointwise
  unfold Mlstm.out
  refine congrArg₂ (HMul.hMul : EReal → EReal → EReal) (congrArg₂ (HMul.hMul : EReal → EReal → EReal) (congrArg₂ (HMul.hMul : EReal → EReal → EReal) (hH e) (congrArg Ideal.rsqrt (congrArg₂ (HAdd.hAdd : EReal → EReal → EReal) (congrArg₂ Ideal.div (Finset.sum_congr (M := EReal) rfl fun x _ => congrArg₂ (HMul.hMul : EReal → EReal → EReal) (hH x) (hH x)) rfl) rfl))) rfl) rfl

theorem out_4 (H : FVec Ideal S64x256 .f32) (Gh : FVec Ideal S1x256 .f32) (Oh : FVec Ideal S64x256 .f32) (t : Fin 64) (hv : Fin 256 → EReal) (hH : ∀ x, H (Idealize.ShloMosaic.ix2 t x) = hv x) (e : Fin 256) :
    ((k0_pay132 (F := Ideal) H Gh Oh) : FVec Ideal S64x256 .bf16) (Idealize.ShloMosaic.ix2 t e) = Mlstm.out hv e (Gh (Idealize.ShloMosaic.ix2 (0 : Fin 1) e)) (Oh (Idealize.ShloMosaic.ix2 t e)) := by
  unfold k0_pay132
  change S64x256.Idx → EReal at H Oh
  change S1x256.Idx → EReal at Gh
  pointwise
  unfold Mlstm.out
  refine congrArg₂ (HMul.hMul : EReal → EReal → EReal) (congrArg₂ (HMul.hMul : EReal → EReal → EReal) (congrArg₂ (HMul.hMul : EReal → EReal → EReal) (hH e) (congrArg Ideal.rsqrt (congrArg₂ (HAdd.hAdd : EReal → EReal → EReal) (congrArg₂ Ideal.div (Finset.sum_congr (M := EReal) rfl fun x _ => congrArg₂ (HMul.hMul : EReal → EReal → EReal) (hH x) (hH x)) rfl) rfl))) rfl) rfl

theorem out_5 (H : FVec Ideal S64x256 .f32) (Gh : FVec Ideal S1x256 .f32) (Oh : FVec Ideal S64x256 .f32) (t : Fin 64) (hv : Fin 256 → EReal) (hH : ∀ x, H (Idealize.ShloMosaic.ix2 t x) = hv x) (e : Fin 256) :
    ((k0_pay153 (F := Ideal) H Gh Oh) : FVec Ideal S64x256 .bf16) (Idealize.ShloMosaic.ix2 t e) = Mlstm.out hv e (Gh (Idealize.ShloMosaic.ix2 (0 : Fin 1) e)) (Oh (Idealize.ShloMosaic.ix2 t e)) := by
  unfold k0_pay153
  change S64x256.Idx → EReal at H Oh
  change S1x256.Idx → EReal at Gh
  pointwise
  unfold Mlstm.out
  refine congrArg₂ (HMul.hMul : EReal → EReal → EReal) (congrArg₂ (HMul.hMul : EReal → EReal → EReal) (congrArg₂ (HMul.hMul : EReal → EReal → EReal) (hH e) (congrArg Ideal.rsqrt (congrArg₂ (HAdd.hAdd : EReal → EReal → EReal) (congrArg₂ Ideal.div (Finset.sum_congr (M := EReal) rfl fun x _ => congrArg₂ (HMul.hMul : EReal → EReal → EReal) (hH x) (hH x)) rfl) rfl))) rfl) rfl

theorem out_6 (H : FVec Ideal S64x256 .f32) (Gh : FVec Ideal S1x256 .f32) (Oh : FVec Ideal S64x256 .f32) (t : Fin 64) (hv : Fin 256 → EReal) (hH : ∀ x, H (Idealize.ShloMosaic.ix2 t x) = hv x) (e : Fin 256) :
    ((k0_pay175 (F := Ideal) (k0_pay173 H) (k0_pay174 Gh) Oh) : FVec Ideal S64x256 .bf16) (Idealize.ShloMosaic.ix2 t e) = Mlstm.out hv e (Gh (Idealize.ShloMosaic.ix2 (0 : Fin 1) e)) (Oh (Idealize.ShloMosaic.ix2 t e)) := by
  unfold k0_pay175 k0_pay174 k0_pay173
  change S64x256.Idx → EReal at H Oh
  change S1x256.Idx → EReal at Gh
  pointwise
  unfold Mlstm.out
  refine congrArg₂ (HMul.hMul : EReal → EReal → EReal) (congrArg₂ (HMul.hMul : EReal → EReal → EReal) (congrArg₂ (HMul.hMul : EReal → EReal → EReal) (hH e) (congrArg Ideal.rsqrt (congrArg₂ (HAdd.hAdd : EReal → EReal → EReal) (congrArg₂ Ideal.div (Finset.sum_congr (M := EReal) rfl fun x _ => congrArg₂ (HMul.hMul : EReal → EReal → EReal) (hH x) (hH x)) rfl) rfl))) rfl) rfl

theorem out_7 (H : FVec Ideal S64x256 .f32) (Gh : FVec Ideal S1x256 .f32) (Oh : FVec Ideal S64x256 .f32) (t : Fin 64) (hv : Fin 256 → EReal) (hH : ∀ x, H (Idealize.ShloMosaic.ix2 t x) = hv x) (e : Fin 256) :
    ((k0_pay1 (F := Ideal) (k0_pay197 H Gh) Oh) : FVec Ideal S64x256 .bf16) (Idealize.ShloMosaic.ix2 t e) = Mlstm.out hv e (Gh (Idealize.ShloMosaic.ix2 (0 : Fin 1) e)) (Oh (Idealize.ShloMosaic.ix2 t e)) := by
  unfold k0_pay197 k0_pay1
  change S64x256.Idx → EReal at H Oh
  change S1x256.Idx → EReal at Gh
  pointwise
  unfold Mlstm.out
  refine congrArg₂ (HMul.hMul : EReal → EReal → EReal) (congrArg₂ (HMul.hMul : EReal → EReal → EReal) (congrArg₂ (HMul.hMul : EReal → EReal → EReal) (hH e) (congrArg Ideal.rsqrt (congrArg₂ (HAdd.hAdd : EReal → EReal → EReal) (congrArg₂ Ideal.div (Finset.sum_congr (M := EReal) rfl fun x _ => congrArg₂ (HMul.hMul : EReal → EReal → EReal) (hH x) (hH x)) rfl) rfl))) rfl) rfl

end Cert.KernelIdeal.Hand

end
-- ==== Proof.MlstmKerHd.lean ====
module

public import proofs.«01_k».proof.Proof.Gen.KernelIdeal.Value
public import proofs.«01_k».proof.Proof.MlstmKerB
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 65536
set_option maxHeartbeats 4000000

noncomputable section

/-! The quotient of a chunk as the kernel writes it, the other heads. -/

namespace Cert.KernelIdeal.Hand

open Cert.KernelIdeal Cert.KernelIdeal.Gen Cert.KernelIdeal.Value Idealize.ShloMosaic Idealize.ShloMosaic.TcCoe Idealize.SL.Sem Cert.Hand

theorem hc_4 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (12 : Fin 128)) = b t)
    (hBT : ∀ t : Fin 64, BT (Idealize.ShloMosaic.ix2 (12 : Fin 128) t) = b t) (hIT : ∀ t : Fin 64, IT (Idealize.ShloMosaic.ix2 (4 : Fin 128) t) = ig t) (hG : ∀ t : Fin 64, G (Idealize.ShloMosaic.ix2 t (4 : Fin 128)) = ig t)
    (hM : M (Idealize.ShloMosaic.ix2 (0 : Fin 1) (4 : Fin 128)) = m0) (Qh Kh : FVec Ideal S64x128 .f32) (Vh : FVec Ideal S64x256 .f32) (Ch : FVec Ideal S1x256x128 .f32) (Nh : FVec Ideal S1x128 .f32) (q k : Fin 64 → Fin 128 → EReal) (v : Fin 64 → Fin 256 → EReal) (C : Fin 256 → Fin 128 → EReal) (n : Fin 128 → EReal)
    (hQ : ∀ s d, Qh (Idealize.ShloMosaic.ix2 s d) = q s d) (hK : ∀ s d, Kh (Idealize.ShloMosaic.ix2 s d) = k s d) (hV : ∀ s e, Vh (Idealize.ShloMosaic.ix2 s e) = v s e) (hC : ∀ e d, Ch (Idealize.ShloMosaic.ix3 (0 : Fin 1) e d) = C e d) (hN : ∀ d, Nh (Idealize.ShloMosaic.ix2 (0 : Fin 1) d) = n d) (t : Fin 64) (e : Fin 256) :
    ((k0_pay123 (k0_pay117 BB IT BT k0_pay26 M) (k0_pay118 BB IT BT k0_pay26 M) (k0_pay119 BB IT BT k0_pay26 M) Qh Kh Vh Ch Nh) : FVec Ideal S64x256 .f32) (Idealize.ShloMosaic.ix2 t e) = Mlstm.hc b ig m0 q k v C n t e := by
  have hX := mt_4 BB G IT BT M b ig m0 hB hBT hIT hG hM t
  have hS := sc_4 BB G IT BT M b ig m0 hB hBT hIT hG hM t
  unfold k0_pay123 k0_pay122 k0_pay121 k0_pay120 k0_pay118
  generalize k0_pay119 BB IT BT k0_pay26 M = S at hS ⊢
  generalize k0_pay117 BB IT BT k0_pay26 M = X at hX ⊢
  try unfold k0_pay119
  try unfold k0_pay117
  try unfold k0_pay116
  try unfold k0_pay115
  try unfold k0_pay113
  try unfold k0_pay26
  change S64x128.Idx → EReal at BB
  change S128x64.Idx → EReal at IT BT
  change S64x1.Idx → EReal at X S
  change S64x128.Idx → EReal at Qh Kh
  change S64x256.Idx → EReal at Vh
  change S1x256x128.Idx → EReal at Ch
  change S1x128.Idx → EReal at Nh
  pointwise
  unfold Mlstm.hc Mlstm.num Mlstm.den Mlstm.sS Mlstm.dm
  have hD : ∀ s : Fin 64, Ideal.exp ((Scalar.select (IntOp.cmpi CmpIPredicate.sge (BitVec.ofNat 32 t.val) (BitVec.ofNat 32 s.val)) (BB (Idealize.ShloMosaic.ix2 t (12 : Fin 128)) - BT (Idealize.ShloMosaic.ix2 (12 : Fin 128) s) + IT (Idealize.ShloMosaic.ix2 (4 : Fin 128) s) : EReal) (Ideal.ofBits FTy.f32 4048155338#32) : EReal) - X (Idealize.ShloMosaic.ix2 t (0 : Fin 1))) = Ideal.exp (Mlstm.logD b ig t s - Mlstm.mt b ig m0 t) := by
    intro s
    rw [sel_ge, hX, hB, hBT, hIT]
    rfl
  have hSD : ∀ s : Fin 64, ((∑ d : Fin 128, Qh (Idealize.ShloMosaic.ix2 t d) * Kh (Idealize.ShloMosaic.ix2 s d)) * Ideal.exp ((Scalar.select (IntOp.cmpi CmpIPredicate.sge (BitVec.ofNat 32 t.val) (BitVec.ofNat 32 s.val)) (BB (Idealize.ShloMosaic.ix2 t (12 : Fin 128)) - BT (Idealize.ShloMosaic.ix2 (12 : Fin 128) s) + IT (Idealize.ShloMosaic.ix2 (4 : Fin 128) s) : EReal) (Ideal.ofBits FTy.f32 4048155338#32) : EReal) - X (Idealize.ShloMosaic.ix2 t (0 : Fin 1))) : EReal)
      = (∑ d : Fin 128, q t d * k s d) * Ideal.exp (Mlstm.logD b ig t s - Mlstm.mt b ig m0 t) := fun s =>
    congrArg₂ (HMul.hMul : EReal → EReal → EReal) (Finset.sum_congr (M := EReal) rfl fun d _ => congrArg₂ (HMul.hMul : EReal → EReal → EReal) (hQ t d) (hK s d)) (hD s)
  have hden : (S (Idealize.ShloMosaic.ix2 t (0 : Fin 1)) * (∑ d : Fin 128, Qh (Idealize.ShloMosaic.ix2 t d) * Nh (Idealize.ShloMosaic.ix2 (0 : Fin 1) d)) + ∑ s : Fin 64, ((∑ d : Fin 128, Qh (Idealize.ShloMosaic.ix2 t d) * Kh (Idealize.ShloMosaic.ix2 s d)) * Ideal.exp ((Scalar.select (IntOp.cmpi CmpIPredicate.sge (BitVec.ofNat 32 t.val) (BitVec.ofNat 32 s.val)) (BB (Idealize.ShloMosaic.ix2 t (12 : Fin 128)) - BT (Idealize.ShloMosaic.ix2 (12 : Fin 128) s) + IT (Idealize.ShloMosaic.ix2 (4 : Fin 128) s) : EReal) (Ideal.ofBits FTy.f32 4048155338#32) : EReal) - X (Idealize.ShloMosaic.ix2 t (0 : Fin 1))) : EReal) : EReal)
      = Mlstm.sc b ig m0 t * (∑ d : Fin 128, q t d * n d) + ∑ s : Fin 64, (∑ d : Fin 128, q t d * k s d) * Ideal.exp (Mlstm.logD b ig t s - Mlstm.mt b ig m0 t) :=
    congrArg₂ (HAdd.hAdd : EReal → EReal → EReal) (congrArg₂ (HMul.hMul : EReal → EReal → EReal) hS (Finset.sum_congr (M := EReal) rfl fun d _ => congrArg₂ (HMul.hMul : EReal → EReal → EReal) (hQ t d) (hN d))) (Finset.sum_congr (M := EReal) rfl fun s _ => hSD s)
  refine congrArg₂ Ideal.div (congrArg₂ (HAdd.hAdd : EReal → EReal → EReal) (congrArg₂ (HMul.hMul : EReal → EReal → EReal) hS (Finset.sum_congr (M := EReal) rfl fun d _ => congrArg₂ (HMul.hMul : EReal → EReal → EReal) (hQ t d) (hC e d)))
    (Finset.sum_congr (M := EReal) rfl fun s _ => congrArg₂ (HMul.hMul : EReal → EReal → EReal) (hSD s) (hV s e)))
    (congrArg₂ (max : EReal → EReal → EReal) (congrArg (fun x : EReal => max x (-x)) hden) (congrArg Ideal.exp (congrArg₂ (HSub.hSub : EReal → EReal → EReal) ?_ hX)))
  first | rfl | pointwise

theorem hc_5 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (13 : Fin 128)) = b t)
    (hBT : ∀ t : Fin 64, BT (Idealize.ShloMosaic.ix2 (13 : Fin 128) t) = b t) (hIT : ∀ t : Fin 64, IT (Idealize.ShloMosaic.ix2 (5 : Fin 128) t) = ig t) (hG : ∀ t : Fin 64, G (Idealize.ShloMosaic.ix2 t (5 : Fin 128)) = ig t)
    (hM : M (Idealize.ShloMosaic.ix2 (0 : Fin 1) (5 : Fin 128)) = m0) (Qh Kh : FVec Ideal S64x128 .f32) (Vh : FVec Ideal S64x256 .f32) (Ch : FVec Ideal S1x256x128 .f32) (Nh : FVec Ideal S1x128 .f32) (q k : Fin 64 → Fin 128 → EReal) (v : Fin 64 → Fin 256 → EReal) (C : Fin 256 → Fin 128 → EReal) (n : Fin 128 → EReal)
    (hQ : ∀ s d, Qh (Idealize.ShloMosaic.ix2 s d) = q s d) (hK : ∀ s d, Kh (Idealize.ShloMosaic.ix2 s d) = k s d) (hV : ∀ s e, Vh (Idealize.ShloMosaic.ix2 s e) = v s e) (hC : ∀ e d, Ch (Idealize.ShloMosaic.ix3 (0 : Fin 1) e d) = C e d) (hN : ∀ d, Nh (Idealize.ShloMosaic.ix2 (0 : Fin 1) d) = n d) (t : Fin 64) (e : Fin 256) :
    ((k0_pay146 (k0_pay137 BB IT BT k0_pay26 M) (k0_pay138 BB IT BT k0_pay26 M) Nh (k0_pay143 BB IT BT k0_pay26 M Qh Kh) (k0_pay144 BB IT BT k0_pay26 M Qh Kh Vh Ch) (k0_pay145 Qh)) : FVec Ideal S64x256 .f32) (Idealize.ShloMosaic.ix2 t e) = Mlstm.hc b ig m0 q k v C n t e := by
  have hX := mt_5 BB G IT BT M b ig m0 hB hBT hIT hG hM t
  have hS := sc_5 BB G IT BT M b ig m0 hB hBT hIT hG hM t
  unfold k0_pay146 k0_pay145 k0_pay144 k0_pay142 k0_pay141 k0_pay143 k0_pay140 k0_pay139
  generalize k0_pay138 BB IT BT k0_pay26 M = S at hS ⊢
  generalize k0_pay137 BB IT BT k0_pay26 M = X at hX ⊢
  try unfold k0_pay138
  try unfold k0_pay137
  try unfold k0_pay135
  try unfold k0_pay136
  try unfold k0_pay133
  try unfold k0_pay26
  change S64x128.Idx → EReal at BB
  change S128x64.Idx → EReal at IT BT
  change S64x1.Idx → EReal at X S
  change S64x128.Idx → EReal at Qh Kh
  change S64x256.Idx → EReal at Vh
  change S1x256x128.Idx → EReal at Ch
  change S1x128.Idx → EReal at Nh
  pointwise
  unfold Mlstm.hc Mlstm.num Mlstm.den Mlstm.sS Mlstm.dm
  have hD : ∀ s : Fin 64, Ideal.exp ((Scalar.select (IntOp.cmpi CmpIPredicate.sge (BitVec.ofNat 32 t.val) (BitVec.ofNat 32 s.val)) (BB (Idealize.ShloMosaic.ix2 t (13 : Fin 128)) - BT (Idealize.ShloMosaic.ix2 (13 : Fin 128) s) + IT (Idealize.ShloMosaic.ix2 (5 : Fin 128) s) : EReal) (Ideal.ofBits FTy.f32 4048155338#32) : EReal) - X (Idealize.ShloMosaic.ix2 t (0 : Fin 1))) = Ideal.exp (Mlstm.logD b ig t s - Mlstm.mt b ig m0 t) := by
    intro s
    rw [sel_ge, hX, hB, hBT, hIT]
    rfl
  have hSD : ∀ s : Fin 64, ((∑ d : Fin 128, Qh (Idealize.ShloMosaic.ix2 t d) * Kh (Idealize.ShloMosaic.ix2 s d)) * Ideal.exp ((Scalar.select (IntOp.cmpi CmpIPredicate.sge (BitVec.ofNat 32 t.val) (BitVec.ofNat 32 s.val)) (BB (Idealize.ShloMosaic.ix2 t (13 : Fin 128)) - BT (Idealize.ShloMosaic.ix2 (13 : Fin 128) s) + IT (Idealize.ShloMosaic.ix2 (5 : Fin 128) s) : EReal) (Ideal.ofBits FTy.f32 4048155338#32) : EReal) - X (Idealize.ShloMosaic.ix2 t (0 : Fin 1))) : EReal)
      = (∑ d : Fin 128, q t d * k s d) * Ideal.exp (Mlstm.logD b ig t s - Mlstm.mt b ig m0 t) := fun s =>
    congrArg₂ (HMul.hMul : EReal → EReal → EReal) (Finset.sum_congr (M := EReal) rfl fun d _ => congrArg₂ (HMul.hMul : EReal → EReal → EReal) (hQ t d) (hK s d)) (hD s)
  have hden : (S (Idealize.ShloMosaic.ix2 t (0 : Fin 1)) * (∑ d : Fin 128, Qh (Idealize.ShloMosaic.ix2 t d) * Nh (Idealize.ShloMosaic.ix2 (0 : Fin 1) d)) + ∑ s : Fin 64, ((∑ d : Fin 128, Qh (Idealize.ShloMosaic.ix2 t d) * Kh (Idealize.ShloMosaic.ix2 s d)) * Ideal.exp ((Scalar.select (IntOp.cmpi CmpIPredicate.sge (BitVec.ofNat 32 t.val) (BitVec.ofNat 32 s.val)) (BB (Idealize.ShloMosaic.ix2 t (13 : Fin 128)) - BT (Idealize.ShloMosaic.ix2 (13 : Fin 128) s) + IT (Idealize.ShloMosaic.ix2 (5 : Fin 128) s) : EReal) (Ideal.ofBits FTy.f32 4048155338#32) : EReal) - X (Idealize.ShloMosaic.ix2 t (0 : Fin 1))) : EReal) : EReal)
      = Mlstm.sc b ig m0 t * (∑ d : Fin 128, q t d * n d) + ∑ s : Fin 64, (∑ d : Fin 128, q t d * k s d) * Ideal.exp (Mlstm.logD b ig t s - Mlstm.mt b ig m0 t) :=
    congrArg₂ (HAdd.hAdd : EReal → EReal → EReal) (congrArg₂ (HMul.hMul : EReal → EReal → EReal) hS (Finset.sum_congr (M := EReal) rfl fun d _ => congrArg₂ (HMul.hMul : EReal → EReal → EReal) (hQ t d) (hN d))) (Finset.sum_congr (M := EReal) rfl fun s _ => hSD s)
  refine congrArg₂ Ideal.div (congrArg₂ (HAdd.hAdd : EReal → EReal → EReal) (congrArg₂ (HMul.hMul : EReal → EReal → EReal) hS (Finset.sum_congr (M := EReal) rfl fun d _ => congrArg₂ (HMul.hMul : EReal → EReal → EReal) (hQ t d) (hC e d)))
    (Finset.sum_congr (M := EReal) rfl fun s _ => congrArg₂ (HMul.hMul : EReal → EReal → EReal) (hSD s) (hV s e)))
    (congrArg₂ (max : EReal → EReal → EReal) (congrArg (fun x : EReal => max x (-x)) hden) (congrArg Ideal.exp (congrArg₂ (HSub.hSub : EReal → EReal → EReal) ?_ hX)))
  first | rfl | pointwise

theorem hc_6 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (14 : Fin 128)) = b t)
    (hBT : ∀ t : Fin 64, BT (Idealize.ShloMosaic.ix2 (14 : Fin 128) t) = b t) (hIT : ∀ t : Fin 64, IT (Idealize.ShloMosaic.ix2 (6 : Fin 128) t) = ig t) (hG : ∀ t : Fin 64, G (Idealize.ShloMosaic.ix2 t (6 : Fin 128)) = ig t)
    (hM : M (Idealize.ShloMosaic.ix2 (0 : Fin 1) (6 : Fin 128)) = m0) (Qh Kh : FVec Ideal S64x128 .f32) (Vh : FVec Ideal S64x256 .f32) (Ch : FVec Ideal S1x256x128 .f32) (Nh : FVec Ideal S1x128 .f32) (q k : Fin 64 → Fin 128 → EReal) (v : Fin 64 → Fin 256 → EReal) (C : Fin 256 → Fin 128 → EReal) (n : Fin 128 → EReal)
    (hQ : ∀ s d, Qh (Idealize.ShloMosaic.ix2 s d) = q s d) (hK : ∀ s d, Kh (Idealize.ShloMosaic.ix2 s d) = k s d) (hV : ∀ s e, Vh (Idealize.ShloMosaic.ix2 s e) = v s e) (hC : ∀ e d, Ch (Idealize.ShloMosaic.ix3 (0 : Fin 1) e d) = C e d) (hN : ∀ d, Nh (Idealize.ShloMosaic.ix2 (0 : Fin 1) d) = n d) (t : Fin 64) (e : Fin 256) :
    ((k0_pay165 (k0_pay158 BB IT BT k0_pay26 M) (k0_pay159 BB IT BT k0_pay26 M) (k0_pay160 BB IT BT k0_pay26 M) Qh Kh Vh Ch Nh) : FVec Ideal S64x256 .f32) (Idealize.ShloMosaic.ix2 t e) = Mlstm.hc b ig m0 q k v C n t e := by
  have hX := mt_6 BB G IT BT M b ig m0 hB hBT hIT hG hM t
  have hS := sc_6 BB G IT BT M b ig m0 hB hBT hIT hG hM t
  unfold k0_pay165 k0_pay164 k0_pay163 k0_pay162 k0_pay159
  generalize k0_pay161 (k0_pay160 BB IT BT k0_pay26 M) = S at hS ⊢
  generalize k0_pay158 BB IT BT k0_pay26 M = X at hX ⊢
  try unfold k0_pay161
  try unfold k0_pay160
  try unfold k0_pay158
  try unfold k0_pay157
  try unfold k0_pay156
  try unfold k0_pay154
  try unfold k0_pay26
  change S64x128.Idx → EReal at BB
  change S128x64.Idx → EReal at IT BT
  change S64x1.Idx → EReal at X S
  change S64x128.Idx → EReal at Qh Kh
  change S64x256.Idx → EReal at Vh
  change S1x256x128.Idx → EReal at Ch
  change S1x128.Idx → EReal at Nh
  pointwise
  unfold Mlstm.hc Mlstm.num Mlstm.den Mlstm.sS Mlstm.dm
  have hD : ∀ s : Fin 64, Ideal.exp ((Scalar.select (IntOp.cmpi CmpIPredicate.sge (BitVec.ofNat 32 t.val) (BitVec.ofNat 32 s.val)) (BB (Idealize.ShloMosaic.ix2 t (14 : Fin 128)) - BT (Idealize.ShloMosaic.ix2 (14 : Fin 128) s) + IT (Idealize.ShloMosaic.ix2 (6 : Fin 128) s) : EReal) (Ideal.ofBits FTy.f32 4048155338#32) : EReal) - X (Idealize.ShloMosaic.ix2 t (0 : Fin 1))) = Ideal.exp (Mlstm.logD b ig t s - Mlstm.mt b ig m0 t) := by
    intro s
    rw [sel_ge, hX, hB, hBT, hIT]
    rfl
  have hSD : ∀ s : Fin 64, ((∑ d : Fin 128, Qh (Idealize.ShloMosaic.ix2 t d) * Kh (Idealize.ShloMosaic.ix2 s d)) * Ideal.exp ((Scalar.select (IntOp.cmpi CmpIPredicate.sge (BitVec.ofNat 32 t.val) (BitVec.ofNat 32 s.val)) (BB (Idealize.ShloMosaic.ix2 t (14 : Fin 128)) - BT (Idealize.ShloMosaic.ix2 (14 : Fin 128) s) + IT (Idealize.ShloMosaic.ix2 (6 : Fin 128) s) : EReal) (Ideal.ofBits FTy.f32 4048155338#32) : EReal) - X (Idealize.ShloMosaic.ix2 t (0 : Fin 1))) : EReal)
      = (∑ d : Fin 128, q t d * k s d) * Ideal.exp (Mlstm.logD b ig t s - Mlstm.mt b ig m0 t) := fun s =>
    congrArg₂ (HMul.hMul : EReal → EReal → EReal) (Finset.sum_congr (M := EReal) rfl fun d _ => congrArg₂ (HMul.hMul : EReal → EReal → EReal) (hQ t d) (hK s d)) (hD s)
  have hden : (S (Idealize.ShloMosaic.ix2 t (0 : Fin 1)) * (∑ d : Fin 128, Qh (Idealize.ShloMosaic.ix2 t d) * Nh (Idealize.ShloMosaic.ix2 (0 : Fin 1) d)) + ∑ s : Fin 64, ((∑ d : Fin 128, Qh (Idealize.ShloMosaic.ix2 t d) * Kh (Idealize.ShloMosaic.ix2 s d)) * Ideal.exp ((Scalar.select (IntOp.cmpi CmpIPredicate.sge (BitVec.ofNat 32 t.val) (BitVec.ofNat 32 s.val)) (BB (Idealize.ShloMosaic.ix2 t (14 : Fin 128)) - BT (Idealize.ShloMosaic.ix2 (14 : Fin 128) s) + IT (Idealize.ShloMosaic.ix2 (6 : Fin 128) s) : EReal) (Ideal.ofBits FTy.f32 4048155338#32) : EReal) - X (Idealize.ShloMosaic.ix2 t (0 : Fin 1))) : EReal) : EReal)
      = Mlstm.sc b ig m0 t * (∑ d : Fin 128, q t d * n d) + ∑ s : Fin 64, (∑ d : Fin 128, q t d * k s d) * Ideal.exp (Mlstm.logD b ig t s - Mlstm.mt b ig m0 t) :=
    congrArg₂ (HAdd.hAdd : EReal → EReal → EReal) (congrArg₂ (HMul.hMul : EReal → EReal → EReal) hS (Finset.sum_congr (M := EReal) rfl fun d _ => congrArg₂ (HMul.hMul : EReal → EReal → EReal) (hQ t d) (hN d))) (Finset.sum_congr (M := EReal) rfl fun s _ => hSD s)
  refine congrArg₂ Ideal.div (congrArg₂ (HAdd.hAdd : EReal → EReal → EReal) (congrArg₂ (HMul.hMul : EReal → EReal → EReal) hS (Finset.sum_congr (M := EReal) rfl fun d _ => congrArg₂ (HMul.hMul : EReal → EReal → EReal) (hQ t d) (hC e d)))
    (Finset.sum_congr (M := EReal) rfl fun s _ => congrArg₂ (HMul.hMul : EReal → EReal → EReal) (hSD s) (hV s e)))
    (congrArg₂ (max : EReal → EReal → EReal) (congrArg (fun x : EReal => max x (-x)) hden) (congrArg Ideal.exp (congrArg₂ (HSub.hSub : EReal → EReal → EReal) ?_ hX)))
  first | rfl | pointwise

theorem hc_7 (BB G : FVec Ideal S64x128 .f32) (IT BT : FVec Ideal S128x64 .f32) (M : FVec Ideal S1x128 .f32) (b ig : Fin 64 → EReal) (m0 : EReal) (hB : ∀ t : Fin 64, BB (Idealize.ShloMosaic.ix2 t (15 : Fin 128)) = b t)
    (hBT : ∀ t : Fin 64, BT (Idealize.ShloMosaic.ix2 (15 : Fin 128) t) = b t) (hIT : ∀ t : Fin 64, IT (Idealize.ShloMosaic.ix2 (7 : Fin 128) t) = ig t) (hG : ∀ t : Fin 64, G (Idealize.ShloMosaic.ix2 t (7 : Fin 128)) = ig t)
    (hM : M (Idealize.ShloMosaic.ix2 (0 : Fin 1) (7 : Fin 128)) = m0) (Qh Kh : FVec Ideal S64x128 .f32) (Vh : FVec Ideal S64x256 .f32) (Ch : FVec Ideal S1x256x128 .f32) (Nh : FVec Ideal S1x128 .f32) (q k : Fin 64 → Fin 128 → EReal) (v : Fin 64 → Fin 256 → EReal) (C : Fin 256 → Fin 128 → EReal) (n : Fin 128 → EReal)
    (hQ : ∀ s d, Qh (Idealize.ShloMosaic.ix2 s d) = q s d) (hK : ∀ s d, Kh (Idealize.ShloMosaic.ix2 s d) = k s d) (hV : ∀ s e, Vh (Idealize.ShloMosaic.ix2 s e) = v s e) (hC : ∀ e d, Ch (Idealize.ShloMosaic.ix3 (0 : Fin 1) e d) = C e d) (hN : ∀ d, Nh (Idealize.ShloMosaic.ix2 (0 : Fin 1) d) = n d) (t : Fin 64) (e : Fin 256) :
    ((k0_pay187 (k0_pay180 BB IT BT k0_pay26 M) (k0_pay181 BB IT BT k0_pay26 M) (k0_pay182 Qh) (k0_pay184 Vh) (k0_pay185 Ch) Nh (k0_pay186 BB IT BT k0_pay26 M Qh Kh)) : FVec Ideal S64x256 .f32) (Idealize.ShloMosaic.ix2 t e) = Mlstm.hc b ig m0 q k v C n t e := by
  have hX := mt_7 BB G IT BT M b ig m0 hB hBT hIT hG hM t
  have hS := sc_7 BB G IT BT M b ig m0 hB hBT hIT hG hM t
  unfold k0_pay187 k0_pay186 k0_pay183 k0_pay185 k0_pay184 k0_pay182
  generalize k0_pay181 BB IT BT k0_pay26 M = S at hS ⊢
  generalize k0_pay180 BB IT BT k0_pay26 M = X at hX ⊢
  try unfold k0_pay181
  try unfold k0_pay180
  try unfold k0_pay179
  try unfold k0_pay178
  try unfold k0_pay176
  try unfold k0_pay26
  change S64x128.Idx → EReal at BB
  change S128x64.Idx → EReal at IT BT
  change S64x1.Idx → EReal at X S
  change S64x128.Idx → EReal at Qh Kh
  change S64x256.Idx → EReal at Vh
  change S1x256x128.Idx → EReal at Ch
  change S1x128.Idx → EReal at Nh
  pointwise
  unfold Mlstm.hc Mlstm.num Mlstm.den Mlstm.sS Mlstm.dm
  have hD : ∀ s : Fin 64, Ideal.exp ((Scalar.select (IntOp.cmpi CmpIPredicate.sge (BitVec.ofNat 32 t.val) (BitVec.ofNat 32 s.val)) (BB (Idealize.ShloMosaic.ix2 t (15 : Fin 128)) - BT (Idealize.ShloMosaic.ix2 (15 : Fin 128) s) + IT (Idealize.ShloMosaic.ix2 (7 : Fin 128) s) : EReal) (Ideal.ofBits FTy.f32 4048155338#32) : EReal) - X (Idealize.ShloMosaic.ix2 t (0 : Fin 1))) = Ideal.exp (Mlstm.logD b ig t s - Mlstm.mt b ig m0 t) := by
    intro s
    rw [sel_ge, hX, hB, hBT, hIT]
    rfl
  have hSD : ∀ s : Fin 64, ((∑ d : Fin 128, Qh (Idealize.ShloMosaic.ix2 t d) * Kh (Idealize.ShloMosaic.ix2 s d)) * Ideal.exp ((Scalar.select (IntOp.cmpi CmpIPredicate.sge (BitVec.ofNat 32 t.val) (BitVec.ofNat 32 s.val)) (BB (Idealize.ShloMosaic.ix2 t (15 : Fin 128)) - BT (Idealize.ShloMosaic.ix2 (15 : Fin 128) s) + IT (Idealize.ShloMosaic.ix2 (7 : Fin 128) s) : EReal) (Ideal.ofBits FTy.f32 4048155338#32) : EReal) - X (Idealize.ShloMosaic.ix2 t (0 : Fin 1))) : EReal)
      = (∑ d : Fin 128, q t d * k s d) * Ideal.exp (Mlstm.logD b ig t s - Mlstm.mt b ig m0 t) := fun s =>
    congrArg₂ (HMul.hMul : EReal → EReal → EReal) (Finset.sum_congr (M := EReal) rfl fun d _ => congrArg₂ (HMul.hMul : EReal → EReal → EReal) (hQ t d) (hK s d)) (hD s)
  have hden : (S (Idealize.ShloMosaic.ix2 t (0 : Fin 1)) * (∑ d : Fin 128, Qh (Idealize.ShloMosaic.ix2 t d) * Nh (Idealize.ShloMosaic.ix2 (0 : Fin 1) d)) + ∑ s : Fin 64, ((∑ d : Fin 128, Qh (Idealize.ShloMosaic.ix2 t d) * Kh (Idealize.ShloMosaic.ix2 s d)) * Ideal.exp ((Scalar.select (IntOp.cmpi CmpIPredicate.sge (BitVec.ofNat 32 t.val) (BitVec.ofNat 32 s.val)) (BB (Idealize.ShloMosaic.ix2 t (15 : Fin 128)) - BT (Idealize.ShloMosaic.ix2 (15 : Fin 128) s) + IT (Idealize.ShloMosaic.ix2 (7 : Fin 128) s) : EReal) (Ideal.ofBits FTy.f32 4048155338#32) : EReal) - X (Idealize.ShloMosaic.ix2 t (0 : Fin 1))) : EReal) : EReal)
      = Mlstm.sc b ig m0 t * (∑ d : Fin 128, q t d * n d) + ∑ s : Fin 64, (∑ d : Fin 128, q t d * k s d) * Ideal.exp (Mlstm.logD b ig t s - Mlstm.mt b ig m0 t) :=
    congrArg₂ (HAdd.hAdd : EReal → EReal → EReal) (congrArg₂ (HMul.hMul : EReal → EReal → EReal) hS (Finset.sum_congr (M := EReal) rfl fun d _ => congrArg₂ (HMul.hMul : EReal → EReal → EReal) (hQ t d) (hN d))) (Finset.sum_congr (M := EReal) rfl fun s _ => hSD s)
  refine congrArg₂ Ideal.div (congrArg₂ (HAdd.hAdd : EReal → EReal → EReal) (congrArg₂ (HMul.hMul : EReal → EReal → EReal) hS (Finset.sum_congr (M := EReal) rfl fun d _ => congrArg₂ (HMul.hMul : EReal → EReal → EReal) (hQ t d) (hC e d)))
    (Finset.sum_congr (M := EReal) rfl fun s _ => congrArg₂ (HMul.hMul : EReal → EReal → EReal) (hSD s) (hV s e)))
    (congrArg₂ (max : EReal → EReal → EReal) (congrArg (fun x : EReal => max x (-x)) hden) (congrArg Ideal.exp (congrArg₂ (HSub.hSub : EReal → EReal → EReal) ?_ hX)))
  first | rfl | pointwise

end Cert.KernelIdeal.Hand

end
-- ==== Proof.MlstmKerOut.lean ====
module

public import proofs.«01_k».proof.Proof.Gen.KernelIdeal.Value
public import proofs.«01_k».proof.Proof.MlstmKerHc
public import proofs.«01_k».proof.Proof.MlstmKerHd
public import proofs.«01_k».proof.Proof.MlstmKerNC
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 65536
set_option maxHeartbeats 4000000

noncomputable section

/-! A chunk, all heads: the outputs. -/

namespace Cert.KernelIdeal.Hand

open Cert.KernelIdeal Cert.KernelIdeal.Gen Cert.KernelIdeal.Value Idealize.ShloMosaic Idealize.ShloMosaic.TcCoe Idealize.SL.Sem Cert.Hand

theorem colhit (o : ℕ) (inb) (w : FVec Ideal S64x256 .bf16) (L : List (View.Piece (Elt Ideal) S64x2048 .bf16)) (t : Fin 64) (e : Fin 256) (ho : o + e.val < 2048) :
    View.canon (⟨Rect.unit (s := S64x2048) ![0, o] ![64, 256] inb, w⟩ :: L) (Idealize.ShloMosaic.ix2 t (⟨o + e.val, ho⟩ : Fin 2048)) = w (Idealize.ShloMosaic.ix2 t e) := by
  have h : (Rect.unit (s := S64x2048) ![0, o] ![64, 256] inb).emb (Idealize.ShloMosaic.ix2 t e) = (Idealize.ShloMosaic.ix2 t (⟨o + e.val, ho⟩ : Fin 2048)) := by
    funext a
    revert a
    exact Fin.forall_fin_two.mpr ⟨Fin.ext (by show 0 + 1 * t.val = t.val; omega), Fin.ext (by show o + 1 * e.val = o + e.val; omega)⟩
  rw [← h, View.canon_cons_emb]

theorem colmiss (o x : ℕ) (inb) (w : FVec Ideal S64x256 .bf16) (L : List (View.Piece (Elt Ideal) S64x2048 .bf16)) (t : Fin 64) (hx : x < 2048) (hn : x < o) :
    View.canon (⟨Rect.unit (s := S64x2048) ![0, o] ![64, 256] inb, w⟩ :: L) (Idealize.ShloMosaic.ix2 t (⟨x, hx⟩ : Fin 2048)) = View.canon L (Idealize.ShloMosaic.ix2 t (⟨x, hx⟩ : Fin 2048)) := by
  refine View.canon_cons_of_not_mem _ L fun hm => ?_
  obtain ⟨j, hj, e⟩ := ((Rect.unit (s := S64x2048) ![0, o] ![64, 256] inb).mem_set).mp hm (1 : Fin 2)
  have e : x = o + 1 * j := e
  omega

theorem ldG (HN : FVec Ideal S1x2048 .f32) (o : ℕ) (inb) (e : Fin 256) (ho : o + e.val < 2048) :
    (View.ld (Val := Elt Ideal) (e' := .f32) HN (Rect.unit (s := S1x2048) ![0, o] ![1, 256] inb) : FVec Ideal S1x256 .f32) (Idealize.ShloMosaic.ix2 (0 : Fin 1) e) = HN (Idealize.ShloMosaic.ix2 (0 : Fin 1) (⟨o + e.val, ho⟩ : Fin 2048)) :=
  View.ld_unit_apply_of (Val := Elt Ideal) (e := .f32) HN _ _ _ _ _ (Fin.forall_fin_two.mpr ⟨by show (0 : ℕ) = 0 + 0; rfl, by show o + e.val = o + e.val; rfl⟩)

/-- The outputs of a chunk. -/
theorem o_after {BB G : FVec Ideal S64x128 .f32} {IT BT : FVec Ideal S128x64 .f32} {M : FVec Ideal S1x128 .f32} {b ig : Fin 8 → Fin 64 → EReal} {m0 : Fin 8 → EReal} (g : Gates BB G IT BT M b ig m0) (QQ KK : FVec Ideal S64x1024 .f32) (XV : FVec Ideal S64x2048 .f32) (C : FVec Ideal S8x256x128 .f32) (N : FVec Ideal S8x128 .f32)
    (HN : FVec Ideal S1x2048 .f32) (XO : FVec Ideal S64x2048 .f32) (L : List (View.Piece (Elt Ideal) S64x2048 .bf16))
    (q k : Fin 8 → Fin 64 → Fin 128 → EReal) (v : Fin 8 → Fin 64 → Fin 256 → EReal) (cc : Fin 8 → Fin 256 → Fin 128 → EReal) (n : Fin 8 → Fin 128 → EReal)
    (hQ : ∀ (h : Fin 8) (s : Fin 64) (d : Fin 128), QQ (Idealize.ShloMosaic.ix2 s (⟨128 * h.val + d.val, by omega⟩ : Fin 1024)) = q h s d)
    (hK : ∀ (h : Fin 8) (s : Fin 64) (d : Fin 128), KK (Idealize.ShloMosaic.ix2 s (⟨128 * h.val + d.val, by omega⟩ : Fin 1024)) = k h s d)
    (hV : ∀ (h : Fin 8) (s : Fin 64) (e : Fin 256), XV (Idealize.ShloMosaic.ix2 s (⟨256 * h.val + e.val, by omega⟩ : Fin 2048)) = v h s e)
    (hC : ∀ (h : Fin 8) (e : Fin 256) (d : Fin 128), C (Idealize.ShloMosaic.ix3 h e d) = cc h e d)
    (hN : ∀ (h : Fin 8) (d : Fin 128), N (Idealize.ShloMosaic.ix2 h d) = n h d) (h : Fin 8) (t : Fin 64) (e : Fin 256) :
    View.canon (⟨Rect.unit ![0, 1792] ![64, 256] inb_S64x2048_S64x256_0_1792, (k0_pay1 (k0_pay197 (k0_pay187 (k0_pay180 BB IT BT k0_pay26 M) (k0_pay181 BB IT BT k0_pay26 M) (k0_pay182 (View.ld QQ (Rect.unit (s := S64x1024) ![0, 896] ![64, 128] inb_S64x1024_S64x128_0_896))) (k0_pay184 (View.ld XV (Rect.unit (s := S64x2048) ![0, 1792] ![64, 256] inb_S64x2048_S64x256_0_1792))) (k0_pay185 (View.ld C (Rect.unit (s := S8x256x128) ![7, 0, 0] ![1, 256, 128] inb_S8x256x128_S1x256x128_7_0_0))) (View.ld N (Rect.unit (s := S8x128) ![7, 0] ![1, 128] inb_S8x128_S1x128_7_0)) (k0_pay186 BB IT BT k0_pay26 M (View.ld QQ (Rect.unit (s := S64x1024) ![0, 896] ![64, 128] inb_S64x1024_S64x128_0_896)) (View.ld KK (Rect.unit (s := S64x1024) ![0, 896] ![64, 128] inb_S64x1024_S64x128_0_896)))) (View.ld HN (Rect.unit (s := S1x2048) ![0, 1792] ![1, 256] inb_S1x2048_S1x256_0_1792))) (View.ld XO (Rect.unit (s := S64x2048) ![0, 1792] ![64, 256] inb_S64x2048_S64x256_0_1792)) : FVec Ideal S64x256 .bf16)⟩ ::
      ⟨Rect.unit ![0, 1536] ![64, 256] inb_S64x2048_S64x256_0_1536, (k0_pay175 (k0_pay173 (k0_pay165 (k0_pay158 BB IT BT k0_pay26 M) (k0_pay159 BB IT BT k0_pay26 M) (k0_pay160 BB IT BT k0_pay26 M) (View.ld QQ (Rect.unit (s := S64x1024) ![0, 768] ![64, 128] inb_S64x1024_S64x128_0_768)) (View.ld KK (Rect.unit (s := S64x1024) ![0, 768] ![64, 128] inb_S64x1024_S64x128_0_768)) (View.ld XV (Rect.unit (s := S64x2048) ![0, 1536] ![64, 256] inb_S64x2048_S64x256_0_1536)) (View.ld C (Rect.unit (s := S8x256x128) ![6, 0, 0] ![1, 256, 128] inb_S8x256x128_S1x256x128_6_0_0)) (View.ld N (Rect.unit (s := S8x128) ![6, 0] ![1, 128] inb_S8x128_S1x128_6_0)))) (k0_pay174 (View.ld HN (Rect.unit (s := S1x2048) ![0, 1536] ![1, 256] inb_S1x2048_S1x256_0_1536))) (View.ld XO (Rect.unit (s := S64x2048) ![0, 1536] ![64, 256] inb_S64x2048_S64x256_0_1536)) : FVec Ideal S64x256 .bf16)⟩ ::
      ⟨Rect.unit ![0, 1280] ![64, 256] inb_S64x2048_S64x256_0_1280, (k0_pay153 (k0_pay146 (k0_pay137 BB IT BT k0_pay26 M) (k0_pay138 BB IT BT k0_pay26 M) (View.ld N (Rect.unit (s := S8x128) ![5, 0] ![1, 128] inb_S8x128_S1x128_5_0)) (k0_pay143 BB IT BT k0_pay26 M (View.ld QQ (Rect.unit (s := S64x1024) ![0, 640] ![64, 128] inb_S64x1024_S64x128_0_640)) (View.ld KK (Rect.unit (s := S64x1024) ![0, 640] ![64, 128] inb_S64x1024_S64x128_0_640))) (k0_pay144 BB IT BT k0_pay26 M (View.ld QQ (Rect.unit (s := S64x1024) ![0, 640] ![64, 128] inb_S64x1024_S64x128_0_640)) (View.ld KK (Rect.unit (s := S64x1024) ![0, 640] ![64, 128] inb_S64x1024_S64x128_0_640)) (View.ld XV (Rect.unit (s := S64x2048) ![0, 1280] ![64, 256] inb_S64x2048_S64x256_0_1280)) (View.ld C (Rect.unit (s := S8x256x128) ![5, 0, 0] ![1, 256, 128] inb_S8x256x128_S1x256x128_5_0_0))) (k0_pay145 (View.ld QQ (Rect.unit (s := S64x1024) ![0, 640] ![64, 128] inb_S64x1024_S64x128_0_640)))) (View.ld HN (Rect.unit (s := S1x2048) ![0, 1280] ![1, 256] inb_S1x2048_S1x256_0_1280)) (View.ld XO (Rect.unit (s := S64x2048) ![0, 1280] ![64, 256] inb_S64x2048_S64x256_0_1280)) : FVec Ideal S64x256 .bf16)⟩ ::
      ⟨Rect.unit ![0, 1024] ![64, 256] inb_S64x2048_S64x256_0_1024, (k0_pay132 (k0_pay123 (k0_pay117 BB IT BT k0_pay26 M) (k0_pay118 BB IT BT k0_pay26 M) (k0_pay119 BB IT BT k0_pay26 M) (View.ld QQ (Rect.unit (s := S64x1024) ![0, 512] ![64, 128] inb_S64x1024_S64x128_0_512)) (View.ld KK (Rect.unit (s := S64x1024) ![0, 512] ![64, 128] inb_S64x1024_S64x128_0_512)) (View.ld XV (Rect.unit (s := S64x2048) ![0, 1024] ![64, 256] inb_S64x2048_S64x256_0_1024)) (View.ld C (Rect.unit (s := S8x256x128) ![4, 0, 0] ![1, 256, 128] inb_S8x256x128_S1x256x128_4_0_0)) (View.ld N (Rect.unit (s := S8x128) ![4, 0] ![1, 128] inb_S8x128_S1x128_4_0))) (View.ld HN (Rect.unit (s := S1x2048) ![0, 1024] ![1, 256] inb_S1x2048_S1x256_0_1024)) (View.ld XO (Rect.unit (s := S64x2048) ![0, 1024] ![64, 256] inb_S64x2048_S64x256_0_1024)) : FVec Ideal S64x256 .bf16)⟩ ::
      ⟨Rect.unit ![0, 768] ![64, 256] inb_S64x2048_S64x256_0_768, (k0_pay112 (k0_pay104 (k0_pay94 k0_pay26 (k0_pay87 BB) (k0_pay89 IT) (k0_pay90 M) (k0_pay91 BB BT)) (k0_pay101 k0_pay26 (k0_pay87 BB) (k0_pay89 IT) (k0_pay90 M) (k0_pay91 BB BT) (View.ld QQ (Rect.unit (s := S64x1024) ![0, 384] ![64, 128] inb_S64x1024_S64x128_0_384)) (View.ld KK (Rect.unit (s := S64x1024) ![0, 384] ![64, 128] inb_S64x1024_S64x128_0_384)) (View.ld XV (Rect.unit (s := S64x2048) ![0, 768] ![64, 256] inb_S64x2048_S64x256_0_768)) (View.ld C (Rect.unit (s := S8x256x128) ![3, 0, 0] ![1, 256, 128] inb_S8x256x128_S1x256x128_3_0_0))) (k0_pay102 k0_pay26 (k0_pay87 BB) (k0_pay89 IT) (k0_pay90 M) (k0_pay91 BB BT) (View.ld QQ (Rect.unit (s := S64x1024) ![0, 384] ![64, 128] inb_S64x1024_S64x128_0_384)) (View.ld N (Rect.unit (s := S8x128) ![3, 0] ![1, 128] inb_S8x128_S1x128_3_0))) (k0_pay103 k0_pay26 (k0_pay87 BB) (k0_pay89 IT) (k0_pay90 M) (k0_pay91 BB BT) (View.ld QQ (Rect.unit (s := S64x1024) ![0, 384] ![64, 128] inb_S64x1024_S64x128_0_384)) (View.ld KK (Rect.unit (s := S64x1024) ![0, 384] ![64, 128] inb_S64x1024_S64x128_0_384)))) (k0_pay111 (k0_pay94 k0_pay26 (k0_pay87 BB) (k0_pay89 IT) (k0_pay90 M) (k0_pay91 BB BT)) (k0_pay101 k0_pay26 (k0_pay87 BB) (k0_pay89 IT) (k0_pay90 M) (k0_pay91 BB BT) (View.ld QQ (Rect.unit (s := S64x1024) ![0, 384] ![64, 128] inb_S64x1024_S64x128_0_384)) (View.ld KK (Rect.unit (s := S64x1024) ![0, 384] ![64, 128] inb_S64x1024_S64x128_0_384)) (View.ld XV (Rect.unit (s := S64x2048) ![0, 768] ![64, 256] inb_S64x2048_S64x256_0_768)) (View.ld C (Rect.unit (s := S8x256x128) ![3, 0, 0] ![1, 256, 128] inb_S8x256x128_S1x256x128_3_0_0))) (k0_pay102 k0_pay26 (k0_pay87 BB) (k0_pay89 IT) (k0_pay90 M) (k0_pay91 BB BT) (View.ld QQ (Rect.unit (s := S64x1024) ![0, 384] ![64, 128] inb_S64x1024_S64x128_0_384)) (View.ld N (Rect.unit (s := S8x128) ![3, 0] ![1, 128] inb_S8x128_S1x128_3_0))) (k0_pay103 k0_pay26 (k0_pay87 BB) (k0_pay89 IT) (k0_pay90 M) (k0_pay91 BB BT) (View.ld QQ (Rect.unit (s := S64x1024) ![0, 384] ![64, 128] inb_S64x1024_S64x128_0_384)) (View.ld KK (Rect.unit (s := S64x1024) ![0, 384] ![64, 128] inb_S64x1024_S64x128_0_384)))) (View.ld HN (Rect.unit (s := S1x2048) ![0, 768] ![1, 256] inb_S1x2048_S1x256_0_768)) (View.ld XO (Rect.unit (s := S64x2048) ![0, 768] ![64, 256] inb_S64x2048_S64x256_0_768)) : FVec Ideal S64x256 .bf16)⟩ ::
      ⟨Rect.unit ![0, 512] ![64, 256] inb_S64x2048_S64x256_0_512, (k0_pay86 (k0_pay78 (k0_pay71 BB IT BT k0_pay26 M) (k0_pay72 BB IT BT k0_pay26 M) (k0_pay73 BB IT BT k0_pay26 M) (k0_pay74 (View.ld QQ (Rect.unit (s := S64x1024) ![0, 256] ![64, 128] inb_S64x1024_S64x128_0_256))) (k0_pay75 (View.ld KK (Rect.unit (s := S64x1024) ![0, 256] ![64, 128] inb_S64x1024_S64x128_0_256))) (k0_pay76 (View.ld XV (Rect.unit (s := S64x2048) ![0, 512] ![64, 256] inb_S64x2048_S64x256_0_512))) (k0_pay77 (View.ld C (Rect.unit (s := S8x256x128) ![2, 0, 0] ![1, 256, 128] inb_S8x256x128_S1x256x128_2_0_0))) (View.ld N (Rect.unit (s := S8x128) ![2, 0] ![1, 128] inb_S8x128_S1x128_2_0))) (View.ld HN (Rect.unit (s := S1x2048) ![0, 512] ![1, 256] inb_S1x2048_S1x256_0_512)) (View.ld XO (Rect.unit (s := S64x2048) ![0, 512] ![64, 256] inb_S64x2048_S64x256_0_512)) : FVec Ideal S64x256 .bf16)⟩ ::
      ⟨Rect.unit ![0, 256] ![64, 256] inb_S64x2048_S64x256_0_256, (k0_pay66 (k0_pay65 (k0_pay58 (k0_pay50 BB IT BT k0_pay26) (k0_pay51 BB M) (k0_pay52 BB IT BT k0_pay26) (View.ld QQ (Rect.unit (s := S64x1024) ![0, 128] ![64, 128] inb_S64x1024_S64x128_0_128)) (View.ld KK (Rect.unit (s := S64x1024) ![0, 128] ![64, 128] inb_S64x1024_S64x128_0_128)) (View.ld XV (Rect.unit (s := S64x2048) ![0, 256] ![64, 256] inb_S64x2048_S64x256_0_256)) (View.ld C (Rect.unit (s := S8x256x128) ![1, 0, 0] ![1, 256, 128] inb_S8x256x128_S1x256x128_1_0_0)) (View.ld N (Rect.unit (s := S8x128) ![1, 0] ![1, 128] inb_S8x128_S1x128_1_0)))) (View.ld HN (Rect.unit (s := S1x2048) ![0, 256] ![1, 256] inb_S1x2048_S1x256_0_256)) (View.ld XO (Rect.unit (s := S64x2048) ![0, 256] ![64, 256] inb_S64x2048_S64x256_0_256)) : FVec Ideal S64x256 .bf16)⟩ ::
      ⟨Rect.unit ![0, 0] ![64, 256] inb_S64x2048_S64x256_0_0, (k0_pay47 (k0_pay39 (k0_pay31 BB IT BT M) (k0_pay32 BB IT BT M) (k0_pay33 (View.ld QQ (Rect.unit (s := S64x1024) ![0, 0] ![64, 128] inb_S64x1024_S64x128_0_0))) (k0_pay35 (View.ld XV (Rect.unit (s := S64x2048) ![0, 0] ![64, 256] inb_S64x2048_S64x256_0_0))) (View.ld N (Rect.unit (s := S8x128) ![0, 0] ![1, 128] inb_S8x128_S1x128_0_0)) (k0_pay37 BB IT BT M (View.ld QQ (Rect.unit (s := S64x1024) ![0, 0] ![64, 128] inb_S64x1024_S64x128_0_0)) (View.ld KK (Rect.unit (s := S64x1024) ![0, 0] ![64, 128] inb_S64x1024_S64x128_0_0))) (k0_pay38 BB IT BT M (View.ld QQ (Rect.unit (s := S64x1024) ![0, 0] ![64, 128] inb_S64x1024_S64x128_0_0)) (View.ld C (Rect.unit (s := S8x256x128) ![0, 0, 0] ![1, 256, 128] inb_S8x256x128_S1x256x128_0_0_0)))) (View.ld HN (Rect.unit (s := S1x2048) ![0, 0] ![1, 256] inb_S1x2048_S1x256_0_0)) (View.ld XO (Rect.unit (s := S64x2048) ![0, 0] ![64, 256] inb_S64x2048_S64x256_0_0)) : FVec Ideal S64x256 .bf16)⟩ :: L : List (View.Piece (Elt Ideal) S64x2048 .bf16)) (Idealize.ShloMosaic.ix2 t (⟨256 * h.val + e.val, by omega⟩ : Fin 2048)) = Mlstm.out (Mlstm.hc (b h) (ig h) (m0 h) (q h) (k h) (v h) (cc h) (n h) t) e (HN (Idealize.ShloMosaic.ix2 (0 : Fin 1) (⟨256 * h.val + e.val, by omega⟩ : Fin 2048))) (XO (Idealize.ShloMosaic.ix2 t (⟨256 * h.val + e.val, by omega⟩ : Fin 2048))) := by
  obtain ⟨h, hh⟩ := h
  interval_cases h
  · refine (colmiss 1792 (256 * 0 + e.val) _ _ _ t (by omega) (by omega)).trans ?_
    refine (colmiss 1536 (256 * 0 + e.val) _ _ _ t (by omega) (by omega)).trans ?_
    refine (colmiss 1280 (256 * 0 + e.val) _ _ _ t (by omega) (by omega)).trans ?_
    refine (colmiss 1024 (256 * 0 + e.val) _ _ _ t (by omega) (by omega)).trans ?_
    refine (colmiss 768 (256 * 0 + e.val) _ _ _ t (by omega) (by omega)).trans ?_
    refine (colmiss 512 (256 * 0 + e.val) _ _ _ t (by omega) (by omega)).trans ?_
    refine (colmiss 256 (256 * 0 + e.val) _ _ _ t (by omega) (by omega)).trans ?_
    refine (colhit 0 _ _ _ t e (by omega)).trans ?_
    refine (out_0 _ _ _ t _ (fun x => hc_0 BB G IT BT M (b 0) (ig 0) (m0 0) (g.hB 0) (g.hBT 0) (g.hIT 0) (g.hG 0) (g.hM 0) _ _ _ _ _ (q 0) (k 0) (v 0) (cc 0) (n 0) (fun s d => (ldK QQ 0 _ s d (by omega)).trans (hQ 0 s d)) (fun s d => (ldK KK 0 _ s d (by omega)).trans (hK 0 s d)) (fun s e => (ldV XV 0 _ s e (by omega)).trans (hV 0 s e)) (fun e d => (ldC C 0 (by decide) _ e d).trans (hC 0 e d)) (fun d => (ldN N 0 (by decide) _ d).trans (hN 0 d)) t x) e).trans ?_
    exact congrArg₂ (fun g o : EReal => Mlstm.out (Mlstm.hc (b 0) (ig 0) (m0 0) (q 0) (k 0) (v 0) (cc 0) (n 0) t) e g o) (ldG HN 0 _ e (by omega)) (ldV XO 0 _ t e (by omega))
  · refine (colmiss 1792 (256 * 1 + e.val) _ _ _ t (by omega) (by omega)).trans ?_
    refine (colmiss 1536 (256 * 1 + e.val) _ _ _ t (by omega) (by omega)).trans ?_
    refine (colmiss 1280 (256 * 1 + e.val) _ _ _ t (by omega) (by omega)).trans ?_
    refine (colmiss 1024 (256 * 1 + e.val) _ _ _ t (by omega) (by omega)).trans ?_
    refine (colmiss 768 (256 * 1 + e.val) _ _ _ t (by omega) (by omega)).trans ?_
    refine (colmiss 512 (256 * 1 + e.val) _ _ _ t (by omega) (by omega)).trans ?_
    refine (colhit 256 _ _ _ t e (by omega)).trans ?_
    refine (out_1 _ _ _ t _ (fun x => hc_1 BB G IT BT M (b 1) (ig 1) (m0 1) (g.hB 1) (g.hBT 1) (g.hIT 1) (g.hG 1) (g.hM 1) _ _ _ _ _ (q 1) (k 1) (v 1) (cc 1) (n 1) (fun s d => (ldK QQ 128 _ s d (by omega)).trans (hQ 1 s d)) (fun s d => (ldK KK 128 _ s d (by omega)).trans (hK 1 s d)) (fun s e => (ldV XV 256 _ s e (by omega)).trans (hV 1 s e)) (fun e d => (ldC C 1 (by decide) _ e d).trans (hC 1 e d)) (fun d => (ldN N 1 (by decide) _ d).trans (hN 1 d)) t x) e).trans ?_
    exact congrArg₂ (fun g o : EReal => Mlstm.out (Mlstm.hc (b 1) (ig 1) (m0 1) (q 1) (k 1) (v 1) (cc 1) (n 1) t) e g o) (ldG HN 256 _ e (by omega)) (ldV XO 256 _ t e (by omega))
  · refine (colmiss 1792 (256 * 2 + e.val) _ _ _ t (by omega) (by omega)).trans ?_
    refine (colmiss 1536 (256 * 2 + e.val) _ _ _ t (by omega) (by omega)).trans ?_
    refine (colmiss 1280 (256 * 2 + e.val) _ _ _ t (by omega) (by omega)).trans ?_
    refine (colmiss 1024 (256 * 2 + e.val) _ _ _ t (by omega) (by omega)).trans ?_
    refine (colmiss 768 (256 * 2 + e.val) _ _ _ t (by omega) (by omega)).trans ?_
    refine (colhit 512 _ _ _ t e (by omega)).trans ?_
    refine (out_2 _ _ _ t _ (fun x => hc_2 BB G IT BT M (b 2) (ig 2) (m0 2) (g.hB 2) (g.hBT 2) (g.hIT 2) (g.hG 2) (g.hM 2) _ _ _ _ _ (q 2) (k 2) (v 2) (cc 2) (n 2) (fun s d => (ldK QQ 256 _ s d (by omega)).trans (hQ 2 s d)) (fun s d => (ldK KK 256 _ s d (by omega)).trans (hK 2 s d)) (fun s e => (ldV XV 512 _ s e (by omega)).trans (hV 2 s e)) (fun e d => (ldC C 2 (by decide) _ e d).trans (hC 2 e d)) (fun d => (ldN N 2 (by decide) _ d).trans (hN 2 d)) t x) e).trans ?_
    exact congrArg₂ (fun g o : EReal => Mlstm.out (Mlstm.hc (b 2) (ig 2) (m0 2) (q 2) (k 2) (v 2) (cc 2) (n 2) t) e g o) (ldG HN 512 _ e (by omega)) (ldV XO 512 _ t e (by omega))
  · refine (colmiss 1792 (256 * 3 + e.val) _ _ _ t (by omega) (by omega)).trans ?_
    refine (colmiss 1536 (256 * 3 + e.val) _ _ _ t (by omega) (by omega)).trans ?_
    refine (colmiss 1280 (256 * 3 + e.val) _ _ _ t (by omega) (by omega)).trans ?_
    refine (colmiss 1024 (256 * 3 + e.val) _ _ _ t (by omega) (by omega)).trans ?_
    refine (colhit 768 _ _ _ t e (by omega)).trans ?_
    refine (out_3 _ _ _ _ _ _ t _ (fun x => hc_3 BB G IT BT M (b 3) (ig 3) (m0 3) (g.hB 3) (g.hBT 3) (g.hIT 3) (g.hG 3) (g.hM 3) _ _ _ _ _ (q 3) (k 3) (v 3) (cc 3) (n 3) (fun s d => (ldK QQ 384 _ s d (by omega)).trans (hQ 3 s d)) (fun s d => (ldK KK 384 _ s d (by omega)).trans (hK 3 s d)) (fun s e => (ldV XV 768 _ s e (by omega)).trans (hV 3 s e)) (fun e d => (ldC C 3 (by decide) _ e d).trans (hC 3 e d)) (fun d => (ldN N 3 (by decide) _ d).trans (hN 3 d)) t x) e).trans ?_
    exact congrArg₂ (fun g o : EReal => Mlstm.out (Mlstm.hc (b 3) (ig 3) (m0 3) (q 3) (k 3) (v 3) (cc 3) (n 3) t) e g o) (ldG HN 768 _ e (by omega)) (ldV XO 768 _ t e (by omega))
  · refine (colmiss 1792 (256 * 4 + e.val) _ _ _ t (by omega) (by omega)).trans ?_
    refine (colmiss 1536 (256 * 4 + e.val) _ _ _ t (by omega) (by omega)).trans ?_
    refine (colmiss 1280 (256 * 4 + e.val) _ _ _ t (by omega) (by omega)).trans ?_
    refine (colhit 1024 _ _ _ t e (by omega)).trans ?_
    refine (out_4 _ _ _ t _ (fun x => hc_4 BB G IT BT M (b 4) (ig 4) (m0 4) (g.hB 4) (g.hBT 4) (g.hIT 4) (g.hG 4) (g.hM 4) _ _ _ _ _ (q 4) (k 4) (v 4) (cc 4) (n 4) (fun s d => (ldK QQ 512 _ s d (by omega)).trans (hQ 4 s d)) (fun s d => (ldK KK 512 _ s d (by omega)).trans (hK 4 s d)) (fun s e => (ldV XV 1024 _ s e (by omega)).trans (hV 4 s e)) (fun e d => (ldC C 4 (by decide) _ e d).trans (hC 4 e d)) (fun d => (ldN N 4 (by decide) _ d).trans (hN 4 d)) t x) e).trans ?_
    exact congrArg₂ (fun g o : EReal => Mlstm.out (Mlstm.hc (b 4) (ig 4) (m0 4) (q 4) (k 4) (v 4) (cc 4) (n 4) t) e g o) (ldG HN 1024 _ e (by omega)) (ldV XO 1024 _ t e (by omega))
  · refine (colmiss 1792 (256 * 5 + e.val) _ _ _ t (by omega) (by omega)).trans ?_
    refine (colmiss 1536 (256 * 5 + e.val) _ _ _ t (by omega) (by omega)).trans ?_
    refine (colhit 1280 _ _ _ t e (by omega)).trans ?_
    refine (out_5 _ _ _ t _ (fun x => hc_5 BB G IT BT M (b 5) (ig 5) (m0 5) (g.hB 5) (g.hBT 5) (g.hIT 5) (g.hG 5) (g.hM 5) _ _ _ _ _ (q 5) (k 5) (v 5) (cc 5) (n 5) (fun s d => (ldK QQ 640 _ s d (by omega)).trans (hQ 5 s d)) (fun s d => (ldK KK 640 _ s d (by omega)).trans (hK 5 s d)) (fun s e => (ldV XV 1280 _ s e (by omega)).trans (hV 5 s e)) (fun e d => (ldC C 5 (by decide) _ e d).trans (hC 5 e d)) (fun d => (ldN N 5 (by decide) _ d).trans (hN 5 d)) t x) e).trans ?_
    exact congrArg₂ (fun g o : EReal => Mlstm.out (Mlstm.hc (b 5) (ig 5) (m0 5) (q 5) (k 5) (v 5) (cc 5) (n 5) t) e g o) (ldG HN 1280 _ e (by omega)) (ldV XO 1280 _ t e (by omega))
  · refine (colmiss 1792 (256 * 6 + e.val) _ _ _ t (by omega) (by omega)).trans ?_
    refine (colhit 1536 _ _ _ t e (by omega)).trans ?_
    refine (out_6 _ _ _ t _ (fun x => hc_6 BB G IT BT M (b 6) (ig 6) (m0 6) (g.hB 6) (g.hBT 6) (g.hIT 6) (g.hG 6) (g.hM 6) _ _ _ _ _ (q 6) (k 6) (v 6) (cc 6) (n 6) (fun s d => (ldK QQ 768 _ s d (by omega)).trans (hQ 6 s d)) (fun s d => (ldK KK 768 _ s d (by omega)).trans (hK 6 s d)) (fun s e => (ldV XV 1536 _ s e (by omega)).trans (hV 6 s e)) (fun e d => (ldC C 6 (by decide) _ e d).trans (hC 6 e d)) (fun d => (ldN N 6 (by decide) _ d).trans (hN 6 d)) t x) e).trans ?_
    exact congrArg₂ (fun g o : EReal => Mlstm.out (Mlstm.hc (b 6) (ig 6) (m0 6) (q 6) (k 6) (v 6) (cc 6) (n 6) t) e g o) (ldG HN 1536 _ e (by omega)) (ldV XO 1536 _ t e (by omega))
  · refine (colhit 1792 _ _ _ t e (by omega)).trans ?_
    refine (out_7 _ _ _ t _ (fun x => hc_7 BB G IT BT M (b 7) (ig 7) (m0 7) (g.hB 7) (g.hBT 7) (g.hIT 7) (g.hG 7) (g.hM 7) _ _ _ _ _ (q 7) (k 7) (v 7) (cc 7) (n 7) (fun s d => (ldK QQ 896 _ s d (by omega)).trans (hQ 7 s d)) (fun s d => (ldK KK 896 _ s d (by omega)).trans (hK 7 s d)) (fun s e => (ldV XV 1792 _ s e (by omega)).trans (hV 7 s e)) (fun e d => (ldC C 7 (by decide) _ e d).trans (hC 7 e d)) (fun d => (ldN N 7 (by decide) _ d).trans (hN 7 d)) t x) e).trans ?_
    exact congrArg₂ (fun g o : EReal => Mlstm.out (Mlstm.hc (b 7) (ig 7) (m0 7) (q 7) (k 7) (v 7) (cc 7) (n 7) t) e g o) (ldG HN 1792 _ e (by omega)) (ldV XO 1792 _ t e (by omega))

end Cert.KernelIdeal.Hand

end
-- ==== Proof.MlstmKerOA.lean ====
module

public import proofs.«01_k».proof.Proof.Gen.KernelIdeal.Value
public import proofs.«01_k».proof.Proof.MlstmKerQ
public import proofs.«01_k».proof.Proof.MlstmKerOut
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 65536
set_option maxHeartbeats 4000000

noncomputable section

/-! The first chunk: its outputs. -/

namespace Cert.KernelIdeal.Hand

open Cert.KernelIdeal Cert.KernelIdeal.Gen Cert.KernelIdeal.Value Idealize.ShloMosaic Idealize.ShloMosaic.TcCoe Idealize.SL.Sem Cert.Hand

variable (m : (ℓ : Loc nD τ sig) → Buf (Elt Ideal) ℓ) (c : Dev nD)

theorem stepA_13 (t : Fin cfg0.N) (h0 : t.val % 128 = 0) (h1 : ¬t.val % 128 = 127) (hig : ∀ (t : Fin 128) (h : Fin 8) (i : Fin 64), Mlstm.igf (kargs m c) t h i < (⊤ : EReal))
     (h : Fin 8) (i : Fin 64) (e : Fin 256) :
    (outsAt0 m c t.val t.isLt).1 (Idealize.ShloMosaic.ix2 i (⟨256 * h.val + e.val, by omega⟩ : Fin 2048)) = Mlstm.out (Mlstm.hcf (kargs m c) (ch t) h i) e (X12 m c t (Idealize.ShloMosaic.ix2 (0 : Fin 1) (⟨256 * h.val + e.val, by omega⟩ : Fin 2048))) (X3 m c t (Idealize.ShloMosaic.ix2 i (⟨256 * h.val + e.val, by omega⟩ : Fin 2048))) := by
  have htl := t_lt t
  rw [outsAt0_A m c t h0 h1]
  dsimp only
  unfold out0_A_13
  frame_open
  simp (disch := decide) only [↓ View.readCov_skip, ↓ View.readCov_cons_toLoadRect, ↓ View.readCov_fill]
  frame_out
  try simp only [read_unread_whole]
  have ht : t.val = 0 := by omega
  generalize hKKe : k0_pay17 (F := Ideal) _ _ _ = KK
  have hKK : ∀ (h : Fin 8) (s : Fin 64) (d : Fin 128), KK (Idealize.ShloMosaic.ix2 s (⟨128 * h.val + d.val, by omega⟩ : Fin 1024)) = Mlstm.kf (kargs m c) (ch t) h s d := by
    intro h s d
    rw [← hKKe]
    exact kkA m c t ht h s d
  generalize hQQe : k0_pay16 (F := Ideal) _ _ _ = QQ
  have hQQ : ∀ (h : Fin 8) (s : Fin 64) (d : Fin 128), QQ (Idealize.ShloMosaic.ix2 s (⟨128 * h.val + d.val, by omega⟩ : Fin 1024)) = Mlstm.qf (kargs m c) (ch t) h s d := by
    intro h s d
    rw [← hQQe]
    exact qqA m c t ht h s d
  generalize hMe : k0_pay9 (F := Ideal) (iblk m c 8 t) = M
  have hM : ∀ l : Fin 128, M (Idealize.ShloMosaic.ix2 (0 : Fin 1) l) = if h : l.val < 8 then Mlstm.stM (kargs m c) ⟨l.val, h⟩ t.val else 0 := by
    intro l
    rw [← hMe, ht]
    exact pay9_apply m c t l
  have g := gates m c t hig M (fun h => Mlstm.stM (kargs m c) h t.val) (fun h => (hM _).trans (dif_pos h.isLt))
  generalize hBB : k0_pay22 (F := Ideal) _ _ _ = BB
  generalize hIT : k0_pay24 (F := Ideal) _ = IT
  generalize hBT : k0_pay25 (F := Ideal) _ _ _ = BT
  replace g : Gates BB (k0_pay18 (F := Ideal) (X4 m c t) (X11 m c t)) IT BT M (Mlstm.bf (kargs m c) (ch t)) (Mlstm.igf (kargs m c) (ch t)) (fun h => Mlstm.stM (kargs m c) h t.val) := by
    rw [← hBB, ← hIT, ← hBT]
    exact g
  clear hKKe hQQe hBB hIT hBT
  exact o_after g QQ KK _ _ _ _ _ _ _ _ _ (fun h => Mlstm.stC (kargs m c) h t.val) (fun h => Mlstm.stN (kargs m c) h t.val) hQQ hKK (xv_apply m c t) (fun h e d => by rw [ht]; exact pay7_apply m c t h e d) (fun h d => by rw [ht]; exact pay8_apply m c t h d) h i e

end Cert.KernelIdeal.Hand

end
-- ==== Proof.MlstmKerOB.lean ====
module

public import proofs.«01_k».proof.Proof.Gen.KernelIdeal.Value
public import proofs.«01_k».proof.Proof.MlstmKerQ
public import proofs.«01_k».proof.Proof.MlstmKerOut
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 65536
set_option maxHeartbeats 4000000

noncomputable section

/-! A later chunk: its outputs. -/

namespace Cert.KernelIdeal.Hand

open Cert.KernelIdeal Cert.KernelIdeal.Gen Cert.KernelIdeal.Value Idealize.ShloMosaic Idealize.ShloMosaic.TcCoe Idealize.SL.Sem Cert.Hand

variable (m : (ℓ : Loc nD τ sig) → Buf (Elt Ideal) ℓ) (c : Dev nD)

theorem stepB_13 (t : Fin cfg0.N) (h0 : ¬t.val % 128 = 0) (h1 : ¬t.val % 128 = 127) (hig : ∀ (t : Fin 128) (h : Fin 8) (i : Fin 64), Mlstm.igf (kargs m c) t h i < (⊤ : EReal))
    (hp : St m c (outsAt0 m c (t.val - 1) (by have := t.isLt; omega)).2.2.2.2.2.2.2.2 (outsAt0 m c (t.val - 1) (by have := t.isLt; omega)).2.2.2.2.2.2.2.1 (outsAt0 m c (t.val - 1) (by have := t.isLt; omega)).2.2.2.2.2.2.1 (outsAt0 m c (t.val - 1) (by have := t.isLt; omega)).2.2.2.2.2.1 t.val (Nat.le_of_lt (t_lt t))) (h : Fin 8) (i : Fin 64) (e : Fin 256) :
    (outsAt0 m c t.val t.isLt).1 (Idealize.ShloMosaic.ix2 i (⟨256 * h.val + e.val, by omega⟩ : Fin 2048)) = Mlstm.out (Mlstm.hcf (kargs m c) (ch t) h i) e (X12 m c t (Idealize.ShloMosaic.ix2 (0 : Fin 1) (⟨256 * h.val + e.val, by omega⟩ : Fin 2048))) (X3 m c t (Idealize.ShloMosaic.ix2 i (⟨256 * h.val + e.val, by omega⟩ : Fin 2048))) := by
  have htl := t_lt t
  rw [outsAt0_B m c t h0 h1]
  dsimp only
  unfold out0_B_13
  frame_open
  simp (disch := decide) only [↓ View.readCov_skip, ↓ View.readCov_cons_toLoadRect, ↓ View.readCov_fill]
  frame_out
  try simp only [read_unread_whole]
  generalize hKKe : k0_pay17 (F := Ideal) _ _ _ = KK
  have hKK : ∀ (h : Fin 8) (s : Fin 64) (d : Fin 128), KK (Idealize.ShloMosaic.ix2 s (⟨128 * h.val + d.val, by omega⟩ : Fin 1024)) = Mlstm.kf (kargs m c) (ch t) h s d := by
    intro h s d
    rw [← hKKe]
    exact kkB m c t _ (fun r j => (congrFun (read_unread_whole _ _ _) _).trans (hp.hU r j)) h s d
  generalize hQQe : k0_pay16 (F := Ideal) _ _ _ = QQ
  have hQQ : ∀ (h : Fin 8) (s : Fin 64) (d : Fin 128), QQ (Idealize.ShloMosaic.ix2 s (⟨128 * h.val + d.val, by omega⟩ : Fin 1024)) = Mlstm.qf (kargs m c) (ch t) h s d := by
    intro h s d
    rw [← hQQe]
    exact qqB m c t _ (fun r j => (congrFun (read_unread_whole _ _ _) _).trans (hp.hU r j)) h s d
  have hM := hp.hM
  have hN := hp.hN
  have hC := hp.hC
  clear hp
  generalize outsAt0 m c (t.val - 1) _ = OO at hM hN hC ⊢
  generalize OO.2.2.2.2.2.2.2.1 = M at hM ⊢
  have g := gates m c t hig M (fun h => Mlstm.stM (kargs m c) h t.val) (fun h => (hM _).trans (dif_pos h.isLt))
  generalize hBB : k0_pay22 (F := Ideal) _ _ _ = BB
  generalize hIT : k0_pay24 (F := Ideal) _ = IT
  generalize hBT : k0_pay25 (F := Ideal) _ _ _ = BT
  replace g : Gates BB (k0_pay18 (F := Ideal) (X4 m c t) (X11 m c t)) IT BT M (Mlstm.bf (kargs m c) (ch t)) (Mlstm.igf (kargs m c) (ch t)) (fun h => Mlstm.stM (kargs m c) h t.val) := by
    rw [← hBB, ← hIT, ← hBT]
    exact g
  clear hKKe hQQe hBB hIT hBT
  exact o_after g QQ KK _ _ _ _ _ _ _ _ _ (fun h => Mlstm.stC (kargs m c) h t.val) (fun h => Mlstm.stN (kargs m c) h t.val) hQQ hKK (xv_apply m c t) hC hN h i e

end Cert.KernelIdeal.Hand

end
-- ==== Proof.MlstmKerOC.lean ====
module

public import proofs.«01_k».proof.Proof.Gen.KernelIdeal.Value
public import proofs.«01_k».proof.Proof.MlstmKerQ
public import proofs.«01_k».proof.Proof.MlstmKerOut
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 65536
set_option maxHeartbeats 4000000

noncomputable section

/-! The last chunk: its outputs. -/

namespace Cert.KernelIdeal.Hand

open Cert.KernelIdeal Cert.KernelIdeal.Gen Cert.KernelIdeal.Value Idealize.ShloMosaic Idealize.ShloMosaic.TcCoe Idealize.SL.Sem Cert.Hand

variable (m : (ℓ : Loc nD τ sig) → Buf (Elt Ideal) ℓ) (c : Dev nD)

theorem stepC_13 (t : Fin cfg0.N) (h0 : ¬t.val % 128 = 0) (h1 : t.val % 128 = 127) (hig : ∀ (t : Fin 128) (h : Fin 8) (i : Fin 64), Mlstm.igf (kargs m c) t h i < (⊤ : EReal))
    (hp : St m c (outsAt0 m c (t.val - 1) (by have := t.isLt; omega)).2.2.2.2.2.2.2.2 (outsAt0 m c (t.val - 1) (by have := t.isLt; omega)).2.2.2.2.2.2.2.1 (outsAt0 m c (t.val - 1) (by have := t.isLt; omega)).2.2.2.2.2.2.1 (outsAt0 m c (t.val - 1) (by have := t.isLt; omega)).2.2.2.2.2.1 t.val (Nat.le_of_lt (t_lt t))) (h : Fin 8) (i : Fin 64) (e : Fin 256) :
    (outsAt0 m c t.val t.isLt).1 (Idealize.ShloMosaic.ix2 i (⟨256 * h.val + e.val, by omega⟩ : Fin 2048)) = Mlstm.out (Mlstm.hcf (kargs m c) (ch t) h i) e (X12 m c t (Idealize.ShloMosaic.ix2 (0 : Fin 1) (⟨256 * h.val + e.val, by omega⟩ : Fin 2048))) (X3 m c t (Idealize.ShloMosaic.ix2 i (⟨256 * h.val + e.val, by omega⟩ : Fin 2048))) := by
  have htl := t_lt t
  rw [outsAt0_C m c t h0 h1]
  dsimp only
  unfold out0_C_13
  frame_open
  simp (disch := decide) only [↓ View.readCov_skip, ↓ View.readCov_cons_toLoadRect, ↓ View.readCov_fill]
  frame_out
  try simp only [read_unread_whole]
  generalize hKKe : k0_pay17 (F := Ideal) _ _ _ = KK
  have hKK : ∀ (h : Fin 8) (s : Fin 64) (d : Fin 128), KK (Idealize.ShloMosaic.ix2 s (⟨128 * h.val + d.val, by omega⟩ : Fin 1024)) = Mlstm.kf (kargs m c) (ch t) h s d := by
    intro h s d
    rw [← hKKe]
    exact kkB m c t _ (fun r j => (congrFun (read_unread_whole _ _ _) _).trans (hp.hU r j)) h s d
  generalize hQQe : k0_pay16 (F := Ideal) _ _ _ = QQ
  have hQQ : ∀ (h : Fin 8) (s : Fin 64) (d : Fin 128), QQ (Idealize.ShloMosaic.ix2 s (⟨128 * h.val + d.val, by omega⟩ : Fin 1024)) = Mlstm.qf (kargs m c) (ch t) h s d := by
    intro h s d
    rw [← hQQe]
    exact qqB m c t _ (fun r j => (congrFun (read_unread_whole _ _ _) _).trans (hp.hU r j)) h s d
  have hM := hp.hM
  have hN := hp.hN
  have hC := hp.hC
  clear hp
  generalize outsAt0 m c (t.val - 1) _ = OO at hM hN hC ⊢
  generalize OO.2.2.2.2.2.2.2.1 = M at hM ⊢
  have g := gates m c t hig M (fun h => Mlstm.stM (kargs m c) h t.val) (fun h => (hM _).trans (dif_pos h.isLt))
  generalize hBB : k0_pay22 (F := Ideal) _ _ _ = BB
  generalize hIT : k0_pay24 (F := Ideal) _ = IT
  generalize hBT : k0_pay25 (F := Ideal) _ _ _ = BT
  replace g : Gates BB (k0_pay18 (F := Ideal) (X4 m c t) (X11 m c t)) IT BT M (Mlstm.bf (kargs m c) (ch t)) (Mlstm.igf (kargs m c) (ch t)) (fun h => Mlstm.stM (kargs m c) h t.val) := by
    rw [← hBB, ← hIT, ← hBT]
    exact g
  clear hKKe hQQe hBB hIT hBT
  exact o_after g QQ KK _ _ _ _ _ _ _ _ _ (fun h => Mlstm.stC (kargs m c) h t.val) (fun h => Mlstm.stN (kargs m c) h t.val) hQQ hKK (xv_apply m c t) hC hN h i e

end Cert.KernelIdeal.Hand

end
-- ==== Proof.MlstmKerOutAt.lean ====
module

public import proofs.«01_k».proof.Proof.Gen.KernelIdeal.Value
public import proofs.«01_k».proof.Proof.MlstmKerOA
public import proofs.«01_k».proof.Proof.MlstmKerOB
public import proofs.«01_k».proof.Proof.MlstmKerOC
public import proofs.«01_k».proof.Proof.MlstmKerState
public import proofs.«01_k».proof.Proof.MlstmRes
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 65536
set_option maxHeartbeats 4000000

noncomputable section

/-! A chunk's outputs, entry by entry. -/

namespace Cert.KernelIdeal.Hand

open Cert.KernelIdeal Cert.KernelIdeal.Gen Cert.KernelIdeal.Value Idealize.ShloMosaic Idealize.ShloMosaic.TcCoe Idealize.SL.Sem Cert.Hand

variable (m : (ℓ : Loc nD τ sig) → Buf (Elt Ideal) ℓ) (c : Dev nD)

theorem o_chunk (hig : ∀ (t : Fin 128) (h : Fin 8) (i : Fin 64), Mlstm.igf (kargs m c) t h i < (⊤ : EReal)) (t : Fin cfg0.N) (i : Fin 64) (j : Fin 2048) :
    (outsAt0 m c t.val t.isLt).1 (Idealize.ShloMosaic.ix2 i j) = Mlstm.rO (kargs m c) (⟨64 * t.val + i.val, by have := t_lt t; omega⟩ : Fin 8320) j := by
  have htl := t_lt t
  have key : ∀ (h : Fin 8) (e : Fin 256), (outsAt0 m c t.val t.isLt).1 (Idealize.ShloMosaic.ix2 i (⟨256 * h.val + e.val, by omega⟩ : Fin 2048))
      = Mlstm.out (Mlstm.hcf (kargs m c) (ch t) h i) e (X12 m c t (Idealize.ShloMosaic.ix2 (0 : Fin 1) (⟨256 * h.val + e.val, by omega⟩ : Fin 2048))) (X3 m c t (Idealize.ShloMosaic.ix2 i (⟨256 * h.val + e.val, by omega⟩ : Fin 2048))) := by
    intro h e
    by_cases h0 : t.val % 128 = 0
    · exact stepA_13 m c t h0 (by omega) hig h i e
    · by_cases h1 : t.val % 128 = 127
      · exact stepC_13 m c t h0 h1 hig (prev m c hig t h0) h i e
      · exact stepB_13 m c t h0 h1 hig (prev m c hig t h0) h i e
  have hj : j = (⟨256 * (⟨j.val / 256, by omega⟩ : Fin 8).val + (⟨j.val % 256, by omega⟩ : Fin 256).val, by dsimp only; omega⟩ : Fin 2048) := Fin.ext (by dsimp only; omega)
  rw [hj, key, x12_apply, x3_apply]
  exact (Mlstm.rO_chunk (kargs m c) (ch t) _ i _).symm

end Cert.KernelIdeal.Hand

end
-- ==== Proof.MlstmKerArrO.lean ====
module

public import proofs.«01_k».proof.Proof.Gen.KernelIdeal.Value
public import proofs.«01_k».proof.Proof.MlstmKerOutAt
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 65536
set_option maxHeartbeats 4000000

noncomputable section

/-! The first result, entry by entry. -/

namespace Cert.KernelIdeal.Hand

open Cert.KernelIdeal Cert.KernelIdeal.Gen Cert.KernelIdeal.Value Idealize.ShloMosaic Idealize.ShloMosaic.TcCoe Idealize.SL.Sem Cert.Hand

variable (m : (ℓ : Loc nD τ sig) → Buf (Elt Ideal) ℓ) (c : Dev nD)

theorem entry_zero (i : S8320x2048.Idx) : V m c main_v10_0 i = (0 : EReal) := by
  dsimp only [V, List.flatten_cons, List.flatten_nil, List.append_nil, List.cons_append, List.nil_append]
  simp only [StableHlo.TRef.nullary, StableHlo.TRef.unary, StableHlo.TRef.binary, StableHlo.TRef.ternary, StableHlo.TRef.of]
  after_results_simp
  try simp -implicitDefEqProofs only [id_eq, StableHlo.TRef.toBuf, StableHlo.TRef.ofBuf, cast_cast, cast_eq]
  pointwise

theorem arr13 (hig : ∀ (t : Fin 128) (h : Fin 8) (i : Fin 64), Mlstm.igf (kargs m c) t h i < (⊤ : EReal)) : (dats m 0 c).arrAt 13 cfg0.N = fun i => Mlstm.rO (kargs m c) (i 0) (i 1) := by
  refine (dats m 0 c).arrAt_eq_of_coversWhere_of_agree 13 _ (fun β => β (0 : Fin 2) < 128) (by decide +kernel) (fun t hf y => ?_) (fun j hj => ?_)
  · blk_simp
    rw [after0_13]
    change S64x2048.Idx at y
    have hy : y = Idealize.ShloMosaic.ix2 (y 0) (y 1) := by
      funext a
      match a with
      | ⟨0, _⟩ => rfl
      | ⟨1, _⟩ => rfl
    have e0 : (win0_13.blk t).view.emb y 0 = (⟨64 * t.val + (y 0).val, by have := t_lt t; have : (y 0).val < 64 := (y 0).isLt; omega⟩ : Fin 8320) := Fin.ext (by blk_simp [idx t]; show t.val * 64 + (y 0).val = 64 * t.val + (y 0).val; omega)
    have e1 : (win0_13.blk t).view.emb y 1 = y 1 := Fin.ext (by blk_simp [idx t])
    rw [e0, e1]
    exact (congrArg (outsAt0 m c t.val t.isLt).1 hy).trans (o_chunk m c hig t (y 0) (y 1))
  · blk_simp [Pipeline.Window.cell_apply] at hj
    rw [A_eq]
    refine (entry_zero m c _).trans ?_
    change S8320x2048.Idx at j
    have hj : ¬(j 0).val < 8192 := by omega
    exact (Mlstm.rO_zero (kargs m c) (j 0) (j 1) hj).symm

end Cert.KernelIdeal.Hand

end
-- ==== Proof.MlstmRefOps.lean ====
module

public import proofs.«01_k».proof.Proof.Gen.ReferenceIdeal.Run
public import proofs.«01_k».proof.Proof.MlstmSpec
public import Idealize.ShloMosaic.Lib.Pipeline.ValueKit
public import Idealize.ShloMosaic.Lib.Pointwise
public import Idealize.ShloMosaic.Lib.Claim

@[expose] public section

set_option maxRecDepth 65536
set_option maxHeartbeats 4000000

noncomputable section

/-! One trip of the definition's scan, entry by entry: the recurrence's step. -/

namespace Cert.ReferenceIdeal.Hand

open Cert.ReferenceIdeal Cert.ReferenceIdeal.Value Idealize.ShloMosaic Idealize.ShloMosaic.TcCoe Idealize.SL.Sem Cert.Hand

/-! ## A running sum, and a maximum over the last axis -/

theorem foldl_sum {ι : Type} (g : ι → EReal) (l : List ι) (v : EReal) :
    l.foldl (fun r n => r + g n) v = v + (l.map g).sum := by
  induction l generalizing v with
  | nil => simp
  | cons x l ih => rw [List.foldl_cons, ih, List.map_cons, List.sum_cons, add_assoc]

theorem window_idx : ∀ n : Fin 64, ((⟨3, ![1, 1, 64]⟩ : Shape).rowMajor.symm n 0).val = 0
    ∧ ((⟨3, ![1, 1, 64]⟩ : Shape).rowMajor.symm n 1).val = 0 ∧ ((⟨3, ![1, 1, 64]⟩ : Shape).rowMajor.symm n 2).val = n.val := by
  decide +kernel

theorem window_sum (f : Fin 64 → EReal) (t : Fin 64) :
    (∑ n : Fin 64, if h : 63 ≤ t.val + n.val then f ⟨t.val + n.val - 63, by omega⟩ else 0)
      = ∑ s : Fin 64, if s.val ≤ t.val then f s else 0 := by
  have e1 : (∑ n : Fin 64, if h : 63 ≤ t.val + n.val then f ⟨t.val + n.val - 63, by omega⟩ else 0)
      = ∑ n ∈ Finset.univ.filter (fun n : Fin 64 => 63 ≤ t.val + n.val), f ⟨(t.val + n.val - 63) % 64, Nat.mod_lt _ (by decide)⟩ := by
    rw [Finset.sum_filter]
    refine Finset.sum_congr rfl fun n _ => ?_
    split
    · exact congrArg f (Fin.ext (Nat.mod_eq_of_lt (by omega)).symm)
    · rfl
  rw [e1, ← Finset.sum_filter]
  refine Finset.sum_nbij' (fun n => ⟨(t.val + n.val - 63) % 64, Nat.mod_lt _ (by decide)⟩)
    (fun s => ⟨(63 + s.val - t.val) % 64, Nat.mod_lt _ (by decide)⟩) ?_ ?_ ?_ ?_ ?_
  · intro n hn
    have hn := (Finset.mem_filter.1 hn).2
    refine Finset.mem_filter.2 ⟨Finset.mem_univ _, ?_⟩
    have := n.isLt
    simp only
    omega
  · intro s hs
    have hs := (Finset.mem_filter.1 hs).2
    refine Finset.mem_filter.2 ⟨Finset.mem_univ _, ?_⟩
    have := s.isLt
    have := t.isLt
    simp only
    omega
  · intro n hn
    have hn := (Finset.mem_filter.1 hn).2
    have := n.isLt
    have := t.isLt
    refine Fin.ext ?_
    simp only
    omega
  · intro s hs
    have hs := (Finset.mem_filter.1 hs).2
    have := s.isLt
    have := t.isLt
    refine Fin.ext ?_
    simp only
    omega
  · intro n hn
    rfl

theorem cumsum (x : FVec Ideal S1x8x64 .f32) (v : FVec Ideal S_ .f32) (hv : ∀ i, v i = (0 : EReal)) (h : Fin 8) (t : Fin 64) :
    Host.reduceWindowAdd ![1, 1, 64] ![1, 1, 1] ![0, 0, 63] ![0, 0, 0] x v
      Gen.reduceWindows_S1x8x64_S1x8x64_w1s1p0_0_w1s1p0_0_w64s1p63_0 Gen.h_S_ (Idealize.ShloMosaic.ix3 (0 : Fin 1) h t)
      = (∑ s : Fin 64, if s.val ≤ t.val then x (Idealize.ShloMosaic.ix3 (0 : Fin 1) h s) else 0 : EReal) := by
  rw [← window_sum (fun s => x (Idealize.ShloMosaic.ix3 (0 : Fin 1) h s)) t]
  unfold Host.reduceWindowAdd
  rw [Ideal.hostReduceWindowAdd_def]
  unfold Ideal.hostReduceWindowAdd Host.reduceWindow
  dsimp only
  rw [foldl_sum, hv, zero_add, Fin.sum_univ_def]
  change (List.map _ (List.finRange 64)).sum = _
  refine congrArg List.sum (List.map_congr_left fun n _ => ?_)
  obtain ⟨h0, h1, h2⟩ := window_idx n
  have ht := t.isLt
  have hn := n.isLt
  by_cases hle : 63 ≤ t.val + n.val
  · rw [dif_pos hle]
    rw [dif_pos (fun a => by
      match a with
      | ⟨0, _⟩ =>
        show 0 ≤ 0 * 1 + ((⟨3, ![1, 1, 64]⟩ : Shape).rowMajor.symm n 0).val ∧ 0 * 1 + ((⟨3, ![1, 1, 64]⟩ : Shape).rowMajor.symm n 0).val - 0 < 1
        rw [h0]; omega
      | ⟨1, _⟩ =>
        show 0 ≤ h.val * 1 + ((⟨3, ![1, 1, 64]⟩ : Shape).rowMajor.symm n 1).val ∧ h.val * 1 + ((⟨3, ![1, 1, 64]⟩ : Shape).rowMajor.symm n 1).val - 0 < 8
        rw [h1]; omega
      | ⟨2, _⟩ =>
        show 63 ≤ t.val * 1 + ((⟨3, ![1, 1, 64]⟩ : Shape).rowMajor.symm n 2).val ∧ t.val * 1 + ((⟨3, ![1, 1, 64]⟩ : Shape).rowMajor.symm n 2).val - 63 < 64
        rw [h2]; omega)]
    refine congrArg x (funext fun a => Fin.ext ?_)
    match a with
    | ⟨0, _⟩ =>
      show 0 * 1 + ((⟨3, ![1, 1, 64]⟩ : Shape).rowMajor.symm n 0).val - 0 = 0
      rw [h0]
    | ⟨1, _⟩ =>
      show h.val * 1 + ((⟨3, ![1, 1, 64]⟩ : Shape).rowMajor.symm n 1).val - 0 = h.val
      rw [h1]; omega
    | ⟨2, _⟩ =>
      show t.val * 1 + ((⟨3, ![1, 1, 64]⟩ : Shape).rowMajor.symm n 2).val - 63 = t.val + n.val - 63
      rw [h2]; omega
  · rw [dif_neg hle]
    rw [dif_neg (fun hin => hle (by
      have h3 : 63 ≤ t.val * 1 + ((⟨3, ![1, 1, 64]⟩ : Shape).rowMajor.symm n 2).val := (hin 2).1
      rw [h2] at h3; omega))]

theorem max_last (x : S1x8x64x64.Idx → EReal) (v : EReal) (h : Fin 8) (t : Fin 64) :
    Finset.fold max v x {i | Gen.reducesTo_S1x8x64x64_S1x8x64_d3.drop i = Idealize.ShloMosaic.ix3 (0 : Fin 1) h t}
      = Finset.fold max v (fun s : Fin 64 => x (Idealize.ShloMosaic.ix4 (0 : Fin 1) h t s)) Finset.univ := by
  have hinj : Function.Injective (fun s : Fin 64 => (Idealize.ShloMosaic.ix4 (0 : Fin 1) h t s : S1x8x64x64.Idx)) := fun s s' e => congrFun e 3
  have e : (Finset.univ.filter fun i : S1x8x64x64.Idx => Gen.reducesTo_S1x8x64x64_S1x8x64_d3.drop i = Idealize.ShloMosaic.ix3 (0 : Fin 1) h t)
      = Finset.univ.map ⟨fun s : Fin 64 => (Idealize.ShloMosaic.ix4 (0 : Fin 1) h t s : S1x8x64x64.Idx), hinj⟩ := by
    ext i
    constructor
    · intro hi
      have hi := (Finset.mem_filter.1 hi).2
      refine Finset.mem_map.2 ⟨i 3, Finset.mem_univ _, ?_⟩
      have e1 : h = i 1 := (congrFun hi 1).symm
      have e2 : t = i 2 := (congrFun hi 2).symm
      subst e1
      subst e2
      funext a
      match a with
      | ⟨0, _⟩ => exact Subsingleton.elim (α := Fin 1) _ _
      | ⟨1, _⟩ => rfl
      | ⟨2, _⟩ => rfl
      | ⟨3, _⟩ => rfl
    · intro hi
      obtain ⟨s, _, rfl⟩ := Finset.mem_map.1 hi
      refine Finset.mem_filter.2 ⟨Finset.mem_univ _, ?_⟩
      funext a
      match a with
      | ⟨0, _⟩ => rfl
      | ⟨1, _⟩ => rfl
      | ⟨2, _⟩ => rfl
  rw [e, Finset.fold_map]
  rfl

theorem toInt_small (k : ℕ) (hk : k < 128) : (BitVec.ofNat 32 k).toInt = (k : ℤ) := by
  have h2 : (BitVec.ofNat 32 k).toNat = k := by rw [BitVec.toNat_ofNat]; exact Nat.mod_eq_of_lt (by omega)
  rw [BitVec.toInt_eq_toNat_of_lt (by omega), h2]

theorem slice5 {n : ℕ} (x : (⟨5, ![128, 1, 8, 64, n]⟩ : Shape).Idx → EReal) (start : Fin 5 → ℤ) (k : ℕ) (hk : k < 128)
    (h0 : start 0 = (k : ℤ)) (h1 : start 1 = 0) (h2 : start 2 = 0) (h3 : start 3 = 0) (h4 : start 4 = 0)
    (hf : (⟨5, ![128, 1, 8, 64, n]⟩ : Shape).Slices (fun _ => 0) ⟨5, ![1, 1, 8, 64, n]⟩) (h : Fin 8) (i : Fin 64) (d : Fin n) :
    Host.dynamicSlice ⟨5, ![1, 1, 8, 64, n]⟩ x start hf (Idealize.ShloMosaic.ix5 (0 : Fin 1) (0 : Fin 1) h i d)
      = x (Idealize.ShloMosaic.ix5 (⟨k, hk⟩ : Fin 128) (0 : Fin 1) h i d) := by
  rw [Host.dynamicSlice_apply]
  refine congrArg x ?_
  funext a
  apply Fin.ext
  match a with
  | ⟨0, _⟩ => exact (congrArg (· + 0) (Host.clampedStart_of_le (s := ⟨5, ![128, 1, 8, 64, n]⟩) (t := ⟨5, ![1, 1, 8, 64, n]⟩) rfl _ 0 k h0 (show k + 1 ≤ 128 by omega)))
  | ⟨1, _⟩ => exact (congrArg (· + 0) (Host.clampedStart_of_le (s := ⟨5, ![128, 1, 8, 64, n]⟩) (t := ⟨5, ![1, 1, 8, 64, n]⟩) rfl _ 1 0 h1 (show 0 + 1 ≤ 1 by omega)))
  | ⟨2, _⟩ => exact (congrArg (· + h.val) (Host.clampedStart_of_le (s := ⟨5, ![128, 1, 8, 64, n]⟩) (t := ⟨5, ![1, 1, 8, 64, n]⟩) rfl _ 2 0 h2 (show 0 + 8 ≤ 8 by omega))).trans (Nat.zero_add _)
  | ⟨3, _⟩ => exact (congrArg (· + i.val) (Host.clampedStart_of_le (s := ⟨5, ![128, 1, 8, 64, n]⟩) (t := ⟨5, ![1, 1, 8, 64, n]⟩) rfl _ 3 0 h3 (show 0 + 64 ≤ 64 by omega))).trans (Nat.zero_add _)
  | ⟨4, _⟩ => exact (congrArg (· + d.val) (Host.clampedStart_of_le (s := ⟨5, ![128, 1, 8, 64, n]⟩) (t := ⟨5, ![1, 1, 8, 64, n]⟩) rfl _ 4 0 h4 (show 0 + n ≤ n by omega))).trans (Nat.zero_add _)

theorem slice4 (x : (⟨4, ![128, 1, 8, 64]⟩ : Shape).Idx → EReal) (start : Fin 4 → ℤ) (k : ℕ) (hk : k < 128)
    (h0 : start 0 = (k : ℤ)) (h1 : start 1 = 0) (h2 : start 2 = 0) (h3 : start 3 = 0)
    (hf : (⟨4, ![128, 1, 8, 64]⟩ : Shape).Slices (fun _ => 0) ⟨4, ![1, 1, 8, 64]⟩) (h : Fin 8) (i : Fin 64) :
    Host.dynamicSlice ⟨4, ![1, 1, 8, 64]⟩ x start hf (Idealize.ShloMosaic.ix4 (0 : Fin 1) (0 : Fin 1) h i)
      = x (Idealize.ShloMosaic.ix4 (⟨k, hk⟩ : Fin 128) (0 : Fin 1) h i) := by
  rw [Host.dynamicSlice_apply]
  refine congrArg x ?_
  funext a
  apply Fin.ext
  match a with
  | ⟨0, _⟩ => exact (congrArg (· + 0) (Host.clampedStart_of_le (s := ⟨4, ![128, 1, 8, 64]⟩) (t := ⟨4, ![1, 1, 8, 64]⟩) rfl _ 0 k h0 (show k + 1 ≤ 128 by omega)))
  | ⟨1, _⟩ => exact (congrArg (· + 0) (Host.clampedStart_of_le (s := ⟨4, ![128, 1, 8, 64]⟩) (t := ⟨4, ![1, 1, 8, 64]⟩) rfl _ 1 0 h1 (show 0 + 1 ≤ 1 by omega)))
  | ⟨2, _⟩ => exact (congrArg (· + h.val) (Host.clampedStart_of_le (s := ⟨4, ![128, 1, 8, 64]⟩) (t := ⟨4, ![1, 1, 8, 64]⟩) rfl _ 2 0 h2 (show 0 + 8 ≤ 8 by omega))).trans (Nat.zero_add _)
  | ⟨3, _⟩ => exact (congrArg (· + i.val) (Host.clampedStart_of_le (s := ⟨4, ![128, 1, 8, 64]⟩) (t := ⟨4, ![1, 1, 8, 64]⟩) rfl _ 3 0 h3 (show 0 + 64 ≤ 64 by omega))).trans (Nat.zero_add _)

theorem flat128 (x : S1x1x8x64x128.Idx → EReal) (hc) (h : Fin 8) (i : Fin 64) (d : Fin 128) :
    shapeCast S1x8x64x128 x hc (Idealize.ShloMosaic.ix4 (0 : Fin 1) h i d) = x (Idealize.ShloMosaic.ix5 (0 : Fin 1) (0 : Fin 1) h i d) := by
  pointwise

theorem flat256 (x : S1x1x8x64x256.Idx → EReal) (hc) (h : Fin 8) (i : Fin 64) (d : Fin 256) :
    shapeCast S1x8x64x256 x hc (Idealize.ShloMosaic.ix4 (0 : Fin 1) h i d) = x (Idealize.ShloMosaic.ix5 (0 : Fin 1) (0 : Fin 1) h i d) := by
  pointwise

theorem flat1 (x : S1x1x8x64.Idx → EReal) (hc) (h : Fin 8) (i : Fin 64) :
    shapeCast S1x8x64 x hc (Idealize.ShloMosaic.ix3 (0 : Fin 1) h i) = x (Idealize.ShloMosaic.ix4 (0 : Fin 1) (0 : Fin 1) h i) := by
  pointwise

end Cert.ReferenceIdeal.Hand

end
-- ==== Proof.MlstmRefStep.lean ====
module

public import proofs.«01_k».proof.Proof.Gen.ReferenceIdeal.Run
public import proofs.«01_k».proof.Proof.MlstmSpec
public import proofs.«01_k».proof.Proof.MlstmRefOps
public import Idealize.ShloMosaic.Lib.Pipeline.ValueKit
public import Idealize.ShloMosaic.Lib.Pointwise
public import Idealize.ShloMosaic.Lib.Claim

@[expose] public section

set_option maxRecDepth 65536
set_option maxHeartbeats 4000000

noncomputable section

/-! One trip of the definition's scan, entry by entry: the recurrence's step. -/

namespace Cert.ReferenceIdeal.Hand

open Cert.ReferenceIdeal Cert.ReferenceIdeal.Value Idealize.ShloMosaic Idealize.ShloMosaic.TcCoe Idealize.SL.Sem Cert.Hand

variable (V0 : Valuation τ sig (Elt Ideal))

theorem q_apply (k : ℕ) (hk : k < 128) (hctr : V0 (Proc.devRef .tc main_v75_6) = fun _ => BitVec.ofNat 32 k)
    (h : Fin 8) (i : Fin 64) (d : Fin 128) :
    res_main_while0b_v112 V0 (Idealize.ShloMosaic.ix4 (0 : Fin 1) h i d)
      = V0 (Proc.devRef .tc main_v75_0) (Idealize.ShloMosaic.ix5 (⟨k, hk⟩ : Fin 128) (0 : Fin 1) h i d) := by
  unfold res_main_while0b_v112
  have e0 : (V0 (Proc.devRef .tc main_v75_6) (Shape.Idx.first Gen.h_S_)).toInt = (k : ℤ) := by
    rw [hctr]; exact toInt_small k hk
  generalize V0 (Proc.devRef .tc main_v75_0) = x
  generalize V0 (Proc.devRef .tc main_v75_6) = y at e0
  change S128x1x8x64x128.Idx → EReal at x
  change S_.Idx → BitVec 32 at y
  rw [flat128]
  exact slice5 x _ k hk e0 rfl rfl rfl rfl _ h i d

theorem k_apply (k : ℕ) (hk : k < 128) (hctr : V0 (Proc.devRef .tc main_v75_6) = fun _ => BitVec.ofNat 32 k)
    (h : Fin 8) (i : Fin 64) (d : Fin 128) :
    res_main_while0b_v113 V0 (Idealize.ShloMosaic.ix4 (0 : Fin 1) h i d)
      = V0 (Proc.devRef .tc main_v75_1) (Idealize.ShloMosaic.ix5 (⟨k, hk⟩ : Fin 128) (0 : Fin 1) h i d) := by
  unfold res_main_while0b_v113
  have e0 : (V0 (Proc.devRef .tc main_v75_6) (Shape.Idx.first Gen.h_S_)).toInt = (k : ℤ) := by
    rw [hctr]; exact toInt_small k hk
  generalize V0 (Proc.devRef .tc main_v75_1) = x
  generalize V0 (Proc.devRef .tc main_v75_6) = y at e0
  change S128x1x8x64x128.Idx → EReal at x
  change S_.Idx → BitVec 32 at y
  rw [flat128]
  exact slice5 x _ k hk e0 rfl rfl rfl rfl _ h i d

theorem v_apply (k : ℕ) (hk : k < 128) (hctr : V0 (Proc.devRef .tc main_v75_6) = fun _ => BitVec.ofNat 32 k)
    (h : Fin 8) (i : Fin 64) (d : Fin 256) :
    res_main_while0b_v114 V0 (Idealize.ShloMosaic.ix4 (0 : Fin 1) h i d)
      = V0 (Proc.devRef .tc main_v75_2) (Idealize.ShloMosaic.ix5 (⟨k, hk⟩ : Fin 128) (0 : Fin 1) h i d) := by
  unfold res_main_while0b_v114
  have e0 : (V0 (Proc.devRef .tc main_v75_6) (Shape.Idx.first Gen.h_S_)).toInt = (k : ℤ) := by
    rw [hctr]; exact toInt_small k hk
  generalize V0 (Proc.devRef .tc main_v75_2) = x
  generalize V0 (Proc.devRef .tc main_v75_6) = y at e0
  change S128x1x8x64x256.Idx → EReal at x
  change S_.Idx → BitVec 32 at y
  rw [flat256]
  exact slice5 x _ k hk e0 rfl rfl rfl rfl _ h i d

theorem b_apply (k : ℕ) (hk : k < 128) (hctr : V0 (Proc.devRef .tc main_v75_6) = fun _ => BitVec.ofNat 32 k) (h : Fin 8) (t : Fin 64) :
    res_main_while0b_v117 V0 (Idealize.ShloMosaic.ix3 (0 : Fin 1) h t)
      = (∑ s : Fin 64, if s.val ≤ t.val then
          (V0 (Proc.devRef .tc main_v75_4) : S128x1x8x64.Idx → EReal) (Idealize.ShloMosaic.ix4 (⟨k, hk⟩ : Fin 128) (0 : Fin 1) h s) else 0 : EReal) := by
  unfold res_main_while0b_v117
  have e0 : (V0 (Proc.devRef .tc main_v75_6) (Shape.Idx.first Gen.h_S_)).toInt = (k : ℤ) := by
    rw [hctr]; exact toInt_small k hk
  generalize V0 (Proc.devRef .tc main_v75_4) = x
  generalize V0 (Proc.devRef .tc main_v75_6) = y at e0
  change S128x1x8x64.Idx → EReal at x
  change S_.Idx → BitVec 32 at y
  refine (cumsum _ _ (fun _ => Ideal.ofBits_zero_f32) h t).trans ?_
  refine Finset.sum_congr rfl fun s _ => ?_
  rw [flat1]
  rw [slice4 x _ k hk e0 rfl rfl rfl _ h s]

theorem logD_apply (k : ℕ) (hk : k < 128) (hctr : V0 (Proc.devRef .tc main_v75_6) = fun _ => BitVec.ofNat 32 k)
    (hmask : ∀ t s : Fin 64, V0 (Proc.devRef .tc main_v75_5) (Idealize.ShloMosaic.ix2 t s) = if s.val ≤ t.val then 1#1 else 0#1)
    (h : Fin 8) (t s : Fin 64) :
    res_main_while0b_v126 V0 (Idealize.ShloMosaic.ix4 (0 : Fin 1) h t s)
      = Mlstm.logD (fun i => res_main_while0b_v117 V0 (Idealize.ShloMosaic.ix3 (0 : Fin 1) h i))
          (fun i => V0 (Proc.devRef .tc main_v75_3) (Idealize.ShloMosaic.ix4 (⟨k, hk⟩ : Fin 128) (0 : Fin 1) h i)) t s := by
  unfold res_main_while0b_v126
  have e0 : (V0 (Proc.devRef .tc main_v75_6) (Shape.Idx.first Gen.h_S_)).toInt = (k : ℤ) := by
    rw [hctr]; exact toInt_small k hk
  have hm := hmask t s
  clear hmask hctr
  generalize res_main_while0b_v117 V0 = b
  generalize V0 (Proc.devRef .tc main_v75_3) = x
  generalize V0 (Proc.devRef .tc main_v75_6) = y at e0
  generalize V0 (Proc.devRef .tc main_v75_5) = z at hm
  change S128x1x8x64.Idx → EReal at x
  change S_.Idx → BitVec 32 at y
  change S64x64.Idx → BitVec 1 at z
  change S1x8x64.Idx → EReal at b
  generalize hw : shapeCast S1x8x64 _ _ = w
  have hw1 : ∀ i : Fin 64, w (Idealize.ShloMosaic.ix3 (0 : Fin 1) h i) = x (Idealize.ShloMosaic.ix4 (⟨k, hk⟩ : Fin 128) (0 : Fin 1) h i) := by
    intro i
    rw [← hw, flat1]
    exact slice4 x _ k hk e0 rfl rfl rfl _ h i
  clear hw
  simp only [id_eq]
  pointwise
  rw [hm, hw1]
  unfold Mlstm.logD
  split <;> rfl

end Cert.ReferenceIdeal.Hand

end
-- ==== Proof.MlstmRefChunk.lean ====
module

public import proofs.«01_k».proof.Proof.Gen.ReferenceIdeal.Run
public import proofs.«01_k».proof.Proof.MlstmSpec
public import proofs.«01_k».proof.Proof.MlstmRefStep
public import proofs.«01_k».proof.Proof.MlstmRefOps
public import Idealize.ShloMosaic.Lib.Pipeline.ValueKit
public import Idealize.ShloMosaic.Lib.Pointwise
public import Idealize.ShloMosaic.Lib.Claim

@[expose] public section

set_option maxRecDepth 65536
set_option maxHeartbeats 4000000

noncomputable section

/-! One trip of the definition's scan, entry by entry: the recurrence's step. -/

namespace Cert.ReferenceIdeal.Hand

open Cert.ReferenceIdeal Cert.ReferenceIdeal.Value Idealize.ShloMosaic Idealize.ShloMosaic.TcCoe Idealize.SL.Sem Cert.Hand

variable (V0 : Valuation τ sig (Elt Ideal))

/-- The chunk's operands, read from the carried buffers. -/
def cb (h : Fin 8) (i : Fin 64) : EReal := res_main_while0b_v117 V0 (Idealize.ShloMosaic.ix3 (0 : Fin 1) h i)
def cig (k : Fin 128) (h : Fin 8) (i : Fin 64) : EReal := V0 (Proc.devRef .tc main_v75_3) (Idealize.ShloMosaic.ix4 k (0 : Fin 1) h i)
def cm (h : Fin 8) : EReal := V0 (Proc.devRef .tc main_v75_9) (Idealize.ShloMosaic.ix2 (0 : Fin 1) h)
def cn (h : Fin 8) (d : Fin 128) : EReal := V0 (Proc.devRef .tc main_v75_8) (Idealize.ShloMosaic.ix3 (0 : Fin 1) h d)
def cC (h : Fin 8) (e : Fin 256) (d : Fin 128) : EReal := V0 (Proc.devRef .tc main_v75_7) (Idealize.ShloMosaic.ix4 (0 : Fin 1) h e d)
def cq (h : Fin 8) (i : Fin 64) (d : Fin 128) : EReal := res_main_while0b_v112 V0 (Idealize.ShloMosaic.ix4 (0 : Fin 1) h i d)
def ck (h : Fin 8) (i : Fin 64) (d : Fin 128) : EReal := res_main_while0b_v113 V0 (Idealize.ShloMosaic.ix4 (0 : Fin 1) h i d)
def cv (h : Fin 8) (i : Fin 64) (e : Fin 256) : EReal := res_main_while0b_v114 V0 (Idealize.ShloMosaic.ix4 (0 : Fin 1) h i e)

theorem inter_apply (h : Fin 8) (t : Fin 64) : res_main_while0b_v129 V0 (Idealize.ShloMosaic.ix3 (0 : Fin 1) h t) = (cb V0 h t + cm V0 h : EReal) := by
  unfold res_main_while0b_v129 cb cm
  generalize res_main_while0b_v117 V0 = b
  generalize V0 (Proc.devRef .tc main_v75_9) = x
  change S1x8.Idx → EReal at x
  change S1x8x64.Idx → EReal at b
  try simp only [id_eq]
  pointwise

theorem mt_apply (k : ℕ) (hk : k < 128) (hctr : V0 (Proc.devRef .tc main_v75_6) = fun _ => BitVec.ofNat 32 k)
    (hmask : ∀ t s : Fin 64, V0 (Proc.devRef .tc main_v75_5) (Idealize.ShloMosaic.ix2 t s) = if s.val ≤ t.val then 1#1 else 0#1)
    (h : Fin 8) (t : Fin 64) : res_main_while0b_v131 V0 (Idealize.ShloMosaic.ix3 (0 : Fin 1) h t) = Mlstm.mt (cb V0 h) (cig V0 ⟨k, hk⟩ h) (cm V0 h) t := by
  unfold res_main_while0b_v131 Mlstm.mt
  have hi := inter_apply V0 h t
  have hl := fun s => logD_apply V0 k hk hctr hmask h t s
  generalize res_main_while0b_v129 V0 = I at hi
  generalize res_main_while0b_v126 V0 = L at hl
  change S1x8x64x64.Idx → EReal at L
  change S1x8x64.Idx → EReal at I
  refine congrArg₂ (max : EReal → EReal → EReal) ?_ hi
  refine Eq.trans (b := Finset.fold max (Ideal.ofBits FTy.f32 4286578688#32) L {i | Gen.reducesTo_S1x8x64x64_S1x8x64_d3.drop i = Idealize.ShloMosaic.ix3 (0 : Fin 1) h t}) (by pointwise; exact max_last L _ h t) ?_
  rw [max_last]
  refine Finset.fold_congr fun s _ => ?_
  exact hl s

theorem dm_apply (k : ℕ) (hk : k < 128) (hctr : V0 (Proc.devRef .tc main_v75_6) = fun _ => BitVec.ofNat 32 k)
    (hmask : ∀ t s : Fin 64, V0 (Proc.devRef .tc main_v75_5) (Idealize.ShloMosaic.ix2 t s) = if s.val ≤ t.val then 1#1 else 0#1)
    (h : Fin 8) (t s : Fin 64) : res_main_while0b_v135 V0 (Idealize.ShloMosaic.ix4 (0 : Fin 1) h t s) = Mlstm.dm (cb V0 h) (cig V0 ⟨k, hk⟩ h) (cm V0 h) t s := by
  unfold res_main_while0b_v135 Mlstm.dm
  have hi := mt_apply V0 k hk hctr hmask h t
  have hl := fun s => logD_apply V0 k hk hctr hmask h t s
  generalize res_main_while0b_v131 V0 = I at hi
  generalize res_main_while0b_v126 V0 = L at hl
  change S1x8x64x64.Idx → EReal at L
  change S1x8x64.Idx → EReal at I
  try simp only [id_eq]
  pointwise
  rw [hi, hl]
  rfl

theorem sc_apply (k : ℕ) (hk : k < 128) (hctr : V0 (Proc.devRef .tc main_v75_6) = fun _ => BitVec.ofNat 32 k)
    (hmask : ∀ t s : Fin 64, V0 (Proc.devRef .tc main_v75_5) (Idealize.ShloMosaic.ix2 t s) = if s.val ≤ t.val then 1#1 else 0#1)
    (h : Fin 8) (t : Fin 64) : res_main_while0b_v137 V0 (Idealize.ShloMosaic.ix3 (0 : Fin 1) h t) = Mlstm.sc (cb V0 h) (cig V0 ⟨k, hk⟩ h) (cm V0 h) t := by
  unfold res_main_while0b_v137 Mlstm.sc
  have hi := mt_apply V0 k hk hctr hmask h t
  have hl := inter_apply V0 h t
  generalize res_main_while0b_v131 V0 = I at hi
  generalize res_main_while0b_v129 V0 = L at hl
  change S1x8x64.Idx → EReal at L
  change S1x8x64.Idx → EReal at I
  try simp only [id_eq]
  pointwise
  rw [hi, hl]

theorem sS_apply (k : ℕ) (hk : k < 128) (hctr : V0 (Proc.devRef .tc main_v75_6) = fun _ => BitVec.ofNat 32 k)
    (hmask : ∀ t s : Fin 64, V0 (Proc.devRef .tc main_v75_5) (Idealize.ShloMosaic.ix2 t s) = if s.val ≤ t.val then 1#1 else 0#1)
    (h : Fin 8) (t s : Fin 64) : res_main_while0b_v139 V0 (Idealize.ShloMosaic.ix4 (0 : Fin 1) h t s) = Mlstm.sS (cb V0 h) (cig V0 ⟨k, hk⟩ h) (cm V0 h) (cq V0 h) (ck V0 h) t s := by
  unfold res_main_while0b_v139 Mlstm.sS cq ck
  have hi := dm_apply V0 k hk hctr hmask h t s
  generalize res_main_while0b_v135 V0 = D at hi
  generalize res_main_while0b_v112 V0 = Q
  generalize res_main_while0b_v113 V0 = K
  change S1x8x64x64.Idx → EReal at D
  change S1x8x64x128.Idx → EReal at Q
  change S1x8x64x128.Idx → EReal at K
  try simp only [id_eq]
  pointwise
  rw [hi]

theorem m_step (k : ℕ) (hk : k < 128) (hctr : V0 (Proc.devRef .tc main_v75_6) = fun _ => BitVec.ofNat 32 k)
    (hmask : ∀ t s : Fin 64, V0 (Proc.devRef .tc main_v75_5) (Idealize.ShloMosaic.ix2 t s) = if s.val ≤ t.val then 1#1 else 0#1)
    (h : Fin 8) : STEP V0 (Proc.devRef .tc main_v75_9) (Idealize.ShloMosaic.ix2 (0 : Fin 1) h) = Mlstm.mt (cb V0 h) (cig V0 ⟨k, hk⟩ h) (cm V0 h) 63 := by
  rw [STEP_main_v75_9]
  unfold step_main_v75_9
  have hi := mt_apply V0 k hk hctr hmask h 63
  generalize res_main_while0b_v131 V0 = I at hi
  change S1x8x64.Idx → EReal at I
  try simp only [id_eq]
  pointwise
  exact hi

theorem n_step (k : ℕ) (hk : k < 128) (hctr : V0 (Proc.devRef .tc main_v75_6) = fun _ => BitVec.ofNat 32 k)
    (hmask : ∀ t s : Fin 64, V0 (Proc.devRef .tc main_v75_5) (Idealize.ShloMosaic.ix2 t s) = if s.val ≤ t.val then 1#1 else 0#1)
    (h : Fin 8) (d : Fin 128) : STEP V0 (Proc.devRef .tc main_v75_8) (Idealize.ShloMosaic.ix3 (0 : Fin 1) h d) = Mlstm.newN (cb V0 h) (cig V0 ⟨k, hk⟩ h) (cm V0 h) (ck V0 h) (cn V0 h) d := by
  rw [STEP_main_v75_8]
  unfold step_main_v75_8 res_main_while0b_v160 res_main_while0b_v158 Mlstm.newN cn ck
  have hs := sc_apply V0 k hk hctr hmask h 63
  have hd := fun s => dm_apply V0 k hk hctr hmask h 63 s
  generalize res_main_while0b_v137 V0 = S at hs
  generalize res_main_while0b_v135 V0 = D at hd
  generalize res_main_while0b_v113 V0 = K
  generalize V0 (Proc.devRef .tc main_v75_8) = N
  change S1x8x64.Idx → EReal at S
  change S1x8x64x64.Idx → EReal at D
  change S1x8x64x128.Idx → EReal at K
  change S1x8x128.Idx → EReal at N
  try simp only [id_eq]
  pointwise
  rw [← hs]
  simp only [← hd]

theorem C_step (k : ℕ) (hk : k < 128) (hctr : V0 (Proc.devRef .tc main_v75_6) = fun _ => BitVec.ofNat 32 k)
    (hmask : ∀ t s : Fin 64, V0 (Proc.devRef .tc main_v75_5) (Idealize.ShloMosaic.ix2 t s) = if s.val ≤ t.val then 1#1 else 0#1)
    (h : Fin 8) (e : Fin 256) (d : Fin 128) : STEP V0 (Proc.devRef .tc main_v75_7) (Idealize.ShloMosaic.ix4 (0 : Fin 1) h e d) = Mlstm.newC (cb V0 h) (cig V0 ⟨k, hk⟩ h) (cm V0 h) (ck V0 h) (cv V0 h) (cC V0 h) e d := by
  rw [STEP_main_v75_7]
  unfold step_main_v75_7 res_main_while0b_v160 res_main_while0b_v158 Mlstm.newC cC ck cv
  have hs := sc_apply V0 k hk hctr hmask h 63
  have hd := fun s => dm_apply V0 k hk hctr hmask h 63 s
  generalize res_main_while0b_v137 V0 = S at hs
  generalize res_main_while0b_v135 V0 = D at hd
  generalize res_main_while0b_v113 V0 = K
  generalize res_main_while0b_v114 V0 = W
  generalize V0 (Proc.devRef .tc main_v75_7) = N
  change S1x8x64.Idx → EReal at S
  change S1x8x64x64.Idx → EReal at D
  change S1x8x64x128.Idx → EReal at K
  change S1x8x64x256.Idx → EReal at W
  change S1x8x256x128.Idx → EReal at N
  try simp only [id_eq]
  pointwise
  rw [← hs]
  simp only [← hd]
  refine congrArg₂ (HAdd.hAdd : EReal → EReal → EReal) rfl (Finset.sum_congr rfl fun s _ => ?_)
  exact congrArg₂ (HMul.hMul : EReal → EReal → EReal) rfl (mul_comm _ _)

end Cert.ReferenceIdeal.Hand

end
-- ==== Proof.MlstmRefIter.lean ====
module

public import proofs.«01_k».proof.Proof.Gen.ReferenceIdeal.Run
public import proofs.«01_k».proof.Proof.MlstmSpec
public import proofs.«01_k».proof.Proof.MlstmRefChunk
public import proofs.«01_k».proof.Proof.MlstmRefOps
public import Idealize.ShloMosaic.Lib.Pipeline.ValueKit
public import Idealize.ShloMosaic.Lib.Pointwise
public import Idealize.ShloMosaic.Lib.Claim

@[expose] public section

set_option maxRecDepth 65536
set_option maxHeartbeats 4000000

noncomputable section

/-! One trip of the definition's scan, entry by entry: the recurrence's step. -/

namespace Cert.ReferenceIdeal.Hand

open Cert.ReferenceIdeal Cert.ReferenceIdeal.Value Idealize.ShloMosaic Idealize.ShloMosaic.TcCoe Idealize.SL.Sem Cert.Hand

/-- What the carried buffers hold before the first chunk. -/
structure Entry (a : Mlstm.Args) (V : Valuation τ sig (Elt Ideal)) : Prop where
  q : ∀ t h i d, V (Proc.devRef .tc main_v75_0) (Idealize.ShloMosaic.ix5 t (0 : Fin 1) h i d) = Mlstm.qf a t h i d
  k : ∀ t h i d, V (Proc.devRef .tc main_v75_1) (Idealize.ShloMosaic.ix5 t (0 : Fin 1) h i d) = Mlstm.kf a t h i d
  v : ∀ t h i e, V (Proc.devRef .tc main_v75_2) (Idealize.ShloMosaic.ix5 t (0 : Fin 1) h i e) = Mlstm.vf a t h i e
  ig : ∀ t h i, V (Proc.devRef .tc main_v75_3) (Idealize.ShloMosaic.ix4 t (0 : Fin 1) h i) = Mlstm.igf a t h i
  lf : ∀ t h i, V (Proc.devRef .tc main_v75_4) (Idealize.ShloMosaic.ix4 t (0 : Fin 1) h i) = Mlstm.lff a t h i
  mask : ∀ t s : Fin 64, V (Proc.devRef .tc main_v75_5) (Idealize.ShloMosaic.ix2 t s) = if s.val ≤ t.val then 1#1 else 0#1
  ctr : V (Proc.devRef .tc main_v75_6) = fun _ => 0#32
  c : ∀ h e d, V (Proc.devRef .tc main_v75_7) (Idealize.ShloMosaic.ix4 (0 : Fin 1) h e d) = a.c0 (Idealize.ShloMosaic.ix4 (0 : Fin 1) h e d)
  n : ∀ h d, V (Proc.devRef .tc main_v75_8) (Idealize.ShloMosaic.ix3 (0 : Fin 1) h d) = a.n0 (Idealize.ShloMosaic.ix3 (0 : Fin 1) h d)
  m : ∀ h, V (Proc.devRef .tc main_v75_9) (Idealize.ShloMosaic.ix2 (0 : Fin 1) h) = a.m0 (Idealize.ShloMosaic.ix2 (0 : Fin 1) h)

/-- What they hold after `k` chunks. -/
structure At (a : Mlstm.Args) (V W : Valuation τ sig (Elt Ideal)) (k : ℕ) : Prop where
  e0 : W (Proc.devRef .tc main_v75_0) = V (Proc.devRef .tc main_v75_0)
  e1 : W (Proc.devRef .tc main_v75_1) = V (Proc.devRef .tc main_v75_1)
  e2 : W (Proc.devRef .tc main_v75_2) = V (Proc.devRef .tc main_v75_2)
  e3 : W (Proc.devRef .tc main_v75_3) = V (Proc.devRef .tc main_v75_3)
  e4 : W (Proc.devRef .tc main_v75_4) = V (Proc.devRef .tc main_v75_4)
  e5 : W (Proc.devRef .tc main_v75_5) = V (Proc.devRef .tc main_v75_5)
  ctr : W (Proc.devRef .tc main_v75_6) = fun _ => BitVec.ofNat 32 k
  c : ∀ h, cC W h = Mlstm.stC a h k
  n : ∀ h, cn W h = Mlstm.stN a h k
  m : ∀ h, cm W h = Mlstm.stM a h k

variable {a : Mlstm.Args} {V W : Valuation τ sig (Elt Ideal)} {k : ℕ}

theorem At.mask (A : At a V W k) (E : Entry a V) (t s : Fin 64) :
    W (Proc.devRef .tc main_v75_5) (Idealize.ShloMosaic.ix2 t s) = if s.val ≤ t.val then 1#1 else 0#1 := by
  rw [A.e5]; exact E.mask t s

theorem At.ck_eq (A : At a V W k) (E : Entry a V) (hk : k < 128) (h : Fin 8) : ck W h = Mlstm.kf a ⟨k, hk⟩ h := by
  funext i d
  exact (k_apply W k hk A.ctr h i d).trans ((congrFun A.e1 _).trans (E.k _ h i d))

theorem At.cq_eq (A : At a V W k) (E : Entry a V) (hk : k < 128) (h : Fin 8) : cq W h = Mlstm.qf a ⟨k, hk⟩ h := by
  funext i d
  exact (q_apply W k hk A.ctr h i d).trans ((congrFun A.e0 _).trans (E.q _ h i d))

theorem At.cv_eq (A : At a V W k) (E : Entry a V) (hk : k < 128) (h : Fin 8) : cv W h = Mlstm.vf a ⟨k, hk⟩ h := by
  funext i d
  exact (v_apply W k hk A.ctr h i d).trans ((congrFun A.e2 _).trans (E.v _ h i d))

theorem At.cig_eq (A : At a V W k) (E : Entry a V) (hk : k < 128) (h : Fin 8) : cig W ⟨k, hk⟩ h = Mlstm.igf a ⟨k, hk⟩ h := by
  funext i
  exact (congrFun A.e3 _).trans (E.ig _ h i)

theorem At.cb_eq (A : At a V W k) (E : Entry a V) (hk : k < 128) (h : Fin 8) : cb W h = Mlstm.bf a ⟨k, hk⟩ h := by
  funext i
  refine (b_apply W k hk A.ctr h i).trans (Finset.sum_congr (M := EReal) rfl fun s _ => ?_)
  exact congrArg (fun x : EReal => if s.val ≤ i.val then x else 0) ((congrFun A.e4 _).trans (E.lf _ h s))

theorem At.step (A : At a V W k) (E : Entry a V) (hk : k < 128) : At a V (STEP W) (k + 1) where
  e0 := (STEP_main_v75_0 W).trans A.e0
  e1 := (STEP_main_v75_1 W).trans A.e1
  e2 := (STEP_main_v75_2 W).trans A.e2
  e3 := (STEP_main_v75_3 W).trans A.e3
  e4 := (STEP_main_v75_4 W).trans A.e4
  e5 := (STEP_main_v75_5 W).trans A.e5
  ctr := by
    rw [STEP_main_v75_6]
    unfold step_main_v75_6
    rw [A.ctr]
    funext i
    exact (BitVec.ofNat_add k 1).symm
  c h := by
    funext e d
    refine (C_step W k hk A.ctr (A.mask E) h e d).trans ?_
    rw [A.cb_eq E hk, A.cig_eq E hk, A.m, A.ck_eq E hk, A.cv_eq E hk, A.c]
    exact (congrFun (congrFun (Mlstm.stC_succ a h ⟨k, hk⟩) e) d).symm
  n h := by
    funext d
    refine (n_step W k hk A.ctr (A.mask E) h d).trans ?_
    rw [A.cb_eq E hk, A.cig_eq E hk, A.m, A.ck_eq E hk, A.n]
    exact (congrFun (Mlstm.stN_succ a h ⟨k, hk⟩) d).symm
  m h := by
    refine (m_step W k hk A.ctr (A.mask E) h).trans ?_
    rw [A.cb_eq E hk, A.cig_eq E hk, A.m]
    exact (Mlstm.stM_succ a h ⟨k, hk⟩).symm

theorem at_iter (E : Entry a V) : ∀ k, k ≤ 128 → At a V (STEP^[k] V) k
  | 0, _ => ⟨rfl, rfl, rfl, rfl, rfl, rfl, E.ctr, fun h => funext fun e => funext fun d => E.c h e d, fun h => funext fun d => E.n h d, fun h => E.m h⟩
  | k + 1, hk => by
    rw [Function.iterate_succ_apply']
    exact (at_iter E k (by omega)).step E (by omega)

end Cert.ReferenceIdeal.Hand

end
-- ==== Proof.MlstmRefEntry.lean ====
module

public import proofs.«01_k».proof.Proof.Gen.ReferenceIdeal.Run
public import proofs.«01_k».proof.Proof.MlstmSpec
public import proofs.«01_k».proof.Proof.MlstmRefIter
public import proofs.«01_k».proof.Proof.MlstmRefOps
public import Idealize.ShloMosaic.Lib.Pipeline.ValueKit
public import Idealize.ShloMosaic.Lib.Pointwise
public import Idealize.ShloMosaic.Lib.Claim

@[expose] public section

set_option maxRecDepth 65536
set_option maxHeartbeats 4000000

noncomputable section

/-! One trip of the definition's scan, entry by entry: the recurrence's step. -/

namespace Cert.ReferenceIdeal.Hand

open Cert.ReferenceIdeal Cert.ReferenceIdeal.Value Idealize.ShloMosaic Idealize.ShloMosaic.TcCoe Idealize.SL.Sem Cert.Hand

open Cert.ReferenceIdeal.Gen Idealize.ShloMosaic.StableHlo

variable (m : (ℓ : Loc nD τ sig) → Buf (Elt Ideal) ℓ) (c : Dev nD)

/-- The arguments, read from the memory. -/
def margs : Mlstm.Args where
  p := m ((c.tc : Thread nD τ).loc main_arg0)
  conv0 := m ((c.tc : Thread nD τ).loc main_arg1)
  c0 := m ((c.tc : Thread nD τ).loc main_arg2)
  n0 := m ((c.tc : Thread nD τ).loc main_arg3)
  m0 := m ((c.tc : Thread nD τ).loc main_arg4)
  w := m ((c.tc : Thread nD τ).loc main_arg5)
  cb := m ((c.tc : Thread nD τ).loc main_arg6)
  bg := m ((c.tc : Thread nD τ).loc main_arg7)
  hn := m ((c.tc : Thread nD τ).loc main_arg8)

theorem upto_arg1 (V : Valuation τ sig (Elt Ideal)) : upto hostOps0 V 5 (Proc.devRef .tc main_arg1) = V (Proc.devRef .tc main_arg1) :=
  upto_unwritten [main_v0, main_v1, main_v2, main_v3, main_v4] rfl (by decide) V

theorem upto_v2 (j : Fin 2048) (i : Fin 8192) :
    upto hostOps0 (launchContents m c) 5 (Proc.devRef .tc main_v2) (Idealize.ShloMosaic.ix3 (0 : Fin 1) i j)
      = (margs m c).p (Idealize.ShloMosaic.ix2 (⟨i.val, by omega⟩ : Fin 8320) (⟨j.val, by omega⟩ : Fin 6160)) := by
  simp only [upto, hostOps0, List.take_succ_cons, List.take_zero]
  after_reads_simp
  pointwise
  rfl

theorem row (r : ℕ) (hr : r < 8195) (j j' : Fin 2048) (hj : j = j') (r' : Fin 8195) (hr' : r'.val = r) :
    (if h : r < 3 then upto hostOps0 (launchContents m c) 5 (Proc.devRef .tc main_arg1) (Idealize.ShloMosaic.ix3 (0 : Fin 1) (⟨r, h⟩ : Fin 3) j)
      else upto hostOps0 (launchContents m c) 5 (Proc.devRef .tc main_v2) (Idealize.ShloMosaic.ix3 (0 : Fin 1) (⟨r - 3, by omega⟩ : Fin 8192) j) : EReal)
      = Mlstm.up (margs m c) r' j' := by
  subst hj hr'
  unfold Mlstm.up
  split
  · rw [upto_arg1]; rfl
  · exact upto_v2 m c _ _

theorem row3 (r : ℕ) (hr : r < 8192) (j j' : Fin 2048) (hj : j = j') (r' : Fin 8195) (hr' : r'.val = r + 3) :
    (upto hostOps0 (launchContents m c) 5 (Proc.devRef .tc main_v2) (Idealize.ShloMosaic.ix3 (0 : Fin 1) (⟨r, hr⟩ : Fin 8192) j) : EReal)
      = Mlstm.up (margs m c) r' j' := by
  subst hj
  rw [upto_v2]
  unfold Mlstm.up
  rw [dif_neg (by omega)]
  exact congrArg _ (congrArg₂ Idealize.ShloMosaic.ix2 (Fin.ext (by dsimp only; omega)) rfl)

theorem entry_q (t : Fin 128) (h : Fin 8) (i : Fin 64) (d : Fin 128) :
    entryContents preI m c (Proc.devRef .tc main_v75_0) (Idealize.ShloMosaic.ix5 t (0 : Fin 1) h i d) = Mlstm.qf (margs m c) t h i d := by
  simp only [entryContents, afterL_cons, afterL_nil]
  after_reads_simp
  try simp -implicitDefEqProofs only [id_eq, TRef.toBuf, TRef.ofBuf, cast_cast, cast_eq]
  pointwise
  refine congrArg₂ (HMul.hMul : EReal → EReal → EReal) (Mlstm.silu_of ((Mlstm.add5 _ _ _ _ _).trans ?_)) rfl
  have hj : (⟨h.val * 128 + d.val, by omega⟩ : Fin 2048) = ⟨128 * h.val + d.val, by omega⟩ := Fin.ext (by dsimp only; omega)
  refine congrArg₂ (HAdd.hAdd : EReal → EReal → EReal) (congrArg₂ (HAdd.hAdd : EReal → EReal → EReal) (congrArg₂ (HAdd.hAdd : EReal → EReal → EReal) (congrArg₂ (HAdd.hAdd : EReal → EReal → EReal) ?_ ?_) ?_) ?_) ?_
  · exact congrArg _ (congrArg Idealize.ShloMosaic.ix1 hj)
  · exact congrArg₂ (HMul.hMul : EReal → EReal → EReal) (row m c _ (by omega) _ _ hj _ (by dsimp only; omega)) (congrArg _ (congrArg₂ Idealize.ShloMosaic.ix2 rfl hj))
  · exact congrArg₂ (HMul.hMul : EReal → EReal → EReal) (row m c _ (by omega) _ _ hj _ (by dsimp only; omega)) (congrArg _ (congrArg₂ Idealize.ShloMosaic.ix2 rfl hj))
  · exact congrArg₂ (HMul.hMul : EReal → EReal → EReal) (row m c _ (by omega) _ _ hj _ (by dsimp only; omega)) (congrArg _ (congrArg₂ Idealize.ShloMosaic.ix2 rfl hj))
  · exact congrArg₂ (HMul.hMul : EReal → EReal → EReal) (row3 m c _ (by omega) _ _ hj _ (by dsimp only; omega)) (congrArg _ (congrArg₂ Idealize.ShloMosaic.ix2 rfl hj))

theorem entry_k (t : Fin 128) (h : Fin 8) (i : Fin 64) (d : Fin 128) :
    entryContents preI m c (Proc.devRef .tc main_v75_1) (Idealize.ShloMosaic.ix5 t (0 : Fin 1) h i d) = Mlstm.kf (margs m c) t h i d := by
  simp only [entryContents, afterL_cons, afterL_nil]
  after_reads_simp
  try simp -implicitDefEqProofs only [id_eq, TRef.toBuf, TRef.ofBuf, cast_cast, cast_eq]
  pointwise
  refine Mlstm.silu_of ((Mlstm.add5 _ _ _ _ _).trans ?_)
  have hj : (⟨(8 + h.val) * 128 + d.val, by omega⟩ : Fin 2048) = ⟨1024 + 128 * h.val + d.val, by omega⟩ := Fin.ext (by dsimp only; omega)
  refine congrArg₂ (HAdd.hAdd : EReal → EReal → EReal) (congrArg₂ (HAdd.hAdd : EReal → EReal → EReal) (congrArg₂ (HAdd.hAdd : EReal → EReal → EReal) (congrArg₂ (HAdd.hAdd : EReal → EReal → EReal) ?_ ?_) ?_) ?_) ?_
  · exact congrArg _ (congrArg Idealize.ShloMosaic.ix1 hj)
  · exact congrArg₂ (HMul.hMul : EReal → EReal → EReal) (row m c _ (by omega) _ _ hj _ (by dsimp only; omega)) (congrArg _ (congrArg₂ Idealize.ShloMosaic.ix2 rfl hj))
  · exact congrArg₂ (HMul.hMul : EReal → EReal → EReal) (row m c _ (by omega) _ _ hj _ (by dsimp only; omega)) (congrArg _ (congrArg₂ Idealize.ShloMosaic.ix2 rfl hj))
  · exact congrArg₂ (HMul.hMul : EReal → EReal → EReal) (row m c _ (by omega) _ _ hj _ (by dsimp only; omega)) (congrArg _ (congrArg₂ Idealize.ShloMosaic.ix2 rfl hj))
  · exact congrArg₂ (HMul.hMul : EReal → EReal → EReal) (row3 m c _ (by omega) _ _ hj _ (by dsimp only; omega)) (congrArg _ (congrArg₂ Idealize.ShloMosaic.ix2 rfl hj))

theorem entry_v (t : Fin 128) (h : Fin 8) (i : Fin 64) (d : Fin 256) :
    entryContents preI m c (Proc.devRef .tc main_v75_2) (Idealize.ShloMosaic.ix5 t (0 : Fin 1) h i d) = Mlstm.vf (margs m c) t h i d := by
  simp only [entryContents, afterL_cons, afterL_nil]
  after_reads_simp
  try simp -implicitDefEqProofs only [id_eq, TRef.toBuf, TRef.ofBuf, cast_cast, cast_eq]
  pointwise
  exact congrArg _ (congrArg₂ Idealize.ShloMosaic.ix2 (Fin.ext (by dsimp only; omega)) (Fin.ext (by dsimp only; omega)))

theorem entry_ig (t : Fin 128) (h : Fin 8) (i : Fin 64) :
    entryContents preI m c (Proc.devRef .tc main_v75_3) (Idealize.ShloMosaic.ix4 t (0 : Fin 1) h i) = Mlstm.igf (margs m c) t h i := by
  simp only [entryContents, afterL_cons, afterL_nil]
  after_reads_simp
  try simp -implicitDefEqProofs only [id_eq, TRef.toBuf, TRef.ofBuf, cast_cast, cast_eq]
  pointwise
  exact congrArg₂ (HAdd.hAdd : EReal → EReal → EReal) (congrArg _ (congrArg₂ Idealize.ShloMosaic.ix2 (Fin.ext (by dsimp only; omega)) rfl)) rfl

theorem entry_lf (t : Fin 128) (h : Fin 8) (i : Fin 64) :
    entryContents preI m c (Proc.devRef .tc main_v75_4) (Idealize.ShloMosaic.ix4 t (0 : Fin 1) h i) = Mlstm.lff (margs m c) t h i := by
  simp only [entryContents, afterL_cons, afterL_nil]
  after_reads_simp
  try simp -implicitDefEqProofs only [id_eq, TRef.toBuf, TRef.ofBuf, cast_cast, cast_eq]
  pointwise
  rw [if_neg (fun hh => hh rfl)]
  refine (Mlstm.lsg_neg _).trans ?_
  refine congrArg Mlstm.lsg ?_
  exact congrArg₂ (HAdd.hAdd : EReal → EReal → EReal) (congrArg _ (congrArg₂ Idealize.ShloMosaic.ix2 (Fin.ext (by dsimp only; omega)) (Fin.ext (by dsimp only; omega)))) rfl

theorem entry_mask (t s : Fin 64) :
    entryContents preI m c (Proc.devRef .tc main_v75_5) (Idealize.ShloMosaic.ix2 t s) = if s.val ≤ t.val then 1#1 else 0#1 := by
  simp only [entryContents, afterL_cons, afterL_nil]
  after_reads_simp
  try simp -implicitDefEqProofs only [id_eq, TRef.toBuf, TRef.ofBuf, cast_cast, cast_eq]
  pointwise
  revert t s
  decide +kernel

theorem entry_c (h : Fin 8) (e : Fin 256) (d : Fin 128) :
    entryContents preI m c (Proc.devRef .tc main_v75_7) (Idealize.ShloMosaic.ix4 (0 : Fin 1) h e d) = (margs m c).c0 (Idealize.ShloMosaic.ix4 (0 : Fin 1) h e d) := by
  simp only [entryContents, afterL_cons, afterL_nil]
  after_reads_simp
  try simp -implicitDefEqProofs only [id_eq, TRef.toBuf, TRef.ofBuf, cast_cast, cast_eq]
  pointwise
  rfl

theorem entry_n (h : Fin 8) (d : Fin 128) :
    entryContents preI m c (Proc.devRef .tc main_v75_8) (Idealize.ShloMosaic.ix3 (0 : Fin 1) h d) = (margs m c).n0 (Idealize.ShloMosaic.ix3 (0 : Fin 1) h d) := by
  simp only [entryContents, afterL_cons, afterL_nil]
  after_reads_simp
  try simp -implicitDefEqProofs only [id_eq, TRef.toBuf, TRef.ofBuf, cast_cast, cast_eq]
  pointwise
  rfl

theorem entry_m (h : Fin 8) :
    entryContents preI m c (Proc.devRef .tc main_v75_9) (Idealize.ShloMosaic.ix2 (0 : Fin 1) h) = (margs m c).m0 (Idealize.ShloMosaic.ix2 (0 : Fin 1) h) := by
  simp only [entryContents, afterL_cons, afterL_nil]
  after_reads_simp
  try simp -implicitDefEqProofs only [id_eq, TRef.toBuf, TRef.ofBuf, cast_cast, cast_eq]
  pointwise
  rfl

theorem entry : Entry (margs m c) (entryContents preI m c) where
  q := entry_q m c
  k := entry_k m c
  v := entry_v m c
  ig := entry_ig m c
  lf := entry_lf m c
  mask := entry_mask m c
  ctr := ctr_entry m c
  c := entry_c m c
  n := entry_n m c
  m := entry_m m c

end Cert.ReferenceIdeal.Hand

end
-- ==== Proof.MlstmRefHc.lean ====
module

public import proofs.«01_k».proof.Proof.MlstmRefEntry
public import proofs.«01_k».proof.Proof.MlstmRes

@[expose] public section

set_option maxRecDepth 65536
set_option maxHeartbeats 4000000

noncomputable section

/-! The outputs of the definition's scan. -/

namespace Cert.ReferenceIdeal.Hand

open Cert.ReferenceIdeal Cert.ReferenceIdeal.Value Idealize.ShloMosaic Idealize.ShloMosaic.TcCoe Idealize.SL.Sem Cert.Hand

variable (V0 : Valuation τ sig (Elt Ideal))

theorem upd5 (x : (⟨5, ![128, 1, 8, 64, 256]⟩ : Shape).Idx → EReal) (u : (⟨5, ![1, 1, 8, 64, 256]⟩ : Shape).Idx → EReal) (start : Fin 5 → ℤ) (k : ℕ) (hk : k < 128)
    (h0 : start 0 = (k : ℤ)) (h1 : start 1 = 0) (h2 : start 2 = 0) (h3 : start 3 = 0) (h4 : start 4 = 0) (hf) (t : Fin 128) (h : Fin 8) (i : Fin 64) (d : Fin 256) :
    Host.dynamicUpdateSlice x u start hf (Idealize.ShloMosaic.ix5 t (0 : Fin 1) h i d)
      = if t.val = k then u (Idealize.ShloMosaic.ix5 (0 : Fin 1) (0 : Fin 1) h i d) else x (Idealize.ShloMosaic.ix5 t (0 : Fin 1) h i d) := by
  rw [Host.dynamicUpdateSlice_apply]
  have c0 := Host.clampedStart_of_le (s := ⟨5, ![128, 1, 8, 64, 256]⟩) (t := ⟨5, ![1, 1, 8, 64, 256]⟩) rfl start 0 k h0 (show k + 1 ≤ 128 by omega)
  have c1 := Host.clampedStart_of_le (s := ⟨5, ![128, 1, 8, 64, 256]⟩) (t := ⟨5, ![1, 1, 8, 64, 256]⟩) rfl start 1 0 h1 (show 0 + 1 ≤ 1 by omega)
  have c2 := Host.clampedStart_of_le (s := ⟨5, ![128, 1, 8, 64, 256]⟩) (t := ⟨5, ![1, 1, 8, 64, 256]⟩) rfl start 2 0 h2 (show 0 + 8 ≤ 8 by omega)
  have c3 := Host.clampedStart_of_le (s := ⟨5, ![128, 1, 8, 64, 256]⟩) (t := ⟨5, ![1, 1, 8, 64, 256]⟩) rfl start 3 0 h3 (show 0 + 64 ≤ 64 by omega)
  have c4 := Host.clampedStart_of_le (s := ⟨5, ![128, 1, 8, 64, 256]⟩) (t := ⟨5, ![1, 1, 8, 64, 256]⟩) rfl start 4 0 h4 (show 0 + 256 ≤ 256 by omega)
  by_cases ht : t.val = k
  · rw [if_pos ht, dif_pos (fun a => match a with
      | ⟨0, _⟩ => ⟨le_of_eq_of_le c0 (show k ≤ t.val by omega), lt_of_lt_of_eq (show t.val < k + 1 by omega) (congrArg (· + 1) c0.symm)⟩
      | ⟨1, _⟩ => ⟨le_of_eq_of_le c1 (show 0 ≤ 0 by omega), lt_of_lt_of_eq (show 0 < 0 + 1 by omega) (congrArg (· + 1) c1.symm)⟩
      | ⟨2, _⟩ => ⟨le_of_eq_of_le c2 (show 0 ≤ h.val by omega), lt_of_lt_of_eq (show h.val < 0 + 8 by omega) (congrArg (· + 8) c2.symm)⟩
      | ⟨3, _⟩ => ⟨le_of_eq_of_le c3 (show 0 ≤ i.val by omega), lt_of_lt_of_eq (show i.val < 0 + 64 by omega) (congrArg (· + 64) c3.symm)⟩
      | ⟨4, _⟩ => ⟨le_of_eq_of_le c4 (show 0 ≤ d.val by omega), lt_of_lt_of_eq (show d.val < 0 + 256 by omega) (congrArg (· + 256) c4.symm)⟩)]
    refine congrArg u (funext fun b => Fin.ext ?_)
    match b with
    | ⟨0, _⟩ => exact (congrArg (fun x : ℕ => (t.val : ℕ) - x) c0).trans (show (t.val : ℕ) - k = 0 by omega)
    | ⟨1, _⟩ => exact (congrArg (fun x : ℕ => (0 : ℕ) - x) c1).trans (show (0 : ℕ) - 0 = 0 by omega)
    | ⟨2, _⟩ => exact (congrArg (fun x : ℕ => (h.val : ℕ) - x) c2).trans (show (h.val : ℕ) - 0 = h.val by omega)
    | ⟨3, _⟩ => exact (congrArg (fun x : ℕ => (i.val : ℕ) - x) c3).trans (show (i.val : ℕ) - 0 = i.val by omega)
    | ⟨4, _⟩ => exact (congrArg (fun x : ℕ => (d.val : ℕ) - x) c4).trans (show (d.val : ℕ) - 0 = d.val by omega)
  · rw [if_neg ht, dif_neg]
    intro hin
    have h1 : k ≤ t.val := le_of_eq_of_le c0.symm (hin 0).1
    have h2 : t.val < k + 1 := lt_of_lt_of_eq (hin 0).2 (congrArg (· + 1) c0)
    omega

theorem hc_step (k : ℕ) (hk : k < 128) (hctr : V0 (Proc.devRef .tc main_v75_6) = fun _ => BitVec.ofNat 32 k)
    (hmask : ∀ t s : Fin 64, V0 (Proc.devRef .tc main_v75_5) (Idealize.ShloMosaic.ix2 t s) = if s.val ≤ t.val then 1#1 else 0#1)
    (t : Fin 128) (h : Fin 8) (i : Fin 64) (e : Fin 256) : STEP V0 (Proc.devRef .tc main_v75_10) (Idealize.ShloMosaic.ix5 t (0 : Fin 1) h i e)
      = if t.val = k then Mlstm.hc (cb V0 h) (cig V0 ⟨k, hk⟩ h) (cm V0 h) (cq V0 h) (ck V0 h) (cv V0 h) (cC V0 h) (cn V0 h) i e
        else V0 (Proc.devRef .tc main_v75_10) (Idealize.ShloMosaic.ix5 t (0 : Fin 1) h i e) := by
  rw [STEP_main_v75_10]
  unfold step_main_v75_10
  rw [id_eq]
  refine (upd5 _ _ _ k hk ?_ ?_ ?_ ?_ ?_ _ t h i e).trans ?_
  · show (V0 (Proc.devRef .tc main_v75_6) (Shape.Idx.first Gen.h_S_)).toInt = (k : ℤ)
    rw [hctr]; exact toInt_small k hk
  · rfl
  · rfl
  · rfl
  · rfl
  refine if_congr Iff.rfl ?_ rfl
  unfold Mlstm.hc Mlstm.num Mlstm.den
  have hS := fun s => sS_apply V0 k hk hctr hmask h i s
  have hs := sc_apply V0 k hk hctr hmask h i
  have hm := mt_apply V0 k hk hctr hmask h i
  unfold cv cC cn cq at *
  generalize res_main_while0b_v137 V0 = S at hs ⊢
  generalize res_main_while0b_v139 V0 = D at hS ⊢
  generalize res_main_while0b_v131 V0 = X at hm ⊢
  generalize res_main_while0b_v112 V0 = Q at hS ⊢
  generalize res_main_while0b_v114 V0 = W
  generalize V0 (Proc.devRef .tc main_v75_7) = C
  generalize V0 (Proc.devRef .tc main_v75_8) = N
  change S1x8x64.Idx → EReal at S X
  change S1x8x64x64.Idx → EReal at D
  change S1x8x64x128.Idx → EReal at Q
  change S1x8x64x256.Idx → EReal at W
  change S1x8x256x128.Idx → EReal at C
  change S1x8x128.Idx → EReal at N
  try simp only [id_eq]
  pointwise
  rw [← hs, ← hm]
  simp only [← hS]
  have hd : (S (Idealize.ShloMosaic.ix3 (0 : Fin 1) h i) * (∑ x : Fin 128, N (Idealize.ShloMosaic.ix3 (0 : Fin 1) h x) * Q (Idealize.ShloMosaic.ix4 (0 : Fin 1) h i x)) + ∑ x : Fin 64, D (Idealize.ShloMosaic.ix4 (0 : Fin 1) h i x) : EReal)
      = S (Idealize.ShloMosaic.ix3 (0 : Fin 1) h i) * (∑ x : Fin 128, Q (Idealize.ShloMosaic.ix4 (0 : Fin 1) h i x) * N (Idealize.ShloMosaic.ix3 (0 : Fin 1) h x)) + ∑ x : Fin 64, D (Idealize.ShloMosaic.ix4 (0 : Fin 1) h i x) :=
    congrArg₂ (HAdd.hAdd : EReal → EReal → EReal) (congrArg₂ (HMul.hMul : EReal → EReal → EReal) rfl (Finset.sum_congr (M := EReal) rfl fun x _ => mul_comm _ _)) rfl
  exact congrArg₂ Ideal.div rfl (congrArg₂ (max : EReal → EReal → EReal) (congrArg (fun x : EReal => max x (-x)) hd) (congrArg Ideal.exp (zero_sub _).symm))

variable {a : Mlstm.Args} {V W : Valuation τ sig (Elt Ideal)} {k : ℕ}

theorem At.hc (A : At a V W k) (E : Entry a V) (hk : k < 128) (t : Fin 128) (h : Fin 8) (i : Fin 64) (e : Fin 256) :
    STEP W (Proc.devRef .tc main_v75_10) (Idealize.ShloMosaic.ix5 t (0 : Fin 1) h i e)
      = if t.val = k then Mlstm.hcf a ⟨k, hk⟩ h i e else W (Proc.devRef .tc main_v75_10) (Idealize.ShloMosaic.ix5 t (0 : Fin 1) h i e) := by
  refine (hc_step W k hk A.ctr (A.mask E) t h i e).trans (if_congr Iff.rfl ?_ rfl)
  rw [A.cb_eq E hk, A.cig_eq E hk, A.m, A.cq_eq E hk, A.ck_eq E hk, A.cv_eq E hk, A.c, A.n]
  rfl

/-- The quotients after `k` chunks. -/
theorem hc_iter (E : Entry a V) : ∀ k, k ≤ 128 → ∀ (t : Fin 128), t.val < k → ∀ (h : Fin 8) (i : Fin 64) (e : Fin 256),
    (STEP^[k] V) (Proc.devRef .tc main_v75_10) (Idealize.ShloMosaic.ix5 t (0 : Fin 1) h i e) = Mlstm.hcf a t h i e
  | 0, _ => fun t ht => absurd ht (Nat.not_lt_zero _)
  | k + 1, hk => fun t ht h i e => by
    rw [Function.iterate_succ_apply']
    refine ((at_iter E k (by omega)).hc E (by omega) t h i e).trans ?_
    by_cases htk : t.val = k
    · rw [if_pos htk]
      exact congrArg (fun x => Mlstm.hcf a x h i e) (Fin.ext htk.symm)
    · rw [if_neg htk]
      exact hc_iter E k (by omega) t (by omega) h i e

end Cert.ReferenceIdeal.Hand

end
-- ==== Proof.MlstmRefOutA.lean ====
module

public import proofs.«01_k».proof.Proof.MlstmRefEntry
public import proofs.«01_k».proof.Proof.MlstmRes

@[expose] public section

set_option maxRecDepth 65536
set_option maxHeartbeats 4000000

noncomputable section

/-! The definition's running maxima and convolution rows, entry by entry. -/

namespace Cert.ReferenceIdeal.Hand

open Cert.ReferenceIdeal Cert.ReferenceIdeal.Value Idealize.ShloMosaic Idealize.ShloMosaic.TcCoe Idealize.SL.Sem Cert.Hand

theorem pad_zero : (FloatOps.sitofp (F := Ideal) FTy.f32 0#32 : EReal) = 0 := by
  show (((0#32 : BitVec 32).toInt : ℝ) : EReal) = 0
  norm_num

theorem size0 : (Proc.devRef (τ := τ) (sig := sig) .tc main_v75_9).ty.shape.size ⟨0, by decide⟩ = 1 := rfl

theorem size1 : (Proc.devRef (τ := τ) (sig := sig) .tc main_v75_9).ty.shape.size ⟨1, by decide⟩ = 8 := rfl

theorem out111 (V0 : Valuation τ sig (Elt Ideal)) (x : S1x8.Idx → EReal) (hx : V0 (Proc.devRef .tc main_v75_9) = x) (l : Fin 128) :
    (out_main_v111 V0 : S1x1x128.Idx → EReal) (Idealize.ShloMosaic.ix3 (0 : Fin 1) (0 : Fin 1) l) = if h : l.val < 8 then x (Idealize.ShloMosaic.ix2 (0 : Fin 1) (⟨l.val, h⟩ : Fin 8)) else 0 := by
  unfold out_main_v111
  rw [hx]
  pointwise
  by_cases h : l.val < 8
  · rw [dif_pos h, dif_pos]
    intro a
    match a with
    | ⟨0, _⟩ => exact ⟨Nat.zero_le _, rfl, lt_of_lt_of_eq (show (0 - 0) / (0 + 1) < 1 by decide) size0.symm⟩
    | ⟨1, _⟩ => exact ⟨Nat.zero_le _, Nat.mod_one _, lt_of_lt_of_eq (show (l.val - 0) / (0 + 1) < 8 by omega) size1.symm⟩
  · rw [dif_neg h, dif_neg]
    · exact pad_zero
    · intro ha
      have h1 := lt_of_lt_of_eq (ha ⟨1, by decide⟩).2.2 size1
      have h2 : (l.val - 0) / (0 + 1) < 8 := h1
      omega

theorem out83 (V0 : Valuation τ sig (Elt Ideal)) (p : S8320x6160.Idx → EReal) (u : S1x3x2048.Idx → EReal)
    (hp : V0 (Proc.devRef .tc main_arg0) = p) (hu : V0 (Proc.devRef .tc main_arg1) = u) (r : Fin 3) (j : Fin 2048) :
    (out_main_v83 V0 : S1x3x2048.Idx → EReal) (Idealize.ShloMosaic.ix3 (0 : Fin 1) r j) = p (Idealize.ShloMosaic.ix2 (⟨8189 + r.val, by omega⟩ : Fin 8320) (⟨j.val, by omega⟩ : Fin 6160)) := by
  unfold out_main_v83
  rw [hp, hu]
  pointwise
  rw [dif_neg (by omega)]
  exact congrArg p (congrArg₂ Idealize.ShloMosaic.ix2 (Fin.ext (by show 8192 + r.val - 3 = 8189 + r.val; omega)) rfl)

end Cert.ReferenceIdeal.Hand

end
-- ==== Proof.MlstmRefOutB.lean ====
module

public import proofs.«01_k».proof.Proof.MlstmRefEntry
public import proofs.«01_k».proof.Proof.MlstmRes

@[expose] public section

set_option maxRecDepth 65536
set_option maxHeartbeats 4000000

noncomputable section

/-! The definition's first result, entry by entry. -/

namespace Cert.ReferenceIdeal.Hand

open Cert.ReferenceIdeal Cert.ReferenceIdeal.Value Idealize.ShloMosaic Idealize.ShloMosaic.TcCoe Idealize.SL.Sem Cert.Hand

/-- A row's outputs from the quotients. -/
theorem out109 (V0 : Valuation τ sig (Elt Ideal)) (X : S128x1x8x64x256.Idx → EReal) (p : S8320x6160.Idx → EReal) (hn : S2048.Idx → EReal)
    (hX : V0 (Proc.devRef .tc main_v75_10) = X) (hp : V0 (Proc.devRef .tc main_arg0) = p) (hh : V0 (Proc.devRef .tc main_arg8) = hn) (r : Fin 8320) (j : Fin 2048) (hr : r.val < 8192) :
    (out_main_v109 V0 : S8320x2048.Idx → EReal) (Idealize.ShloMosaic.ix2 r j) = Mlstm.out (fun e => X (Idealize.ShloMosaic.ix5 (⟨r.val / 64, by omega⟩ : Fin 128) (0 : Fin 1) (⟨j.val / 256, by omega⟩ : Fin 8) (⟨r.val % 64, by omega⟩ : Fin 64) e))
      (⟨j.val % 256, by omega⟩ : Fin 256) (hn (Idealize.ShloMosaic.ix1 j)) (p (Idealize.ShloMosaic.ix2 r (⟨4112 + j.val, by omega⟩ : Fin 6160))) := by
  unfold out_main_v109
  rw [hX, hp, hh]
  pointwise
  rw [dif_pos hr]
  rfl

theorem out109z (V0 : Valuation τ sig (Elt Ideal)) (r : Fin 8320) (j : Fin 2048) (hr : ¬r.val < 8192) :
    (out_main_v109 V0 : S8320x2048.Idx → EReal) (Idealize.ShloMosaic.ix2 r j) = (0 : EReal) := by
  unfold out_main_v109
  generalize V0 (Proc.devRef .tc main_v75_10) = X
  generalize V0 (Proc.devRef .tc main_arg0) = p
  generalize V0 (Proc.devRef .tc main_arg8) = hn
  change S128x1x8x64x256.Idx → EReal at X
  change S8320x6160.Idx → EReal at p
  change S2048.Idx → EReal at hn
  pointwise
  rw [dif_neg hr]

end Cert.ReferenceIdeal.Hand

end
-- ==== Proof.MlstmRefRes.lean ====
module

public import proofs.«01_k».proof.Proof.MlstmRefHc
public import proofs.«01_k».proof.Proof.MlstmRefOutA
public import proofs.«01_k».proof.Proof.MlstmRefOutB

@[expose] public section

set_option maxRecDepth 65536
set_option maxHeartbeats 4000000

noncomputable section

/-! The definition's results, entry by entry, from the arguments. -/

namespace Cert.ReferenceIdeal.Hand

open Cert.ReferenceIdeal Cert.ReferenceIdeal.Value Idealize.ShloMosaic Idealize.ShloMosaic.TcCoe Idealize.SL.Sem Cert.Hand

open Cert.ReferenceIdeal.Gen Idealize.ShloMosaic.StableHlo

variable (m : (ℓ : Loc nD τ sig) → Buf (Elt Ideal) ℓ) (c : Dev nD)

/-- What holds of the contents after the scan. -/
structure After (a : Mlstm.Args) (V : Valuation τ sig (Elt Ideal)) : Prop where
  hc : ∀ (t : Fin 128) (h : Fin 8) (i : Fin 64) (e : Fin 256), V (Proc.devRef .tc main_v75_10) (Idealize.ShloMosaic.ix5 t (0 : Fin 1) h i e) = Mlstm.hcf a t h i e
  c : ∀ h e d, V (Proc.devRef .tc main_v75_7) (Idealize.ShloMosaic.ix4 (0 : Fin 1) h e d) = Mlstm.stC a h 128 e d
  n : ∀ h d, V (Proc.devRef .tc main_v75_8) (Idealize.ShloMosaic.ix3 (0 : Fin 1) h d) = Mlstm.stN a h 128 d
  m : ∀ h, V (Proc.devRef .tc main_v75_9) (Idealize.ShloMosaic.ix2 (0 : Fin 1) h) = Mlstm.stM a h 128
  p : V (Proc.devRef .tc main_arg0) = a.p
  u : V (Proc.devRef .tc main_arg1) = a.conv0
  hn : V (Proc.devRef .tc main_arg8) = a.hn

theorem After.of {a : Mlstm.Args} {V W : Valuation τ sig (Elt Ideal)} (E : Entry a V) (hW : STEP^[128] V = W)
    (p : W (Proc.devRef .tc main_arg0) = a.p) (u : W (Proc.devRef .tc main_arg1) = a.conv0) (hn : W (Proc.devRef .tc main_arg8) = a.hn) : After a W := by
  have A := at_iter E 128 le_rfl
  have H := fun t h i e => hc_iter E 128 le_rfl t t.isLt h i e
  rw [hW] at A H
  exact ⟨H, fun h e d => congrFun (congrFun (A.c h) e) d, fun h d => congrFun (A.n h) d, fun h => A.m h, p, u, hn⟩

variable {a : Mlstm.Args} {V : Valuation τ sig (Elt Ideal)}

theorem After.r7 (A : After a V) : V (Proc.devRef .tc main_v75_7) = fun i => Mlstm.stC a (i 1) 128 (i 2) (i 3) := by
  funext i
  change S1x8x256x128.Idx at i
  have hi : i = Idealize.ShloMosaic.ix4 (0 : Fin 1) (i 1) (i 2) (i 3) := by
    funext a
    match a with
    | ⟨0, _⟩ => exact Subsingleton.elim (α := Fin 1) _ _
    | ⟨1, _⟩ => rfl
    | ⟨2, _⟩ => rfl
    | ⟨3, _⟩ => rfl
  exact (congrArg (V (Proc.devRef .tc main_v75_7)) hi).trans (A.c (i 1) (i 2) (i 3))

theorem After.r8 (A : After a V) : V (Proc.devRef .tc main_v75_8) = fun i => Mlstm.stN a (i 1) 128 (i 2) := by
  funext i
  change S1x8x128.Idx at i
  have hi : i = Idealize.ShloMosaic.ix3 (0 : Fin 1) (i 1) (i 2) := by
    funext a
    match a with
    | ⟨0, _⟩ => exact Subsingleton.elim (α := Fin 1) _ _
    | ⟨1, _⟩ => rfl
    | ⟨2, _⟩ => rfl
  exact (congrArg (V (Proc.devRef .tc main_v75_8)) hi).trans (A.n (i 1) (i 2))

theorem After.r111 (A : After a V) : out_main_v111 V = fun i => Mlstm.rM a (i 2) := by
  funext i
  change S1x1x128.Idx at i
  have hi : i = Idealize.ShloMosaic.ix3 (0 : Fin 1) (0 : Fin 1) (i 2) := by
    funext a
    match a with
    | ⟨0, _⟩ => exact Subsingleton.elim (α := Fin 1) _ _
    | ⟨1, _⟩ => exact Subsingleton.elim (α := Fin 1) _ _
    | ⟨2, _⟩ => rfl
  refine (congrArg (out_main_v111 V) hi).trans ((out111 V _ rfl (i 2)).trans ?_)
  unfold Mlstm.rM
  exact dite_congr rfl (fun h => A.m _) (fun _ => rfl)

theorem After.r83 (A : After a V) : out_main_v83 V = fun i => Mlstm.rV a (i 1) (i 2) := by
  funext i
  change S1x3x2048.Idx at i
  have hi : i = Idealize.ShloMosaic.ix3 (0 : Fin 1) (i 1) (i 2) := by
    funext a
    match a with
    | ⟨0, _⟩ => exact Subsingleton.elim (α := Fin 1) _ _
    | ⟨1, _⟩ => rfl
    | ⟨2, _⟩ => rfl
  refine (congrArg (out_main_v83 V) hi).trans ((out83 V _ _ A.p A.u (i 1) (i 2)).trans ?_)
  exact (Mlstm.rV_eq a (i 1) (i 2)).symm

theorem After.r109 (A : After a V) : out_main_v109 V = fun i => Mlstm.rO a (i 0) (i 1) := by
  funext i
  change S8320x2048.Idx at i
  have hi : i = Idealize.ShloMosaic.ix2 (i 0) (i 1) := by
    funext a
    match a with
    | ⟨0, _⟩ => rfl
    | ⟨1, _⟩ => rfl
  refine (congrArg (out_main_v109 V) hi).trans ?_
  by_cases hr : (i 0).val < 8192
  · refine (out109 V _ _ _ rfl A.p A.hn (i 0) (i 1) hr).trans ?_
    refine Eq.trans ?_ (Mlstm.rO_row a (i 0) (i 1) hr).symm
    exact congrArg (fun f : Fin 256 → EReal => Mlstm.out f _ _ _) (funext fun e => A.hc _ _ _ e)
  · exact (out109z V (i 0) (i 1) hr).trans (Mlstm.rO_zero a (i 0) (i 1) hr).symm

theorem after_scan : ∃ W, STEP^[128] (entryContents preI m c) = W ∧ After (margs m c) W :=
  ⟨_, rfl, After.of (entry m c) rfl (iter_main_arg0 m c 128) (iter_main_arg1 m c 128) (iter_main_arg8 m c 128)⟩

end Cert.ReferenceIdeal.Hand

end
-- ==== Proof.MlstmAlg.lean ====
module

public import proofs.«01_k».proof.Defs
public import proofs.«01_k».proof.Proof.MlstmKerArr
public import proofs.«01_k».proof.Proof.MlstmKerArrO
public import proofs.«01_k».proof.Proof.MlstmRefRes
public import Idealize.ShloMosaic.Lib.Pointwise
public import Idealize.ShloMosaic.Lib.Claim
public import Idealize.ShloMosaic.Adequacy
public import Idealize.ShloMosaic.Init

@[expose] public section

set_option maxRecDepth 16384

noncomputable section

/-! The mLSTM call and its definition return the same five arrays. -/

namespace Cert.Hand

open Idealize.ShloMosaic Idealize.SL.Sem Cert

/-- The side conditions the precondition of the mLSTM call states. -/
theorem pre_gates_facts : Pre_input_gates_below_infinity.Facts where
  slices_S8320x6160_S8192x8_0_4096 := by decide
  slices_S2x8_S1x8_0_0 := by decide
  shapeCasts_S1x8_S8 := by decide
  bcast_S8_S1x8_1 := by decide
  bcast_S1x8_S8192x8_0_1 := by decide
  bcast_S_S8192x8 := by decide

/-- The precondition of the mLSTM call, entry by entry. -/
theorem input_gates (m : (ℓ : Loc KernelIdeal.nD KernelIdeal.τ KernelIdeal.sig) → Buf (Elt Ideal) ℓ)
    (h : Pre_KernelIdeal_input_gates_below_infinity (hPre_input_gates_below_infinity := pre_gates_facts) m) (c : Dev KernelIdeal.nD)
    (t : Fin 128) (k : Fin 8) (i : Fin 64) :
    Mlstm.igf (KernelIdeal.Hand.kargs m c) t k i < (⊤ : EReal) := by
  have e := congrFun (h c) (Idealize.ShloMosaic.ix2 (⟨64 * t.val + i.val, by omega⟩ : Fin 8192) k)
  unfold Pre_input_gates_below_infinity.fn at e
  revert e
  pointwise
  intro e
  refine lt_of_lt_of_le (b := Ideal.ofBits FTy.f32 2139095040#32) ?_ le_top
  by_contra hn
  rw [decide_eq_false (by exact hn)] at e
  exact absurd e (by decide)

/-- Launches which agree on the arguments give the definition the arguments the call has. -/
theorem args_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (h8 : m' ((c.tc : Thread ReferenceIdeal.nD ReferenceIdeal.τ).loc ReferenceIdeal.main_arg8) = m ((c.tc : Thread KernelIdeal.nD KernelIdeal.τ).loc KernelIdeal.main_arg8)) :
    ReferenceIdeal.Hand.margs m' c = KernelIdeal.Hand.kargs m c := by
  unfold ReferenceIdeal.Hand.margs KernelIdeal.Hand.kargs
  rw [h0, h1, h2, h3, h4, h5, h6, h7, h8]

theorem alg1 : algebraic_KernelIdeal_ReferenceIdeal_pre_input_gates_below_infinity (hKernelIdeal := KernelIdeal.Gen.facts) (hReferenceIdeal := ReferenceIdeal.Gen.facts) (hPre_input_gates_below_infinity := pre_gates_facts) := by
  intro m ρ m' ρ' hpre hagree
  refine ⟨fun c i => Mlstm.rO (KernelIdeal.Hand.kargs m c) (i 0) (i 1), fun c i => Mlstm.stC (KernelIdeal.Hand.kargs m c) (i 1) 128 (i 2) (i 3),
    fun c i => Mlstm.stN (KernelIdeal.Hand.kargs m c) (i 1) 128 (i 2), fun c i => Mlstm.rM (KernelIdeal.Hand.kargs m c) (i 2),
    fun c i => Mlstm.rV (KernelIdeal.Hand.kargs m c) (i 1) (i 2), ?_, ?_⟩
  · refine (θ_run KernelIdeal.defs _ _).mono (fun _ h c => ?_) (KernelIdeal.Value.run_blocks m ρ)
    have hig := input_gates m hpre c
    obtain ⟨r0, r1, r2, r3, r4, hr⟩ := h c
    exact ⟨r0.trans (KernelIdeal.Hand.arr13 m c hig), r1.trans (KernelIdeal.Hand.arr14 m c hig), r2.trans (KernelIdeal.Hand.arr15 m c hig),
      r3.trans (KernelIdeal.Hand.arr16 m c hig), r4.trans (KernelIdeal.Hand.arr17 m c hig), hr⟩
  · refine (θ_run ReferenceIdeal.defs _ _).mono (fun _ h c => ?_) (ReferenceIdeal.Value.run m' ρ')
    obtain ⟨h0, h1, h2, h3, h4, h5, h6, h7, h8⟩ := hagree c
    obtain ⟨r0, r1, r2, r3, r4, hr⟩ := h c
    obtain ⟨W, hW, A⟩ := ReferenceIdeal.Hand.after_scan m' c
    rw [args_eq m m' c h0 h1 h2 h3 h4 h5 h6 h7 h8] at A
    rw [hW] at r0 r1 r2 r3 r4
    exact ⟨r0.trans A.r109, r1.trans A.r7, r2.trans A.r8, r3.trans A.r111, r4.trans A.r83, hr⟩

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Claims
public import proofs.«01_k».proof.Proof.MlstmAlg
public import Idealize.ShloMosaic.Adequacy
public import Idealize.ShloMosaic.Init

@[expose] public section

noncomputable section

namespace Cert.Proof

open Idealize.ShloMosaic Idealize.SL.Sem Cert.Kernel

/-- The reference leaves its arguments and the counters. -/
theorem frame_Reference : quiescent_ReferenceIdeal (hReferenceIdeal := Cert.ReferenceIdeal.Gen.facts) := fun m ρ _ =>
  (θ_run Cert.ReferenceIdeal.defs _ _).mono
    (fun r h => ⟨fun c => (h c).2.2.2.2.2, Idealize.ShloMosaic.sem_eq_zero_of_no_sems (by decide) r.2⟩) (Cert.ReferenceIdeal.Value.run m ρ)

/-- The reference leaves its arguments and the counters. -/
theorem frame_Reference2 : quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩) (Cert.Reference2Ideal.Value.run m ρ)

/-- The reference leaves its arguments and the counters. -/
theorem frame_Reference3 : quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩) (Cert.Reference3Ideal.Value.run m ρ)

/-- The reference leaves its arguments and the counters. -/
theorem frame_Reference4 : quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩) (Cert.Reference4Ideal.Value.run m ρ)

/-- The reference leaves its arguments and the counters. -/
theorem frame_Reference5 : quiescent_Reference5Ideal (hReference5Ideal := Cert.Reference5Ideal.Gen.facts) := fun m ρ _ =>
  (θ_run Cert.Reference5Ideal.defs _ _).mono
    (fun r h => ⟨fun c => (h c).2, Idealize.ShloMosaic.sem_eq_zero_of_no_sems (by decide) r.2⟩) (Cert.Reference5Ideal.Value.run m ρ)

/-- The reference leaves its arguments and the counters. -/
theorem frame_Reference6 : quiescent_Reference6Ideal (hReference6Ideal := Cert.Reference6Ideal.Gen.facts) := fun m ρ _ =>
  (θ_run Cert.Reference6Ideal.defs _ _).mono
    (fun r h => ⟨fun c => (h c).2, Idealize.ShloMosaic.sem_eq_zero_of_no_sems (by decide) r.2⟩) (Cert.Reference6Ideal.Value.run m ρ)

/-- The reference leaves its arguments and the counters. -/
theorem frame_Reference7 : quiescent_Reference7Ideal (hReference7Ideal := Cert.Reference7Ideal.Gen.facts) := fun m ρ _ =>
  (θ_run Cert.Reference7Ideal.defs _ _).mono
    (fun r h => ⟨fun c => (h c).2, Idealize.ShloMosaic.sem_eq_zero_of_no_sems (by decide) r.2⟩) (Cert.Reference7Ideal.Value.run m ρ)

/-- The reference leaves its arguments and the counters. -/
theorem frame_Reference8 : quiescent_Reference8Ideal (hReference8Ideal := Cert.Reference8Ideal.Gen.facts) := fun m ρ _ =>
  (θ_run Cert.Reference8Ideal.defs _ _).mono
    (fun r h => ⟨fun c => (h c).2, Idealize.ShloMosaic.sem_eq_zero_of_no_sems (by decide) r.2⟩) (Cert.Reference8Ideal.Value.run m ρ)

/-- The reference leaves its arguments and the counters. -/
theorem frame_Reference9 : quiescent_Reference9Ideal (hReference9Ideal := Cert.Reference9Ideal.Gen.facts) := fun m ρ _ =>
  (θ_run Cert.Reference9Ideal.defs _ _).mono
    (fun r h => ⟨fun c => (h c).2, Idealize.ShloMosaic.sem_eq_zero_of_no_sems (by decide) r.2⟩) (Cert.Reference9Ideal.Value.run m ρ)

theorem claim : Cert.Claim :=
  ⟨Cert.Kernel.Gen.facts,
   Cert.KernelIdeal.Gen.facts,
   Cert.ReferenceIdeal.Gen.facts,
   Cert.Kernel2.Gen.facts,
   Cert.Kernel2Ideal.Gen.facts,
   Cert.Reference2Ideal.Gen.facts,
   Cert.Kernel3.Gen.facts,
   Cert.Kernel3Ideal.Gen.facts,
   Cert.Reference3Ideal.Gen.facts,
   Cert.Kernel4.Gen.facts,
   Cert.Kernel4Ideal.Gen.facts,
   Cert.Reference4Ideal.Gen.facts,
   Cert.Kernel5.Gen.facts,
   Cert.Kernel5Ideal.Gen.facts,
   Cert.Reference5Ideal.Gen.facts,
   Cert.Kernel6.Gen.facts,
   Cert.Kernel6Ideal.Gen.facts,
   Cert.Reference6Ideal.Gen.facts,
   Cert.Kernel7.Gen.facts,
   Cert.Kernel7Ideal.Gen.facts,
   Cert.Reference7Ideal.Gen.facts,
   Cert.Kernel8.Gen.facts,
   Cert.Kernel8Ideal.Gen.facts,
   Cert.Reference8Ideal.Gen.facts,
   Cert.Kernel9.Gen.facts,
   Cert.Kernel9Ideal.Gen.facts,
   Cert.Reference9Ideal.Gen.facts,
   Cert.Hand.pre_gates_facts,
   Cert.Hand.pre_facts,
   fun m ρ _ => Cert.Kernel.Gen.frame m ρ,
   fun m ρ _ => Cert.KernelIdeal.Gen.frame m ρ,
   fun m ρ _ => Cert.KernelIdeal.Gen.frame m ρ,
   frame_Reference,
   fun m ρ _ => frame_Reference m ρ trivial,
   fun m ρ _ => Cert.Kernel2.Gen.frame m ρ,
   fun m ρ _ => Cert.Kernel2Ideal.Gen.frame m ρ,
   frame_Reference2,
   fun m ρ _ => Cert.Kernel3.Gen.frame m ρ,
   fun m ρ _ => Cert.Kernel3Ideal.Gen.frame m ρ,
   frame_Reference3,
   fun m ρ _ => Cert.Kernel4.Gen.frame m ρ,
   fun m ρ _ => Cert.Kernel4Ideal.Gen.frame m ρ,
   frame_Reference4,
   fun m ρ _ => Cert.Kernel5.Gen.frame m ρ,
   fun m ρ _ => Cert.Kernel5Ideal.Gen.frame m ρ,
   frame_Reference5,
   fun m ρ _ => Cert.Kernel6.Gen.frame m ρ,
   fun m ρ _ => Cert.Kernel6Ideal.Gen.frame m ρ,
   frame_Reference6,
   fun m ρ _ => Cert.Kernel7.Gen.frame m ρ,
   fun m ρ _ => Cert.Kernel7Ideal.Gen.frame m ρ,
   fun m ρ _ => Cert.Kernel7Ideal.Gen.frame m ρ,
   frame_Reference7,
   fun m ρ _ => frame_Reference7 m ρ trivial,
   fun m ρ _ => Cert.Kernel8.Gen.frame m ρ,
   fun m ρ _ => Cert.Kernel8Ideal.Gen.frame m ρ,
   frame_Reference8,
   fun m ρ _ => Cert.Kernel9.Gen.frame m ρ,
   fun m ρ _ => Cert.Kernel9Ideal.Gen.frame m ρ,
   frame_Reference9,
   trivial,
   Cert.Hand.alg1,
   trivial,
   Cert.Hand.alg2,
   trivial,
   Cert.Hand.alg3,
   trivial,
   Cert.Hand.alg4,
   trivial,
   Cert.Hand.alg5,
   trivial,
   Cert.Hand.alg6,
   trivial,
   Cert.Hand.alg7,
   trivial,
   Cert.Hand.alg8,
   trivial,
   Cert.Hand.alg9⟩

end Cert.Proof

end
